-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenRefIdeal (m : (ℓ : Loc Cert.InEvenRefIdeal.nD Cert.InEvenRefIdeal.τ Cert.InEvenRefIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddRefIdeal (m : (ℓ : Loc Cert.InOddRefIdeal.nD Cert.InOddRefIdeal.τ Cert.InOddRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_finite_gains [hPre_finite_gains : Cert.Pre_finite_gains.Facts] (m : (ℓ : Loc Cert.CrossIdeal.nD Cert.CrossIdeal.τ Cert.CrossIdeal.sig) → Buf (Elt Ideal) ℓ) : Prop :=
  ∀ c : Dev Cert.CrossIdeal.nD,
    (Cert.Pre_finite_gains.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7)) (m ((c.tc : Thread Cert.CrossIdeal.nD Cert.CrossIdeal.τ).loc Cert.CrossIdeal.main_arg8)) (m ((c.tc : Thread Cert.CrossIdeal.nD Cert.CrossIdeal.τ).loc Cert.CrossIdeal.main_arg9))) = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_finite_gains [hPre_finite_gains : Cert.Pre_finite_gains.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_finite_gains.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6)) (m ((c.tc : Thread Cert.CrossRefIdeal.nD Cert.CrossRefIdeal.τ).loc Cert.CrossRefIdeal.main_arg7)) (m ((c.tc : Thread Cert.CrossRefIdeal.nD Cert.CrossRefIdeal.τ).loc Cert.CrossRefIdeal.main_arg8)) (m ((c.tc : Thread Cert.CrossRefIdeal.nD Cert.CrossRefIdeal.τ).loc Cert.CrossRefIdeal.main_arg9))) = (fun _ => 1#1)

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_finite_gqa [hPre_finite_gqa : Cert.Pre_finite_gqa.Facts] (m : (ℓ : Loc Cert.GqaIdeal.nD Cert.GqaIdeal.τ Cert.GqaIdeal.sig) → Buf (Elt Ideal) ℓ) : Prop :=
  ∀ c : Dev Cert.GqaIdeal.nD,
    (Cert.Pre_finite_gqa.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite_gqa [hPre_finite_gqa : Cert.Pre_finite_gqa.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite_gqa.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2))
      ∧ r.2.sem = fun _ => 0)

def quiescent_InEvenRefIdeal [hInEvenRefIdeal : Cert.InEvenRefIdeal.Facts] : Prop :=
  ∀ (m : (ℓ : Loc Cert.InEvenRefIdeal.nD Cert.InEvenRefIdeal.τ Cert.InEvenRefIdeal.sig) → Buf (Elt Ideal) ℓ) (g : Dev Cert.InEvenRefIdeal.nD → PrngReg), Pre_InEvenRefIdeal m →
    θ_run (Cert.InEvenRefIdeal.defs (F := Ideal)) (onTc (τ := Cert.InEvenRefIdeal.τ) (Cert.InEvenRefIdeal.main (F := Ideal))) ⟨m, fun _ => 0, g⟩ (fun r => (∀ c : Dev Cert.InEvenRefIdeal.nD,
      r.2.mem ((c.tc : Thread Cert.InEvenRefIdeal.nD Cert.InEvenRefIdeal.τ).loc Cert.InEvenRefIdeal.main_arg0) = m ((c.tc : Thread Cert.InEvenRefIdeal.nD Cert.InEvenRefIdeal.τ).loc Cert.InEvenRefIdeal.main_arg0)
      ∧ r.2.mem ((c.tc : Thread Cert.InEvenRefIdeal.nD Cert.InEvenRefIdeal.τ).loc Cert.InEvenRefIdeal.main_arg1) = m ((c.tc : Thread Cert.InEvenRefIdeal.nD Cert.InEvenRefIdeal.τ).loc Cert.InEvenRefIdeal.main_arg1)
      ∧ r.2.mem ((c.tc : Thread Cert.InEvenRefIdeal.nD Cert.InEvenRefIdeal.τ).loc Cert.InEvenRefIdeal.main_arg2) = m ((c.tc : Thread Cert.InEvenRefIdeal.nD Cert.InEvenRefIdeal.τ).loc Cert.InEvenRefIdeal.main_arg2))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2))
      ∧ r.2.sem = fun _ => 0)

def quiescent_InOddRefIdeal [hInOddRefIdeal : Cert.InOddRefIdeal.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1)
      ∧ r.2.mem ((c.tc : Thread Cert.InOddRefIdeal.nD Cert.InOddRefIdeal.τ).loc Cert.InOddRefIdeal.main_arg2) = m ((c.tc : Thread Cert.InOddRefIdeal.nD Cert.InOddRefIdeal.τ).loc Cert.InOddRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5)
      ∧ r.2.mem ((c.tc : Thread Cert.Cross.nD Cert.Cross.τ).loc Cert.Cross.main_arg6) = m ((c.tc : Thread Cert.Cross.nD Cert.Cross.τ).loc Cert.Cross.main_arg6)
      ∧ r.2.mem ((c.tc : Thread Cert.Cross.nD Cert.Cross.τ).loc Cert.Cross.main_arg7) = m ((c.tc : Thread Cert.Cross.nD Cert.Cross.τ).loc Cert.Cross.main_arg7)
      ∧ r.2.mem ((c.tc : Thread Cert.Cross.nD Cert.Cross.τ).loc Cert.Cross.main_arg8) = m ((c.tc : Thread Cert.Cross.nD Cert.Cross.τ).loc Cert.Cross.main_arg8)
      ∧ r.2.mem ((c.tc : Thread Cert.Cross.nD Cert.Cross.τ).loc Cert.Cross.main_arg9) = m ((c.tc : Thread Cert.Cross.nD Cert.Cross.τ).loc Cert.Cross.main_arg9))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
      ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7)
      ∧ r.2.mem ((c.tc : Thread Cert.CrossIdeal.nD Cert.CrossIdeal.τ).loc Cert.CrossIdeal.main_arg8) = m ((c.tc : Thread Cert.CrossIdeal.nD Cert.CrossIdeal.τ).loc Cert.CrossIdeal.main_arg8)
      ∧ r.2.mem ((c.tc : Thread Cert.CrossIdeal.nD Cert.CrossIdeal.τ).loc Cert.CrossIdeal.main_arg9) = m ((c.tc : Thread Cert.CrossIdeal.nD Cert.CrossIdeal.τ).loc Cert.CrossIdeal.main_arg9))
      ∧ r.2.sem = fun _ => 0)

def quiescent_CrossIdeal_pre_finite_gains [hCrossIdeal : Cert.CrossIdeal.Facts] [hPre_finite_gains : Cert.Pre_finite_gains.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_finite_gains m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
      ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7)
      ∧ r.2.mem ((c.tc : Thread Cert.CrossIdeal.nD Cert.CrossIdeal.τ).loc Cert.CrossIdeal.main_arg8) = m ((c.tc : Thread Cert.CrossIdeal.nD Cert.CrossIdeal.τ).loc Cert.CrossIdeal.main_arg8)
      ∧ r.2.mem ((c.tc : Thread Cert.CrossIdeal.nD Cert.CrossIdeal.τ).loc Cert.CrossIdeal.main_arg9) = m ((c.tc : Thread Cert.CrossIdeal.nD Cert.CrossIdeal.τ).loc Cert.CrossIdeal.main_arg9))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6)
      ∧ r.2.mem ((c.tc : Thread Cert.CrossRefIdeal.nD Cert.CrossRefIdeal.τ).loc Cert.CrossRefIdeal.main_arg7) = m ((c.tc : Thread Cert.CrossRefIdeal.nD Cert.CrossRefIdeal.τ).loc Cert.CrossRefIdeal.main_arg7)
      ∧ r.2.mem ((c.tc : Thread Cert.CrossRefIdeal.nD Cert.CrossRefIdeal.τ).loc Cert.CrossRefIdeal.main_arg8) = m ((c.tc : Thread Cert.CrossRefIdeal.nD Cert.CrossRefIdeal.τ).loc Cert.CrossRefIdeal.main_arg8)
      ∧ r.2.mem ((c.tc : Thread Cert.CrossRefIdeal.nD Cert.CrossRefIdeal.τ).loc Cert.CrossRefIdeal.main_arg9) = m ((c.tc : Thread Cert.CrossRefIdeal.nD Cert.CrossRefIdeal.τ).loc Cert.CrossRefIdeal.main_arg9))
      ∧ r.2.sem = fun _ => 0)

def quiescent_CrossRefIdeal_pre_finite_gains [hCrossRefIdeal : Cert.CrossRefIdeal.Facts] [hPre_finite_gains : Cert.Pre_finite_gains.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_finite_gains m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6)
      ∧ r.2.mem ((c.tc : Thread Cert.CrossRefIdeal.nD Cert.CrossRefIdeal.τ).loc Cert.CrossRefIdeal.main_arg7) = m ((c.tc : Thread Cert.CrossRefIdeal.nD Cert.CrossRefIdeal.τ).loc Cert.CrossRefIdeal.main_arg7)
      ∧ r.2.mem ((c.tc : Thread Cert.CrossRefIdeal.nD Cert.CrossRefIdeal.τ).loc Cert.CrossRefIdeal.main_arg8) = m ((c.tc : Thread Cert.CrossRefIdeal.nD Cert.CrossRefIdeal.τ).loc Cert.CrossRefIdeal.main_arg8)
      ∧ r.2.mem ((c.tc : Thread Cert.CrossRefIdeal.nD Cert.CrossRefIdeal.τ).loc Cert.CrossRefIdeal.main_arg9) = m ((c.tc : Thread Cert.CrossRefIdeal.nD Cert.CrossRefIdeal.τ).loc Cert.CrossRefIdeal.main_arg9))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaIdeal_pre_finite_gqa [hGqaIdeal : Cert.GqaIdeal.Facts] [hPre_finite_gqa : Cert.Pre_finite_gqa.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_finite_gqa m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_GqaRefIdeal_pre_finite_gqa [hGqaRefIdeal : Cert.GqaRefIdeal.Facts] [hPre_finite_gqa : Cert.Pre_finite_gqa.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite_gqa m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "qscale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v2) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v20) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_InEven_InEvenIdeal : Prop :=
  True

def algebraic_InEvenIdeal_InEvenRefIdeal [hInEvenIdeal : Cert.InEvenIdeal.Facts] [hInEvenRefIdeal : Cert.InEvenRefIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenRefIdeal.nD Cert.InEvenRefIdeal.τ Cert.InEvenRefIdeal.sig) → Buf (Elt Ideal) ℓ) (g' : Dev Cert.InEvenRefIdeal.nD → PrngReg), Pre_InEvenIdeal m →
    (∀ c : Dev Cert.InEvenIdeal.nD,
      m' ((c.tc : Thread Cert.InEvenRefIdeal.nD Cert.InEvenRefIdeal.τ).loc Cert.InEvenRefIdeal.main_arg0) = m ((c.tc : Thread Cert.InEvenIdeal.nD Cert.InEvenIdeal.τ).loc Cert.InEvenIdeal.main_arg0)
      ∧ m' ((c.tc : Thread Cert.InEvenRefIdeal.nD Cert.InEvenRefIdeal.τ).loc Cert.InEvenRefIdeal.main_arg1) = m ((c.tc : Thread Cert.InEvenIdeal.nD Cert.InEvenIdeal.τ).loc Cert.InEvenIdeal.main_arg1)
      ∧ m' ((c.tc : Thread Cert.InEvenRefIdeal.nD Cert.InEvenRefIdeal.τ).loc Cert.InEvenRefIdeal.main_arg2) = m ((c.tc : Thread Cert.InEvenIdeal.nD Cert.InEvenIdeal.τ).loc Cert.InEvenIdeal.main_arg2)) →
    ∃ (v0 : (c : Dev Cert.InEvenIdeal.nD) → Buf (Elt Ideal) ((c.tc : Thread Cert.InEvenIdeal.nD Cert.InEvenIdeal.τ).loc Cert.InEvenIdeal.main_v3)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v3) = v0 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2))
      ∧ θ_run (Cert.InEvenRefIdeal.defs (F := Ideal)) (onTc (τ := Cert.InEvenRefIdeal.τ) (Cert.InEvenRefIdeal.main (F := Ideal))) ⟨m', fun _ => 0, g'⟩ (fun r => ∀ c : Dev Cert.InEvenRefIdeal.nD,
          r.2.mem ((c.tc : Thread Cert.InEvenRefIdeal.nD Cert.InEvenRefIdeal.τ).loc Cert.InEvenRefIdeal.main_v14) = v0 c
          ∧ r.2.mem ((c.tc : Thread Cert.InEvenRefIdeal.nD Cert.InEvenRefIdeal.τ).loc Cert.InEvenRefIdeal.main_arg0) = m' ((c.tc : Thread Cert.InEvenRefIdeal.nD Cert.InEvenRefIdeal.τ).loc Cert.InEvenRefIdeal.main_arg0)
          ∧ r.2.mem ((c.tc : Thread Cert.InEvenRefIdeal.nD Cert.InEvenRefIdeal.τ).loc Cert.InEvenRefIdeal.main_arg1) = m' ((c.tc : Thread Cert.InEvenRefIdeal.nD Cert.InEvenRefIdeal.τ).loc Cert.InEvenRefIdeal.main_arg1)
          ∧ r.2.mem ((c.tc : Thread Cert.InEvenRefIdeal.nD Cert.InEvenRefIdeal.τ).loc Cert.InEvenRefIdeal.main_arg2) = m' ((c.tc : Thread Cert.InEvenRefIdeal.nD Cert.InEvenRefIdeal.τ).loc Cert.InEvenRefIdeal.main_arg2))

def preserves_InOdd_InOddIdeal : Prop :=
  True

def algebraic_InOddIdeal_InOddRefIdeal [hInOddIdeal : Cert.InOddIdeal.Facts] [hInOddRefIdeal : Cert.InOddRefIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddRefIdeal.nD Cert.InOddRefIdeal.τ Cert.InOddRefIdeal.sig) → Buf (Elt Ideal) ℓ) (g' : Dev Cert.InOddRefIdeal.nD → PrngReg), Pre_InOddIdeal m →
    (∀ c : Dev Cert.InOddIdeal.nD,
      m' ((c.tc : Thread Cert.InOddRefIdeal.nD Cert.InOddRefIdeal.τ).loc Cert.InOddRefIdeal.main_arg0) = m ((c.tc : Thread Cert.InOddIdeal.nD Cert.InOddIdeal.τ).loc Cert.InOddIdeal.main_arg0)
      ∧ m' ((c.tc : Thread Cert.InOddRefIdeal.nD Cert.InOddRefIdeal.τ).loc Cert.InOddRefIdeal.main_arg1) = m ((c.tc : Thread Cert.InOddIdeal.nD Cert.InOddIdeal.τ).loc Cert.InOddIdeal.main_arg1)
      ∧ m' ((c.tc : Thread Cert.InOddRefIdeal.nD Cert.InOddRefIdeal.τ).loc Cert.InOddRefIdeal.main_arg2) = m ((c.tc : Thread Cert.InOddIdeal.nD Cert.InOddIdeal.τ).loc Cert.InOddIdeal.main_arg2)) →
    ∃ (v0 : (c : Dev Cert.InOddIdeal.nD) → Buf (Elt Ideal) ((c.tc : Thread Cert.InOddIdeal.nD Cert.InOddIdeal.τ).loc Cert.InOddIdeal.main_v3)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v3) = v0 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2))
      ∧ θ_run (Cert.InOddRefIdeal.defs (F := Ideal)) (onTc (τ := Cert.InOddRefIdeal.τ) (Cert.InOddRefIdeal.main (F := Ideal))) ⟨m', fun _ => 0, g'⟩ (fun r => ∀ c : Dev Cert.InOddRefIdeal.nD,
          r.2.mem ((c.tc : Thread Cert.InOddRefIdeal.nD Cert.InOddRefIdeal.τ).loc Cert.InOddRefIdeal.main_v14) = v0 c
          ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
          ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1)
          ∧ r.2.mem ((c.tc : Thread Cert.InOddRefIdeal.nD Cert.InOddRefIdeal.τ).loc Cert.InOddRefIdeal.main_arg2) = m' ((c.tc : Thread Cert.InOddRefIdeal.nD Cert.InOddRefIdeal.τ).loc Cert.InOddRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v14) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_Cross_CrossIdeal : Prop :=
  IdealRules.named_const.Statement Cert.CrossIdeal.κ "cscale" .f32 0x3E0293EE#32 (((11863283 / 134217728) * (Real.log 2)⁻¹ : ℝ) : EReal)

def algebraic_CrossIdeal_CrossRefIdeal_pre_finite_gains [hCrossIdeal : Cert.CrossIdeal.Facts] [hCrossRefIdeal : Cert.CrossRefIdeal.Facts] [hPre_finite_gains : Cert.Pre_finite_gains.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_finite_gains m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)
      ∧ m' ((c.tc : Thread Cert.CrossRefIdeal.nD Cert.CrossRefIdeal.τ).loc Cert.CrossRefIdeal.main_arg5) = m ((c.tc : Thread Cert.CrossIdeal.nD Cert.CrossIdeal.τ).loc Cert.CrossIdeal.main_arg5)
      ∧ m' ((c.tc : Thread Cert.CrossRefIdeal.nD Cert.CrossRefIdeal.τ).loc Cert.CrossRefIdeal.main_arg6) = m ((c.tc : Thread Cert.CrossIdeal.nD Cert.CrossIdeal.τ).loc Cert.CrossIdeal.main_arg6)
      ∧ m' ((c.tc : Thread Cert.CrossRefIdeal.nD Cert.CrossRefIdeal.τ).loc Cert.CrossRefIdeal.main_arg7) = m ((c.tc : Thread Cert.CrossIdeal.nD Cert.CrossIdeal.τ).loc Cert.CrossIdeal.main_arg7)
      ∧ m' ((c.tc : Thread Cert.CrossRefIdeal.nD Cert.CrossRefIdeal.τ).loc Cert.CrossRefIdeal.main_arg8) = m ((c.tc : Thread Cert.CrossIdeal.nD Cert.CrossIdeal.τ).loc Cert.CrossIdeal.main_arg8)
      ∧ m' ((c.tc : Thread Cert.CrossRefIdeal.nD Cert.CrossRefIdeal.τ).loc Cert.CrossRefIdeal.main_arg9) = m ((c.tc : Thread Cert.CrossIdeal.nD Cert.CrossIdeal.τ).loc Cert.CrossIdeal.main_arg9)) →
    ∃ (v0 : (c : Dev Cert.CrossIdeal.nD) → Buf (Elt Ideal) ((c.tc : Thread Cert.CrossIdeal.nD Cert.CrossIdeal.τ).loc Cert.CrossIdeal.main_v6)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v6) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
          ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
          ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7)
          ∧ r.2.mem ((c.tc : Thread Cert.CrossIdeal.nD Cert.CrossIdeal.τ).loc Cert.CrossIdeal.main_arg8) = m ((c.tc : Thread Cert.CrossIdeal.nD Cert.CrossIdeal.τ).loc Cert.CrossIdeal.main_arg8)
          ∧ r.2.mem ((c.tc : Thread Cert.CrossIdeal.nD Cert.CrossIdeal.τ).loc Cert.CrossIdeal.main_arg9) = m ((c.tc : Thread Cert.CrossIdeal.nD Cert.CrossIdeal.τ).loc Cert.CrossIdeal.main_arg9))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v67) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4)
          ∧ r.2.mem ((c.tc : Thread Cert.CrossRefIdeal.nD Cert.CrossRefIdeal.τ).loc Cert.CrossRefIdeal.main_arg5) = m' ((c.tc : Thread Cert.CrossRefIdeal.nD Cert.CrossRefIdeal.τ).loc Cert.CrossRefIdeal.main_arg5)
          ∧ r.2.mem ((c.tc : Thread Cert.CrossRefIdeal.nD Cert.CrossRefIdeal.τ).loc Cert.CrossRefIdeal.main_arg6) = m' ((c.tc : Thread Cert.CrossRefIdeal.nD Cert.CrossRefIdeal.τ).loc Cert.CrossRefIdeal.main_arg6)
          ∧ r.2.mem ((c.tc : Thread Cert.CrossRefIdeal.nD Cert.CrossRefIdeal.τ).loc Cert.CrossRefIdeal.main_arg7) = m' ((c.tc : Thread Cert.CrossRefIdeal.nD Cert.CrossRefIdeal.τ).loc Cert.CrossRefIdeal.main_arg7)
          ∧ r.2.mem ((c.tc : Thread Cert.CrossRefIdeal.nD Cert.CrossRefIdeal.τ).loc Cert.CrossRefIdeal.main_arg8) = m' ((c.tc : Thread Cert.CrossRefIdeal.nD Cert.CrossRefIdeal.τ).loc Cert.CrossRefIdeal.main_arg8)
          ∧ r.2.mem ((c.tc : Thread Cert.CrossRefIdeal.nD Cert.CrossRefIdeal.τ).loc Cert.CrossRefIdeal.main_arg9) = m' ((c.tc : Thread Cert.CrossRefIdeal.nD Cert.CrossRefIdeal.τ).loc Cert.CrossRefIdeal.main_arg9))

def preserves_Gqa_GqaIdeal : Prop :=
  IdealRules.named_const.Statement Cert.GqaIdeal.κ "cscale" .f32 0x3E0293EE#32 (((11863283 / 134217728) * (Real.log 2)⁻¹ : ℝ) : EReal)

def algebraic_GqaIdeal_GqaRefIdeal_pre_finite_gqa [hGqaIdeal : Cert.GqaIdeal.Facts] [hGqaRefIdeal : Cert.GqaRefIdeal.Facts] [hPre_finite_gqa : Cert.Pre_finite_gqa.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_finite_gqa m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)) →
    ∃ (v0 : (c : Dev Cert.GqaIdeal.nD) → Buf (Elt Ideal) ((c.tc : Thread Cert.GqaIdeal.nD Cert.GqaIdeal.τ).loc Cert.GqaIdeal.main_v31)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v31) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v113) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpRefIdeal : Cert.MlpRefIdeal.Facts) (hInEven : Cert.InEven.Facts) (hInEvenIdeal : Cert.InEvenIdeal.Facts) (hInEvenRefIdeal : Cert.InEvenRefIdeal.Facts) (hInOdd : Cert.InOdd.Facts) (hInOddIdeal : Cert.InOddIdeal.Facts) (hInOddRefIdeal : Cert.InOddRefIdeal.Facts) (hMemKv : Cert.MemKv.Facts) (hMemKvIdeal : Cert.MemKvIdeal.Facts) (hMemKvRefIdeal : Cert.MemKvRefIdeal.Facts) (hCross : Cert.Cross.Facts) (hCrossIdeal : Cert.CrossIdeal.Facts) (hCrossRefIdeal : Cert.CrossRefIdeal.Facts) (hGqa : Cert.Gqa.Facts) (hGqaIdeal : Cert.GqaIdeal.Facts) (hGqaRefIdeal : Cert.GqaRefIdeal.Facts) (hPre_finite : Cert.Pre_finite.Facts) (hPre_finite_gains : Cert.Pre_finite_gains.Facts) (hPre_finite_gqa : Cert.Pre_finite_gqa.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpRefIdeal (hMlpRefIdeal := hMlpRefIdeal)
    ∧ quiescent_InEven (hInEven := hInEven)
    ∧ quiescent_InEvenIdeal (hInEvenIdeal := hInEvenIdeal)
    ∧ quiescent_InEvenRefIdeal (hInEvenRefIdeal := hInEvenRefIdeal)
    ∧ quiescent_InOdd (hInOdd := hInOdd)
    ∧ quiescent_InOddIdeal (hInOddIdeal := hInOddIdeal)
    ∧ quiescent_InOddRefIdeal (hInOddRefIdeal := hInOddRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Cross (hCross := hCross)
    ∧ quiescent_CrossIdeal (hCrossIdeal := hCrossIdeal)
    ∧ quiescent_CrossIdeal_pre_finite_gains (hCrossIdeal := hCrossIdeal) (hPre_finite_gains := hPre_finite_gains)
    ∧ quiescent_CrossRefIdeal (hCrossRefIdeal := hCrossRefIdeal)
    ∧ quiescent_CrossRefIdeal_pre_finite_gains (hCrossRefIdeal := hCrossRefIdeal) (hPre_finite_gains := hPre_finite_gains)
    ∧ quiescent_Gqa (hGqa := hGqa)
    ∧ quiescent_GqaIdeal (hGqaIdeal := hGqaIdeal)
    ∧ quiescent_GqaIdeal_pre_finite_gqa (hGqaIdeal := hGqaIdeal) (hPre_finite_gqa := hPre_finite_gqa)
    ∧ quiescent_GqaRefIdeal (hGqaRefIdeal := hGqaRefIdeal)
    ∧ quiescent_GqaRefIdeal_pre_finite_gqa (hGqaRefIdeal := hGqaRefIdeal) (hPre_finite_gqa := hPre_finite_gqa)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpRefIdeal (hMlpIdeal := hMlpIdeal) (hMlpRefIdeal := hMlpRefIdeal)
    ∧ preserves_InEven_InEvenIdeal
    ∧ algebraic_InEvenIdeal_InEvenRefIdeal (hInEvenIdeal := hInEvenIdeal) (hInEvenRefIdeal := hInEvenRefIdeal)
    ∧ preserves_InOdd_InOddIdeal
    ∧ algebraic_InOddIdeal_InOddRefIdeal (hInOddIdeal := hInOddIdeal) (hInOddRefIdeal := hInOddRefIdeal)
    ∧ preserves_MemKv_MemKvIdeal
    ∧ algebraic_MemKvIdeal_MemKvRefIdeal (hMemKvIdeal := hMemKvIdeal) (hMemKvRefIdeal := hMemKvRefIdeal)
    ∧ preserves_Cross_CrossIdeal
    ∧ algebraic_CrossIdeal_CrossRefIdeal_pre_finite_gains (hCrossIdeal := hCrossIdeal) (hCrossRefIdeal := hCrossRefIdeal) (hPre_finite_gains := hPre_finite_gains)
    ∧ preserves_Gqa_GqaIdeal
    ∧ algebraic_GqaIdeal_GqaRefIdeal_pre_finite_gqa (hGqaIdeal := hGqaIdeal) (hGqaRefIdeal := hGqaRefIdeal) (hPre_finite_gqa := hPre_finite_gqa)
-- ==== Pre_finite.lean ====
abbrev S16x2048x6144 : Shape := ⟨3, ![16, 2048, 6144]⟩
abbrev S64 : Shape := ⟨1, ![64]⟩
abbrev S128 : Shape := ⟨1, ![128]⟩
abbrev S_ : Shape := ⟨0, ![]⟩

class Facts : Prop where
  bcast_S_S16x2048x6144 : S_.BroadcastsInDim S16x2048x6144 (![] : Fin 0 → Fin S16x2048x6144.rank)
  reducesTo_S16x2048x6144_S_d0_1_2 : S16x2048x6144.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S16x2048x6144 .f32) (main_arg1 : FVec F S64 .f32) (main_arg2 : FVec F S64 .f32) (main_arg3 : FVec F S64 .f32) (main_arg4 : FVec F S64 .f32) (main_arg5 : FVec F S64 .f32) (main_arg6 : FVec F S64 .f32) (main_arg7 : FVec F S128 .f32) : IVec S_ 1 :=
  let main_v0 : FVec F S16x2048x6144 .f32 := Host.absf main_arg0
  let main_cst : FVec F S_ .f32 := constant S_ .f32 0x7F800000#32
  let main_v1 : FVec F S16x2048x6144 .f32 := broadcastInDim S16x2048x6144 ![] bcast_S_S16x2048x6144 main_cst
  let main_v2 : IVec S16x2048x6144 1 := cmpf .olt main_v0 main_v1
  let main_c : IVec S_ 1 := constantI S_ 1 1#1
  let main_v3 : IVec S_ 1 := (fun x v => Host.reduce IntOp.andi x v reducesTo_S16x2048x6144_S_d0_1_2 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Pre_finite_gains.lean ====
abbrev S16x2048x1024 : Shape := ⟨3, ![16, 2048, 1024]⟩
abbrev S2048x2048 : Shape := ⟨2, ![2048, 2048]⟩
abbrev S16x2048x2048 : Shape := ⟨3, ![16, 2048, 2048]⟩
abbrev S16x256x1024 : Shape := ⟨3, ![16, 256, 1024]⟩
abbrev S2048 : Shape := ⟨1, ![2048]⟩
abbrev S2048x512 : Shape := ⟨2, ![2048, 512]⟩
abbrev S128 : Shape := ⟨1, ![128]⟩
abbrev S512x2048 : Shape := ⟨2, ![512, 2048]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S16x2048x1024 .bf16) (main_arg1 : FVec F S16x2048x1024 .bf16) (main_arg2 : FVec F S2048x2048 .f32) (main_arg3 : FVec F S16x2048x2048 .f32) (main_arg4 : FVec F S16x256x1024 .f32) (main_arg5 : FVec F S2048 .f32) (main_arg6 : FVec F S2048x512 .f32) (main_arg7 : FVec F S128 .f32) (main_arg8 : FVec F S128 .f32) (main_arg9 : FVec F S512x2048 .f32) : IVec S_ 1 :=
  let main_v0 : FVec F S128 .f32 := Host.absf main_arg7
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S128 .f32 := Host.absf main_arg8
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Pre_finite_gqa.lean ====
abbrev S16x2048x6656 : Shape := ⟨3, ![16, 2048, 6656]⟩
abbrev S128 : Shape := ⟨1, ![128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S16x2048x6656 .f32) (main_arg1 : FVec F S128 .f32) (main_arg2 : FVec F S128 .f32) : IVec S_ 1 :=
  let main_v0 : FVec F S128 .f32 := Host.absf main_arg1
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Kernel.lean ====
abbrev S16x2048x6144 : Shape := ⟨3, ![16, 2048, 6144]⟩
abbrev S64 : Shape := ⟨1, ![64]⟩
abbrev S128 : Shape := ⟨1, ![128]⟩
abbrev S8 : Shape := ⟨1, ![8]⟩
abbrev S_ : Shape := ⟨0, ![]⟩
abbrev S1 : Shape := ⟨1, ![1]⟩
abbrev S9 : Shape := ⟨1, ![9]⟩
abbrev S1x128 : Shape := ⟨2, ![1, 128]⟩
abbrev S16x2048x1024 : Shape := ⟨3, ![16, 2048, 1024]⟩
abbrev S1x2048x128 : Shape := ⟨3, ![1, 2048, 128]⟩
abbrev S2048x128 : Shape := ⟨2, ![2048, 128]⟩
abbrev S2048x256 : Shape := ⟨2, ![2048, 256]⟩
abbrev S2048 : Shape := ⟨1, ![2048]⟩
abbrev S2048x1 : Shape := ⟨2, ![2048, 1]⟩
abbrev S1x2048 : Shape := ⟨2, ![1, 2048]⟩
abbrev S1x128x128 : Shape := ⟨3, ![1, 128, 128]⟩
abbrev S128x128 : Shape := ⟨2, ![128, 128]⟩
abbrev S128x1 : Shape := ⟨2, ![128, 1]⟩
abbrev S128x2048 : Shape := ⟨2, ![128, 2048]⟩
abbrev S128x256 : Shape := ⟨2, ![128, 256]⟩

abbrev nBuf : Space → Nat
  | .hbm => 28
  | .vmem => 13
  | .smem => 1
  | _ => 0

abbrev bufTy : (tb : Table) → Fin (tcTables nBuf tb) → BufTy
  | .hbm, ⟨0, _⟩ => ⟨S16x2048x6144, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S8, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1, .f32⟩
  | .hbm, ⟨21, _⟩ => ⟨S9, .f32⟩
  | .hbm, ⟨22, _⟩ => ⟨S128, .f32⟩
  | .hbm, ⟨23, _⟩ => ⟨S1x128, .f32⟩
  | .hbm, ⟨24, _⟩ => ⟨S128, .f32⟩
  | .hbm, ⟨25, _⟩ => ⟨S1x128, .f32⟩
  | .hbm, ⟨26, _⟩ => ⟨S1x128, .f32⟩
  | .hbm, ⟨27, _⟩ => ⟨S16x2048x1024, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x2048x128, .bf16⟩
  | .local _ .vmem, ⟨10, _⟩ => ⟨S1x2048x128, .bf16⟩
  | .local _ .vmem, ⟨11, _⟩ => ⟨S2048x128, .bf16⟩
  | .local _ .vmem, ⟨12, _⟩ => ⟨S2048x256, .bf16⟩
  | .local _ .smem, ⟨0, _⟩ => ⟨S9, .f32⟩
  | _, _ => ⟨S16x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![16, 8, 1], ![false, false, false]⟩

def k0_off1 (i : grid0.Coords) : Fin 1 → Nat :=
  let c1_i32 : BitVec 32 := 1#32
  let arg1 : BitVec 32 := BitVec.ofNat 32 (i 1).val
  let v55 : BitVec 32 := Scalar.addi c1_i32 arg1
  let v56 : Index := Scalar.indexCast v55
  ![v56.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S9 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "log2e" => some (((Real.log 2)⁻¹ : ℝ) : EReal)
  | "qscale" => some (((1 / 8) * (Real.log 2)⁻¹ : ℝ) : EReal)
  | _ => none
-- ==== ReferenceIdeal.lean ====
abbrev S16x2048x6144 : Shape := ⟨3, ![16, 2048, 6144]⟩
abbrev S64 : Shape := ⟨1, ![64]⟩
abbrev S128 : Shape := ⟨1, ![128]⟩
abbrev S8 : Shape := ⟨1, ![8]⟩
abbrev S16x2048x3072 : Shape := ⟨3, ![16, 2048, 3072]⟩
abbrev S16x2048x1024 : Shape := ⟨3, ![16, 2048, 1024]⟩
abbrev S16x2048x8x2x64 : Shape := ⟨5, ![16, 2048, 8, 2, 64]⟩
abbrev S_ : Shape := ⟨0, ![]⟩
abbrev S16x2048x8x2 : Shape := ⟨4, ![16, 2048, 8, 2]⟩
abbrev S16x2048x8x2x1 : Shape := ⟨5, ![16, 2048, 8, 2, 1]⟩
abbrev S1x1x1x1x64 : Shape := ⟨5, ![1, 1, 1, 1, 64]⟩
abbrev S16x8x2x2048x64 : Shape := ⟨5, ![16, 8, 2, 2048, 64]⟩
abbrev S16x2048x8x128 : Shape := ⟨4, ![16, 2048, 8, 128]⟩
abbrev S16x8x2048x128 : Shape := ⟨4, ![16, 8, 2048, 128]⟩
abbrev S2048 : Shape := ⟨1, ![2048]⟩
abbrev S16x8x2x2048x2048 : Shape := ⟨5, ![16, 8, 2, 2048, 2048]⟩
abbrev S2048x1 : Shape := ⟨2, ![2048, 1]⟩
abbrev S1x2048 : Shape := ⟨2, ![1, 2048]⟩
abbrev S2048x2048 : Shape := ⟨2, ![2048, 2048]⟩
abbrev S8x1x1x1 : Shape := ⟨4, ![8, 1, 1, 1]⟩
abbrev S1x1x2048x2048 : Shape := ⟨4, ![1, 1, 2048, 2048]⟩
abbrev S8x1x2048x2048 : Shape := ⟨4, ![8, 1, 2048, 2048]⟩
abbrev S1x8x1x2048x2048 : Shape := ⟨5, ![1, 8, 1, 2048, 2048]⟩
abbrev S16x8x2x2048 : Shape := ⟨4, ![16, 8, 2, 2048]⟩
abbrev S16x8x2x2048x1 : Shape := ⟨5, ![16, 8, 2, 2048, 1]⟩
abbrev S16x8x1x2048x2048 : Shape := ⟨5, ![16, 8, 1, 2048, 2048]⟩
abbrev S16x8x2048x2048 : Shape := ⟨4, ![16, 8, 2048, 2048]⟩
abbrev S16x8x2048 : Shape := ⟨3, ![16, 8, 2048]⟩
abbrev S16x8x2048x1 : Shape := ⟨4, ![16, 8, 2048, 1]⟩
abbrev S1x1x1x128 : Shape := ⟨4, ![1, 1, 1, 128]⟩

abbrev nBuf : Space → Nat
  | .hbm => 126
  | .vmem => 0
  | .smem => 0
  | _ => 0

abbrev bufTy : (tb : Table) → Fin (tcTables nBuf tb) → BufTy
  | .hbm, ⟨0, _⟩ => ⟨S16x2048x6144, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S8, .f32⟩
  | .hbm, ⟨9, _⟩ => ⟨S16x2048x3072, .f32⟩
  | .hbm, ⟨10, _⟩ => ⟨S16x2048x1024, .f32⟩
  | .hbm, ⟨11, _⟩ => ⟨S16x2048x1024, .f32⟩
  | .hbm, ⟨12, _⟩ => ⟨S16x2048x1024, .f32⟩
  | .hbm, ⟨13, _⟩ => ⟨S16x2048x8x2x64, .f32⟩
  | .hbm, ⟨14, _⟩ => ⟨S16x2048x8x2x64, .f32⟩
  | .hbm, ⟨15, _⟩ => ⟨S_, .f32⟩
  | .hbm, ⟨16, _⟩ => ⟨S16x2048x8x2, .f32⟩
  | .hbm, ⟨17, _⟩ => ⟨S16x2048x8x2x1, .f32⟩
  | .hbm, ⟨18, _⟩ => ⟨S_, .f32⟩
  | .hbm, ⟨19, _⟩ => ⟨S16x2048x8x2x1, .f32⟩
  | .hbm, ⟨20, _⟩ => ⟨S16x2048x8x2x1, .f32⟩
  | .hbm, ⟨21, _⟩ => ⟨S_, .f32⟩
  | .hbm, ⟨22, _⟩ => ⟨S16x2048x8x2x1, .f32⟩
  | .hbm, ⟨23, _⟩ => ⟨S16x2048x8x2x1, .f32⟩
  | .hbm, ⟨24, _⟩ => ⟨S16x2048x8x2x1, .f32⟩
  | .hbm, ⟨25, _⟩ => ⟨S16x2048x8x2x64, .f32⟩
  | .hbm, ⟨26, _⟩ => ⟨S16x2048x8x2x64, .f32⟩
  | .hbm, ⟨27, _⟩ => ⟨S1x1x1x1x64, .f32⟩
  | .hbm, ⟨28, _⟩ => ⟨S16x2048x8x2x64, .f32⟩
  | .hbm, ⟨29, _⟩ => ⟨S16x2048x8x2x64, .f32⟩
  | .hbm, ⟨30, _⟩ => ⟨S16x8x2x2048x64, .f32⟩
  | .hbm, ⟨31, _⟩ => ⟨S16x2048x8x2x64, .f32⟩
  | .hbm, ⟨32, _⟩ => ⟨S16x2048x8x2x64, .f32⟩
  | .hbm, ⟨33, _⟩ => ⟨S_, .f32⟩
  | .hbm, ⟨34, _⟩ => ⟨S16x2048x8x2, .f32⟩
  | .hbm, ⟨35, _⟩ => ⟨S16x2048x8x2x1, .f32⟩
  | .hbm, ⟨36, _⟩ => ⟨S_, .f32⟩
  | .hbm, ⟨37, _⟩ => ⟨S16x2048x8x2x1, .f32⟩
  | .hbm, ⟨38, _⟩ => ⟨S16x2048x8x2x1, .f32⟩
  | .hbm, ⟨39, _⟩ => ⟨S_, .f32⟩
  | .hbm, ⟨40, _⟩ => ⟨S16x2048x8x2x1, .f32⟩
  | .hbm, ⟨41, _⟩ => ⟨S16x2048x8x2x1, .f32⟩
  | .hbm, ⟨42, _⟩ => ⟨S16x2048x8x2x1, .f32⟩
  | .hbm, ⟨43, _⟩ => ⟨S16x2048x8x2x64, .f32⟩
  | .hbm, ⟨44, _⟩ => ⟨S16x2048x8x2x64, .f32⟩
  | .hbm, ⟨45, _⟩ => ⟨S1x1x1x1x64, .f32⟩
  | .hbm, ⟨46, _⟩ => ⟨S16x2048x8x2x64, .f32⟩
  | .hbm, ⟨47, _⟩ => ⟨S16x2048x8x2x64, .f32⟩
  | .hbm, ⟨48, _⟩ => ⟨S16x8x2x2048x64, .f32⟩
  | .hbm, ⟨49, _⟩ => ⟨S16x2048x8x128, .f32⟩
  | .hbm, ⟨50, _⟩ => ⟨S16x8x2048x128, .f32⟩
  | .hbm, ⟨51, _⟩ => ⟨S64, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S64, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S2048, .i32⟩
  | .hbm, ⟨63, _⟩ => ⟨S16x8x2x2048x2048, .f32⟩
  | .hbm, ⟨64, _⟩ => ⟨S_, .f32⟩
  | .hbm, ⟨65, _⟩ => ⟨S16x8x2x2048x2048, .f32⟩
  | .hbm, ⟨66, _⟩ => ⟨S16x8x2x2048x2048, .f32⟩
  | .hbm, ⟨67, _⟩ => ⟨S2048x1, .i32⟩
  | .hbm, ⟨68, _⟩ => ⟨S1x2048, .i32⟩
  | .hbm, ⟨69, _⟩ => ⟨S2048x2048, .i32⟩
  | .hbm, ⟨70, _⟩ => ⟨S2048x2048, .i32⟩
  | .hbm, ⟨71, _⟩ => ⟨S2048x2048, .i32⟩
  | .hbm, ⟨72, _⟩ => ⟨S2048x2048, .i32⟩
  | .hbm, ⟨73, _⟩ => ⟨S2048x2048, .f32⟩
  | .hbm, ⟨74, _⟩ => ⟨S8x1x1x1, .f32⟩
  | .hbm, ⟨75, _⟩ => ⟨S1x1x2048x2048, .f32⟩
  | .hbm, ⟨76, _⟩ => ⟨S8x1x2048x2048, .f32⟩
  | .hbm, ⟨77, _⟩ => ⟨S8x1x2048x2048, .f32⟩
  | .hbm, ⟨78, _⟩ => ⟨S8x1x2048x2048, .f32⟩
  | .hbm, ⟨79, _⟩ => ⟨S1x8x1x2048x2048, .f32⟩
  | .hbm, ⟨80, _⟩ => ⟨S16x8x2x2048x2048, .f32⟩
  | .hbm, ⟨81, _⟩ => ⟨S16x8x2x2048x2048, .f32⟩
  | .hbm, ⟨82, _⟩ => ⟨S_, .f32⟩
  | .hbm, ⟨83, _⟩ => ⟨S16x8x2x2048, .f32⟩
  | .hbm, ⟨84, _⟩ => ⟨S_, .f32⟩
  | .hbm, ⟨85, _⟩ => ⟨S16x8x2x2048, .f32⟩
  | .hbm, ⟨86, _⟩ => ⟨S16x8x2x2048, .f32⟩
  | .hbm, ⟨87, _⟩ => ⟨S16x8x2x2048x1, .f32⟩
  | .hbm, ⟨88, _⟩ => ⟨S16x8x2x2048x2048, .f32⟩
  | .hbm, ⟨89, _⟩ => ⟨S16x8x2x2048x2048, .f32⟩
  | .hbm, ⟨90, _⟩ => ⟨S16x8x2x2048x2048, .f32⟩
  | .hbm, ⟨91, _⟩ => ⟨S_, .f32⟩
  | .hbm, ⟨92, _⟩ => ⟨S16x8x2x2048, .f32⟩
  | .hbm, ⟨93, _⟩ => ⟨S16x8x2x2048x1, .f32⟩
  | .hbm, ⟨94, _⟩ => ⟨S16x8x2x2048x2048, .f32⟩
  | .hbm, ⟨95, _⟩ => ⟨S16x8x2x2048x2048, .f32⟩
  | .hbm, ⟨96, _⟩ => ⟨S16x8x1x2048x2048, .f32⟩
  | .hbm, ⟨97, _⟩ => ⟨S16x8x2048x2048, .f32⟩
  | .hbm, ⟨98, _⟩ => ⟨S16x8x1x2048x2048, .f32⟩
  | .hbm, ⟨99, _⟩ => ⟨S16x8x2048x2048, .f32⟩
  | .hbm, ⟨100, _⟩ => ⟨S16x8x2048x2048, .f32⟩
  | .hbm, ⟨101, _⟩ => ⟨S16x8x2048x2048, .f32⟩
  | .hbm, ⟨102, _⟩ => ⟨S16x8x2048x2048, .f32⟩
  | .hbm, ⟨103, _⟩ => ⟨S16x8x2048x128, .f32⟩
  | .hbm, ⟨104, _⟩ => ⟨S16x8x2048x128, .f32⟩
  | .hbm, ⟨105, _⟩ => ⟨S_, .f32⟩
  | .hbm, ⟨106, _⟩ => ⟨S16x8x2048, .f32⟩
  | .hbm, ⟨107, _⟩ => ⟨S16x8x2048x1, .f32⟩
  | .hbm, ⟨108, _⟩ => ⟨S_, .f32⟩
  | .hbm, ⟨109, _⟩ => ⟨S16x8x2048x1, .f32⟩
  | .hbm, ⟨110, _⟩ => ⟨S16x8x2048x1, .f32⟩
  | .hbm, ⟨111, _⟩ => ⟨S_, .f32⟩
  | .hbm, ⟨112, _⟩ => ⟨S16x8x2048x1, .f32⟩
  | .hbm, ⟨113, _⟩ => ⟨S16x8x2048x1, .f32⟩
  | .hbm, ⟨114, _⟩ => ⟨S16x8x2048x1, .f32⟩
  | .hbm, ⟨115, _⟩ => ⟨S16x8x2048x128, .f32⟩
  | .hbm, ⟨116, _⟩ => ⟨S16x8x2048x128, .f32⟩
  | .hbm, ⟨117, _⟩ => ⟨S1x1x1x128, .f32⟩
  | .hbm, ⟨118, _⟩ => ⟨S16x8x2048x128, .f32⟩
  | .hbm, ⟨119, _⟩ => ⟨S16x8x2048x128, .f32⟩
  | .hbm, ⟨120, _⟩ => ⟨S_, .f32⟩
  | .hbm, ⟨121, _⟩ => ⟨S16x8x2048x128, .f32⟩
  | .hbm, ⟨122, _⟩ => ⟨S16x8x2048x128, .f32⟩
  | .hbm, ⟨123, _⟩ => ⟨S16x2048x8x128, .f32⟩
  | .hbm, ⟨124, _⟩ => ⟨S16x2048x1024, .f32⟩
  | .hbm, ⟨125, _⟩ => ⟨S16x2048x1024, .bf16⟩
  | _, _ => ⟨S16x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_10 : Ref sig .tc := ⟨.hbm, 82, rfl⟩
abbrev main_v63 : Ref sig .tc := ⟨.hbm, 83, rfl⟩
abbrev main_cst_11 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_13 : Ref sig .tc := ⟨.hbm, 105, rfl⟩
abbrev main_v83 : Ref sig .tc := ⟨.hbm, 106, rfl⟩
abbrev main_v84 : Ref sig .tc := ⟨.hbm, 107, rfl⟩
abbrev main_cst_14 : Ref sig .tc := ⟨.hbm, 108, rfl⟩
abbrev main_v85 : Ref sig .tc := ⟨.hbm, 109, rfl⟩
abbrev main_v86 : Ref sig .tc := ⟨.hbm, 110, rfl⟩
abbrev main_cst_15 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_16 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩

abbrev nD : Nat := 1
abbrev τ : Topo := Topo.v7x

variable {F : FTy → Type} [FloatOps F]
-- ==== Mlp.lean ====
abbrev S16x2048x2048 : Shape := ⟨3, ![16, 2048, 2048]⟩
abbrev S2048 : Shape := ⟨1, ![2048]⟩
abbrev S2048x8192 : Shape := ⟨2, ![2048, 8192]⟩
abbrev S8192x2048 : Shape := ⟨2, ![8192, 2048]⟩
abbrev S32768x2048 : Shape := ⟨2, ![32768, 2048]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 7
  | .vmem => 11
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x8192, .bf16⟩
  | .hbm, ⟨3, _⟩ => ⟨S8192x2048, .bf16⟩
  | .hbm, ⟨4, _⟩ => ⟨S32768x2048, .f32⟩
  | .hbm, ⟨5, _⟩ => ⟨S1x2048, .f32⟩
  | .hbm, ⟨6, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 8], ![false, false]⟩

def k0_cond3 (i : grid0.Coords) : BitVec 1 :=
  let arg1 : BitVec 32 := BitVec.ofNat 32 (i 1).val
  let c7_i32_2 : BitVec 32 := 7#32
  let v6 : BitVec 1 := Scalar.cmpi .eq arg1 c7_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpRefIdeal.lean ====
abbrev S16x2048x2048 : Shape := ⟨3, ![16, 2048, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x8192 : Shape := ⟨3, ![16, 2048, 8192]⟩
abbrev S32768x2048 : Shape := ⟨2, ![32768, 2048]⟩

abbrev nBuf : Space → Nat
  | .hbm => 30
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x8192, .bf16⟩
  | .hbm, ⟨3, _⟩ => ⟨S8192x2048, .bf16⟩
  | .hbm, ⟨4, _⟩ => ⟨S16x2048x2048, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S16x2048x1, .f32⟩
  | .hbm, ⟨15, _⟩ => ⟨S16x2048x2048, .f32⟩
  | .hbm, ⟨16, _⟩ => ⟨S16x2048x2048, .f32⟩
  | .hbm, ⟨17, _⟩ => ⟨S1x1x2048, .f32⟩
  | .hbm, ⟨18, _⟩ => ⟨S16x2048x2048, .f32⟩
  | .hbm, ⟨19, _⟩ => ⟨S16x2048x2048, .f32⟩
  | .hbm, ⟨20, _⟩ => ⟨S2048x8192, .f32⟩
  | .hbm, ⟨21, _⟩ => ⟨S16x2048x8192, .f32⟩
  | .hbm, ⟨22, _⟩ => ⟨S_, .f32⟩
  | .hbm, ⟨23, _⟩ => ⟨S16x2048x8192, .f32⟩
  | .hbm, ⟨24, _⟩ => ⟨S16x2048x8192, .f32⟩
  | .hbm, ⟨25, _⟩ => ⟨S16x2048x8192, .f32⟩
  | .hbm, ⟨26, _⟩ => ⟨S8192x2048, .f32⟩
  | .hbm, ⟨27, _⟩ => ⟨S16x2048x2048, .f32⟩
  | .hbm, ⟨28, _⟩ => ⟨S16x2048x2048, .f32⟩
  | .hbm, ⟨29, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== InEven.lean ====
abbrev S16x2048x2048 : Shape := ⟨3, ![16, 2048, 2048]⟩
abbrev S2048 : Shape := ⟨1, ![2048]⟩
abbrev S2048x6144 : Shape := ⟨2, ![2048, 6144]⟩
abbrev S32768x2048 : Shape := ⟨2, ![32768, 2048]⟩
abbrev S1x2048 : Shape := ⟨2, ![1, 2048]⟩
abbrev S32768x6144 : Shape := ⟨2, ![32768, 6144]⟩
abbrev S1024x2048 : Shape := ⟨2, ![1024, 2048]⟩
abbrev S2048x1536 : Shape := ⟨2, ![2048, 1536]⟩
abbrev S1024x1536 : Shape := ⟨2, ![1024, 1536]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x6144, .f32⟩
  | .hbm, ⟨3, _⟩ => ⟨S32768x2048, .f32⟩
  | .hbm, ⟨4, _⟩ => ⟨S2048x6144, .bf16⟩
  | .hbm, ⟨5, _⟩ => ⟨S1x2048, .f32⟩
  | .hbm, ⟨6, _⟩ => ⟨S32768x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1536, .bf16⟩
  | .local _ .vmem, ⟨4, _⟩ => ⟨S2048x1536, .bf16⟩
  | .local _ .vmem, ⟨5, _⟩ => ⟨S1024x1536, .f32⟩
  | .local _ .vmem, ⟨6, _⟩ => ⟨S1024x1536, .f32⟩
  | .local _ .vmem, ⟨7, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InEvenRefIdeal.lean ====
abbrev S16x2048x2048 : Shape := ⟨3, ![16, 2048, 2048]⟩
abbrev S2048 : Shape := ⟨1, ![2048]⟩
abbrev S2048x6144 : Shape := ⟨2, ![2048, 6144]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x6144 : Shape := ⟨3, ![16, 2048, 6144]⟩
abbrev S32768x6144 : Shape := ⟨2, ![32768, 6144]⟩

abbrev nBuf : Space → Nat
  | .hbm => 21
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x6144, .f32⟩
  | .hbm, ⟨3, _⟩ => ⟨S16x2048x2048, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x2048, .f32⟩
  | .hbm, ⟨15, _⟩ => ⟨S16x2048x2048, .f32⟩
  | .hbm, ⟨16, _⟩ => ⟨S1x1x2048, .f32⟩
  | .hbm, ⟨17, _⟩ => ⟨S16x2048x2048, .f32⟩
  | .hbm, ⟨18, _⟩ => ⟨S16x2048x2048, .f32⟩
  | .hbm, ⟨19, _⟩ => ⟨S16x2048x6144, .f32⟩
  | .hbm, ⟨20, _⟩ => ⟨S32768x6144, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== InOdd.lean ====
abbrev S16x2048x2048 : Shape := ⟨3, ![16, 2048, 2048]⟩
abbrev S2048 : Shape := ⟨1, ![2048]⟩
abbrev S2048x6656 : Shape := ⟨2, ![2048, 6656]⟩
abbrev S32768x2048 : Shape := ⟨2, ![32768, 2048]⟩
abbrev S1x2048 : Shape := ⟨2, ![1, 2048]⟩
abbrev S32768x6656 : Shape := ⟨2, ![32768, 6656]⟩
abbrev S1024x2048 : Shape := ⟨2, ![1024, 2048]⟩
abbrev S2048x1664 : Shape := ⟨2, ![2048, 1664]⟩
abbrev S1024x1664 : Shape := ⟨2, ![1024, 1664]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x6656, .f32⟩
  | .hbm, ⟨3, _⟩ => ⟨S32768x2048, .f32⟩
  | .hbm, ⟨4, _⟩ => ⟨S2048x6656, .bf16⟩
  | .hbm, ⟨5, _⟩ => ⟨S1x2048, .f32⟩
  | .hbm, ⟨6, _⟩ => ⟨S32768x6656, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1664, .bf16⟩
  | .local _ .vmem, ⟨4, _⟩ => ⟨S2048x1664, .bf16⟩
  | .local _ .vmem, ⟨5, _⟩ => ⟨S1024x1664, .f32⟩
  | .local _ .vmem, ⟨6, _⟩ => ⟨S1024x1664, .f32⟩
  | .local _ .vmem, ⟨7, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InOddRefIdeal.lean ====
abbrev S16x2048x2048 : Shape := ⟨3, ![16, 2048, 2048]⟩
abbrev S2048 : Shape := ⟨1, ![2048]⟩
abbrev S2048x6656 : Shape := ⟨2, ![2048, 6656]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x6656 : Shape := ⟨3, ![16, 2048, 6656]⟩
abbrev S32768x6656 : Shape := ⟨2, ![32768, 6656]⟩

abbrev nBuf : Space → Nat
  | .hbm => 21
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x6656, .f32⟩
  | .hbm, ⟨3, _⟩ => ⟨S16x2048x2048, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x2048, .f32⟩
  | .hbm, ⟨15, _⟩ => ⟨S16x2048x2048, .f32⟩
  | .hbm, ⟨16, _⟩ => ⟨S1x1x2048, .f32⟩
  | .hbm, ⟨17, _⟩ => ⟨S16x2048x2048, .f32⟩
  | .hbm, ⟨18, _⟩ => ⟨S16x2048x2048, .f32⟩
  | .hbm, ⟨19, _⟩ => ⟨S16x2048x6656, .f32⟩
  | .hbm, ⟨20, _⟩ => ⟨S32768x6656, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== MemKv.lean ====
abbrev S16x256x2048 : Shape := ⟨3, ![16, 256, 2048]⟩
abbrev S2048 : Shape := ⟨1, ![2048]⟩
abbrev S2048x1024 : Shape := ⟨2, ![2048, 1024]⟩
abbrev S4096x2048 : Shape := ⟨2, ![4096, 2048]⟩
abbrev S1x2048 : Shape := ⟨2, ![1, 2048]⟩
abbrev S4096x1024 : Shape := ⟨2, ![4096, 1024]⟩
abbrev S1024x2048 : Shape := ⟨2, ![1024, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 7
  | .smem => 0
  | _ => 0

abbrev bufTy : (tb : Table) → Fin (tcTables nBuf tb) → BufTy
  | .hbm, ⟨0, _⟩ => ⟨S16x256x2048, .f32⟩
  | .hbm, ⟨1, _⟩ => ⟨S2048, .f32⟩
  | .hbm, ⟨2, _⟩ => ⟨S2048x1024, .f32⟩
  | .hbm, ⟨3, _⟩ => ⟨S4096x2048, .f32⟩
  | .hbm, ⟨4, _⟩ => ⟨S2048x1024, .bf16⟩
  | .hbm, ⟨5, _⟩ => ⟨S1x2048, .f32⟩
  | .hbm, ⟨6, _⟩ => ⟨S4096x1024, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemKvRefIdeal.lean ====
abbrev S16x256x2048 : Shape := ⟨3, ![16, 256, 2048]⟩
abbrev S2048 : Shape := ⟨1, ![2048]⟩
abbrev S2048x1024 : Shape := ⟨2, ![2048, 1024]⟩
abbrev S_ : Shape := ⟨0, ![]⟩
abbrev S16x256 : Shape := ⟨2, ![16, 256]⟩
abbrev S16x256x1 : Shape := ⟨3, ![16, 256, 1]⟩
abbrev S1x1x2048 : Shape := ⟨3, ![1, 1, 2048]⟩
abbrev S16x256x1024 : Shape := ⟨3, ![16, 256, 1024]⟩
abbrev S4096x1024 : Shape := ⟨2, ![4096, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S2048, .f32⟩
  | .hbm, ⟨2, _⟩ => ⟨S2048x1024, .f32⟩
  | .hbm, ⟨3, _⟩ => ⟨S16x256x2048, .f32⟩
  | .hbm, ⟨4, _⟩ => ⟨S_, .f32⟩
  | .hbm, ⟨5, _⟩ => ⟨S16x256, .f32⟩
  | .hbm, ⟨6, _⟩ => ⟨S16x256x1, .f32⟩
  | .hbm, ⟨7, _⟩ => ⟨S_, .f32⟩
  | .hbm, ⟨8, _⟩ => ⟨S16x256x1, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S16x256x1, .f32⟩
  | .hbm, ⟨14, _⟩ => ⟨S16x256x2048, .f32⟩
  | .hbm, ⟨15, _⟩ => ⟨S16x256x2048, .f32⟩
  | .hbm, ⟨16, _⟩ => ⟨S1x1x2048, .f32⟩
  | .hbm, ⟨17, _⟩ => ⟨S16x256x2048, .f32⟩
  | .hbm, ⟨18, _⟩ => ⟨S16x256x2048, .f32⟩
  | .hbm, ⟨19, _⟩ => ⟨S16x256x1024, .f32⟩
  | .hbm, ⟨20, _⟩ => ⟨S4096x1024, .f32⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Cross.lean ====
abbrev S16x2048x1024 : Shape := ⟨3, ![16, 2048, 1024]⟩
abbrev S2048x2048 : Shape := ⟨2, ![2048, 2048]⟩
abbrev S16x2048x2048 : Shape := ⟨3, ![16, 2048, 2048]⟩
abbrev S16x256x1024 : Shape := ⟨3, ![16, 256, 1024]⟩
abbrev S2048 : Shape := ⟨1, ![2048]⟩
abbrev S2048x512 : Shape := ⟨2, ![2048, 512]⟩
abbrev S128 : Shape := ⟨1, ![128]⟩
abbrev S512x2048 : Shape := ⟨2, ![512, 2048]⟩
abbrev S1x2048 : Shape := ⟨2, ![1, 2048]⟩
abbrev S1x128 : Shape := ⟨2, ![1, 128]⟩
abbrev S1x512x1024 : Shape := ⟨3, ![1, 512, 1024]⟩
abbrev S1024x2048 : Shape := ⟨2, ![1024, 2048]⟩
abbrev S1x512x2048 : Shape := ⟨3, ![1, 512, 2048]⟩
abbrev S1x256x1024 : Shape := ⟨3, ![1, 256, 1024]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S256x1024 : Shape := ⟨2, ![256, 1024]⟩
abbrev S256x128 : Shape := ⟨2, ![256, 128]⟩
abbrev S512x128 : Shape := ⟨2, ![512, 128]⟩
abbrev S256 : Shape := ⟨1, ![256]⟩
abbrev S256x1 : Shape := ⟨2, ![256, 1]⟩
abbrev S512x256 : Shape := ⟨2, ![512, 256]⟩
abbrev S256x256 : Shape := ⟨2, ![256, 256]⟩

abbrev nBuf : Space → Nat
  | .hbm => 17
  | .vmem => 17
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .bf16⟩
  | .hbm, ⟨2, _⟩ => ⟨S2048x2048, .f32⟩
  | .hbm, ⟨3, _⟩ => ⟨S16x2048x2048, .f32⟩
  | .hbm, ⟨4, _⟩ => ⟨S16x256x1024, .f32⟩
  | .hbm, ⟨5, _⟩ => ⟨S2048, .f32⟩
  | .hbm, ⟨6, _⟩ => ⟨S2048x512, .f32⟩
  | .hbm, ⟨7, _⟩ => ⟨S128, .f32⟩
  | .hbm, ⟨8, _⟩ => ⟨S128, .f32⟩
  | .hbm, ⟨9, _⟩ => ⟨S512x2048, .f32⟩
  | .hbm, ⟨10, _⟩ => ⟨S2048x2048, .bf16⟩
  | .hbm, ⟨11, _⟩ => ⟨S2048x512, .bf16⟩
  | .hbm, ⟨12, _⟩ => ⟨S512x2048, .bf16⟩
  | .hbm, ⟨13, _⟩ => ⟨S1x2048, .f32⟩
  | .hbm, ⟨14, _⟩ => ⟨S1x128, .f32⟩
  | .hbm, ⟨15, _⟩ => ⟨S1x128, .f32⟩
  | .hbm, ⟨16, _⟩ => ⟨S16x2048x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1x512x2048, .f32⟩
  | .local _ .vmem, ⟨7, _⟩ => ⟨S1x512x2048, .f32⟩
  | .local _ .vmem, ⟨8, _⟩ => ⟨S1x2048, .f32⟩
  | .local _ .vmem, ⟨9, _⟩ => ⟨S2048x512, .bf16⟩
  | .local _ .vmem, ⟨10, _⟩ => ⟨S1x256x1024, .f32⟩
  | .local _ .vmem, ⟨11, _⟩ => ⟨S1x256x1024, .f32⟩
  | .local _ .vmem, ⟨12, _⟩ => ⟨S1x128, .f32⟩
  | .local _ .vmem, ⟨13, _⟩ => ⟨S1x128, .f32⟩
  | .local _ .vmem, ⟨14, _⟩ => ⟨S512x2048, .bf16⟩
  | .local _ .vmem, ⟨15, _⟩ => ⟨S1x512x2048, .f32⟩
  | .local _ .vmem, ⟨16, _⟩ => ⟨S1x512x2048, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== CrossIdeal.lean ====
variable {F : FTy → Type} [FloatOps F] [Named F]
def κ : String → Option EReal := fun
  | "cscale" => some (((11863283 / 134217728) * (Real.log 2)⁻¹ : ℝ) : EReal)
  | _ => none
-- ==== CrossRefIdeal.lean ====
abbrev S16x2048x1024 : Shape := ⟨3, ![16, 2048, 1024]⟩
abbrev S2048x2048 : Shape := ⟨2, ![2048, 2048]⟩
abbrev S16x2048x2048 : Shape := ⟨3, ![16, 2048, 2048]⟩
abbrev S16x256x1024 : Shape := ⟨3, ![16, 256, 1024]⟩
abbrev S2048 : Shape := ⟨1, ![2048]⟩
abbrev S2048x512 : Shape := ⟨2, ![2048, 512]⟩
abbrev S128 : Shape := ⟨1, ![128]⟩
abbrev S512x2048 : Shape := ⟨2, ![512, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x512 : Shape := ⟨3, ![16, 2048, 512]⟩
abbrev S16x2048x4x128 : Shape := ⟨4, ![16, 2048, 4, 128]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩
abbrev S16x256x512 : Shape := ⟨3, ![16, 256, 512]⟩
abbrev S16x256x4x128 : Shape := ⟨4, ![16, 256, 4, 128]⟩
abbrev S16x256x4 : Shape := ⟨3, ![16, 256, 4]⟩
abbrev S16x256x4x1 : Shape := ⟨4, ![16, 256, 4, 1]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩

abbrev nBuf : Space → Nat
  | .hbm => 91
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x2048x1024, .bf16⟩
  | .hbm, ⟨2, _⟩ => ⟨S2048x2048, .f32⟩
  | .hbm, ⟨3, _⟩ => ⟨S16x2048x2048, .f32⟩
  | .hbm, ⟨4, _⟩ => ⟨S16x256x1024, .f32⟩
  | .hbm, ⟨5, _⟩ => ⟨S2048, .f32⟩
  | .hbm, ⟨6, _⟩ => ⟨S2048x512, .f32⟩
  | .hbm, ⟨7, _⟩ => ⟨S128, .f32⟩
  | .hbm, ⟨8, _⟩ => ⟨S128, .f32⟩
  | .hbm, ⟨9, _⟩ => ⟨S512x2048, .f32⟩
  | .hbm, ⟨10, _⟩ => ⟨S16x2048x2048, .bf16⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1, .f32⟩
  | .hbm, ⟨25, _⟩ => ⟨S16x2048x2048, .f32⟩
  | .hbm, ⟨26, _⟩ => ⟨S16x2048x2048, .f32⟩
  | .hbm, ⟨27, _⟩ => ⟨S1x1x2048, .f32⟩
  | .hbm, ⟨28, _⟩ => ⟨S16x2048x2048, .f32⟩
  | .hbm, ⟨29, _⟩ => ⟨S16x2048x2048, .f32⟩
  | .hbm, ⟨30, _⟩ => ⟨S16x2048x512, .f32⟩
  | .hbm, ⟨31, _⟩ => ⟨S16x2048x4x128, .f32⟩
  | .hbm, ⟨32, _⟩ => ⟨S16x2048x4x128, .f32⟩
  | .hbm, ⟨33, _⟩ => ⟨S_, .f32⟩
  | .hbm, ⟨34, _⟩ => ⟨S16x2048x4, .f32⟩
  | .hbm, ⟨35, _⟩ => ⟨S16x2048x4x1, .f32⟩
  | .hbm, ⟨36, _⟩ => ⟨S_, .f32⟩
  | .hbm, ⟨37, _⟩ => ⟨S16x2048x4x1, .f32⟩
  | .hbm, ⟨38, _⟩ => ⟨S16x2048x4x1, .f32⟩
  | .hbm, ⟨39, _⟩ => ⟨S_, .f32⟩
  | .hbm, ⟨40, _⟩ => ⟨S16x2048x4x1, .f32⟩
  | .hbm, ⟨41, _⟩ => ⟨S16x2048x4x1, .f32⟩
  | .hbm, ⟨42, _⟩ => ⟨S16x2048x4x1, .f32⟩
  | .hbm, ⟨43, _⟩ => ⟨S16x2048x4x128, .f32⟩
  | .hbm, ⟨44, _⟩ => ⟨S16x2048x4x128, .f32⟩
  | .hbm, ⟨45, _⟩ => ⟨S1x1x1x128, .f32⟩
  | .hbm, ⟨46, _⟩ => ⟨S16x2048x4x128, .f32⟩
  | .hbm, ⟨47, _⟩ => ⟨S16x2048x4x128, .f32⟩
  | .hbm, ⟨48, _⟩ => ⟨S16x256x512, .f32⟩
  | .hbm, ⟨49, _⟩ => ⟨S16x256x512, .f32⟩
  | .hbm, ⟨50, _⟩ => ⟨S16x256x4x128, .f32⟩
  | .hbm, ⟨51, _⟩ => ⟨S16x256x4x128, .f32⟩
  | .hbm, ⟨52, _⟩ => ⟨S_, .f32⟩
  | .hbm, ⟨53, _⟩ => ⟨S16x256x4, .f32⟩
  | .hbm, ⟨54, _⟩ => ⟨S16x256x4x1, .f32⟩
  | .hbm, ⟨55, _⟩ => ⟨S_, .f32⟩
  | .hbm, ⟨56, _⟩ => ⟨S16x256x4x1, .f32⟩
  | .hbm, ⟨57, _⟩ => ⟨S16x256x4x1, .f32⟩
  | .hbm, ⟨58, _⟩ => ⟨S_, .f32⟩
  | .hbm, ⟨59, _⟩ => ⟨S16x256x4x1, .f32⟩
  | .hbm, ⟨60, _⟩ => ⟨S16x256x4x1, .f32⟩
  | .hbm, ⟨61, _⟩ => ⟨S16x256x4x1, .f32⟩
  | .hbm, ⟨62, _⟩ => ⟨S16x256x4x128, .f32⟩
  | .hbm, ⟨63, _⟩ => ⟨S16x256x4x128, .f32⟩
  | .hbm, ⟨64, _⟩ => ⟨S1x1x1x128, .f32⟩
  | .hbm, ⟨65, _⟩ => ⟨S16x256x4x128, .f32⟩
  | .hbm, ⟨66, _⟩ => ⟨S16x256x4x128, .f32⟩
  | .hbm, ⟨67, _⟩ => ⟨S16x256x4x128, .f32⟩
  | .hbm, ⟨68, _⟩ => ⟨S16x4x2048x256, .f32⟩
  | .hbm, ⟨69, _⟩ => ⟨S_, .f32⟩
  | .hbm, ⟨70, _⟩ => ⟨S16x4x2048x256, .f32⟩
  | .hbm, ⟨71, _⟩ => ⟨S16x4x2048x256, .f32⟩
  | .hbm, ⟨72, _⟩ => ⟨S_, .f32⟩
  | .hbm, ⟨73, _⟩ => ⟨S16x4x2048, .f32⟩
  | .hbm, ⟨74, _⟩ => ⟨S_, .f32⟩
  | .hbm, ⟨75, _⟩ => ⟨S16x4x2048, .f32⟩
  | .hbm, ⟨76, _⟩ => ⟨S16x4x2048, .f32⟩
  | .hbm, ⟨77, _⟩ => ⟨S16x4x2048x1, .f32⟩
  | .hbm, ⟨78, _⟩ => ⟨S16x4x2048x256, .f32⟩
  | .hbm, ⟨79, _⟩ => ⟨S16x4x2048x256, .f32⟩
  | .hbm, ⟨80, _⟩ => ⟨S16x4x2048x256, .f32⟩
  | .hbm, ⟨81, _⟩ => ⟨S_, .f32⟩
  | .hbm, ⟨82, _⟩ => ⟨S16x4x2048, .f32⟩
  | .hbm, ⟨83, _⟩ => ⟨S16x4x2048x1, .f32⟩
  | .hbm, ⟨84, _⟩ => ⟨S16x4x2048x256, .f32⟩
  | .hbm, ⟨85, _⟩ => ⟨S16x4x2048x256, .f32⟩
  | .hbm, ⟨86, _⟩ => ⟨S16x4x128x2048, .f32⟩
  | .hbm, ⟨87, _⟩ => ⟨S16x2048x4x128, .f32⟩
  | .hbm, ⟨88, _⟩ => ⟨S16x2048x512, .f32⟩
  | .hbm, ⟨89, _⟩ => ⟨S16x2048x2048, .f32⟩
  | .hbm, ⟨90, _⟩ => ⟨S16x2048x2048, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]
-- ==== Gqa.lean ====
abbrev S16x2048x6656 : Shape := ⟨3, ![16, 2048, 6656]⟩
abbrev S128 : Shape := ⟨1, ![128]⟩
abbrev S32 : Shape := ⟨1, ![32]⟩
abbrev S64 : Shape := ⟨1, ![64]⟩
abbrev S32x64 : Shape := ⟨2, ![32, 64]⟩
abbrev S2048 : Shape := ⟨1, ![2048]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S1x128 : Shape := ⟨2, ![1, 128]⟩
abbrev S16x2048x1024 : Shape := ⟨3, ![16, 2048, 1024]⟩
abbrev S1x1024x512 : Shape := ⟨3, ![1, 1024, 512]⟩
abbrev S1x2048x128 : Shape := ⟨3, ![1, 2048, 128]⟩
abbrev S1024x128 : Shape := ⟨2, ![1024, 128]⟩
abbrev S2048x256 : Shape := ⟨2, ![2048, 256]⟩
abbrev S1x128x128 : Shape := ⟨3, ![1, 128, 128]⟩
abbrev S128x128 : Shape := ⟨2, ![128, 128]⟩
abbrev S128x1 : Shape := ⟨2, ![128, 1]⟩
abbrev S128x2048 : Shape := ⟨2, ![128, 2048]⟩
abbrev S128x256 : Shape := ⟨2, ![128, 256]⟩

abbrev nBuf : Space → Nat
  | .hbm => 39
  | .vmem => 18
  | .smem => 0
  | _ => 0

abbrev bufTy : (tb : Table) → Fin (tcTables nBuf tb) → BufTy
  | .hbm, ⟨0, _⟩ => ⟨S16x2048x6656, .f32⟩
  | .hbm, ⟨1, _⟩ => ⟨S128, .f32⟩
  | .hbm, ⟨2, _⟩ => ⟨S128, .f32⟩
  | .hbm, ⟨3, _⟩ => ⟨S32, .f32⟩
  | .hbm, ⟨4, _⟩ => ⟨S64, .f32⟩
  | .hbm, ⟨5, _⟩ => ⟨S32x64, .f32⟩
  | .hbm, ⟨6, _⟩ => ⟨S32x64, .f32⟩
  | .hbm, ⟨7, _⟩ => ⟨S2048, .f32⟩
  | .hbm, ⟨8, _⟩ => ⟨S2048, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S2048x1, .f32⟩
  | .hbm, ⟨24, _⟩ => ⟨S1x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x1, .f32⟩
  | .hbm, ⟨29, _⟩ => ⟨S1x32, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S2048x128, .f32⟩
  | .hbm, ⟨34, _⟩ => ⟨S2048x128, .f32⟩
  | .hbm, ⟨35, _⟩ => ⟨S2048x128, .f32⟩
  | .hbm, ⟨36, _⟩ => ⟨S1x128, .f32⟩
  | .hbm, ⟨37, _⟩ => ⟨S1x128, .f32⟩
  | .hbm, ⟨38, _⟩ => ⟨S16x2048x1024, .bf16⟩
  | .local _ .vmem, ⟨0, _⟩ => ⟨S1x1024x512, .f32⟩
  | .local _ .vmem, ⟨1, _⟩ => ⟨S1x1024x512, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S2048x128, .f32⟩
  | .local _ .vmem, ⟨11, _⟩ => ⟨S2048x128, .f32⟩
  | .local _ .vmem, ⟨12, _⟩ => ⟨S1x128, .f32⟩
  | .local _ .vmem, ⟨13, _⟩ => ⟨S1x128, .f32⟩
  | .local _ .vmem, ⟨14, _⟩ => ⟨S1x1024x512, .bf16⟩
  | .local _ .vmem, ⟨15, _⟩ => ⟨S1x1024x512, .bf16⟩
  | .local _ .vmem, ⟨16, _⟩ => ⟨S2048x128, .bf16⟩
  | .local _ .vmem, ⟨17, _⟩ => ⟨S2048x256, .bf16⟩
  | _, _ => ⟨S16x2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨3, ![16, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c50_i32 : BitVec 32 := 50#32
  let v0 : BitVec 32 := Scalar.addi c50_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== GqaIdeal.lean ====
variable {F : FTy → Type} [FloatOps F] [Named F]
def κ : String → Option EReal := fun
  | "cscale" => some (((11863283 / 134217728) * (Real.log 2)⁻¹ : ℝ) : EReal)
  | _ => none
-- ==== GqaRefIdeal.lean ====
abbrev S16x2048x6656 : Shape := ⟨3, ![16, 2048, 6656]⟩
abbrev S128 : Shape := ⟨1, ![128]⟩
abbrev S16x2048x5120 : Shape := ⟨3, ![16, 2048, 5120]⟩
abbrev S16x2048x1024 : Shape := ⟨3, ![16, 2048, 1024]⟩
abbrev S16x2048x256 : Shape := ⟨3, ![16, 2048, 256]⟩
abbrev S32 : Shape := ⟨1, ![32]⟩
abbrev S64 : Shape := ⟨1, ![64]⟩
abbrev S32x64 : Shape := ⟨2, ![32, 64]⟩
abbrev S2048 : Shape := ⟨1, ![2048]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S2048x1x128 : Shape := ⟨3, ![2048, 1, 128]⟩
abbrev S16x2048x8x128 : Shape := ⟨4, ![16, 2048, 8, 128]⟩
abbrev S16x2048x8 : Shape := ⟨3, ![16, 2048, 8]⟩
abbrev S16x2048x8x1 : Shape := ⟨4, ![16, 2048, 8, 1]⟩
abbrev S1x1x1x128 : Shape := ⟨4, ![1, 1, 1, 128]⟩
abbrev S16x2048x8x32 : Shape := ⟨4, ![16, 2048, 8, 32]⟩
abbrev S1x2048x1x128 : Shape := ⟨4, ![1, 2048, 1, 128]⟩
abbrev S16x2048x2x128 : Shape := ⟨4, ![16, 2048, 2, 128]⟩
abbrev S16x2048x2 : Shape := ⟨3, ![16, 2048, 2]⟩
abbrev S16x2048x2x1 : Shape := ⟨4, ![16, 2048, 2, 1]⟩
abbrev S16x2048x2x32 : Shape := ⟨4, ![16, 2048, 2, 32]⟩
abbrev S16x2048x2x4x128 : Shape := ⟨5, ![16, 2048, 2, 4, 128]⟩
abbrev S16x2x4x2048x128 : Shape := ⟨5, ![16, 2, 4, 2048, 128]⟩
abbrev S16x2x2048x128 : Shape := ⟨4, ![16, 2, 2048, 128]⟩
abbrev S16x2x4x2048x2048 : Shape := ⟨5, ![16, 2, 4, 2048, 2048]⟩
abbrev S16x2x4x2048 : Shape := ⟨4, ![16, 2, 4, 2048]⟩
abbrev S16x2x4x2048x1 : Shape := ⟨5, ![16, 2, 4, 2048, 1]⟩

abbrev nBuf : Space → Nat
  | .hbm => 131
  | .vmem => 0
  | .smem => 0
  | _ => 0

abbrev hbmTy0_0 (i : Nat) : BufTy := match i % 128 with
  | 0 => ⟨S16x2048x6656, .f32⟩
  | 1 => ⟨S128, .f32⟩
  | 2 => ⟨S128, .f32⟩
  | 3 => ⟨S16x2048x5120, .f32⟩
  | 4 => ⟨S16x2048x1024, .f32⟩
  | 5 => ⟨S16x2048x256, .f32⟩
  | 6 => ⟨S16x2048x256, .f32⟩
  | 7 => ⟨S32, .f32⟩
  | 8 => ⟨S64, .f32⟩
  | 9 => ⟨S32x64, .f32⟩
  | 10 => ⟨S32x64, .f32⟩
  | 11 => ⟨S2048, .f32⟩
  | 12 => ⟨S2048, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S2048x1, .f32⟩
  | 28 => ⟨S1x32, .f32⟩
  | 29 => ⟨S2048x32, .f32⟩
  | 30 => ⟨S2048x32, .f32⟩
  | 31 => ⟨S2048x32, .f32⟩
  | 32 => ⟨S2048x1, .f32⟩
  | 33 => ⟨S1x32, .f32⟩
  | 34 => ⟨S2048x32, .f32⟩
  | 35 => ⟨S2048x32, .f32⟩
  | 36 => ⟨S2048x32, .f32⟩
  | 37 => ⟨S2048x128, .f32⟩
  | 38 => ⟨S2048x128, .f32⟩
  | 39 => ⟨S2048x128, .f32⟩
  | 40 => ⟨S2048x1x128, .f32⟩
  | 41 => ⟨S2048x1x128, .f32⟩
  | 42 => ⟨S16x2048x8x128, .f32⟩
  | 43 => ⟨S16x2048x8x128, .f32⟩
  | 44 => ⟨S_, .f32⟩
  | 45 => ⟨S16x2048x8, .f32⟩
  | 46 => ⟨S16x2048x8x1, .f32⟩
  | 47 => ⟨S_, .f32⟩
  | 48 => ⟨S16x2048x8x1, .f32⟩
  | 49 => ⟨S16x2048x8x1, .f32⟩
  | 50 => ⟨S_, .f32⟩
  | 51 => ⟨S16x2048x8x1, .f32⟩
  | 52 => ⟨S16x2048x8x1, .f32⟩
  | 53 => ⟨S16x2048x8x1, .f32⟩
  | 54 => ⟨S16x2048x8x128, .f32⟩
  | 55 => ⟨S16x2048x8x128, .f32⟩
  | 56 => ⟨S1x1x1x128, .f32⟩
  | 57 => ⟨S16x2048x8x128, .f32⟩
  | 58 => ⟨S16x2048x8x128, .f32⟩
  | 59 => ⟨S16x2048x8x32, .f32⟩
  | 60 => ⟨S16x2048x8x32, .f32⟩
  | 61 => ⟨S16x2048x8x32, .f32⟩
  | 62 => ⟨S16x2048x8x32, .f32⟩
  | 63 => ⟨S16x2048x8x32, .f32⟩
  | 64 => ⟨S16x2048x8x32, .f32⟩
  | 65 => ⟨S16x2048x8x128, .f32⟩
  | 66 => ⟨S1x2048x1x128, .f32⟩
  | 67 => ⟨S16x2048x8x128, .f32⟩
  | 68 => ⟨S16x2048x8x128, .f32⟩
  | 69 => ⟨S1x2048x1x128, .f32⟩
  | 70 => ⟨S16x2048x8x128, .f32⟩
  | 71 => ⟨S16x2048x8x128, .f32⟩
  | 72 => ⟨S16x2048x8x128, .f32⟩
  | 73 => ⟨S16x2048x2x128, .f32⟩
  | 74 => ⟨S16x2048x2x128, .f32⟩
  | 75 => ⟨S_, .f32⟩
  | 76 => ⟨S16x2048x2, .f32⟩
  | 77 => ⟨S16x2048x2x1, .f32⟩
  | 78 => ⟨S_, .f32⟩
  | 79 => ⟨S16x2048x2x1, .f32⟩
  | 80 => ⟨S16x2048x2x1, .f32⟩
  | 81 => ⟨S_, .f32⟩
  | 82 => ⟨S16x2048x2x1, .f32⟩
  | 83 => ⟨S16x2048x2x1, .f32⟩
  | 84 => ⟨S16x2048x2x1, .f32⟩
  | 85 => ⟨S16x2048x2x128, .f32⟩
  | 86 => ⟨S16x2048x2x128, .f32⟩
  | 87 => ⟨S1x1x1x128, .f32⟩
  | 88 => ⟨S16x2048x2x128, .f32⟩
  | 89 => ⟨S16x2048x2x128, .f32⟩
  | 90 => ⟨S16x2048x2x32, .f32⟩
  | 91 => ⟨S16x2048x2x32, .f32⟩
  | 92 => ⟨S16x2048x2x32, .f32⟩
  | 93 => ⟨S16x2048x2x32, .f32⟩
  | 94 => ⟨S16x2048x2x32, .f32⟩
  | 95 => ⟨S16x2048x2x32, .f32⟩
  | 96 => ⟨S16x2048x2x128, .f32⟩
  | 97 => ⟨S1x2048x1x128, .f32⟩
  | 98 => ⟨S16x2048x2x128, .f32⟩
  | 99 => ⟨S16x2048x2x128, .f32⟩
  | 100 => ⟨S1x2048x1x128, .f32⟩
  | 101 => ⟨S16x2048x2x128, .f32⟩
  | 102 => ⟨S16x2048x2x128, .f32⟩
  | 103 => ⟨S16x2048x2x128, .f32⟩
  | 104 => ⟨S16x2048x2x4x128, .f32⟩
  | 105 => ⟨S16x2x4x2048x128, .f32⟩
  | 106 => ⟨S16x2x2048x128, .f32⟩
  | 107 => ⟨S16x2048x2x128, .f32⟩
  | 108 => ⟨S16x2x2048x128, .f32⟩
  | 109 => ⟨S16x2x4x2048x2048, .f32⟩
  | 110 => ⟨S_, .f32⟩
  | 111 => ⟨S16x2x4x2048x2048, .f32⟩
  | 112 => ⟨S16x2x4x2048x2048, .f32⟩
  | 113 => ⟨S_, .f32⟩
  | 114 => ⟨S16x2x4x2048, .f32⟩
  | 115 => ⟨S_, .f32⟩
  | 116 => ⟨S16x2x4x2048, .f32⟩
  | 117 => ⟨S16x2x4x2048, .f32⟩
  | 118 => ⟨S16x2x4x2048x1, .f32⟩
  | 119 => ⟨S16x2x4x2048x2048, .f32⟩
  | 120 => ⟨S16x2x4x2048x2048, .f32⟩
  | 121 => ⟨S16x2x4x2048x2048, .f32⟩
  | 122 => ⟨S_, .f32⟩
  | 123 => ⟨S16x2x4x2048, .f32⟩
  | 124 => ⟨S16x2x4x2048x1, .f32⟩
  | 125 => ⟨S16x2x4x2048x2048, .f32⟩
  | 126 => ⟨S16x2x4x2048x2048, .f32⟩
  | 127 => ⟨S16x2x4x2048x128, .f32⟩
  | _ => ⟨S16x2048x6656, .f32⟩

abbrev hbmTy0_1 (i : Nat) : BufTy := match i % 128 with
  | 0 => ⟨S16x2048x2x4x128, .f32⟩
  | 1 => ⟨S16x2048x1024, .f32⟩
  | 2 => ⟨S16x2048x1024, .bf16⟩
  | _ => ⟨S16x2048x6656, .f32⟩

abbrev hbmTy (i : Nat) : BufTy := match i / 128 with
  | 0 => hbmTy0_0 i
  | 1 => hbmTy0_1 i
  | _ => ⟨S16x2048x6656, .f32⟩

abbrev bufTy : (tb : Table) → Fin (tcTables nBuf tb) → BufTy
  | .hbm, ⟨i, _⟩ => hbmTy i
  | _, _ => ⟨S16x2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_cst_6 : Ref sig .tc := ⟨.hbm, 75, rfl⟩
abbrev main_v65 : Ref sig .tc := ⟨.hbm, 76, rfl⟩
abbrev main_v66 : Ref sig .tc := ⟨.hbm, 77, rfl⟩
abbrev main_cst_7 : Ref sig .tc := ⟨.hbm, 78, rfl⟩
abbrev main_v67 : Ref sig .tc := ⟨.hbm, 79, rfl⟩
abbrev main_v68 : Ref sig .tc := ⟨.hbm, 80, rfl⟩
abbrev main_cst_8 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_cst_9 : Ref sig .tc := ⟨.hbm, 110, rfl⟩
abbrev main_v97 : Ref sig .tc := ⟨.hbm, 111, rfl⟩
abbrev main_v98 : Ref sig .tc := ⟨.hbm, 112, rfl⟩
abbrev main_cst_10 : Ref sig .tc := ⟨.hbm, 113, rfl⟩
abbrev main_v99 : Ref sig .tc := ⟨.hbm, 114, rfl⟩
abbrev main_cst_11 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_cst_12 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩

abbrev nD : Nat := 1
abbrev τ : Topo := Topo.v7x

variable {F : FTy → Type} [FloatOps F]
-- ==== Proof.Diff.Strip.lean ====
/-
  The strips of the differential attention: what the body stores, one function of a strip's rows.
-/
module

public import proofs.«01_k».proof.Proof.Gen.KernelIdeal.Value

@[expose] public section

set_option maxRecDepth 16384

noncomputable section

namespace Cert.Diff

open Cert.KernelIdeal Cert.KernelIdeal.Gen Idealize.ShloMosaic Idealize.ShloMosaic.TcCoe

variable {F : FTy → Type} [FloatOps F] [Named F]

/-- The scores of one strip of 128 query rows against all keys, in base-two units: the half of the lanes that `lo`
    picks of the scaled normalised queries, against the normalised keys, less the distance bias. -/
def scoreLo (slope : F .f32) (off : BitVec 32) (q : Vec F S1x128x128 .f32) (qg : Vec F S1x128 .f32)
    (kn : Vec F S2048x128 .bf16) : FVec F S128x2048 .f32 :=
  k0_pay21 k0_pay2 slope k0_pay8 (k0_pay19 k0_pay2 q qg) (iota .tc S128x1 32 [0] iota_S128x1_d0_w32) off kn

/-- The same against the other half of the lanes. -/
def scoreHi (slope : F .f32) (off : BitVec 32) (q : Vec F S1x128x128 .f32) (qg : Vec F S1x128 .f32)
    (kn : Vec F S2048x128 .bf16) : FVec F S128x2048 .f32 :=
  k0_pay22 k0_pay2 slope k0_pay8 (k0_pay19 k0_pay2 q qg) (iota .tc S128x1 32 [0] iota_S128x1_d0_w32) off kn

/-- The difference of the two attention outputs of a strip. -/
def stripDiff (lam slope : F .f32) (off : BitVec 32) (q : Vec F S1x128x128 .f32) (qg : Vec F S1x128 .f32)
    (kn : Vec F S2048x128 .bf16) (vb : Vec F S2048x256 .bf16) : FVec F S128x128 .f32 :=
  k0_pay36 lam (k0_pay23 (scoreLo slope off q qg kn)) (k0_pay23 (scoreHi slope off q qg kn)) vb vb

/-- The strip that is stored: that difference, normalised over its lanes, times the gain and the constant. -/
def finish (o : FVec F S128x128 .f32) (sg : Vec F S1x128 .f32) : FVec F S1x128x128 .bf16 :=
  k0_pay40 o (k0_pay37 sg)
    (shapeCast S128x1 (multiReduction .add [1] S128 (mulf o o) 0x00000000#32 reduces_S128x128_S128 (.inl rfl) rfl)
      shapeCasts_S128_S128x1) k0_pay39

/-- What the body stores: sixteen strips, each the same function of its rows of the queries. -/
theorem pieces_eq (c : Dev nD) (i : grid0.Coords) (arg3 : Memref sig .tc .smem S9 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x2048x128 .bf16) (harg10 : arg10.IsWhole) (arg11 : Memref sig .tc .vmem S2048x128 .bf16) (harg11 : arg11.IsWhole) (arg12 : Memref sig .tc .vmem S2048x256 .bf16) (harg12 : arg12.IsWhole)
    (x0 : Vec F S9 .f32) (x1 : Vec F S1x2048x128 .f32) (x2 : Vec F S1x2048x128 .f32) (x3 : Vec F S1x2048x128 .f32) (x4 : Vec F S1x128 .f32) (x5 : Vec F S1x128 .f32) (x6 : Vec F S1x128 .f32) :
    (kernelRun0_A c i arg3 harg3 arg4 harg4 arg5 harg5 arg6 harg6 arg7 harg7 arg8 harg8 arg9 harg9 arg10 harg10 arg11 harg11 arg12 harg12 x0 x1 x2 x3 x4 x5 x6).1 = [
      ⟨Rect.unit (s := S1x2048x128) ![0, 1920, 0] S1x128x128.size inb_S1x2048x128_S1x128x128_0_1920_0,
        finish (stripDiff (kernelRun0_A.sl.r_1 c arg3 harg3 x0) (kernelRun0_A.sl.r_3 c i arg3 harg3 x0)
          (Scalar.addi (Scalar.muli (BitVec.ofNat 32 (i 2).val) 2048#32) 1920#32)
          (View.readAt (Elt F) arg4.view (Rect.unit (s := S1x2048x128) ![0, 1920, 0] S1x128x128.size inb_S1x2048x128_S1x128x128_0_1920_0).toLoadRect (harg4.unread x1))
          (View.readAt (Elt F) arg7.view (Rect.unit (s := S1x128) ![0, 0] S1x128.size inb_S1x128_S1x128_0_0).toLoadRect (harg7.unread x4))
          (arg11.view.readCov (kernelRun0_A.sl.HS0_1 c arg5 harg5 arg8 harg8 x2 x5)
            (Rect.unit (s := S2048x128) ![0, 0] S2048x128.size inb_S2048x128_S2048x128_0_0).toLoadRect)
          (arg12.view.readCov (kernelRun0_A.sl.HS1_2 c arg6 harg6 x3)
            (Rect.unit (s := S2048x256) ![0, 0] S2048x256.size inb_S2048x256_S2048x256_0_0).toLoadRect))
          (View.readAt (Elt F) arg9.view (Rect.unit (s := S1x128) ![0, 0] S1x128.size inb_S1x128_S1x128_0_0).toLoadRect (harg9.unread x6))⟩,
      ⟨Rect.unit (s := S1x2048x128) ![0, 1792, 0] S1x128x128.size inb_S1x2048x128_S1x128x128_0_1792_0,
        finish (stripDiff (kernelRun0_A.sl.r_1 c arg3 harg3 x0) (kernelRun0_A.sl.r_3 c i arg3 harg3 x0)
          (Scalar.addi (Scalar.muli (BitVec.ofNat 32 (i 2).val) 2048#32) 1792#32)
          (View.readAt (Elt F) arg4.view (Rect.unit (s := S1x2048x128) ![0, 1792, 0] S1x128x128.size inb_S1x2048x128_S1x128x128_0_1792_0).toLoadRect (harg4.unread x1))
          (View.readAt (Elt F) arg7.view (Rect.unit (s := S1x128) ![0, 0] S1x128.size inb_S1x128_S1x128_0_0).toLoadRect (harg7.unread x4))
          (arg11.view.readCov (kernelRun0_A.sl.HS0_1 c arg5 harg5 arg8 harg8 x2 x5)
            (Rect.unit (s := S2048x128) ![0, 0] S2048x128.size inb_S2048x128_S2048x128_0_0).toLoadRect)
          (arg12.view.readCov (kernelRun0_A.sl.HS1_2 c arg6 harg6 x3)
            (Rect.unit (s := S2048x256) ![0, 0] S2048x256.size inb_S2048x256_S2048x256_0_0).toLoadRect))
          (View.readAt (Elt F) arg9.view (Rect.unit (s := S1x128) ![0, 0] S1x128.size inb_S1x128_S1x128_0_0).toLoadRect (harg9.unread x6))⟩,
      ⟨Rect.unit (s := S1x2048x128) ![0, 1664, 0] S1x128x128.size inb_S1x2048x128_S1x128x128_0_1664_0,
        finish (stripDiff (kernelRun0_A.sl.r_1 c arg3 harg3 x0) (kernelRun0_A.sl.r_3 c i arg3 harg3 x0)
          (Scalar.addi (Scalar.muli (BitVec.ofNat 32 (i 2).val) 2048#32) 1664#32)
          (View.readAt (Elt F) arg4.view (Rect.unit (s := S1x2048x128) ![0, 1664, 0] S1x128x128.size inb_S1x2048x128_S1x128x128_0_1664_0).toLoadRect (harg4.unread x1))
          (View.readAt (Elt F) arg7.view (Rect.unit (s := S1x128) ![0, 0] S1x128.size inb_S1x128_S1x128_0_0).toLoadRect (harg7.unread x4))
          (arg11.view.readCov (kernelRun0_A.sl.HS0_1 c arg5 harg5 arg8 harg8 x2 x5)
            (Rect.unit (s := S2048x128) ![0, 0] S2048x128.size inb_S2048x128_S2048x128_0_0).toLoadRect)
          (arg12.view.readCov (kernelRun0_A.sl.HS1_2 c arg6 harg6 x3)
            (Rect.unit (s := S2048x256) ![0, 0] S2048x256.size inb_S2048x256_S2048x256_0_0).toLoadRect))
          (View.readAt (Elt F) arg9.view (Rect.unit (s := S1x128) ![0, 0] S1x128.size inb_S1x128_S1x128_0_0).toLoadRect (harg9.unread x6))⟩,
      ⟨Rect.unit (s := S1x2048x128) ![0, 1536, 0] S1x128x128.size inb_S1x2048x128_S1x128x128_0_1536_0,
        finish (stripDiff (kernelRun0_A.sl.r_1 c arg3 harg3 x0) (kernelRun0_A.sl.r_3 c i arg3 harg3 x0)
          (Scalar.addi (Scalar.muli (BitVec.ofNat 32 (i 2).val) 2048#32) 1536#32)
          (View.readAt (Elt F) arg4.view (Rect.unit (s := S1x2048x128) ![0, 1536, 0] S1x128x128.size inb_S1x2048x128_S1x128x128_0_1536_0).toLoadRect (harg4.unread x1))
          (View.readAt (Elt F) arg7.view (Rect.unit (s := S1x128) ![0, 0] S1x128.size inb_S1x128_S1x128_0_0).toLoadRect (harg7.unread x4))
          (arg11.view.readCov (kernelRun0_A.sl.HS0_1 c arg5 harg5 arg8 harg8 x2 x5)
            (Rect.unit (s := S2048x128) ![0, 0] S2048x128.size inb_S2048x128_S2048x128_0_0).toLoadRect)
          (arg12.view.readCov (kernelRun0_A.sl.HS1_2 c arg6 harg6 x3)
            (Rect.unit (s := S2048x256) ![0, 0] S2048x256.size inb_S2048x256_S2048x256_0_0).toLoadRect))
          (View.readAt (Elt F) arg9.view (Rect.unit (s := S1x128) ![0, 0] S1x128.size inb_S1x128_S1x128_0_0).toLoadRect (harg9.unread x6))⟩,
      ⟨Rect.unit (s := S1x2048x128) ![0, 1408, 0] S1x128x128.size inb_S1x2048x128_S1x128x128_0_1408_0,
        finish (stripDiff (kernelRun0_A.sl.r_1 c arg3 harg3 x0) (kernelRun0_A.sl.r_3 c i arg3 harg3 x0)
          (Scalar.addi (Scalar.muli (BitVec.ofNat 32 (i 2).val) 2048#32) 1408#32)
          (View.readAt (Elt F) arg4.view (Rect.unit (s := S1x2048x128) ![0, 1408, 0] S1x128x128.size inb_S1x2048x128_S1x128x128_0_1408_0).toLoadRect (harg4.unread x1))
          (View.readAt (Elt F) arg7.view (Rect.unit (s := S1x128) ![0, 0] S1x128.size inb_S1x128_S1x128_0_0).toLoadRect (harg7.unread x4))
          (arg11.view.readCov (kernelRun0_A.sl.HS0_1 c arg5 harg5 arg8 harg8 x2 x5)
            (Rect.unit (s := S2048x128) ![0, 0] S2048x128.size inb_S2048x128_S2048x128_0_0).toLoadRect)
          (arg12.view.readCov (kernelRun0_A.sl.HS1_2 c arg6 harg6 x3)
            (Rect.unit (s := S2048x256) ![0, 0] S2048x256.size inb_S2048x256_S2048x256_0_0).toLoadRect))
          (View.readAt (Elt F) arg9.view (Rect.unit (s := S1x128) ![0, 0] S1x128.size inb_S1x128_S1x128_0_0).toLoadRect (harg9.unread x6))⟩,
      ⟨Rect.unit (s := S1x2048x128) ![0, 1280, 0] S1x128x128.size inb_S1x2048x128_S1x128x128_0_1280_0,
        finish (stripDiff (kernelRun0_A.sl.r_1 c arg3 harg3 x0) (kernelRun0_A.sl.r_3 c i arg3 harg3 x0)
          (Scalar.addi (Scalar.muli (BitVec.ofNat 32 (i 2).val) 2048#32) 1280#32)
          (View.readAt (Elt F) arg4.view (Rect.unit (s := S1x2048x128) ![0, 1280, 0] S1x128x128.size inb_S1x2048x128_S1x128x128_0_1280_0).toLoadRect (harg4.unread x1))
          (View.readAt (Elt F) arg7.view (Rect.unit (s := S1x128) ![0, 0] S1x128.size inb_S1x128_S1x128_0_0).toLoadRect (harg7.unread x4))
          (arg11.view.readCov (kernelRun0_A.sl.HS0_1 c arg5 harg5 arg8 harg8 x2 x5)
            (Rect.unit (s := S2048x128) ![0, 0] S2048x128.size inb_S2048x128_S2048x128_0_0).toLoadRect)
          (arg12.view.readCov (kernelRun0_A.sl.HS1_2 c arg6 harg6 x3)
            (Rect.unit (s := S2048x256) ![0, 0] S2048x256.size inb_S2048x256_S2048x256_0_0).toLoadRect))
          (View.readAt (Elt F) arg9.view (Rect.unit (s := S1x128) ![0, 0] S1x128.size inb_S1x128_S1x128_0_0).toLoadRect (harg9.unread x6))⟩,
      ⟨Rect.unit (s := S1x2048x128) ![0, 1152, 0] S1x128x128.size inb_S1x2048x128_S1x128x128_0_1152_0,
        finish (stripDiff (kernelRun0_A.sl.r_1 c arg3 harg3 x0) (kernelRun0_A.sl.r_3 c i arg3 harg3 x0)
          (Scalar.addi (Scalar.muli (BitVec.ofNat 32 (i 2).val) 2048#32) 1152#32)
          (View.readAt (Elt F) arg4.view (Rect.unit (s := S1x2048x128) ![0, 1152, 0] S1x128x128.size inb_S1x2048x128_S1x128x128_0_1152_0).toLoadRect (harg4.unread x1))
          (View.readAt (Elt F) arg7.view (Rect.unit (s := S1x128) ![0, 0] S1x128.size inb_S1x128_S1x128_0_0).toLoadRect (harg7.unread x4))
          (arg11.view.readCov (kernelRun0_A.sl.HS0_1 c arg5 harg5 arg8 harg8 x2 x5)
            (Rect.unit (s := S2048x128) ![0, 0] S2048x128.size inb_S2048x128_S2048x128_0_0).toLoadRect)
          (arg12.view.readCov (kernelRun0_A.sl.HS1_2 c arg6 harg6 x3)
            (Rect.unit (s := S2048x256) ![0, 0] S2048x256.size inb_S2048x256_S2048x256_0_0).toLoadRect))
          (View.readAt (Elt F) arg9.view (Rect.unit (s := S1x128) ![0, 0] S1x128.size inb_S1x128_S1x128_0_0).toLoadRect (harg9.unread x6))⟩,
      ⟨Rect.unit (s := S1x2048x128) ![0, 1024, 0] S1x128x128.size inb_S1x2048x128_S1x128x128_0_1024_0,
        finish (stripDiff (kernelRun0_A.sl.r_1 c arg3 harg3 x0) (kernelRun0_A.sl.r_3 c i arg3 harg3 x0)
          (Scalar.addi (Scalar.muli (BitVec.ofNat 32 (i 2).val) 2048#32) 1024#32)
          (View.readAt (Elt F) arg4.view (Rect.unit (s := S1x2048x128) ![0, 1024, 0] S1x128x128.size inb_S1x2048x128_S1x128x128_0_1024_0).toLoadRect (harg4.unread x1))
          (View.readAt (Elt F) arg7.view (Rect.unit (s := S1x128) ![0, 0] S1x128.size inb_S1x128_S1x128_0_0).toLoadRect (harg7.unread x4))
          (arg11.view.readCov (kernelRun0_A.sl.HS0_1 c arg5 harg5 arg8 harg8 x2 x5)
            (Rect.unit (s := S2048x128) ![0, 0] S2048x128.size inb_S2048x128_S2048x128_0_0).toLoadRect)
          (arg12.view.readCov (kernelRun0_A.sl.HS1_2 c arg6 harg6 x3)
            (Rect.unit (s := S2048x256) ![0, 0] S2048x256.size inb_S2048x256_S2048x256_0_0).toLoadRect))
          (View.readAt (Elt F) arg9.view (Rect.unit (s := S1x128) ![0, 0] S1x128.size inb_S1x128_S1x128_0_0).toLoadRect (harg9.unread x6))⟩,
      ⟨Rect.unit (s := S1x2048x128) ![0, 896, 0] S1x128x128.size inb_S1x2048x128_S1x128x128_0_896_0,
        finish (stripDiff (kernelRun0_A.sl.r_1 c arg3 harg3 x0) (kernelRun0_A.sl.r_3 c i arg3 harg3 x0)
          (Scalar.addi (Scalar.muli (BitVec.ofNat 32 (i 2).val) 2048#32) 896#32)
          (View.readAt (Elt F) arg4.view (Rect.unit (s := S1x2048x128) ![0, 896, 0] S1x128x128.size inb_S1x2048x128_S1x128x128_0_896_0).toLoadRect (harg4.unread x1))
          (View.readAt (Elt F) arg7.view (Rect.unit (s := S1x128) ![0, 0] S1x128.size inb_S1x128_S1x128_0_0).toLoadRect (harg7.unread x4))
          (arg11.view.readCov (kernelRun0_A.sl.HS0_1 c arg5 harg5 arg8 harg8 x2 x5)
            (Rect.unit (s := S2048x128) ![0, 0] S2048x128.size inb_S2048x128_S2048x128_0_0).toLoadRect)
          (arg12.view.readCov (kernelRun0_A.sl.HS1_2 c arg6 harg6 x3)
            (Rect.unit (s := S2048x256) ![0, 0] S2048x256.size inb_S2048x256_S2048x256_0_0).toLoadRect))
          (View.readAt (Elt F) arg9.view (Rect.unit (s := S1x128) ![0, 0] S1x128.size inb_S1x128_S1x128_0_0).toLoadRect (harg9.unread x6))⟩,
      ⟨Rect.unit (s := S1x2048x128) ![0, 768, 0] S1x128x128.size inb_S1x2048x128_S1x128x128_0_768_0,
        finish (stripDiff (kernelRun0_A.sl.r_1 c arg3 harg3 x0) (kernelRun0_A.sl.r_3 c i arg3 harg3 x0)
          (Scalar.addi (Scalar.muli (BitVec.ofNat 32 (i 2).val) 2048#32) 768#32)
          (View.readAt (Elt F) arg4.view (Rect.unit (s := S1x2048x128) ![0, 768, 0] S1x128x128.size inb_S1x2048x128_S1x128x128_0_768_0).toLoadRect (harg4.unread x1))
          (View.readAt (Elt F) arg7.view (Rect.unit (s := S1x128) ![0, 0] S1x128.size inb_S1x128_S1x128_0_0).toLoadRect (harg7.unread x4))
          (arg11.view.readCov (kernelRun0_A.sl.HS0_1 c arg5 harg5 arg8 harg8 x2 x5)
            (Rect.unit (s := S2048x128) ![0, 0] S2048x128.size inb_S2048x128_S2048x128_0_0).toLoadRect)
          (arg12.view.readCov (kernelRun0_A.sl.HS1_2 c arg6 harg6 x3)
            (Rect.unit (s := S2048x256) ![0, 0] S2048x256.size inb_S2048x256_S2048x256_0_0).toLoadRect))
          (View.readAt (Elt F) arg9.view (Rect.unit (s := S1x128) ![0, 0] S1x128.size inb_S1x128_S1x128_0_0).toLoadRect (harg9.unread x6))⟩,
      ⟨Rect.unit (s := S1x2048x128) ![0, 640, 0] S1x128x128.size inb_S1x2048x128_S1x128x128_0_640_0,
        finish (stripDiff (kernelRun0_A.sl.r_1 c arg3 harg3 x0) (kernelRun0_A.sl.r_3 c i arg3 harg3 x0)
          (Scalar.addi (Scalar.muli (BitVec.ofNat 32 (i 2).val) 2048#32) 640#32)
          (View.readAt (Elt F) arg4.view (Rect.unit (s := S1x2048x128) ![0, 640, 0] S1x128x128.size inb_S1x2048x128_S1x128x128_0_640_0).toLoadRect (harg4.unread x1))
          (View.readAt (Elt F) arg7.view (Rect.unit (s := S1x128) ![0, 0] S1x128.size inb_S1x128_S1x128_0_0).toLoadRect (harg7.unread x4))
          (arg11.view.readCov (kernelRun0_A.sl.HS0_1 c arg5 harg5 arg8 harg8 x2 x5)
            (Rect.unit (s := S2048x128) ![0, 0] S2048x128.size inb_S2048x128_S2048x128_0_0).toLoadRect)
          (arg12.view.readCov (kernelRun0_A.sl.HS1_2 c arg6 harg6 x3)
            (Rect.unit (s := S2048x256) ![0, 0] S2048x256.size inb_S2048x256_S2048x256_0_0).toLoadRect))
          (View.readAt (Elt F) arg9.view (Rect.unit (s := S1x128) ![0, 0] S1x128.size inb_S1x128_S1x128_0_0).toLoadRect (harg9.unread x6))⟩,
      ⟨Rect.unit (s := S1x2048x128) ![0, 512, 0] S1x128x128.size inb_S1x2048x128_S1x128x128_0_512_0,
        finish (stripDiff (kernelRun0_A.sl.r_1 c arg3 harg3 x0) (kernelRun0_A.sl.r_3 c i arg3 harg3 x0)
          (Scalar.addi (Scalar.muli (BitVec.ofNat 32 (i 2).val) 2048#32) 512#32)
          (View.readAt (Elt F) arg4.view (Rect.unit (s := S1x2048x128) ![0, 512, 0] S1x128x128.size inb_S1x2048x128_S1x128x128_0_512_0).toLoadRect (harg4.unread x1))
          (View.readAt (Elt F) arg7.view (Rect.unit (s := S1x128) ![0, 0] S1x128.size inb_S1x128_S1x128_0_0).toLoadRect (harg7.unread x4))
          (arg11.view.readCov (kernelRun0_A.sl.HS0_1 c arg5 harg5 arg8 harg8 x2 x5)
            (Rect.unit (s := S2048x128) ![0, 0] S2048x128.size inb_S2048x128_S2048x128_0_0).toLoadRect)
          (arg12.view.readCov (kernelRun0_A.sl.HS1_2 c arg6 harg6 x3)
            (Rect.unit (s := S2048x256) ![0, 0] S2048x256.size inb_S2048x256_S2048x256_0_0).toLoadRect))
          (View.readAt (Elt F) arg9.view (Rect.unit (s := S1x128) ![0, 0] S1x128.size inb_S1x128_S1x128_0_0).toLoadRect (harg9.unread x6))⟩,
      ⟨Rect.unit (s := S1x2048x128) ![0, 384, 0] S1x128x128.size inb_S1x2048x128_S1x128x128_0_384_0,
        finish (stripDiff (kernelRun0_A.sl.r_1 c arg3 harg3 x0) (kernelRun0_A.sl.r_3 c i arg3 harg3 x0)
          (Scalar.addi (Scalar.muli (BitVec.ofNat 32 (i 2).val) 2048#32) 384#32)
          (View.readAt (Elt F) arg4.view (Rect.unit (s := S1x2048x128) ![0, 384, 0] S1x128x128.size inb_S1x2048x128_S1x128x128_0_384_0).toLoadRect (harg4.unread x1))
          (View.readAt (Elt F) arg7.view (Rect.unit (s := S1x128) ![0, 0] S1x128.size inb_S1x128_S1x128_0_0).toLoadRect (harg7.unread x4))
          (arg11.view.readCov (kernelRun0_A.sl.HS0_1 c arg5 harg5 arg8 harg8 x2 x5)
            (Rect.unit (s := S2048x128) ![0, 0] S2048x128.size inb_S2048x128_S2048x128_0_0).toLoadRect)
          (arg12.view.readCov (kernelRun0_A.sl.HS1_2 c arg6 harg6 x3)
            (Rect.unit (s := S2048x256) ![0, 0] S2048x256.size inb_S2048x256_S2048x256_0_0).toLoadRect))
          (View.readAt (Elt F) arg9.view (Rect.unit (s := S1x128) ![0, 0] S1x128.size inb_S1x128_S1x128_0_0).toLoadRect (harg9.unread x6))⟩,
      ⟨Rect.unit (s := S1x2048x128) ![0, 256, 0] S1x128x128.size inb_S1x2048x128_S1x128x128_0_256_0,
        finish (stripDiff (kernelRun0_A.sl.r_1 c arg3 harg3 x0) (kernelRun0_A.sl.r_3 c i arg3 harg3 x0)
          (Scalar.addi (Scalar.muli (BitVec.ofNat 32 (i 2).val) 2048#32) 256#32)
          (View.readAt (Elt F) arg4.view (Rect.unit (s := S1x2048x128) ![0, 256, 0] S1x128x128.size inb_S1x2048x128_S1x128x128_0_256_0).toLoadRect (harg4.unread x1))
          (View.readAt (Elt F) arg7.view (Rect.unit (s := S1x128) ![0, 0] S1x128.size inb_S1x128_S1x128_0_0).toLoadRect (harg7.unread x4))
          (arg11.view.readCov (kernelRun0_A.sl.HS0_1 c arg5 harg5 arg8 harg8 x2 x5)
            (Rect.unit (s := S2048x128) ![0, 0] S2048x128.size inb_S2048x128_S2048x128_0_0).toLoadRect)
          (arg12.view.readCov (kernelRun0_A.sl.HS1_2 c arg6 harg6 x3)
            (Rect.unit (s := S2048x256) ![0, 0] S2048x256.size inb_S2048x256_S2048x256_0_0).toLoadRect))
          (View.readAt (Elt F) arg9.view (Rect.unit (s := S1x128) ![0, 0] S1x128.size inb_S1x128_S1x128_0_0).toLoadRect (harg9.unread x6))⟩,
      ⟨Rect.unit (s := S1x2048x128) ![0, 128, 0] S1x128x128.size inb_S1x2048x128_S1x128x128_0_128_0,
        finish (stripDiff (kernelRun0_A.sl.r_1 c arg3 harg3 x0) (kernelRun0_A.sl.r_3 c i arg3 harg3 x0)
          (Scalar.addi (Scalar.muli (BitVec.ofNat 32 (i 2).val) 2048#32) 128#32)
          (View.readAt (Elt F) arg4.view (Rect.unit (s := S1x2048x128) ![0, 128, 0] S1x128x128.size inb_S1x2048x128_S1x128x128_0_128_0).toLoadRect (harg4.unread x1))
          (View.readAt (Elt F) arg7.view (Rect.unit (s := S1x128) ![0, 0] S1x128.size inb_S1x128_S1x128_0_0).toLoadRect (harg7.unread x4))
          (arg11.view.readCov (kernelRun0_A.sl.HS0_1 c arg5 harg5 arg8 harg8 x2 x5)
            (Rect.unit (s := S2048x128) ![0, 0] S2048x128.size inb_S2048x128_S2048x128_0_0).toLoadRect)
          (arg12.view.readCov (kernelRun0_A.sl.HS1_2 c arg6 harg6 x3)
            (Rect.unit (s := S2048x256) ![0, 0] S2048x256.size inb_S2048x256_S2048x256_0_0).toLoadRect))
          (View.readAt (Elt F) arg9.view (Rect.unit (s := S1x128) ![0, 0] S1x128.size inb_S1x128_S1x128_0_0).toLoadRect (harg9.unread x6))⟩,
      ⟨Rect.unit (s := S1x2048x128) ![0, 0, 0] S1x128x128.size inb_S1x2048x128_S1x128x128_0_0_0,
        finish (stripDiff (kernelRun0_A.sl.r_1 c arg3 harg3 x0) (kernelRun0_A.sl.r_3 c i arg3 harg3 x0)
          (Scalar.addi (Scalar.muli (BitVec.ofNat 32 (i 2).val) 2048#32) 0#32)
          (View.readAt (Elt F) arg4.view (Rect.unit (s := S1x2048x128) ![0, 0, 0] S1x128x128.size inb_S1x2048x128_S1x128x128_0_0_0).toLoadRect (harg4.unread x1))
          (View.readAt (Elt F) arg7.view (Rect.unit (s := S1x128) ![0, 0] S1x128.size inb_S1x128_S1x128_0_0).toLoadRect (harg7.unread x4))
          (arg11.view.readCov (kernelRun0_A.sl.HS0_1 c arg5 harg5 arg8 harg8 x2 x5)
            (Rect.unit (s := S2048x128) ![0, 0] S2048x128.size inb_S2048x128_S2048x128_0_0).toLoadRect)
          (arg12.view.readCov (kernelRun0_A.sl.HS1_2 c arg6 harg6 x3)
            (Rect.unit (s := S2048x256) ![0, 0] S2048x256.size inb_S2048x256_S2048x256_0_0).toLoadRect))
          (View.readAt (Elt F) arg9.view (Rect.unit (s := S1x128) ![0, 0] S1x128.size inb_S1x128_S1x128_0_0).toLoadRect (harg9.unread x6))⟩] := by
  rfl

end Cert.Diff

end
-- ==== Proof.Diff.Math.lean ====
/-
  The mathematics of the differential attention on the reals, and how the extended-real operations act on real values:
  constants, sums, maxima, inverse square roots, and the softmax written with powers of two and a late division.
-/
module

public import Idealize.ShloMosaic.Lib.Pointwise

@[expose] public section

noncomputable section

namespace Cert.Diff

open Idealize.ShloMosaic

/-! ## Constants -/

/-- The number that the norms add before the root. -/
def eps : ℝ := 8796093 / 2 ^ 43

theorem eps_pos : 0 < eps := by unfold eps; positivity

theorem ofBits_eps : Ideal.ofBits .f32 0x358637BD#32 = ((eps : ℝ) : EReal) := by
  unfold eps
  simp [Ideal.ofBits, Ideal.ieee, -EReal.coe_mul]; norm_num

theorem ofBits_64th : Ideal.ofBits .f32 0x3C800000#32 = ((1 / 64 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_8th : Ideal.ofBits .f32 0x3E000000#32 = ((1 / 8 : ℝ) : EReal) := by
  simp [Ideal.ofBits, Ideal.ieee, -EReal.coe_mul]; norm_num

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

/-- The constant part of lambda is real. -/
theorem ofBits_init : ∃ a : ℝ, Ideal.ofBits .f32 0x3E4CCCCD#32 = (a : EReal) := by
  simp [Ideal.ofBits, Ideal.ieee, -EReal.coe_mul]

/-! ## Real values under the extended-real operations -/

/-- A sum of reals is real. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The greater of two reals is real. -/
theorem coe_max (a b : ℝ) : ((max a b : ℝ) : EReal) = max (a : EReal) (b : EReal) :=
  (EReal.coe_strictMono.monotone.map_max : _)

/-- A maximum of finitely many reals, at least one, is real. -/
theorem fold_max_coe {n : ℕ} (f : Fin (n + 1) → ℝ) :
    ∃ M : ℝ, Finset.univ.fold max (⊥ : EReal) (fun i => ((f i : ℝ) : EReal)) = (M : EReal) := by
  have h : ∀ s : Finset (Fin (n + 1)), s.Nonempty →
      ∃ M : ℝ, s.fold max (⊥ : EReal) (fun i => ((f i : ℝ) : EReal)) = (M : EReal) := by
    intro s hs
    classical
    induction hs using Finset.Nonempty.cons_induction with
    | singleton a => exact ⟨f a, by simp⟩
    | cons a s ha hs ih =>
      obtain ⟨M, hM⟩ := ih
      refine ⟨max (f a) M, ?_⟩
      rw [Finset.fold_cons, hM, ← coe_max]
  exact h _ Finset.univ_nonempty

/-- The inverse square root of a positive real. -/
theorem rsqrt_pos {x : ℝ} (h : 0 < x) : Ideal.rsqrt ((x : ℝ) : EReal) = (((√x)⁻¹ : ℝ) : EReal) := by
  rw [Ideal.rsqrt_coe, if_neg (not_lt.mpr h.le), if_neg h.ne']

/-- A quotient of reals by a nonzero one. -/
theorem div_real {x y : ℝ} (h : y ≠ 0) : Ideal.div (x : EReal) (y : EReal) = ((x / y : ℝ) : EReal) := by
  rw [Ideal.div_coe h, ← EReal.coe_mul, mul_one_div]

/-- An extended real that is neither infinity is real. -/
theorem exists_real {x : EReal} (h₁ : x ≠ ⊤) (h₂ : x ≠ ⊥) : ∃ r : ℝ, x = (r : EReal) :=
  ⟨x.toReal, (EReal.coe_toReal h₁ h₂).symm⟩

/-- The absolute value of a real. -/
theorem abs_real (x : ℝ) : max ((x : ℝ) : EReal) (-((x : ℝ) : EReal)) = ((|x| : ℝ) : EReal) := by
  rw [← EReal.coe_neg, ← coe_max, abs_eq_max_neg]

/-! ## Norms, scores and probabilities -/

/-- One lane of a head's normalised half: the entry over the root of the mean square, times the gain. -/
def nrm (x g : Fin 64 → ℝ) (d : Fin 64) : ℝ := x d * (√((∑ e, x e * x e) / 64 + eps))⁻¹ * g d

/-- The number under the root is positive. -/
theorem ms_pos (x : Fin 64 → ℝ) : 0 < (∑ e, x e * x e) / 64 + eps :=
  add_pos_of_nonneg_of_pos (div_nonneg (Finset.sum_nonneg fun e _ => mul_self_nonneg (x e)) (by norm_num)) eps_pos

/-- The score of a query against a key: their scaled product less the distance bias. -/
def score (slope dist : ℝ) (q k gq gk : Fin 64 → ℝ) : ℝ := (∑ d, nrm q gq d * nrm k gk d) * (1 / 8) - slope * dist

/-- Softmax's probability of key `j`. -/
def prob {n : ℕ} (s : Fin n → ℝ) (j : Fin n) : ℝ := Real.exp (s j) / ∑ i, Real.exp (s i)

theorem sum_exp_pos {n : ℕ} (s : Fin (n + 1) → ℝ) : 0 < ∑ i, Real.exp (s i) :=
  Finset.sum_pos (fun i _ => Real.exp_pos _) Finset.univ_nonempty

/-- The difference of two attentions at one lane of the values. -/
def diff {n : ℕ} (lam : ℝ) (s₁ s₂ v : Fin n → ℝ) : ℝ := ∑ j, (prob s₁ j - lam * prob s₂ j) * v j

/-- Subtracting any number from every score leaves the probabilities as they are. -/
theorem prob_shift {n : ℕ} (s : Fin (n + 1) → ℝ) (M : ℝ) (j : Fin (n + 1)) :
    Real.exp (s j - M) / ∑ i, Real.exp (s i - M) = prob s j := by
  unfold prob
  simp only [Real.exp_sub]
  rw [← Finset.sum_div]
  field_simp

/-- A power of two of a score divided by `log 2` is an exponential of the score. -/
theorem rpow_two (s M : ℝ) : Real.rpow 2 (s * (Real.log 2)⁻¹ - M) = Real.exp (s - M * Real.log 2) := by
  show (2 : ℝ) ^ (s * (Real.log 2)⁻¹ - M) = _
  rw [Real.rpow_def_of_pos (by norm_num)]
  congr 1
  have : Real.log 2 ≠ 0 := (Real.log_pos (by norm_num)).ne'
  field_simp

/-- The attention with its division at the end: the weighted sum of the values times `a` over the sum of the weights is
    `a` times the sum of the probabilities' products. -/
theorem late_div {n : ℕ} (s : Fin (n + 1) → ℝ) (M a : ℝ) (v : Fin (n + 1) → ℝ) :
    (∑ j, Real.exp (s j - M) * v j) * (a / ∑ j, Real.exp (s j - M)) = a * ∑ j, prob s j * v j := by
  simp only [← prob_shift s M]
  rw [Finset.sum_mul, Finset.mul_sum]
  refine Finset.sum_congr rfl fun j _ => ?_
  ring

/-- The difference of the two late-divided attentions is the attention of the difference. -/
theorem diff_eq {n : ℕ} (lam : ℝ) (s₁ s₂ v : Fin (n + 1) → ℝ) (M₁ M₂ : ℝ) :
    (∑ j, Real.exp (s₁ j - M₁) * v j) * (1 / ∑ j, Real.exp (s₁ j - M₁))
      - (∑ j, Real.exp (s₂ j - M₂) * v j) * (lam / ∑ j, Real.exp (s₂ j - M₂)) = diff lam s₁ s₂ v := by
  rw [late_div, late_div, diff, one_mul, Finset.mul_sum, ← Finset.sum_sub_distrib]
  exact Finset.sum_congr rfl fun j _ => by ring

end Cert.Diff

end
-- ==== Proof.Diff.Read.lean ====
/-
  What one strip of 128 query rows computes, read entry by entry at the ideal instance: the normalised queries and keys,
  the two scores, the weights, the difference of the two attentions, and the last norm. Every entry is given as a real.
-/
module

public import proofs.«01_k».proof.Proof.Diff.Strip
public import proofs.«01_k».proof.Proof.Diff.Math
public import Idealize.ShloMosaic.Lib.Pointwise

@[expose] public section

set_option maxRecDepth 16384

noncomputable section

namespace Cert.Diff

open Cert.KernelIdeal Cert.KernelIdeal.Gen Idealize.ShloMosaic Idealize.ShloMosaic.TcCoe
open Idealize.ShloMosaic.Pointwise

/-! ## Lanes -/

/-- Lane `d` of half `h` in a row of 128 lanes. -/
def ln (h : Fin 2) (d : Fin 64) : Fin 128 := ⟨64 * h.val + d.val, by omega⟩

/-- The mask of the low half as a comparison of numbers. -/
theorem mask_eq : ∀ x : Fin 128, IntOp.cmpi .slt (BitVec.ofNat 32 x.val) 64#32 = if x.val < 64 then 1#1 else 0#1 := by
  decide

theorem sel_lo {α : Type} (d : Fin 64) (a b : α) :
    Scalar.select (IntOp.cmpi .slt (BitVec.ofNat 32 (ln 0 d).val) 64#32) a b = a := by
  rw [mask_eq, if_pos (by simp [ln])]; rfl

theorem sel_hi {α : Type} (d : Fin 64) (a b : α) :
    Scalar.select (IntOp.cmpi .slt (BitVec.ofNat 32 (ln 1 d).val) 64#32) a b = b := by
  rw [mask_eq, if_neg (by simp [ln])]; rfl

/-- A sum over a row is the sum over its two halves. -/
theorem sum_lanes (f : Fin 128 → EReal) : ∑ x, f x = ∑ d, f (ln 0 d) + ∑ d, f (ln 1 d) := by
  refine (Fin.sum_univ_add (a := 64) (b := 64) f).trans (congrArg₂ _ ?_ ?_)
  · exact Finset.sum_congr rfl fun d _ => congrArg f (Fin.ext (by simp [ln]))
  · exact Finset.sum_congr rfl fun d _ => congrArg f (Fin.ext (by simp [ln, Nat.add_comm]))

/-- A sum that the mask keeps in the low half. -/
theorem sum_lo (f : Fin 128 → EReal) :
    ∑ x : Fin 128, Scalar.select (IntOp.cmpi .slt (BitVec.ofNat 32 x.val) 64#32) (f x) 0 = ∑ d, f (ln 0 d) := by
  rw [sum_lanes]
  simp only [sel_lo, sel_hi, Finset.sum_const_zero, add_zero]

/-- A sum that the mask keeps in the high half. -/
theorem sum_hi (f : Fin 128 → EReal) :
    ∑ x : Fin 128, Scalar.select (IntOp.cmpi .slt (BitVec.ofNat 32 x.val) 64#32) 0 (f x) = ∑ d, f (ln 1 d) := by
  rw [sum_lanes]
  simp only [sel_lo, sel_hi, Finset.sum_const_zero, zero_add]

/-! ## The norm of a half row -/

/-- The root that the kernel takes of one half's sum of squares. -/
theorem rsqrt_half (x : Fin 64 → EReal) (X : Fin 64 → ℝ) (hx : ∀ d, x d = ((X d : ℝ) : EReal)) :
    Ideal.rsqrt ((∑ d, x d * x d) * Ideal.ofBits .f32 0x3C800000#32 + Ideal.ofBits .f32 0x358637BD#32)
      = (((√((∑ e, X e * X e) / 64 + eps))⁻¹ : ℝ) : EReal) := by
  simp only [hx, ← EReal.coe_mul]
  rw [coe_sum, ofBits_64th, ofBits_eps, ← EReal.coe_mul, ← EReal.coe_add, mul_one_div, rsqrt_pos (ms_pos X)]

/-- A row of 128 lanes normalised by halves holds, in each half, that half's norm. -/
theorem half_norm (x g : Fin 128 → EReal) (X : Fin 2 → Fin 64 → ℝ) (G : Fin 64 → ℝ)
    (hx : ∀ h d, x (ln h d) = ((X h d : ℝ) : EReal)) (hg : ∀ h d, g (ln h d) = ((G d : ℝ) : EReal))
    (h : Fin 2) (d : Fin 64) :
    x (ln h d) * Scalar.select (IntOp.cmpi .slt (BitVec.ofNat 32 (ln h d).val) 64#32)
        (Ideal.rsqrt ((∑ y : Fin 128, Scalar.select (IntOp.cmpi .slt (BitVec.ofNat 32 y.val) 64#32) (x y * x y) 0)
          * Ideal.ofBits .f32 0x3C800000#32 + Ideal.ofBits .f32 0x358637BD#32))
        (Ideal.rsqrt ((∑ y : Fin 128, Scalar.select (IntOp.cmpi .slt (BitVec.ofNat 32 y.val) 64#32) 0 (x y * x y))
          * Ideal.ofBits .f32 0x3C800000#32 + Ideal.ofBits .f32 0x358637BD#32)) * g (ln h d)
      = ((nrm (X h) G d : ℝ) : EReal) := by
  rw [sum_lo (fun y => x y * x y), sum_hi (fun y => x y * x y), rsqrt_half _ (X 0) (hx 0), rsqrt_half _ (X 1) (hx 1),
    hx, hg]
  have hs : Scalar.select (IntOp.cmpi .slt (BitVec.ofNat 32 (ln h d).val) 64#32)
      (((√((∑ e, X 0 e * X 0 e) / 64 + eps))⁻¹ : ℝ) : EReal) (((√((∑ e, X 1 e * X 1 e) / 64 + eps))⁻¹ : ℝ) : EReal)
      = (((√((∑ e, X h e * X h e) / 64 + eps))⁻¹ : ℝ) : EReal) := by
    fin_cases h
    · exact sel_lo d _ _
    · exact sel_hi d _ _
  rw [hs, ← EReal.coe_mul, ← EReal.coe_mul, nrm]

/-- The named scale of the queries. -/
theorem qscale_val : Named.named (F := Ideal) κ "qscale" (φ := .f32) 0x3E38AA3B#32
    = (((1 / 8) * (Real.log 2)⁻¹ : ℝ) : EReal) := IdealRules.named_const.ideal_named_scalar _ _ _ _ rfl

/-- The named reciprocal of `log 2`. -/
theorem log2e_val : Named.named (F := Ideal) κ "log2e" (φ := .f32) 0x3FB8AA3B#32
    = (((Real.log 2)⁻¹ : ℝ) : EReal) := IdealRules.named_const.ideal_named_scalar _ _ _ _ rfl

/-- A strip's queries, normalised and scaled. -/
theorem q_apply (q : Vec Ideal S1x128x128 .f32) (g : Vec Ideal S1x128 .f32) (r : Fin 128) (X : Fin 2 → Fin 64 → ℝ)
    (G : Fin 64 → ℝ) (hx : ∀ h d, q (ix3 0 r (ln h d)) = ((X h d : ℝ) : EReal))
    (hg : ∀ h d, g (ix2 0 (ln h d)) = ((G d : ℝ) : EReal)) (h : Fin 2) (d : Fin 64) :
    k0_pay19 k0_pay2 q g (ix2 r (ln h d)) = ((nrm (X h) G d * ((1 / 8) * (Real.log 2)⁻¹) : ℝ) : EReal) := by
  pointwise [k0_pay19, k0_pay2]
  rw [EReal.coe_mul, ← half_norm (fun x => q (ix3 0 r x)) (fun x => g (ix2 0 x)) X G hx hg h d]
  exact congrArg _ qscale_val

/-- The keys, normalised. -/
theorem k_apply (q : Vec Ideal S1x2048x128 .f32) (g : Vec Ideal S1x128 .f32) (r : Fin 2048) (X : Fin 2 → Fin 64 → ℝ)
    (G : Fin 64 → ℝ) (hx : ∀ h d, q (ix3 0 r (ln h d)) = ((X h d : ℝ) : EReal))
    (hg : ∀ h d, g (ix2 0 (ln h d)) = ((G d : ℝ) : EReal)) (h : Fin 2) (d : Fin 64) :
    k0_pay4 (k0_pay3 q g) (ix2 r (ln h d)) = ((nrm (X h) G d : ℝ) : EReal) := by
  pointwise [k0_pay3, k0_pay4, k0_pay2]
  exact half_norm (fun x => q (ix3 0 r x)) (fun x => g (ix2 0 x)) X G hx hg h d

/-! ## The scores -/

theorem toInt_small {n : ℕ} (h : n < 2048) : ((BitVec.ofNat 32 n).toInt : ℝ) = n := by
  rw [BitVec.toInt_eq_toNat_of_lt (by rw [BitVec.toNat_ofNat, Nat.mod_eq_of_lt (by omega)]; omega),
    BitVec.toNat_ofNat, Nat.mod_eq_of_lt (by omega)]
  simp

/-- The distance of two positions as the kernel computes it. -/
theorem dist_eq {o r j : ℕ} (h : o + r < 2048) (hj : j < 2048) :
    FloatOps.absf (F := Ideal) (φ := .f32) (FloatOps.sitofp (F := Ideal) .f32
        (IntOp.addi (BitVec.ofNat 32 r) (BitVec.ofNat 32 o)) - FloatOps.sitofp (F := Ideal) .f32 (BitVec.ofNat 32 j))
      = ((|((o + r : ℕ) : ℝ) - (j : ℝ)| : ℝ) : EReal) := by
  have e : IntOp.addi (BitVec.ofNat 32 r) (BitVec.ofNat 32 o) = BitVec.ofNat 32 (o + r) := by
    show BitVec.ofNat 32 r + BitVec.ofNat 32 o = _
    rw [← BitVec.ofNat_add, Nat.add_comm]
  rw [e]
  show max ((((BitVec.ofNat 32 (o + r)).toInt : ℝ) : EReal) - (((BitVec.ofNat 32 j).toInt : ℝ) : EReal))
    (-((((BitVec.ofNat 32 (o + r)).toInt : ℝ) : EReal) - (((BitVec.ofNat 32 j).toInt : ℝ) : EReal))) = _
  rw [toInt_small h, toInt_small hj, ← EReal.coe_sub, abs_real]

/-- What the arithmetic of one score comes to. -/
theorem score_eq (a k : Fin 64 → EReal) (Q K GQ GK : Fin 64 → ℝ) (dist slope : EReal) (δ σ : ℝ)
    (ha : ∀ d, a d = ((nrm Q GQ d * ((1 / 8) * (Real.log 2)⁻¹) : ℝ) : EReal))
    (hk : ∀ d, k d = ((nrm K GK d : ℝ) : EReal)) (hd : dist = ((δ : ℝ) : EReal))
    (hs : slope = ((σ * (Real.log 2)⁻¹ : ℝ) : EReal)) :
    ∑ d, a d * k d - dist * slope = ((score σ δ Q K GQ GK * (Real.log 2)⁻¹ : ℝ) : EReal) := by
  simp only [ha, hk, ← EReal.coe_mul]
  rw [coe_sum, hd, hs, ← EReal.coe_mul, ← EReal.coe_sub, score]
  congr 1
  rw [sub_mul, Finset.sum_mul, Finset.sum_mul]
  congr 1
  · exact Finset.sum_congr rfl fun d _ => by ring
  · ring

section
variable (slope : Ideal .f32) (o : ℕ) (q : Vec Ideal S1x128x128 .f32) (qg : Vec Ideal S1x128 .f32)
  (kn : Vec Ideal S2048x128 .bf16) (r : Fin 128) (Q : Fin 2 → Fin 64 → ℝ) (K : Fin 2048 → Fin 2 → Fin 64 → ℝ)
  (GQ GK : Fin 64 → ℝ) (σ : ℝ) (ho : o + r.val < 2048)
  (hq : ∀ h d, q (ix3 0 r (ln h d)) = ((Q h d : ℝ) : EReal)) (hg : ∀ h d, qg (ix2 0 (ln h d)) = ((GQ d : ℝ) : EReal))
  (hk : ∀ j h d, kn (ix2 j (ln h d)) = ((nrm (K j h) GK d : ℝ) : EReal))
  (hs : slope = ((σ * (Real.log 2)⁻¹ : ℝ) : EReal))

include ho hq hg hk hs

/-- The scores of the first half. -/
theorem lo_apply (j : Fin 2048) : scoreLo slope (BitVec.ofNat 32 o) q qg kn (ix2 r j)
    = ((score σ |((o + r.val : ℕ) : ℝ) - (j.val : ℝ)| (Q 0) (K j 0) GQ GK * (Real.log 2)⁻¹ : ℝ) : EReal) := by
  have hqn := q_apply q qg r Q GQ hq hg
  unfold scoreLo
  generalize k0_pay19 k0_pay2 q qg = qn at hqn ⊢
  pointwise [k0_pay21, k0_pay20, k0_pay2, k0_pay8]
  rw [sum_lo (fun x => qn (ix2 r x) * kn (ix2 j x))]
  exact score_eq _ _ _ _ _ _ _ _ _ _ (hqn 0) (hk j 0) (dist_eq ho j.isLt) hs

/-- The scores of the second half. -/
theorem hi_apply (j : Fin 2048) : scoreHi slope (BitVec.ofNat 32 o) q qg kn (ix2 r j)
    = ((score σ |((o + r.val : ℕ) : ℝ) - (j.val : ℝ)| (Q 1) (K j 1) GQ GK * (Real.log 2)⁻¹ : ℝ) : EReal) := by
  have hqn := q_apply q qg r Q GQ hq hg
  unfold scoreHi
  generalize k0_pay19 k0_pay2 q qg = qn at hqn ⊢
  pointwise [k0_pay22, k0_pay20, k0_pay2, k0_pay8]
  rw [sum_hi (fun x => qn (ix2 r x) * kn (ix2 j x))]
  exact score_eq _ _ _ _ _ _ _ _ _ _ (hqn 1) (hk j 1) (dist_eq ho j.isLt) hs

end

/-! ## The weights, the two attentions and their difference -/

/-- The weights of a row: the exponentials of the scores, all moved by the same number. -/
theorem w_apply (s : FVec Ideal S128x2048 .f32) (r : Fin 128) (T : Fin 2048 → ℝ)
    (hs : ∀ j, s (ix2 r j) = ((T j * (Real.log 2)⁻¹ : ℝ) : EReal)) :
    ∃ M : ℝ, ∀ j, k0_pay23 s (ix2 r j) = ((Real.exp (T j - M) : ℝ) : EReal) := by
  obtain ⟨M, hM⟩ := fold_max_coe (n := 2047) (fun j => T j * (Real.log 2)⁻¹)
  refine ⟨M * Real.log 2, fun j => ?_⟩
  pointwise [k0_pay23]
  have hf : (fun x => s (ix2 r x)) = fun j => ((T j * (Real.log 2)⁻¹ : ℝ) : EReal) := funext hs
  show Ideal.exp2 (s (ix2 r j) - Finset.fold max (Ideal.ofBits .f32 0xFF800000#32) (fun x => s (ix2 r x)) Finset.univ) = _
  rw [hf, ofBits_bot, hM, hs, ← EReal.coe_sub, Ideal.exp2_coe, rpow_two]

/-- The difference of the two attentions from the weights of both. -/
theorem d_apply (lam : Ideal .f32) (a b : FVec Ideal S128x2048 .bf16) (v : FVec Ideal S2048x256 .bf16) (r : Fin 128)
    (c : Fin 128) (ℓ M N : ℝ) (S T V : Fin 2048 → ℝ) (hl : lam = ((ℓ : ℝ) : EReal))
    (ha : ∀ j, a (ix2 r j) = ((Real.exp (S j - M) : ℝ) : EReal)) (hb : ∀ j, b (ix2 r j) = ((Real.exp (T j - N) : ℝ) : EReal))
    (hv : ∀ j, v (ix2 j ⟨c.val, by omega⟩) = ((V j : ℝ) : EReal)) (h1 : ∀ j, v (ix2 j 128) = 1) :
    k0_pay36 lam a b v v (ix2 r c) = ((diff ℓ S T V : ℝ) : EReal) := by
  pointwise [k0_pay36]
  simp only [ha, hb, hv, h1, hl, mul_one, ← EReal.coe_mul, ← EReal.coe_one]
  rw [coe_sum, coe_sum, coe_sum, coe_sum, div_real (sum_exp_pos (fun j => S j - M)).ne',
    div_real (sum_exp_pos (fun j => T j - N)).ne', ← EReal.coe_mul, ← EReal.coe_mul, ← EReal.coe_sub, diff_eq]

/-- A strip's row holds the difference of the two attentions. -/
theorem strip_apply (lam slope : Ideal .f32) (o : ℕ) (q : Vec Ideal S1x128x128 .f32) (qg : Vec Ideal S1x128 .f32)
    (kn : Vec Ideal S2048x128 .bf16) (vb : FVec Ideal S2048x256 .bf16) (r c : Fin 128) (Q : Fin 2 → Fin 64 → ℝ)
    (K : Fin 2048 → Fin 2 → Fin 64 → ℝ) (V : Fin 2048 → ℝ) (GQ GK : Fin 64 → ℝ) (σ ℓ : ℝ) (ho : o + r.val < 2048)
    (hq : ∀ h d, q (ix3 0 r (ln h d)) = ((Q h d : ℝ) : EReal)) (hg : ∀ h d, qg (ix2 0 (ln h d)) = ((GQ d : ℝ) : EReal))
    (hk : ∀ j h d, kn (ix2 j (ln h d)) = ((nrm (K j h) GK d : ℝ) : EReal))
    (hs : slope = ((σ * (Real.log 2)⁻¹ : ℝ) : EReal)) (hl : lam = ((ℓ : ℝ) : EReal))
    (hv : ∀ j, vb (ix2 j ⟨c.val, by omega⟩) = ((V j : ℝ) : EReal)) (h1 : ∀ j, vb (ix2 j 128) = 1) :
    stripDiff lam slope (BitVec.ofNat 32 o) q qg kn vb (ix2 r c)
      = ((diff ℓ (fun j => score σ |((o + r.val : ℕ) : ℝ) - (j.val : ℝ)| (Q 0) (K j 0) GQ GK)
          (fun j => score σ |((o + r.val : ℕ) : ℝ) - (j.val : ℝ)| (Q 1) (K j 1) GQ GK) V : ℝ) : EReal) := by
  obtain ⟨M, hM⟩ := w_apply _ r _ (lo_apply slope o q qg kn r Q K GQ GK σ ho hq hg hk hs)
  obtain ⟨N, hN⟩ := w_apply _ r _ (hi_apply slope o q qg kn r Q K GQ GK σ ho hq hg hk hs)
  exact d_apply _ _ _ _ r c ℓ M N _ _ V hl hM hN hv h1

/-- The last norm over the 128 lanes of a row: root of the mean square, gain, constant factor. -/
def last (o sg : Fin 128 → EReal) (c : Fin 128) : EReal :=
  o c * Ideal.rsqrt (Ideal.div (∑ x, o x * o x) (Ideal.ofBits .f32 0x43000000#32) + Ideal.ofBits .f32 0x358637BD#32)
    * sg c * Ideal.ofBits .f32 0x3F4CCCCD#32

/-- A strip's rows after the last norm. -/
theorem finish_apply (o : FVec Ideal S128x128 .f32) (sg : Vec Ideal S1x128 .f32) (u : Fin 1) (r : Fin 128) (c : Fin 128) :
    finish o sg (ix3 u r c) = last (fun x => o (ix2 r x)) (fun x => sg (ix2 0 x)) c := by
  pointwise [finish, k0_pay40, k0_pay37, k0_pay39]
  rfl

end Cert.Diff

end
-- ==== Proof.Diff.Block.lean ====
/-
  What one grid point writes, entry by entry: for each query row, the last norm of the difference of the two attentions
  over all the keys of the point's batch and head.
-/
module

public import proofs.«01_k».proof.Proof.Diff.Read
public import Idealize.ShloMosaic.Lib.WholeRead
public import Idealize.ShloMosaic.Lib.Pipeline.ReadBack
public import Idealize.ShloMosaic.Lib.Pipeline.ValueKit.Basic

@[expose] public section

set_option maxRecDepth 16384

noncomputable section

namespace Cert.Diff

open Cert.KernelIdeal Cert.KernelIdeal.Gen Idealize.ShloMosaic Idealize.ShloMosaic.TcCoe
open Idealize.ShloMosaic.Pointwise

/-- A row of the attention, from the reals that it reads: the query row at position `p`, all the keys, one lane of the values. -/
def attn (σ ℓ : ℝ) (GQ GK : Fin 64 → ℝ) (Q : Fin 2 → Fin 64 → ℝ) (K : Fin 2048 → Fin 2 → Fin 64 → ℝ) (V : Fin 2048 → ℝ)
    (p : ℕ) : ℝ :=
  diff ℓ (fun j => score σ |(p : ℝ) - (j.val : ℝ)| (Q 0) (K j 0) GQ GK)
    (fun j => score σ |(p : ℝ) - (j.val : ℝ)| (Q 1) (K j 1) GQ GK) V

/-- Row `r` of a strip that starts at row `o` lies at row `o + r` of the block. -/
theorem strip_idx {o : ℕ} (inb : ∀ a, (![0, o, 0] : Fin 3 → ℕ) a + S1x128x128.size a ≤ S1x2048x128.size a)
    (u : Fin 1) (r c : Fin 128) (h : o + r.val < 2048) :
    (Rect.unit (s := S1x2048x128) ![0, o, 0] S1x128x128.size inb).idx (ix3 u r c) = ix3 (0 : Fin 1) ⟨o + r.val, h⟩ c := by
  funext a
  refine Fin.ext ?_
  rw [LoadRect.idx_apply]
  match a with
  | ⟨0, _⟩ => simp [ix3]
  | ⟨1, _⟩ => simp [ix3]
  | ⟨2, _⟩ => simp [ix3]

/-- The whole rectangle of a row of lanes reads every entry in place. -/
theorem row_idx (x : S1x128.Idx) :
    (Rect.unit (s := S1x128) ![0, 0] S1x128.size inb_S1x128_S1x128_0_0).idx x = x := by
  funext a
  refine Fin.ext ?_
  rw [LoadRect.idx_apply]
  match a with
  | ⟨0, _⟩ => simp
  | ⟨1, _⟩ => simp

/-- The whole rectangle of a block reads every entry in place. -/
theorem block_idx (x : S1x2048x128.Idx) :
    (Rect.unit (s := S1x2048x128) ![0, 0, 0] S1x2048x128.size inb_S1x2048x128_S1x2048x128_0_0_0).idx x = x := by
  funext a
  refine Fin.ext ?_
  rw [LoadRect.idx_apply]
  match a with
  | ⟨0, _⟩ => simp
  | ⟨1, _⟩ => simp
  | ⟨2, _⟩ => simp

/-- A row loaded whole. -/
theorem row_read (m : Memref sig .tc .vmem S1x128 .f32) (h : m.IsWhole) (x : Vec Ideal S1x128 .f32) :
    View.readAt (Elt Ideal) m.view (Rect.unit (s := S1x128) ![0, 0] S1x128.size inb_S1x128_S1x128_0_0).toLoadRect (h.unread x)
      = x :=
  funext fun y => (h.readAt_unread x _ y).trans (congrArg x (row_idx y))

/-- A block loaded whole. -/
theorem block_read (m : Memref sig .tc .vmem S1x2048x128 .f32) (h : m.IsWhole) (x : Vec Ideal S1x2048x128 .f32) :
    View.readAt (Elt Ideal) m.view
      (Rect.unit (s := S1x2048x128) ![0, 0, 0] S1x2048x128.size inb_S1x2048x128_S1x2048x128_0_0_0).toLoadRect (h.unread x) = x :=
  funext fun y => (h.readAt_unread x _ y).trans (congrArg x (block_idx y))

/-- The scratch of the keys, read back whole. -/
theorem keys_read (v : View sig .tc .vmem S2048x128 .bf16) (c : Dev nD) (arg5 : Memref sig .tc .vmem S1x2048x128 .f32)
    (harg5 : arg5.IsWhole) (arg8 : Memref sig .tc .vmem S1x128 .f32) (harg8 : arg8.IsWhole)
    (x2 : Vec Ideal S1x2048x128 .f32) (x5 : Vec Ideal S1x128 .f32) :
    v.readCov (kernelRun0_A.sl.HS0_1 c arg5 harg5 arg8 harg8 x2 x5)
      (Rect.unit (s := S2048x128) ![0, 0] S2048x128.size inb_S2048x128_S2048x128_0_0).toLoadRect
      = k0_pay4 (k0_pay3 x2 x5) := by
  have e : kernelRun0_A.sl.HS0_1 c arg5 harg5 arg8 harg8 x2 x5
      = [⟨Rect.unit (s := S2048x128) ![0, 0] S2048x128.size inb_S2048x128_S2048x128_0_0, k0_pay4 (k0_pay3 x2 x5)⟩] := by
    unfold kernelRun0_A.sl.HS0_1 kernelRun0_A.sl.r
    rw [block_read, row_read]
  rw [e]
  exact View.readCov_unit_lit v inb_S2048x128_S2048x128_0_0 _ (by decide)

/-- The values with the ones beside them. -/
def vOnes (x : Vec Ideal S1x2048x128 .f32) : Vec Ideal S2048x256 .bf16 := fun y =>
  if h : (y 1).val < 128 then x (ix3 (0 : Fin 1) (y 0) ⟨(y 1).val, h⟩) else (1 : EReal)

/-- The scratch of the values, read back: the values in the low lanes, ones in the high lanes. -/
theorem vals_read (v : View sig .tc .vmem S2048x256 .bf16) (c : Dev nD) (arg6 : Memref sig .tc .vmem S1x2048x128 .f32)
    (harg6 : arg6.IsWhole) (x3 : Vec Ideal S1x2048x128 .f32) (j : Fin 2048) (d : Fin 256) :
    v.readCov (kernelRun0_A.sl.HS1_2 c arg6 harg6 x3)
      (Rect.unit (s := S2048x256) ![0, 0] S2048x256.size inb_S2048x256_S2048x256_0_0).toLoadRect (ix2 j d)
      = vOnes x3 (ix2 j d) := by
  have e : kernelRun0_A.sl.HS1_2 c arg6 harg6 x3
      = [⟨Rect.unit (s := S2048x256) ![0, 128] S2048x128.size inb_S2048x256_S2048x128_0_128, k0_pay6 (F := Ideal)⟩,
        ⟨Rect.unit (s := S2048x256) ![0, 0] S2048x128.size inb_S2048x256_S2048x128_0_0, k0_pay5 x3⟩] := by
    unfold kernelRun0_A.sl.HS1_2
    rw [block_read]
  rw [e, View.readCov_eq_canon']
  have hi : (Rect.unit (s := S2048x256) ![0, 0] S2048x256.size inb_S2048x256_S2048x256_0_0).idx (ix2 j d) = ix2 j d := by
    funext a
    refine Fin.ext ?_
    rw [LoadRect.idx_apply]
    match a with
    | ⟨0, _⟩ => simp
    | ⟨1, _⟩ => simp
  refine (congrArg _ hi).trans (View.canon_apply_of_pieces (Val := Elt Ideal) (vOnes x3) _ ?_ _ ?_)
  · refine View.PiecesOf.mem ⟨fun x => ?_, fun x => ?_, trivial⟩
    · obtain ⟨a, b, rfl⟩ : ∃ (a : Fin 2048) (b : Fin 128), x = ix2 a b := ⟨x 0, x 1, eq_ix2 x⟩
      have : vOnes x3 ((Rect.unit (s := S2048x256) ![0, 128] S2048x128.size inb_S2048x256_S2048x128_0_128).emb (ix2 a b)) = 1 :=
        dif_neg (by rw [Rect.emb_apply]; simp)
      rw [this]
      pointwise [k0_pay6]
    · obtain ⟨a, b, rfl⟩ : ∃ (a : Fin 2048) (b : Fin 128), x = ix2 a b := ⟨x 0, x 1, eq_ix2 x⟩
      pointwise [k0_pay5]
      have h : ((Rect.unit (s := S2048x256) ![0, 0] S2048x128.size inb_S2048x256_S2048x128_0_0).emb (ix2 a b) 1).val < 128 := by
        rw [Rect.emb_apply]; simp [ix2]
      refine Eq.trans ?_ (dif_pos h).symm
      refine congrArg x3 (congrArg₂ (ix3 (0 : Fin 1)) (Fin.ext ?_) (Fin.ext ?_))
      · rw [Rect.emb_apply]; simp [ix2]
      · show b.val = ((Rect.unit (s := S2048x256) ![0, 0] S2048x128.size inb_S2048x256_S2048x128_0_0).emb (ix2 a b) 1).val
        rw [Rect.emb_apply]; simp [ix2]
  · by_cases h : d.val < 128
    · refine ⟨_, List.mem_cons_of_mem _ List.mem_cons_self,
        (Rect.mem_set_unit (inb := inb_S2048x256_S2048x128_0_0)).mpr fun a => ?_⟩
      match a with
      | ⟨0, _⟩ => simp [ix2]
      | ⟨1, _⟩ => simpa [ix2] using h
    · refine ⟨_, List.mem_cons_self, (Rect.mem_set_unit (inb := inb_S2048x256_S2048x128_0_128)).mpr fun a => ?_⟩
      match a with
      | ⟨0, _⟩ => simp [ix2]
      | ⟨1, _⟩ => simp [ix2]; omega

/-! ## The block -/

/-- What a point's block holds: entry `(p, c)` is the last norm, at lane `c`, of the attention's row at position `p`. -/
def blockVal (σ ℓ : ℝ) (GQ GK : Fin 64 → ℝ) (Q K : Fin 2048 → Fin 2 → Fin 64 → ℝ) (V : Fin 2048 → Fin 128 → ℝ)
    (sg : Fin 128 → EReal) : Vec Ideal S1x2048x128 .bf16 := fun y =>
  last (fun c => ((attn σ ℓ GQ GK (Q (y 1)) K (fun j => V j c) (y 1).val : ℝ) : EReal)) sg (y 2)

/-- One stored strip is the block's value at the strip's rows. -/
theorem piece_apply (i : grid0.Coords) (o : ℕ)
    (inb : ∀ a, (![0, o, 0] : Fin 3 → ℕ) a + S1x128x128.size a ≤ S1x2048x128.size a) (lam slope : Ideal .f32)
    (arg4 : Memref sig .tc .vmem S1x2048x128 .f32) (harg4 : arg4.IsWhole) (x1 : Vec Ideal S1x2048x128 .f32)
    (qg : Vec Ideal S1x128 .f32) (kn : Vec Ideal S2048x128 .bf16) (vb : Vec Ideal S2048x256 .bf16) (sg : Vec Ideal S1x128 .f32)
    (Q K : Fin 2048 → Fin 2 → Fin 64 → ℝ) (V : Fin 2048 → Fin 128 → ℝ) (GQ GK : Fin 64 → ℝ) (σ ℓ : ℝ)
    (hq : ∀ p h d, x1 (ix3 0 p (ln h d)) = ((Q p h d : ℝ) : EReal)) (hg : ∀ h d, qg (ix2 0 (ln h d)) = ((GQ d : ℝ) : EReal))
    (hk : ∀ j h d, kn (ix2 j (ln h d)) = ((nrm (K j h) GK d : ℝ) : EReal))
    (hs : slope = ((σ * (Real.log 2)⁻¹ : ℝ) : EReal)) (hl : lam = ((ℓ : ℝ) : EReal))
    (hv : ∀ j (c : Fin 128), vb (ix2 j ⟨c.val, by omega⟩) = ((V j c : ℝ) : EReal)) (h1 : ∀ j, vb (ix2 j 128) = 1)
    (x : S1x128x128.Idx) :
    finish (stripDiff lam slope (Scalar.addi (Scalar.muli (BitVec.ofNat 32 (i 2).val) 2048#32) (BitVec.ofNat 32 o))
      (View.readAt (Elt Ideal) arg4.view (Rect.unit (s := S1x2048x128) ![0, o, 0] S1x128x128.size inb).toLoadRect
        (harg4.unread x1)) qg kn vb) sg x
      = blockVal σ ℓ GQ GK Q K V (fun c => sg (ix2 0 c))
          ((Rect.unit (s := S1x2048x128) ![0, o, 0] S1x128x128.size inb).emb x) := by
  obtain ⟨u, r, c, rfl⟩ : ∃ (u : Fin 1) (r : Fin 128) (c : Fin 128), x = ix3 u r c := ⟨x 0, x 1, x 2, eq_ix3 x⟩
  have ho : o + 128 ≤ 2048 := inb 1
  have hr : o + r.val < 2048 := by omega
  have hoff : Scalar.addi (Scalar.muli (BitVec.ofNat 32 (i 2).val) 2048#32) (BitVec.ofNat 32 o) = BitVec.ofNat 32 o := by
    have : (i 2).val = 0 := Nat.lt_one_iff.mp (i 2).isLt
    rw [this]
    show (BitVec.ofNat 32 0 * 2048#32) + BitVec.ofNat 32 o = _
    simp
  have hi : (Rect.unit (s := S1x2048x128) ![0, o, 0] S1x128x128.size inb).emb (ix3 u r c)
      = ix3 (0 : Fin 1) ⟨o + r.val, hr⟩ c := strip_idx inb u r c hr
  rw [hi, finish_apply, hoff]
  refine congrArg (fun f => last f (fun c => sg (ix2 0 c)) c) (funext fun z => ?_)
  refine strip_apply lam slope o _ qg kn vb r z (Q ⟨o + r.val, hr⟩) K (fun j => V j z) GQ GK σ ℓ hr (fun h d => ?_) hg hk hs hl
    (fun j => hv j z) h1
  exact (harg4.readAt_unread x1 _ _).trans ((congrArg x1 (strip_idx inb 0 r (ln h d) hr)).trans (hq _ h d))

theorem off1_eq : ∀ i : grid0.Coords, k0_off1 i 0 = 1 + (i 1).val := by decide +kernel

/-- The entry of the scalars that a point reads for its slope. -/
def slopeIdx (i : grid0.Coords) : S9.Idx := ix1 (n0 := 9) ⟨1 + (i 1).val, by have : (i 1).val < 8 := (i 1).isLt; omega⟩

/-- What one grid point leaves in its output block. -/
theorem block_apply  (c : Dev nD) (i : grid0.Coords) (arg3 : Memref sig .tc .smem S9 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x2048x128 .bf16) (harg10 : arg10.IsWhole) (arg11 : Memref sig .tc .vmem S2048x128 .bf16) (harg11 : arg11.IsWhole) (arg12 : Memref sig .tc .vmem S2048x256 .bf16) (harg12 : arg12.IsWhole)
    (x0 : Vec Ideal S9 .f32) (x1 : Vec Ideal S1x2048x128 .f32) (x2 : Vec Ideal S1x2048x128 .f32) (x3 : Vec Ideal S1x2048x128 .f32) (x4 : Vec Ideal S1x128 .f32) (x5 : Vec Ideal S1x128 .f32) (x6 : Vec Ideal S1x128 .f32)
    (Q K : Fin 2048 → Fin 2 → Fin 64 → ℝ) (V : Fin 2048 → Fin 128 → ℝ) (GQ GK : Fin 64 → ℝ) (σ ℓ : ℝ)
    (hq : ∀ p h d, x1 (ix3 0 p (ln h d)) = ((Q p h d : ℝ) : EReal)) (hk : ∀ j h d, x2 (ix3 0 j (ln h d)) = ((K j h d : ℝ) : EReal))
    (hv : ∀ j c, x3 (ix3 0 j c) = ((V j c : ℝ) : EReal)) (hgq : ∀ h d, x4 (ix2 0 (ln h d)) = ((GQ d : ℝ) : EReal))
    (hgk : ∀ h d, x5 (ix2 0 (ln h d)) = ((GK d : ℝ) : EReal)) (hl : x0 (ix1 (n0 := 9) 0) = ((ℓ : ℝ) : EReal))
    (hs : x0 (slopeIdx i) = ((σ : ℝ) : EReal)) (y : S1x2048x128.Idx) :
    out0_A_7 c i arg3 harg3 arg4 harg4 arg5 harg5 arg6 harg6 arg7 harg7 arg8 harg8 arg9 harg9 arg10 harg10 arg11 harg11 arg12 harg12 x0 x1 x2 x3 x4 x5 x6 y
      = blockVal σ ℓ GQ GK Q K V (fun c => x6 (ix2 0 c)) y := by
  have hlam : kernelRun0_A.sl.r_1 c arg3 harg3 x0 = ((ℓ : ℝ) : EReal) := by
    refine (harg3.readAt_unread x0 _ _).trans ((congrArg x0 (funext fun a => Fin.ext ?_)).trans hl)
    match a with
    | ⟨0, _⟩ => rfl
  have hslope : kernelRun0_A.sl.r_3 c i arg3 harg3 x0 = ((σ * (Real.log 2)⁻¹ : ℝ) : EReal) := by
    have e : kernelRun0_A.sl.r_2 c i arg3 harg3 x0 = ((σ : ℝ) : EReal) := by
      refine (harg3.readAt_unread x0 _ _).trans ((congrArg x0 (funext fun a => Fin.ext ?_)).trans hs)
      match a with
      | ⟨0, _⟩ => exact off1_eq i
    show kernelRun0_A.sl.r_2 c i arg3 harg3 x0 * Named.named (F := Ideal) κ "log2e" (φ := .f32) 0x3FB8AA3B#32 = _
    rw [e, log2e_val, EReal.coe_mul]
  have hkn : ∀ j h d, k0_pay4 (k0_pay3 x2 x5) (ix2 j (ln h d)) = ((nrm (K j h) GK d : ℝ) : EReal) :=
    fun j h d => k_apply x2 x5 j (K j) GK (hk j) hgk h d
  refine View.read_writes_apply_of_pieces _ _ _ _ ?_ y (cover0_A_7 c i arg3 harg3 arg4 harg4 arg5 harg5 arg6 harg6 arg7 harg7 arg8 harg8 arg9 harg9 arg10 harg10 arg11 harg11 arg12 harg12 x0 x1 x2 x3 x4 x5 x6 y)
  rw [pieces_eq]
  rw [row_read arg7 harg7 x4, row_read arg9 harg9 x6, keys_read arg11.view c arg5 harg5 arg8 harg8 x2 x5]
  refine View.PiecesOf.mem ?_
  have key := fun o inb => piece_apply i o inb (kernelRun0_A.sl.r_1 c arg3 harg3 x0) (kernelRun0_A.sl.r_3 c i arg3 harg3 x0)
    arg4 harg4 x1 x4 (k0_pay4 (k0_pay3 x2 x5))
    (arg12.view.readCov (kernelRun0_A.sl.HS1_2 c arg6 harg6 x3)
      (Rect.unit (s := S2048x256) ![0, 0] S2048x256.size inb_S2048x256_S2048x256_0_0).toLoadRect) x6 Q K V GQ GK σ ℓ hq hgq hkn
    hslope hlam
    (fun j c => (vals_read _ _ _ _ _ j _).trans ((dif_pos c.isLt).trans (hv j c)))
    (fun j => (vals_read _ _ _ _ _ j _).trans (dif_neg (by simp)))
  refine ⟨key 1920 inb_S1x2048x128_S1x128x128_0_1920_0, ?_⟩
  refine ⟨key 1792 inb_S1x2048x128_S1x128x128_0_1792_0, ?_⟩
  refine ⟨key 1664 inb_S1x2048x128_S1x128x128_0_1664_0, ?_⟩
  refine ⟨key 1536 inb_S1x2048x128_S1x128x128_0_1536_0, ?_⟩
  refine ⟨key 1408 inb_S1x2048x128_S1x128x128_0_1408_0, ?_⟩
  refine ⟨key 1280 inb_S1x2048x128_S1x128x128_0_1280_0, ?_⟩
  refine ⟨key 1152 inb_S1x2048x128_S1x128x128_0_1152_0, ?_⟩
  refine ⟨key 1024 inb_S1x2048x128_S1x128x128_0_1024_0, ?_⟩
  refine ⟨key 896 inb_S1x2048x128_S1x128x128_0_896_0, ?_⟩
  refine ⟨key 768 inb_S1x2048x128_S1x128x128_0_768_0, ?_⟩
  refine ⟨key 640 inb_S1x2048x128_S1x128x128_0_640_0, ?_⟩
  refine ⟨key 512 inb_S1x2048x128_S1x128x128_0_512_0, ?_⟩
  refine ⟨key 384 inb_S1x2048x128_S1x128x128_0_384_0, ?_⟩
  refine ⟨key 256 inb_S1x2048x128_S1x128x128_0_256_0, ?_⟩
  refine ⟨key 128 inb_S1x2048x128_S1x128x128_0_128_0, ?_⟩
  refine ⟨key 0 inb_S1x2048x128_S1x128x128_0_0_0, ?_⟩
  trivial

end Cert.Diff

end
-- ==== Proof.Diff.Host.lean ====
/-
  What the host code prepares for the attention: the scalars (lambda, then the slopes), the two gains doubled, the last
  norm's gain as a row.
-/
module

public import proofs.«01_k».proof.Proof.Diff.Block
public import Idealize.ShloMosaic.Lib.Claim
public import Idealize.ShloMosaic.Lib.StableHlo.RunRead

@[expose] public section

set_option maxRecDepth 16384

noncomputable section

namespace Cert.Diff

open Cert.KernelIdeal Cert.KernelIdeal.Gen Idealize.ShloMosaic Idealize.ShloMosaic.TcCoe Idealize.SL.Sem
open Idealize.ShloMosaic.Pointwise

variable (m : (ℓ : Loc nD τ sig) → Buf (Elt Ideal) ℓ)

/-- The last norm's gain, as the kernel reads it. -/
theorem host_sg (c : Dev nD) (d : Fin 128) : V m c main_v14 (ix2 (n0 := 1) (n1 := 128) 0 d)
    = m (c, Proc.devRef .tc main_arg7) (ix1 (n0 := 128) d) := by
  unfold V hostOps0
  after_results_simp
  pointwise []

/-- The queries' gain, once per half. -/
theorem host_qg (c : Dev nD) (h : Fin 2) (d : Fin 64) : V m c main_v11 (ix2 (n0 := 1) (n1 := 128) 0 (ln h d))
    = m (c, Proc.devRef .tc main_arg1) (ix1 (n0 := 64) d) := by
  unfold V hostOps0
  after_reads_simp
  pointwise []
  fin_cases h
  · simp only [ln]
    after_reads_simp
    simp
  · simp only [ln]
    after_reads_simp
    simp

/-- The keys' gain, once per half. -/
theorem host_kg (c : Dev nD) (h : Fin 2) (d : Fin 64) : V m c main_v13 (ix2 (n0 := 1) (n1 := 128) 0 (ln h d))
    = m (c, Proc.devRef .tc main_arg2) (ix1 (n0 := 64) d) := by
  unfold V hostOps0
  after_reads_simp
  pointwise []
  fin_cases h
  · simp only [ln]
    after_reads_simp
    simp
  · simp only [ln]
    after_reads_simp
    simp

/-- Lambda from its four vectors. -/
def lam (a b a' b' : Fin 64 → EReal) : EReal :=
  Ideal.exp (∑ x, a x * b x) - Ideal.exp (∑ x, a' x * b' x) + Ideal.ofBits .f32 0x3E4CCCCD#32

/-- Lambda, as the kernel reads it. -/
theorem host_lam (c : Dev nD) : V m c main_v9 (ix1 (n0 := 9) 0)
    = lam (fun x => m (c, Proc.devRef .tc main_arg3) (ix1 (n0 := 64) x)) (fun x => m (c, Proc.devRef .tc main_arg4) (ix1 (n0 := 64) x))
      (fun x => m (c, Proc.devRef .tc main_arg5) (ix1 (n0 := 64) x)) (fun x => m (c, Proc.devRef .tc main_arg6) (ix1 (n0 := 64) x)) := by
  unfold V hostOps0
  after_results_simp
  pointwise []
  rfl

/-- The slope of head `h`, as the kernel reads it. -/
theorem host_slope (c : Dev nD) (h : Fin 8) : V m c main_v9 (ix1 (n0 := 9) ⟨1 + h.val, by omega⟩)
    = Ideal.ofBits .f32 (lit0 (S8.rowMajor (ix1 (n0 := 8) h))) := by
  unfold V hostOps0
  after_results_simp
  pointwise []

end Cert.Diff

end
-- ==== Proof.Diff.Array.lean ====
/-
  The array after the kernel's run: grid point `(b, h)` writes head `h` of batch `b`, every entry is in one point's
  block, and its value is the attention of the arguments.
-/
module

public import proofs.«01_k».proof.Proof.Diff.Host

@[expose] public section

set_option maxRecDepth 16384

noncomputable section

namespace Cert.Diff

open Cert.KernelIdeal Cert.KernelIdeal.Gen Cert.KernelIdeal.Value Idealize.ShloMosaic Idealize.ShloMosaic.TcCoe Idealize.SL.Sem
open Idealize.ShloMosaic.Pointwise

/-- The reals that the attention reads, with the last norm's gain: the projection, the two gains, lambda, the slopes. -/
structure Data where
  P : S16x2048x6144.Idx → ℝ
  GQ : Fin 64 → ℝ
  GK : Fin 64 → ℝ
  ℓ : ℝ
  σ : Fin 8 → ℝ
  sg : Fin 128 → EReal

namespace Data
variable (D : Data)

/-- Column `base + 128 h + 64 e + d` of the projection: lane `d` of half `e` of head `h`. -/
def col (base : ℕ) (hb : base ≤ 5120) (h : Fin 8) (e : Fin 2) (d : Fin 64) : Fin 6144 :=
  ⟨base + (128 * h.val + (64 * e.val + d.val)), by omega⟩

/-- The queries, the keys and the values of one batch and head. -/
def Q (b : Fin 16) (h : Fin 8) (p : Fin 2048) (e : Fin 2) (d : Fin 64) : ℝ := D.P (ix3 b p (col 3072 (by omega) h e d))
def K (b : Fin 16) (h : Fin 8) (p : Fin 2048) (e : Fin 2) (d : Fin 64) : ℝ := D.P (ix3 b p (col 4096 (by omega) h e d))
def V (b : Fin 16) (h : Fin 8) (p : Fin 2048) (c : Fin 128) : ℝ :=
  D.P (ix3 b p ⟨5120 + (128 * h.val + c.val), by omega⟩)

/-- The attention at row `p`, lane `c` of head `h` of batch `b`, before the last norm. -/
def att (b : Fin 16) (h : Fin 8) (p : Fin 2048) (c : Fin 128) : ℝ :=
  attn (D.σ h) D.ℓ D.GQ D.GK (D.Q b h p) (D.K b h) (fun j => D.V b h j c) p.val

/-- The result at row `p`, lane `c` of head `h` of batch `b`. -/
def out (b : Fin 16) (h : Fin 8) (p : Fin 2048) (c : Fin 128) : EReal :=
  last (fun x => ((D.att b h p x : ℝ) : EReal)) D.sg c

/-- The array of the results. -/
def arr : Vec Ideal S16x2048x1024 .bf16 := fun y =>
  D.out (y 0) ⟨(y 2).val / 128, by have : (y 2).val < 1024 := (y 2).isLt; omega⟩ (y 1) ⟨(y 2).val % 128, Nat.mod_lt _ (by omega)⟩

end Data

/-! ## The blocks of each window -/

theorem coords_eq : ∀ t : Fin grid0.N, ((grid0.coords t) 0).val = t.val / 8 ∧ ((grid0.coords t) 1).val = t.val % 8 := by
  decide +kernel

theorem index0 : ∀ t : Fin grid0.N, win0_0.index t (0 : Fin 1) = 0 := by decide +kernel
theorem index1 : ∀ t : Fin grid0.N, win0_1.index t (0 : Fin 3) = t.val / 8 ∧ win0_1.index t (1 : Fin 3) = 0
    ∧ win0_1.index t (2 : Fin 3) = 24 + t.val % 8 := by decide +kernel
theorem index2 : ∀ t : Fin grid0.N, win0_2.index t (0 : Fin 3) = t.val / 8 ∧ win0_2.index t (1 : Fin 3) = 0
    ∧ win0_2.index t (2 : Fin 3) = 32 + t.val % 8 := by decide +kernel
theorem index3 : ∀ t : Fin grid0.N, win0_3.index t (0 : Fin 3) = t.val / 8 ∧ win0_3.index t (1 : Fin 3) = 0
    ∧ win0_3.index t (2 : Fin 3) = 40 + t.val % 8 := by decide +kernel
theorem index4 : ∀ t : Fin grid0.N, win0_4.index t (0 : Fin 2) = 0 ∧ win0_4.index t (1 : Fin 2) = 0 := by decide +kernel
theorem index5 : ∀ t : Fin grid0.N, win0_5.index t (0 : Fin 2) = 0 ∧ win0_5.index t (1 : Fin 2) = 0 := by decide +kernel
theorem index6 : ∀ t : Fin grid0.N, win0_6.index t (0 : Fin 2) = 0 ∧ win0_6.index t (1 : Fin 2) = 0 := by decide +kernel
theorem index7 : ∀ t : Fin grid0.N, win0_7.index t (0 : Fin 3) = t.val / 8 ∧ win0_7.index t (1 : Fin 3) = 0
    ∧ win0_7.index t (2 : Fin 3) = t.val % 8 := by decide +kernel

/-- The batch and the head of a grid point. -/
def bat (t : Fin cfg0.N) : Fin 16 := ⟨t.val / 8, by have : t.val < 128 := t.isLt; omega⟩
def hd (t : Fin cfg0.N) : Fin 8 := ⟨t.val % 8, Nat.mod_lt _ (by omega)⟩

theorem emb0 (t : Fin cfg0.N) (a : Fin 9) : ((cfg0.win 0).blk t).view.emb (ix1 (n0 := 9) a) = ix1 (n0 := 9) a := by
  have e0 := index0 t
  funext x
  refine Fin.ext ?_
  match x with
  | ⟨0, _⟩ => show win0_0.index t (0 : Fin 1) * 9 + 1 * a.val = a.val; omega

theorem emb1 (t : Fin cfg0.N) (u : Fin 1) (p : Fin 2048) (c : Fin 128) :
    ((cfg0.win 1).blk t).view.emb (ix3 u p c) = ix3 (bat t) p (⟨3072 + (128 * (hd t).val + c.val), by omega⟩ : Fin 6144) := by
  obtain ⟨e0, e1, e2⟩ := index1 t
  funext x
  refine Fin.ext ?_
  match x with
  | ⟨0, _⟩ => show win0_1.index t (0 : Fin 3) * 1 + 1 * u.val = t.val / 8; omega
  | ⟨1, _⟩ => show win0_1.index t (1 : Fin 3) * 2048 + 1 * p.val = p.val; omega
  | ⟨2, _⟩ => show win0_1.index t (2 : Fin 3) * 128 + 1 * c.val = 3072 + (128 * (t.val % 8) + c.val); omega

theorem emb2 (t : Fin cfg0.N) (u : Fin 1) (p : Fin 2048) (c : Fin 128) :
    ((cfg0.win 2).blk t).view.emb (ix3 u p c) = ix3 (bat t) p (⟨4096 + (128 * (hd t).val + c.val), by omega⟩ : Fin 6144) := by
  obtain ⟨e0, e1, e2⟩ := index2 t
  funext x
  refine Fin.ext ?_
  match x with
  | ⟨0, _⟩ => show win0_2.index t (0 : Fin 3) * 1 + 1 * u.val = t.val / 8; omega
  | ⟨1, _⟩ => show win0_2.index t (1 : Fin 3) * 2048 + 1 * p.val = p.val; omega
  | ⟨2, _⟩ => show win0_2.index t (2 : Fin 3) * 128 + 1 * c.val = 4096 + (128 * (t.val % 8) + c.val); omega

theorem emb3 (t : Fin cfg0.N) (u : Fin 1) (p : Fin 2048) (c : Fin 128) :
    ((cfg0.win 3).blk t).view.emb (ix3 u p c) = ix3 (bat t) p (⟨5120 + (128 * (hd t).val + c.val), by omega⟩ : Fin 6144) := by
  obtain ⟨e0, e1, e2⟩ := index3 t
  funext x
  refine Fin.ext ?_
  match x with
  | ⟨0, _⟩ => show win0_3.index t (0 : Fin 3) * 1 + 1 * u.val = t.val / 8; omega
  | ⟨1, _⟩ => show win0_3.index t (1 : Fin 3) * 2048 + 1 * p.val = p.val; omega
  | ⟨2, _⟩ => show win0_3.index t (2 : Fin 3) * 128 + 1 * c.val = 5120 + (128 * (t.val % 8) + c.val); omega

theorem emb4 (t : Fin cfg0.N) (u : Fin 1) (c : Fin 128) : ((cfg0.win 4).blk t).view.emb (ix2 u c) = ix2 (n0 := 1) (n1 := 128) 0 c := by
  obtain ⟨e0, e1⟩ := index4 t
  funext x
  refine Fin.ext ?_
  match x with
  | ⟨0, _⟩ => show win0_4.index t (0 : Fin 2) * 1 + 1 * u.val = 0; omega
  | ⟨1, _⟩ => show win0_4.index t (1 : Fin 2) * 128 + 1 * c.val = c.val; omega

theorem emb5 (t : Fin cfg0.N) (u : Fin 1) (c : Fin 128) : ((cfg0.win 5).blk t).view.emb (ix2 u c) = ix2 (n0 := 1) (n1 := 128) 0 c := by
  obtain ⟨e0, e1⟩ := index5 t
  funext x
  refine Fin.ext ?_
  match x with
  | ⟨0, _⟩ => show win0_5.index t (0 : Fin 2) * 1 + 1 * u.val = 0; omega
  | ⟨1, _⟩ => show win0_5.index t (1 : Fin 2) * 128 + 1 * c.val = c.val; omega

theorem emb6 (t : Fin cfg0.N) (u : Fin 1) (c : Fin 128) : ((cfg0.win 6).blk t).view.emb (ix2 u c) = ix2 (n0 := 1) (n1 := 128) 0 c := by
  obtain ⟨e0, e1⟩ := index6 t
  funext x
  refine Fin.ext ?_
  match x with
  | ⟨0, _⟩ => show win0_6.index t (0 : Fin 2) * 1 + 1 * u.val = 0; omega
  | ⟨1, _⟩ => show win0_6.index t (1 : Fin 2) * 128 + 1 * c.val = c.val; omega

theorem emb7 (t : Fin cfg0.N) (u : Fin 1) (p : Fin 2048) (c : Fin 128) :
    ((cfg0.win 7).blk t).view.emb (ix3 u p c) = ix3 (bat t) p (⟨128 * (hd t).val + c.val, by omega⟩ : Fin 1024) := by
  obtain ⟨e0, e1, e2⟩ := index7 t
  funext x
  refine Fin.ext ?_
  match x with
  | ⟨0, _⟩ => show win0_7.index t (0 : Fin 3) * 1 + 1 * u.val = t.val / 8; omega
  | ⟨1, _⟩ => show win0_7.index t (1 : Fin 3) * 2048 + 1 * p.val = p.val; omega
  | ⟨2, _⟩ => show win0_7.index t (2 : Fin 3) * 128 + 1 * c.val = 128 * (t.val % 8) + c.val; omega

/-! ## What a point writes back -/

variable (m : (ℓ : Loc nD τ sig) → Buf (Elt Ideal) ℓ)

/-- The data of a core's arguments, when the arguments are these reals. -/
structure Holds (c : Dev nD) (D : Data) : Prop where
  proj : ∀ y : S16x2048x6144.Idx, m (c, Proc.devRef .tc main_arg0) y = ((D.P y : ℝ) : EReal)
  gq : ∀ d, m (c, Proc.devRef .tc main_arg1) (ix1 (n0 := 64) d) = ((D.GQ d : ℝ) : EReal)
  gk : ∀ d, m (c, Proc.devRef .tc main_arg2) (ix1 (n0 := 64) d) = ((D.GK d : ℝ) : EReal)
  lam : lam (fun x => m (c, Proc.devRef .tc main_arg3) (ix1 (n0 := 64) x)) (fun x => m (c, Proc.devRef .tc main_arg4) (ix1 (n0 := 64) x))
    (fun x => m (c, Proc.devRef .tc main_arg5) (ix1 (n0 := 64) x)) (fun x => m (c, Proc.devRef .tc main_arg6) (ix1 (n0 := 64) x))
    = ((D.ℓ : ℝ) : EReal)
  slope : ∀ h : Fin 8, Ideal.ofBits .f32 (lit0 (S8.rowMajor (ix1 (n0 := 8) h))) = ((D.σ h : ℝ) : EReal)
  sg : ∀ d, m (c, Proc.devRef .tc main_arg7) (ix1 (n0 := 128) d) = D.sg d

variable {m}

/-- A point leaves, in its block, the results of its batch and head. -/
theorem point_apply (c : Dev nD) (D : Data) (H : Holds m c D) (t : Fin cfg0.N) (u : Fin 1) (p : Fin 2048) (l : Fin 128) :
    (dats m 0 c).flushed 7 t (ix3 u p l) = D.out (bat t) (hd t) p l := by
  rw [flushed7_A]
  have hV0 : V m c main_arg0 = m (c, Proc.devRef .tc main_arg0) := V_main_arg0 m c
  have hsl : iblk m c 0 t (slopeIdx (grid0.coords t)) = ((D.σ (hd t) : ℝ) : EReal) := by
    have e : slopeIdx (grid0.coords t) = ix1 (n0 := 9) ⟨1 + (hd t).val, by omega⟩ := by
      unfold slopeIdx
      exact congrArg (ix1 (n0 := 9)) (Fin.ext (congrArg (1 + ·) (coords_eq t).2))
    rw [e]
    show V m c main_v9 (((cfg0.win 0).blk t).view.emb (ix1 (n0 := 9) ⟨1 + (hd t).val, _⟩)) = _
    rw [emb0, host_slope, H.slope]
  refine (block_apply c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) scM0_0 (Memref.isWhole_whole _) scM0_1
    (Memref.isWhole_whole _) (iblk m c 0 t) (iblk m c 1 t) (iblk m c 2 t) (iblk m c 3 t) (iblk m c 4 t) (iblk m c 5 t)
    (iblk m c 6 t) (D.Q (bat t) (hd t)) (D.K (bat t) (hd t)) (D.V (bat t) (hd t)) D.GQ D.GK (D.σ (hd t)) D.ℓ
    (fun p h d => ?_) (fun j h d => ?_) (fun j x => ?_) (fun h d => ?_) (fun h d => ?_) ?_ hsl (ix3 u p l)).trans ?_
  · show V m c main_arg0 (((cfg0.win 1).blk t).view.emb (ix3 0 p (ln h d))) = _
    rw [emb1, hV0, H.proj]; rfl
  · show V m c main_arg0 (((cfg0.win 2).blk t).view.emb (ix3 0 j (ln h d))) = _
    rw [emb2, hV0, H.proj]; rfl
  · show V m c main_arg0 (((cfg0.win 3).blk t).view.emb (ix3 0 j x)) = _
    rw [emb3, hV0, H.proj]; rfl
  · show V m c main_v11 (((cfg0.win 4).blk t).view.emb (ix2 0 (ln h d))) = _
    rw [emb4, host_qg, H.gq]
  · show V m c main_v13 (((cfg0.win 5).blk t).view.emb (ix2 0 (ln h d))) = _
    rw [emb5, host_kg, H.gk]
  · show V m c main_v9 (((cfg0.win 0).blk t).view.emb (ix1 (n0 := 9) 0)) = _
    rw [emb0, host_lam, H.lam]
  · have hsg : (fun x => iblk m c 6 t (ix2 0 x)) = D.sg := by
      funext x
      show V m c main_v14 (((cfg0.win 6).blk t).view.emb (ix2 0 x)) = _
      rw [emb6, host_sg, H.sg]
    rw [hsg]
    rfl

/-- The array after the run. -/
theorem array_eq (c : Dev nD) (D : Data) (H : Holds m c D) : (dats m 0 c).arrAt 7 cfg0.N = D.arr := by
  refine (dats m 0 c).arrAt_eq_of_cover 7 D.arr (fun t _ => ?_) (fun y => ?_)
  · funext y
    obtain ⟨u, p, l, rfl⟩ : ∃ (u : Fin 1) (p : Fin 2048) (l : Fin 128), y = ix3 u p l := ⟨y 0, y 1, y 2, eq_ix3 y⟩
    refine (point_apply c D H t u p l).trans ?_
    show _ = D.arr (((cfg0.win 7).blk t).view.emb (ix3 u p l))
    rw [emb7]
    show _ = D.out _ _ _ _
    congr 1
    · refine Fin.ext ?_
      show (hd t).val = (128 * (hd t).val + l.val) / 128
      omega
    · refine Fin.ext ?_
      show l.val = (128 * (hd t).val + l.val) % 128
      omega
  · obtain ⟨b, p, z, rfl⟩ : ∃ (b : Fin 16) (p : Fin 2048) (z : Fin 1024), y = ix3 b p z := ⟨y 0, y 1, y 2, eq_ix3 y⟩
    have hN : 8 * b.val + z.val / 128 < cfg0.N := by
      show _ < 128
      omega
    refine ⟨⟨8 * b.val + z.val / 128, hN⟩, flush0_7 _, ?_⟩
    have h := ((cfg0.win 7).blk ⟨8 * b.val + z.val / 128, hN⟩).view.emb_mem_set
      (ix3 (0 : Fin 1) p (⟨z.val % 128, Nat.mod_lt _ (by omega)⟩ : Fin 128))
    rw [emb7] at h
    have e : ix3 (bat ⟨8 * b.val + z.val / 128, hN⟩) p
        (⟨128 * (hd ⟨8 * b.val + z.val / 128, hN⟩).val + z.val % 128, by have := (hd ⟨8 * b.val + z.val / 128, hN⟩).isLt; omega⟩ : Fin 1024)
        = ix3 b p z := by
      have h1 : (8 * b.val + z.val / 128) / 8 = b.val := by omega
      have h2 : 128 * ((8 * b.val + z.val / 128) % 8) + z.val % 128 = z.val := by omega
      exact congrArg₂ (fun x w => ix3 x p w) (Fin.ext h1) (Fin.ext h2)
    rwa [e] at h

end Cert.Diff

end
-- ==== Proof.Diff.RefScore.lean ====
/-
  The reference's queries, keys and scores, entry by entry.
-/
module

public import proofs.«01_k».proof.Proof.Diff.Array
public import proofs.«01_k».proof.Proof.Gen.ReferenceIdeal.Run

@[expose] public section

set_option maxRecDepth 16384

noncomputable section

namespace Cert.Diff.Ref

open Cert.ReferenceIdeal Cert.ReferenceIdeal.Gen Cert.ReferenceIdeal.Value Idealize.ShloMosaic Idealize.ShloMosaic.TcCoe Idealize.SL.Sem
open Idealize.ShloMosaic.Pointwise

/-- The arguments that the reference reads are the reals of `D`. -/
structure Holds (W : Valuation τ sig (Elt Ideal)) (D : Data) : Prop where
  proj : ∀ y : S16x2048x6144.Idx, W (Proc.devRef .tc main_arg0) y = ((D.P y : ℝ) : EReal)
  gq : ∀ d : Fin 64, W (Proc.devRef .tc main_arg1) (ix1 (n0 := 64) d) = ((D.GQ d : ℝ) : EReal)
  gk : ∀ d : Fin 64, W (Proc.devRef .tc main_arg2) (ix1 (n0 := 64) d) = ((D.GK d : ℝ) : EReal)
  lam : lam (fun x => W (Proc.devRef .tc main_arg3) (ix1 (n0 := 64) x)) (fun x => W (Proc.devRef .tc main_arg4) (ix1 (n0 := 64) x))
    (fun x => W (Proc.devRef .tc main_arg5) (ix1 (n0 := 64) x)) (fun x => W (Proc.devRef .tc main_arg6) (ix1 (n0 := 64) x))
      = ((D.ℓ : ℝ) : EReal)
  slope : ∀ h : Fin 8, Ideal.ofBits .f32 (lit0 (S8.rowMajor (ix1 (n0 := 8) h))) = ((D.σ h : ℝ) : EReal)
  sg : ∀ c : Fin 128, W (Proc.devRef .tc main_arg7) (ix1 (n0 := 128) c) = D.sg c

/-- The distance of two positions, computed on integers. -/
theorem dist_int {p j : ℕ} (hp : p < 2048) (hj : j < 2048) :
    FloatOps.sitofp (F := Ideal) .f32 (IntOp.absi (IntOp.subi (BitVec.ofNat 32 p) (BitVec.ofNat 32 j)))
      = ((|(p : ℝ) - (j : ℝ)| : ℝ) : EReal) := by
  show (((IntOp.absi (BitVec.ofNat 32 p - BitVec.ofNat 32 j)).toInt : ℝ) : EReal) = _
  congr 1
  rcases le_total j p with h | h
  · have e : BitVec.ofNat 32 p - BitVec.ofNat 32 j = BitVec.ofNat 32 (p - j) := by
      refine BitVec.eq_of_toNat_eq ?_
      rw [BitVec.toNat_sub]; simp only [BitVec.toNat_ofNat]; omega
    have hm : (BitVec.ofNat 32 (p - j)).msb = false := by
      rw [BitVec.msb_eq_decide, BitVec.toNat_ofNat]; exact decide_eq_false (by omega)
    rw [e, IntOp.absi, hm, if_neg (by simp), toInt_small (by omega), Nat.cast_sub h,
      abs_of_nonneg (sub_nonneg.mpr (Nat.cast_le.mpr h))]
  · rcases eq_or_lt_of_le h with h' | h'
    · subst h'
      simp [IntOp.absi]
    have e : -(BitVec.ofNat 32 p - BitVec.ofNat 32 j) = BitVec.ofNat 32 (j - p) := by
      refine BitVec.eq_of_toNat_eq ?_
      rw [BitVec.toNat_neg, BitVec.toNat_sub]; simp only [BitVec.toNat_ofNat]; omega
    have hm : (BitVec.ofNat 32 p - BitVec.ofNat 32 j).msb = true := by
      rw [BitVec.msb_eq_decide, BitVec.toNat_sub]; simp only [BitVec.toNat_ofNat]; exact decide_eq_true (by omega)
    rw [IntOp.absi, hm, if_pos rfl, e, toInt_small (by omega), Nat.cast_sub h,
      abs_of_nonpos (sub_nonpos.mpr (Nat.cast_le.mpr h)), neg_sub]

/-- A lane normalised as the reference does it. -/
theorem nrm_apply (x g : Fin 64 → EReal) (X G : Fin 64 → ℝ) (hx : ∀ d, x d = ((X d : ℝ) : EReal))
    (hg : ∀ d, g d = ((G d : ℝ) : EReal)) (d : Fin 64) :
    x d * Ideal.rsqrt (Ideal.div (∑ e, x e * x e) (Ideal.ofBits .f32 0x42800000#32) + Ideal.ofBits .f32 0x358637BD#32) * g d
      = ((nrm X G d : ℝ) : EReal) := by
  simp only [hx, hg, ← EReal.coe_mul]
  rw [coe_sum, ofBits_64, ofBits_eps, div_real (by norm_num), ← EReal.coe_add, rsqrt_pos (ms_pos X), ← EReal.coe_mul,
    ← EReal.coe_mul]
  rfl

variable {W : Valuation τ sig (Elt Ideal)} {D : Data}

/-- The reference's queries. -/
theorem v4_apply (H : Holds W D) (b : Fin 16) (p : Fin 2048) (h : Fin 8) (e : Fin 2) (d : Fin 64) :
    res_main_v4 W (ix5 b p h e d) = ((D.Q b h p e d : ℝ) : EReal) := by
  unfold res_main_v4
  pointwise []
  rw [H.proj, Data.Q]
  congr 3
  refine Fin.ext ?_
  show 3072 + (h.val * 128 + e.val * 64 + d.val) = 3072 + (128 * h.val + (64 * e.val + d.val))
  omega

/-- The reference's keys. -/
theorem v19_apply (H : Holds W D) (b : Fin 16) (p : Fin 2048) (h : Fin 8) (e : Fin 2) (d : Fin 64) :
    res_main_v19 W (ix5 b p h e d) = ((D.K b h p e d : ℝ) : EReal) := by
  unfold res_main_v19
  pointwise []
  rw [H.proj, Data.K]
  congr 3
  refine Fin.ext ?_
  show 4096 + (h.val * 128 + e.val * 64 + d.val) = 4096 + (128 * h.val + (64 * e.val + d.val))
  omega

/-- The score of row `p` against key `j` under half `e` of head `h`. -/
def sc (D : Data) (b : Fin 16) (h : Fin 8) (e : Fin 2) (p : Fin 2048) (j : Fin 2048) : ℝ :=
  score (D.σ h) |(p.val : ℝ) - (j.val : ℝ)| (D.Q b h p e) (D.K b h j e) D.GQ D.GK

/-- The reference's scores. -/
theorem v62_apply (H : Holds W D) (b : Fin 16) (h : Fin 8) (e : Fin 2) (p j : Fin 2048) :
    res_main_v62 W (ix5 b h e p j) = ((sc D b h e p j : ℝ) : EReal) := by
  have hq := v4_apply H b p h e
  have hk := v19_apply H b j h e
  unfold res_main_v62
  generalize res_main_v4 W = q at hq ⊢
  generalize res_main_v19 W = k at hk ⊢
  pointwise [res_main_v44]
  simp only [nrm_apply (fun x => q (ix5 b p h e x)) (fun x => W (Proc.devRef .tc main_arg1) (ix1 (n0 := 64) x)) _ _ hq H.gq,
    nrm_apply (fun x => k (ix5 b j h e x)) (fun x => W (Proc.devRef .tc main_arg2) (ix1 (n0 := 64) x)) _ _ hk H.gk,
    ← EReal.coe_mul]
  rw [coe_sum, ofBits_8th, H.slope, dist_int p.isLt j.isLt, ← EReal.coe_mul, ← EReal.coe_mul, ← EReal.coe_sub]
  rfl

end Cert.Diff.Ref

end
-- ==== Proof.Diff.Ref.lean ====
/-
  What the reference computes, entry by entry: the scores, the probabilities, the attention of the difference, and the
  last norm.
-/
module

public import proofs.«01_k».proof.Proof.Diff.RefScore

@[expose] public section

set_option maxRecDepth 16384

noncomputable section

namespace Cert.Diff.Ref

open Cert.ReferenceIdeal Cert.ReferenceIdeal.Gen Cert.ReferenceIdeal.Value Idealize.ShloMosaic Idealize.ShloMosaic.TcCoe Idealize.SL.Sem
open Idealize.ShloMosaic.Pointwise

variable {W : Valuation τ sig (Elt Ideal)} {D : Data}

/-- A row's maximum. -/
theorem max_apply {n0 n1 n2 n3 n4 : ℕ} (s : FVec Ideal ⟨5, ![n0, n1, n2, n3, n4]⟩ .f32) (init : FVec Ideal S_ .f32)
    (h : (⟨5, ![n0, n1, n2, n3, n4]⟩ : Shape).ReducesTo [4] ⟨4, ![n0, n1, n2, n3]⟩) (hu : 0 < S_.numel)
    (a : Fin n0) (b : Fin n1) (c : Fin n2) (d : Fin n3) :
    (Host.reduce FloatOps.maximumf s init h hu : FVec Ideal ⟨4, ![n0, n1, n2, n3]⟩ .f32) (ix4 a b c d)
      = Finset.univ.fold max (init (Shape.Idx.first hu)) (fun k => s (ix5 a b c d k)) := by
  pointwise []

/-- An array of the rows' numbers, spread along the rows, with a lower bound. -/
theorem spread_apply (g : FVec Ideal S16x8x2x2048 .f32) (b : Fin 16) (h : Fin 8) (e : Fin 2) (p j : Fin 2048) :
    (broadcastInDim S16x8x2x2048x2048 ![0, 1, 2, 3, 4] bcast_S16x8x2x2048x1_S16x8x2x2048x2048_0_1_2_3_4 (broadcastInDim S16x8x2x2048x1 ![0, 1, 2, 3] bcast_S16x8x2x2048_S16x8x2x2048x1_0_1_2_3 (maximumf (broadcastInDim S16x8x2x2048 ![] bcast_S_S16x8x2x2048 (constant S_ .f32 0xFF800000#32)) g)) : FVec Ideal S16x8x2x2048x2048 .f32) (ix5 b h e p j)
      = max ⊥ (g (ix4 b h e p)) := by
  pointwise []
  rw [ofBits_bot]

/-- The exponentials of one row of an array of scores, all less the row's maximum. -/
theorem exp_apply (s : FVec Ideal S16x8x2x2048x2048 .f32) (b : Fin 16) (h : Fin 8) (e : Fin 2) (p : Fin 2048) (T : Fin 2048 → ℝ)
    (hs : ∀ j, s (ix5 b h e p j) = ((T j : ℝ) : EReal)) :
    ∃ M : ℝ, ∀ j, (Host.exp (subf s (broadcastInDim S16x8x2x2048x2048 ![0, 1, 2, 3, 4] bcast_S16x8x2x2048x1_S16x8x2x2048x2048_0_1_2_3_4 (broadcastInDim S16x8x2x2048x1 ![0, 1, 2, 3] bcast_S16x8x2x2048_S16x8x2x2048x1_0_1_2_3 (maximumf (broadcastInDim S16x8x2x2048 ![] bcast_S_S16x8x2x2048 (constant S_ .f32 0xFF800000#32)) (Host.reduce FloatOps.maximumf s (constant S_ .f32 0xFF800000#32) reducesTo_S16x8x2x2048x2048_S16x8x2x2048_d4 h_S_))))) : FVec Ideal S16x8x2x2048x2048 .f32) (ix5 b h e p j) = ((Real.exp (T j - M) : ℝ) : EReal) := by
  obtain ⟨M, hM⟩ := fold_max_coe (n := 2047) T
  have hm := max_apply s (constant S_ .f32 0xFF800000#32) reducesTo_S16x8x2x2048x2048_S16x8x2x2048_d4 h_S_ b h e p
  simp only [hs] at hm
  generalize Host.reduce FloatOps.maximumf s (constant S_ .f32 0xFF800000#32) reducesTo_S16x8x2x2048x2048_S16x8x2x2048_d4 h_S_ = g at hm ⊢
  refine ⟨M, fun j => ?_⟩
  show Ideal.exp (s (ix5 b h e p j) - _) = _
  rw [spread_apply, hm, hs]
  show Ideal.exp (_ - max ⊥ (Finset.univ.fold max (Ideal.ofBits .f32 0xFF800000#32) _)) = _
  rw [ofBits_bot, hM, max_eq_right bot_le, ← EReal.coe_sub, Ideal.exp_coe]

/-- The exponentials of a row's scores, all less the same number. -/
theorem v69_apply (H : Holds W D) (b : Fin 16) (h : Fin 8) (e : Fin 2) (p : Fin 2048) :
    ∃ M : ℝ, ∀ j, res_main_v69 W (ix5 b h e p j) = ((Real.exp (sc D b h e p j - M) : ℝ) : EReal) :=
  exp_apply (res_main_v62 W) b h e p _ (v62_apply H b h e p)

/-- The reference's probabilities. -/
theorem v73_apply (H : Holds W D) (b : Fin 16) (h : Fin 8) (e : Fin 2) (p j : Fin 2048) :
    res_main_v73 W (ix5 b h e p j) = ((prob (sc D b h e p) j : ℝ) : EReal) := by
  obtain ⟨M, hM⟩ := v69_apply H b h e p
  unfold res_main_v73
  generalize res_main_v69 W = s at hM ⊢
  pointwise []
  simp only [hM]
  rw [coe_sum, div_real (sum_exp_pos (n := 2047) _).ne', prob_shift (n := 2047)]

/-- The first half's probabilities. -/
theorem fst_apply (s : FVec Ideal S16x8x2x2048x2048 .f32) (b : Fin 16) (h : Fin 8) (p j : Fin 2048) :
    (shapeCast S16x8x2048x2048 (extractStridedSlice S16x8x1x2048x2048 ![0, 0, 0, 0, 0] s slices_S16x8x2x2048x2048_S16x8x1x2048x2048_0_0_0_0_0) shapeCasts_S16x8x1x2048x2048_S16x8x2048x2048 : FVec Ideal S16x8x2048x2048 .f32) (ix4 b h p j)
      = s (ix5 b h 0 p j) := by
  pointwise []

/-- The second half's probabilities. -/
theorem snd_apply (s : FVec Ideal S16x8x2x2048x2048 .f32) (b : Fin 16) (h : Fin 8) (p j : Fin 2048) :
    (shapeCast S16x8x2048x2048 (extractStridedSlice S16x8x1x2048x2048 ![0, 0, 1, 0, 0] s slices_S16x8x2x2048x2048_S16x8x1x2048x2048_0_0_1_0_0) shapeCasts_S16x8x1x2048x2048_S16x8x2048x2048 : FVec Ideal S16x8x2048x2048 .f32) (ix4 b h p j)
      = s (ix5 b h 1 p j) := by
  pointwise []

/-- The values: the projection's last columns, by heads. -/
theorem val_apply (s : FVec Ideal S16x2048x6144 .f32) (b : Fin 16) (h : Fin 8) (p : Fin 2048) (c : Fin 128) :
    (transpose S16x8x2048x128 [0, 2, 1, 3] (shapeCast _ (extractStridedSlice S16x2048x1024 ![0, 0, 5120] s slices_S16x2048x6144_S16x2048x1024_0_0_5120) shapeCasts_S16x2048x1024_S16x2048x8x128) transposes_S16x2048x8x128_S16x8x2048x128_0_2_1_3 : FVec Ideal S16x8x2048x128 .f32) (ix4 b h p c)
      = s (ix3 b p ⟨5120 + (h.val * 128 + c.val), by omega⟩) := by
  pointwise []

/-- The product of the weights with the values. -/
theorem dot_apply (s : FVec Ideal S16x8x2048x2048 .f32) (v : FVec Ideal S16x8x2048x128 .f32) (b : Fin 16) (h : Fin 8)
    (p : Fin 2048) (c : Fin 128) :
    (Host.dotGeneral dot_S16x8x2048x2048_S16x8x2048x128_S16x8x2048x128_3_2_2_3_01_01 none s v : FVec Ideal S16x8x2048x128 .f32) (ix4 b h p c)
      = ∑ j, s (ix4 b h p j) * v (ix4 b h j c) := by
  pointwise []

/-- Lambda, spread over the weights. -/
theorem lam_apply (x y x' y' : FVec Ideal S64 .f32) (b : Fin 16) (h : Fin 8) (p j : Fin 2048) :
    (broadcastInDim S16x8x2048x2048 ![] bcast_S_S16x8x2048x2048 (addf (subf (Host.exp (Host.reduceAdd (mulf x y) (constant S_ .f32 0x00000000#32) reducesTo_S64_S_d0 h_S_)) (Host.exp (Host.reduceAdd (mulf x' y') (constant S_ .f32 0x00000000#32) reducesTo_S64_S_d0 h_S_))) (constant S_ .f32 0x3E4CCCCD#32)) : FVec Ideal S16x8x2048x2048 .f32) (ix4 b h p j)
      = lam (fun i => x (ix1 (n0 := 64) i)) (fun i => y (ix1 (n0 := 64) i)) (fun i => x' (ix1 (n0 := 64) i)) (fun i => y' (ix1 (n0 := 64) i)) := by
  pointwise []
  rfl

/-- The difference of the two halves' probabilities. -/
theorem sub_apply (s : FVec Ideal S16x8x2x2048x2048 .f32) (l : FVec Ideal S16x8x2048x2048 .f32) (b : Fin 16) (h : Fin 8)
    (p j : Fin 2048) :
    (subf (shapeCast S16x8x2048x2048 (extractStridedSlice S16x8x1x2048x2048 ![0, 0, 0, 0, 0] s slices_S16x8x2x2048x2048_S16x8x1x2048x2048_0_0_0_0_0) shapeCasts_S16x8x1x2048x2048_S16x8x2048x2048) (mulf l (shapeCast S16x8x2048x2048 (extractStridedSlice S16x8x1x2048x2048 ![0, 0, 1, 0, 0] s slices_S16x8x2x2048x2048_S16x8x1x2048x2048_0_0_1_0_0) shapeCasts_S16x8x1x2048x2048_S16x8x2048x2048)) : FVec Ideal S16x8x2048x2048 .f32) (ix4 b h p j)
      = s (ix5 b h 0 p j) - l (ix4 b h p j) * s (ix5 b h 1 p j) := by
  rw [subf_apply, mulf_apply, fst_apply, snd_apply]
  rfl

/-- The values are the projection's. -/
theorem V_apply (H : Holds W D) (b : Fin 16) (h : Fin 8) (j : Fin 2048) (c : Fin 128) :
    W (Proc.devRef .tc main_arg0) (ix3 b j (⟨5120 + (h.val * 128 + c.val), by omega⟩ : Fin 6144)) = ((D.V b h j c : ℝ) : EReal) := by
  have e : (⟨5120 + (h.val * 128 + c.val), by omega⟩ : Fin 6144) = ⟨5120 + (128 * h.val + c.val), by omega⟩ := by
    refine Fin.ext ?_
    show 5120 + (h.val * 128 + c.val) = 5120 + (128 * h.val + c.val)
    omega
  rw [e, H.proj, Data.V]

/-- The attention, by the scores. -/
theorem att_eq (b : Fin 16) (h : Fin 8) (p : Fin 2048) (c : Fin 128) :
    D.att b h p c = diff D.ℓ (sc D b h 0 p) (sc D b h 1 p) (fun j => D.V b h j c) := by
  unfold Data.att attn sc
  rfl

/-- The weighted values, from the probabilities. -/
theorem sum_apply (s : FVec Ideal S16x8x2048x2048 .f32) (v : FVec Ideal S16x8x2048x128 .f32) (b : Fin 16) (h : Fin 8)
    (p : Fin 2048) (c : Fin 128) (l : ℝ) (P₁ P₂ V : Fin 2048 → ℝ)
    (hs : ∀ j, s (ix4 b h p j) = ((P₁ j : ℝ) : EReal) - (l : EReal) * ((P₂ j : ℝ) : EReal))
    (hv : ∀ j, v (ix4 b h j c) = ((V j : ℝ) : EReal)) :
    (Host.dotGeneral dot_S16x8x2048x2048_S16x8x2048x128_S16x8x2048x128_3_2_2_3_01_01 none s v : FVec Ideal S16x8x2048x128 .f32) (ix4 b h p c)
      = ((∑ j, (P₁ j - l * P₂ j) * V j : ℝ) : EReal) := by
  rw [dot_apply]
  simp only [hs, hv, ← EReal.coe_mul, ← EReal.coe_sub]
  exact coe_sum _ _

/-- The attention of the difference. -/
theorem v81_apply (H : Holds W D) (b : Fin 16) (h : Fin 8) (p : Fin 2048) (c : Fin 128) :
    res_main_v81 W (ix4 b h p c) = ((D.att b h p c : ℝ) : EReal) := by
  have hs := v73_apply H b h
  rw [att_eq, diff]
  unfold res_main_v81
  refine sum_apply _ _ b h p c _ _ _ _ (fun j => ?_) (fun j => ?_)
  · rw [sub_apply, lam_apply, H.lam, hs, hs]
  · rw [val_apply, V_apply H]

/-- What the reference leaves in its result. -/
theorem result_eq (H : Holds W D) (f : FVec Ideal S16x8x2048x128 .f32) (hf : f = res_main_v81 W) :
    (truncf .bf16 (shapeCast _ (transpose S16x2048x8x128 [0, 2, 1, 3] (mulf (mulf (mulf f (broadcastInDim S16x8x2048x128 ![0, 1, 2, 3] bcast_S16x8x2048x1_S16x8x2048x128_0_1_2_3 (Host.rsqrt (addf (Host.divf (broadcastInDim S16x8x2048x1 ![0, 1, 2] bcast_S16x8x2048_S16x8x2048x1_0_1_2 (Host.reduceAdd (mulf f f) (constant S_ .f32 0x00000000#32) reducesTo_S16x8x2048x128_S16x8x2048_d3 h_S_)) (broadcastInDim S16x8x2048x1 ![] bcast_S_S16x8x2048x1 (constant S_ .f32 0x43000000#32))) (broadcastInDim S16x8x2048x1 ![] bcast_S_S16x8x2048x1 (constant S_ .f32 0x358637BD#32)))))) (broadcastInDim S16x8x2048x128 ![0, 1, 2, 3] bcast_S1x1x1x128_S16x8x2048x128_0_1_2_3 (broadcastInDim S1x1x1x128 ![3] bcast_S128_S1x1x1x128_3 (W (Proc.devRef .tc main_arg7))))) (broadcastInDim S16x8x2048x128 ![] bcast_S_S16x8x2048x128 (constant S_ .f32 0x3F4CCCCD#32))) transposes_S16x8x2048x128_S16x2048x8x128_0_2_1_3) shapeCasts_S16x2048x8x128_S16x2048x1024) bitsLt_bf16_f32 : FVec Ideal S16x2048x1024 .bf16)
      = D.arr := by
  have hv := v81_apply H
  rw [← hf] at hv
  funext y
  obtain ⟨b, p, x, rfl⟩ : ∃ b p x, y = ix3 (n0 := 16) (n1 := 2048) (n2 := 1024) b p x := ⟨_, _, _, eq_ix3 y⟩
  pointwise []
  simp only [hv, H.sg]
  rfl

end Cert.Diff.Ref

end
-- ==== Proof.Diff.Pre.lean ====
/-
  What the precondition gives: every argument but the last gain is real, so lambda is real, and both programs' arguments
  are the same reals.
-/
module

public import proofs.«01_k».proof.Proof.Diff.Ref
public import proofs.«01_k».proof.Defs
public import proofs.«01_k».proof.Proof.Gen.Pre_finite
public import Idealize.ShloMosaic.Lib.ReduceAll

@[expose] public section

set_option maxRecDepth 16384

noncomputable section

namespace Cert.Diff

open Idealize.ShloMosaic Idealize.ShloMosaic.TcCoe Idealize.SL.Sem
open Idealize.ShloMosaic.Pointwise

attribute [local instance] Cert.Pre_finite.Gen.facts

/-- An entry whose absolute value is below infinity is real. -/
theorem real_of_lt {x : EReal} (h : max x (-x) < ⊤) : ∃ r : ℝ, x = (r : EReal) := by
  refine exists_real (fun e => ?_) (fun e => ?_)
  · subst e; simp at h
  · subst e; simp at h

/-- An array whose entries all compare below infinity in absolute value is real. -/
theorem real_of_all {s u : Shape} {axes : List (Fin s.rank)} [Subsingleton u.Idx] (x : FVec Ideal s .f32) (B : FVec Ideal s .f32)
    (hB : ∀ i, B i = ⊤) (init : u.Idx → BitVec 1) (h : s.ReducesTo axes u) (hu : 0 < u.numel) (j : u.Idx)
    (e : Host.reduce IntOp.andi (cmpf .olt (Host.absf x) B) init h hu j = 1#1) :
    ∃ X : s.Idx → ℝ, ∀ i, x i = ((X i : ℝ) : EReal) := by
  have hr : ∀ i, ∃ r : ℝ, x i = (r : EReal) := fun i => by
    have e' := Host.reduce_andi_all _ _ _ _ j e i
    refine real_of_lt ?_
    have e2 : BitVec.ofBool (decide (max (x i) (-(x i)) < B i)) = 1#1 := e'
    rw [hB] at e2
    by_contra hc
    rw [decide_eq_false hc] at e2
    exact absurd e2 (by decide)
  choose X hX using hr
  exact ⟨X, hX⟩

instance : Subsingleton Cert.Pre_finite.S_.Idx := ⟨fun a b => funext fun i => absurd i.isLt (Nat.not_lt_zero _)⟩

/-- `finite` says that each of its first seven arguments is real. -/
theorem reals (a0 : FVec Ideal Cert.Pre_finite.S16x2048x6144 .f32) (a1 a2 a3 a4 a5 a6 : FVec Ideal Cert.Pre_finite.S64 .f32)
    (a7 : FVec Ideal Cert.Pre_finite.S128 .f32) (h : Cert.Pre_finite.fn (F := Ideal) a0 a1 a2 a3 a4 a5 a6 a7 = fun _ => 1#1) :
    (∃ X : Cert.Pre_finite.S16x2048x6144.Idx → ℝ, ∀ i, a0 i = ((X i : ℝ) : EReal))
      ∧ (∃ X : Cert.Pre_finite.S64.Idx → ℝ, ∀ i, a1 i = ((X i : ℝ) : EReal))
      ∧ (∃ X : Cert.Pre_finite.S64.Idx → ℝ, ∀ i, a2 i = ((X i : ℝ) : EReal))
      ∧ (∃ X : Cert.Pre_finite.S64.Idx → ℝ, ∀ i, a3 i = ((X i : ℝ) : EReal))
      ∧ (∃ X : Cert.Pre_finite.S64.Idx → ℝ, ∀ i, a4 i = ((X i : ℝ) : EReal))
      ∧ (∃ X : Cert.Pre_finite.S64.Idx → ℝ, ∀ i, a5 i = ((X i : ℝ) : EReal))
      ∧ (∃ X : Cert.Pre_finite.S64.Idx → ℝ, ∀ i, a6 i = ((X i : ℝ) : EReal)) := by
  have h0 := congrFun h (fun a => absurd a.isLt (Nat.not_lt_zero _))
  unfold Cert.Pre_finite.fn Cert.Pre_finite.fn_part1 at h0
  dsimp only at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all _ _ (fun _ => ofBits_top) _ _ _ _ e0, real_of_all _ _ (fun _ => ofBits_top) _ _ _ _ e1,
    real_of_all _ _ (fun _ => ofBits_top) _ _ _ _ e2, real_of_all _ _ (fun _ => ofBits_top) _ _ _ _ e3,
    real_of_all _ _ (fun _ => ofBits_top) _ _ _ _ e4, real_of_all _ _ (fun _ => ofBits_top) _ _ _ _ e5,
    real_of_all _ _ (fun _ => ofBits_top) _ _ _ _ e6⟩

/-- Lambda of real vectors is real. -/
theorem lam_real (a b a' b' : Fin 64 → ℝ) : ∃ ℓ : ℝ,
    lam (fun x => ((a x : ℝ) : EReal)) (fun x => ((b x : ℝ) : EReal)) (fun x => ((a' x : ℝ) : EReal)) (fun x => ((b' x : ℝ) : EReal))
      = (ℓ : EReal) := by
  obtain ⟨i, hi⟩ := ofBits_init
  unfold lam
  simp only [← EReal.coe_mul]
  rw [coe_sum, coe_sum, Ideal.exp_coe, Ideal.exp_coe, hi, ← EReal.coe_sub, ← EReal.coe_add]
  exact ⟨_, rfl⟩

/-- Each of the slopes is real. -/
theorem slope_real (k : Fin 8) : ∃ σ : ℝ, Ideal.ofBits .f32 (Cert.KernelIdeal.lit0 k) = (σ : EReal) := by
  match k with
  | 0 => simp [Cert.KernelIdeal.lit0, Ideal.ofBits, Ideal.ieee, -EReal.coe_mul]
  | 1 => simp [Cert.KernelIdeal.lit0, Ideal.ofBits, Ideal.ieee, -EReal.coe_mul]
  | 2 => simp [Cert.KernelIdeal.lit0, Ideal.ofBits, Ideal.ieee, -EReal.coe_mul]
  | 3 => simp [Cert.KernelIdeal.lit0, Ideal.ofBits, Ideal.ieee, -EReal.coe_mul]
  | 4 => simp [Cert.KernelIdeal.lit0, Ideal.ofBits, Ideal.ieee, -EReal.coe_mul]
  | 5 => simp [Cert.KernelIdeal.lit0, Ideal.ofBits, Ideal.ieee, -EReal.coe_mul]
  | 6 => simp [Cert.KernelIdeal.lit0, Ideal.ofBits, Ideal.ieee, -EReal.coe_mul]
  | 7 => simp [Cert.KernelIdeal.lit0, Ideal.ofBits, Ideal.ieee, -EReal.coe_mul]

/-- The two programs hold the same slopes. -/
theorem lit_eq (k : Fin 8) : Cert.ReferenceIdeal.lit0 k = Cert.KernelIdeal.lit0 k := by
  match k with
  | 0 => rfl
  | 1 => rfl
  | 2 => rfl
  | 3 => rfl
  | 4 => rfl
  | 5 => rfl
  | 6 => rfl
  | 7 => rfl

/-- Under the precondition one set of reals stands for the kernel's arguments and for a reference's equal ones. -/
theorem data_exists (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite m) (c : Dev Cert.KernelIdeal.nD)
    (h0 : m' ((c.tc : Thread _ _).loc Cert.ReferenceIdeal.main_arg0) = m ((c.tc : Thread _ _).loc Cert.KernelIdeal.main_arg0))
    (h1 : m' ((c.tc : Thread _ _).loc Cert.ReferenceIdeal.main_arg1) = m ((c.tc : Thread _ _).loc Cert.KernelIdeal.main_arg1))
    (h2 : m' ((c.tc : Thread _ _).loc Cert.ReferenceIdeal.main_arg2) = m ((c.tc : Thread _ _).loc Cert.KernelIdeal.main_arg2))
    (h3 : m' ((c.tc : Thread _ _).loc Cert.ReferenceIdeal.main_arg3) = m ((c.tc : Thread _ _).loc Cert.KernelIdeal.main_arg3))
    (h4 : m' ((c.tc : Thread _ _).loc Cert.ReferenceIdeal.main_arg4) = m ((c.tc : Thread _ _).loc Cert.KernelIdeal.main_arg4))
    (h5 : m' ((c.tc : Thread _ _).loc Cert.ReferenceIdeal.main_arg5) = m ((c.tc : Thread _ _).loc Cert.KernelIdeal.main_arg5))
    (h6 : m' ((c.tc : Thread _ _).loc Cert.ReferenceIdeal.main_arg6) = m ((c.tc : Thread _ _).loc Cert.KernelIdeal.main_arg6))
    (h7 : m' ((c.tc : Thread _ _).loc Cert.ReferenceIdeal.main_arg7) = m ((c.tc : Thread _ _).loc Cert.KernelIdeal.main_arg7)) :
    ∃ D : Data, Holds m c D ∧ Ref.Holds (StableHlo.launchContents m' c) D := by
  obtain ⟨⟨P, hP⟩, ⟨GQ, hGQ⟩, ⟨GK, hGK⟩, ⟨A, hA⟩, ⟨B, hB⟩, ⟨A', hA'⟩, ⟨B', hB'⟩⟩ := reals _ _ _ _ _ _ _ _ (hpre c)
  obtain ⟨ℓ, hℓ⟩ := lam_real (fun x => A (ix1 (n0 := 64) x)) (fun x => B (ix1 (n0 := 64) x)) (fun x => A' (ix1 (n0 := 64) x))
    (fun x => B' (ix1 (n0 := 64) x))
  choose σ hσ using slope_real
  have hl : lam (fun x => m ((c.tc : Thread _ _).loc Cert.KernelIdeal.main_arg3) (ix1 (n0 := 64) x))
      (fun x => m ((c.tc : Thread _ _).loc Cert.KernelIdeal.main_arg4) (ix1 (n0 := 64) x))
      (fun x => m ((c.tc : Thread _ _).loc Cert.KernelIdeal.main_arg5) (ix1 (n0 := 64) x))
      (fun x => m ((c.tc : Thread _ _).loc Cert.KernelIdeal.main_arg6) (ix1 (n0 := 64) x)) = ((ℓ : ℝ) : EReal) := by
    rw [← hℓ]
    exact congr (congr (congr (congrArg lam (funext fun x => hA _)) (funext fun x => hB _)) (funext fun x => hA' _)) (funext fun x => hB' _)
  refine ⟨⟨P, fun d => GQ (ix1 (n0 := 64) d), fun d => GK (ix1 (n0 := 64) d), ℓ,
    fun h => σ (Cert.KernelIdeal.S8.rowMajor (ix1 (n0 := 8) h)),
    fun x => m ((c.tc : Thread _ _).loc Cert.KernelIdeal.main_arg7) (ix1 (n0 := 128) x)⟩,
    ⟨fun y => hP y, fun d => hGQ _, fun d => hGK _, hl, fun h => hσ _, fun x => rfl⟩,
    ⟨fun y => (congrFun h0 y).trans (hP y), fun d => (congrFun h1 _).trans (hGQ _), fun d => (congrFun h2 _).trans (hGK _),
      ?_, fun h => (congrArg (Ideal.ofBits .f32) (lit_eq _)).trans (hσ _), fun x => congrFun h7 _⟩⟩
  refine Eq.trans ?_ hl
  exact congr (congr (congr (congrArg lam (funext fun x => congrFun h3 _)) (funext fun x => congrFun h4 _))
    (funext fun x => congrFun h5 _)) (funext fun x => congrFun h6 _)

end Cert.Diff

end
-- ==== Proof.Diff.Claims.lean ====
/-
  The claims about the differential attention.
-/
module

public import proofs.«01_k».proof.Proof.Diff.Pre
public import proofs.«01_k».proof.Proof.Gen.Kernel.Frame
public import proofs.«01_k».proof.Proof.Gen.KernelIdeal.Frame
public import Idealize.ShloMosaic.Lib.Quiescent
public import Idealize.ShloMosaic.Lib.Claim

@[expose] public section

set_option maxRecDepth 16384

noncomputable section

namespace Cert.Diff

open Idealize.ShloMosaic Idealize.ShloMosaic.TcCoe Idealize.SL.Sem

attribute [local instance] Cert.Kernel.Gen.facts Cert.KernelIdeal.Gen.facts Cert.ReferenceIdeal.Gen.facts Cert.Pre_finite.Gen.facts

/-- The reference runs, keeps its arguments, and leaves every semaphore at zero. -/
theorem ref_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two named constants are the ones that the rewrite names. -/
theorem preserves : Cert.preserves_Kernel_KernelIdeal :=
  ⟨IdealRules.named_const.statement Cert.KernelIdeal.κ "log2e" .f32 0x3FB8AA3B#32 _ rfl,
    IdealRules.named_const.statement Cert.KernelIdeal.κ "qscale" .f32 0x3E38AA3B#32 _ rfl⟩

/-- Over the reals the kernel's result is the reference's, entry by entry. -/
theorem algebraic : Cert.algebraic_KernelIdeal_ReferenceIdeal_pre_finite := by
  intro m ρ m' ρ' hpre hagree
  choose D hk hr using fun c => data_exists m m' hpre c (hagree c).1 (hagree c).2.1 (hagree c).2.2.1 (hagree c).2.2.2.1
    (hagree c).2.2.2.2.1 (hagree c).2.2.2.2.2.1 (hagree c).2.2.2.2.2.2.1 (hagree c).2.2.2.2.2.2.2
  refine ⟨fun c => (D c).arr, ?_, ?_⟩
  · exact (θ_run Cert.KernelIdeal.defs _ _).mono (fun _ h c => ⟨(h c).1.trans (array_eq c (D c) (hk c)), (h c).2⟩)
      (Cert.KernelIdeal.Value.run_blocks m ρ)
  · exact (θ_run Cert.ReferenceIdeal.defs _ _).mono (fun _ h c => ⟨(h c).1.trans (Ref.result_eq (hr c) _ rfl), (h c).2⟩)
      (Cert.ReferenceIdeal.Value.run (F := Ideal) m' ρ')

end Cert.Diff

end
-- ==== Proof.Mlp.Cases.lean ====
/-
  What the three kinds of grid point of the feed-forward kernel leave behind: the first point of a row block normalises
  the rows and starts the running sum at the rows themselves, every point adds its slice of the hidden layer, and the last
  point of a row block writes the sum out.
-/
module

public import proofs.«01_k».proof.Proof.Gen.MlpIdeal.Value
public import Idealize.ShloMosaic.Lib.Pipeline.Value
public import Idealize.ShloMosaic.Lib.Pointwise

@[expose] public section

set_option maxRecDepth 16384

noncomputable section

namespace Cert.Ffn

open Cert.MlpIdeal Cert.MlpIdeal.Gen Idealize.ShloMosaic Idealize.ShloMosaic.TcCoe

theorem hz : (![0, 0] : Fin 2 → Nat) = fun _ => 0 := funext fun a => by fin_cases a <;> rfl

/-- The first point of a row block leaves the normalised rows. -/
theorem first_rows (c : Dev nD) (i : grid0.Coords)
    (arg2 : Memref sig .tc .vmem S512x2048 .f32) (h2 : arg2.IsWhole)
    (arg3 : Memref sig .tc .vmem S1x2048 .f32) (h3 : arg3.IsWhole)
    (arg4 : Memref sig .tc .vmem S2048x1024 .bf16) (h4 : arg4.IsWhole)
    (arg5 : Memref sig .tc .vmem S1024x2048 .bf16) (h5 : arg5.IsWhole)
    (arg6 : Memref sig .tc .vmem S512x2048 .f32) (h6 : arg6.IsWhole)
    (arg7 : Memref sig .tc .vmem S512x2048 .bf16) (h7 : arg7.IsWhole)
    (arg8 : Memref sig .tc .vmem S512x2048 .f32) (h8 : arg8.IsWhole)
    (hc0 : cond0_0 i) (hc1 : cond0_1 i) (hc2 : ¬cond0_2 i) (x : Vec Ideal S512x2048 .f32) (g : Vec Ideal S1x2048 .f32)
    (w1 : Vec Ideal S2048x1024 .bf16) (w2 : Vec Ideal S1024x2048 .bf16) :
    sout0_A_0 c i arg2 h2 arg3 h3 arg4 h4 arg5 h5 arg6 h6 arg7 h7 arg8 h8 hc0 hc1 hc2 x g w1 w2 = k0_pay2 x g := by
  unfold sout0_A_0
  rw [View.read_writes_junk_eq_canon]
  unfold kernelRun0_A
  dsimp only
  sl_unfold_words
  rw [View.canon_unit_zero hz]
  simp only [View.readAt_eq_ld, h2.read_unread, h3.read_unread, View.ld_unit_zero (S := S512x2048) hz, View.ld_unit_zero (S := S1x2048) hz]

/-- The first point of a row block leaves the rows plus its slice of the hidden layer. -/
theorem first_sum (c : Dev nD) (i : grid0.Coords)
    (arg2 : Memref sig .tc .vmem S512x2048 .f32) (h2 : arg2.IsWhole)
    (arg3 : Memref sig .tc .vmem S1x2048 .f32) (h3 : arg3.IsWhole)
    (arg4 : Memref sig .tc .vmem S2048x1024 .bf16) (h4 : arg4.IsWhole)
    (arg5 : Memref sig .tc .vmem S1024x2048 .bf16) (h5 : arg5.IsWhole)
    (arg6 : Memref sig .tc .vmem S512x2048 .f32) (h6 : arg6.IsWhole)
    (arg7 : Memref sig .tc .vmem S512x2048 .bf16) (h7 : arg7.IsWhole)
    (arg8 : Memref sig .tc .vmem S512x2048 .f32) (h8 : arg8.IsWhole)
    (hc0 : cond0_0 i) (hc1 : cond0_1 i) (hc2 : ¬cond0_2 i) (x : Vec Ideal S512x2048 .f32) (g : Vec Ideal S1x2048 .f32)
    (w1 : Vec Ideal S2048x1024 .bf16) (w2 : Vec Ideal S1024x2048 .bf16) :
    sout0_A_1 c i arg2 h2 arg3 h3 arg4 h4 arg5 h5 arg6 h6 arg7 h7 arg8 h8 hc0 hc1 hc2 x g w1 w2 = k0_pay4 (k0_pay2 x g) w1 (k0_pay3 x) w2 := by
  unfold sout0_A_1
  rw [View.read_writes_junk_eq_canon]
  unfold kernelRun0_A
  dsimp only
  sl_unfold_words
  rw [View.canon_cons_unit_zero (S := S512x2048) hz, View.readCov_unit_zero (S := S512x2048) _ hz, View.readCov_unit_zero (S := S512x2048) _ hz]
  simp only [View.readAt_eq_ld, h2.read_unread, h3.read_unread, h4.read_unread, h5.read_unread, View.ld_unit_zero (S := S512x2048) hz,
    View.ld_unit_zero (S := S1x2048) hz, View.ld_unit_zero (S := S2048x1024) hz, View.ld_unit_zero (S := S1024x2048) hz]

/-- A point that is neither first nor last adds its slice of the hidden layer. -/
theorem mid_sum (c : Dev nD) (i : grid0.Coords)
    (arg2 : Memref sig .tc .vmem S512x2048 .f32) (h2 : arg2.IsWhole)
    (arg3 : Memref sig .tc .vmem S1x2048 .f32) (h3 : arg3.IsWhole)
    (arg4 : Memref sig .tc .vmem S2048x1024 .bf16) (h4 : arg4.IsWhole)
    (arg5 : Memref sig .tc .vmem S1024x2048 .bf16) (h5 : arg5.IsWhole)
    (arg6 : Memref sig .tc .vmem S512x2048 .f32) (h6 : arg6.IsWhole)
    (arg7 : Memref sig .tc .vmem S512x2048 .bf16) (h7 : arg7.IsWhole)
    (arg8 : Memref sig .tc .vmem S512x2048 .f32) (h8 : arg8.IsWhole)
    (hc0 : ¬cond0_0 i) (hc1 : cond0_1 i) (hc2 : ¬cond0_2 i) (x : Vec Ideal S512x2048 .f32) (g : Vec Ideal S1x2048 .f32)
    (w1 : Vec Ideal S2048x1024 .bf16) (w2 : Vec Ideal S1024x2048 .bf16) (hn : Vec Ideal S512x2048 .bf16) (acc : Vec Ideal S512x2048 .f32) :
    sout0_B_1 c i arg2 h2 arg3 h3 arg4 h4 arg5 h5 arg6 h6 arg7 h7 arg8 h8 hc0 hc1 hc2 x g w1 w2 hn acc = k0_pay4 hn w1 acc w2 := by
  unfold sout0_B_1
  rw [View.read_writes_junk_eq_canon]
  unfold kernelRun0_B
  dsimp only
  rw [View.canon_unit_zero hz]
  simp only [View.readAt_eq_ld, h4.read_unread, h5.read_unread, h7.read_unread, h8.read_unread, View.ld_unit_zero (S := S512x2048) hz,
    View.ld_unit_zero (S := S2048x1024) hz, View.ld_unit_zero (S := S1024x2048) hz]

/-- The last point of a row block writes the sum with its own slice. -/
theorem last_out (c : Dev nD) (i : grid0.Coords)
    (arg2 : Memref sig .tc .vmem S512x2048 .f32) (h2 : arg2.IsWhole)
    (arg3 : Memref sig .tc .vmem S1x2048 .f32) (h3 : arg3.IsWhole)
    (arg4 : Memref sig .tc .vmem S2048x1024 .bf16) (h4 : arg4.IsWhole)
    (arg5 : Memref sig .tc .vmem S1024x2048 .bf16) (h5 : arg5.IsWhole)
    (arg6 : Memref sig .tc .vmem S512x2048 .f32) (h6 : arg6.IsWhole)
    (arg7 : Memref sig .tc .vmem S512x2048 .bf16) (h7 : arg7.IsWhole)
    (arg8 : Memref sig .tc .vmem S512x2048 .f32) (h8 : arg8.IsWhole)
    (hc0 : ¬cond0_0 i) (hc1 : ¬cond0_1 i) (hc2 : cond0_2 i) (x : Vec Ideal S512x2048 .f32) (g : Vec Ideal S1x2048 .f32)
    (w1 : Vec Ideal S2048x1024 .bf16) (w2 : Vec Ideal S1024x2048 .bf16) (hn : Vec Ideal S512x2048 .bf16) (acc : Vec Ideal S512x2048 .f32) :
    out0_C_4 c i arg2 h2 arg3 h3 arg4 h4 arg5 h5 arg6 h6 arg7 h7 arg8 h8 hc0 hc1 hc2 x g w1 w2 hn acc = k0_pay5 hn w1 acc w2 := by
  unfold out0_C_4
  rw [View.read_writes_junk_eq_canon]
  unfold kernelRun0_C
  dsimp only
  rw [View.canon_unit_zero hz]
  simp only [View.readAt_eq_ld, h4.read_unread, h5.read_unread, h7.read_unread, h8.read_unread, View.ld_unit_zero (S := S512x2048) hz,
    View.ld_unit_zero (S := S2048x1024) hz, View.ld_unit_zero (S := S1024x2048) hz]

end Cert.Ffn

end
-- ==== Proof.Dense.lean ====
/-
  The normalised row that the projections and the feed-forward layer multiply by their weights.
-/
module

public import Idealize.ShloMosaic.Lib.Pointwise

@[expose] public section

noncomputable section

namespace Cert.Dense

open Idealize.ShloMosaic

/-- A row over the root of its mean square, times a gain. -/
def nrow (x g : Fin 2048 → EReal) (d : Fin 2048) : EReal :=
  x d * Ideal.rsqrt (Ideal.div (∑ e, x e * x e) (Ideal.ofBits .f32 0x45000000#32) + Ideal.ofBits .f32 0x358637BD#32) * g d

end Cert.Dense

end
-- ==== Proof.Mlp.Read.lean ====
/-
  The feed-forward kernel's values read entry by entry at the ideal instance.
-/
module

public import proofs.«01_k».proof.Proof.Gen.MlpIdeal.Skeleton
public import proofs.«01_k».proof.Proof.Dense
public import Idealize.ShloMosaic.Lib.Pointwise

@[expose] public section

set_option maxRecDepth 16384

noncomputable section

namespace Cert.Ffn

open Cert.MlpIdeal Cert.MlpIdeal.Gen Idealize.ShloMosaic Idealize.ShloMosaic.TcCoe
open Idealize.ShloMosaic.Pointwise Cert.Dense

/-- The activation: the square of the positive part. -/
def act (z : EReal) : EReal := max z 0 * max z 0

/-- The rows, normalised. -/
theorem rows_apply (x : Vec Ideal S512x2048 .f32) (g : Vec Ideal S1x2048 .f32) (r : Fin 512) (d : Fin 2048) :
    k0_pay2 x g (ix2 r d) = nrow (fun e => x (ix2 r e)) (fun e => g (ix2 0 e)) d := by
  pointwise [k0_pay2, k0_pay1]
  rfl

/-- The rows as the running sum starts. -/
theorem start_apply (x : Vec Ideal S512x2048 .f32) (r : Fin 512) (d : Fin 2048) : k0_pay3 x (ix2 r d) = x (ix2 r d) := by
  pointwise [k0_pay3, k0_pay1]

/-- One slice of the hidden layer added to the running sum. -/
theorem add_apply (hn : Vec Ideal S512x2048 .bf16) (w1 : Vec Ideal S2048x1024 .bf16) (acc : Vec Ideal S512x2048 .f32)
    (w2 : Vec Ideal S1024x2048 .bf16) (r : Fin 512) (c : Fin 2048) :
    k0_pay4 hn w1 acc w2 (ix2 r c)
      = acc (ix2 r c) + ∑ k : Fin 1024, act (∑ d : Fin 2048, hn (ix2 r d) * w1 (ix2 d k)) * w2 (ix2 k c) := by
  pointwise [k0_pay4]
  rfl

/-- One slice of the hidden layer added as the sum is written out. -/
theorem out_apply (hn : Vec Ideal S512x2048 .bf16) (w1 : Vec Ideal S2048x1024 .bf16) (acc : Vec Ideal S512x2048 .f32)
    (w2 : Vec Ideal S1024x2048 .bf16) (r : Fin 512) (c : Fin 2048) :
    k0_pay5 hn w1 acc w2 (ix2 r c)
      = acc (ix2 r c) + ∑ k : Fin 1024, act (∑ d : Fin 2048, hn (ix2 r d) * w1 (ix2 d k)) * w2 (ix2 k c) := by
  pointwise [k0_pay5]
  rfl

end Cert.Ffn

end
-- ==== Proof.Mlp.Array.lean ====
/-
  The array after the feed-forward kernel's run: grid point `(i, j)` adds the `j`-th slice of the hidden layer to row block
  `i`, so that after the last slice each entry is the row's entry plus the whole hidden layer times the second weights.
-/
module

public import proofs.«01_k».proof.Proof.Mlp.Cases
public import proofs.«01_k».proof.Proof.Mlp.Read

@[expose] public section

set_option maxRecDepth 16384

noncomputable section

namespace Cert.Ffn

open Cert.MlpIdeal Cert.MlpIdeal.Gen Cert.MlpIdeal.Value Idealize.ShloMosaic Idealize.ShloMosaic.TcCoe Idealize.SL.Sem
open Idealize.ShloMosaic.Pointwise Cert.Dense

/-- What the layer computes: the rows, the gain and the two weights. -/
structure Data where
  x : Fin 32768 → Fin 2048 → EReal
  g : Fin 2048 → EReal
  w1 : Fin 2048 → Fin 8192 → EReal
  w2 : Fin 8192 → Fin 2048 → EReal

namespace Data
variable (D : Data)

/-- What hidden unit `k` adds to column `c` of row `r`. -/
def term (r : Fin 32768) (c : Fin 2048) (k : Fin 8192) : EReal :=
  act (∑ d, nrow (D.x r) D.g d * D.w1 d k) * D.w2 k c

/-- The same with the unit a plain number. -/
def termN (r : Fin 32768) (c : Fin 2048) (k : ℕ) : EReal := if h : k < 8192 then D.term r c ⟨k, h⟩ else 0

/-- Row `r`, column `c` of the result. -/
def out (r : Fin 32768) (c : Fin 2048) : EReal := D.x r c + ∑ k, D.term r c k

/-- The sum over the first `n` hidden units. -/
def part (r : Fin 32768) (c : Fin 2048) (n : ℕ) : EReal := ∑ k ∈ Finset.range n, D.termN r c k

theorem part_all (r : Fin 32768) (c : Fin 2048) : D.part r c 8192 = ∑ k, D.term r c k := by
  unfold part
  rw [← Fin.sum_univ_eq_sum_range]
  exact Finset.sum_congr rfl fun k _ => dif_pos k.isLt

/-- One more slice of hidden units. -/
theorem part_slice (r : Fin 32768) (c : Fin 2048) (j : ℕ) (hj : j < 8) :
    D.part r c (1024 * (j + 1))
      = D.part r c (1024 * j) + ∑ k : Fin 1024, D.term r c ⟨1024 * j + k.val, by omega⟩ := by
  unfold part
  rw [show 1024 * (j + 1) = 1024 * j + 1024 from by omega, Finset.sum_range_add]
  refine congrArg _ ?_
  rw [← Fin.sum_univ_eq_sum_range (fun k => D.termN r c (1024 * j + k))]
  exact Finset.sum_congr rfl fun k _ => dif_pos (by omega)

/-- The array of the results. -/
def arr : Vec Ideal S32768x2048 .f32 := fun y => D.out (y 0) (y 1)

end Data

/-! ## The blocks of each window -/

theorem index0 : ∀ t : Fin grid0.N, win0_0.index t (0 : Fin 2) = t.val / 8 ∧ win0_0.index t (1 : Fin 2) = 0 := by decide +kernel
theorem index1 : ∀ t : Fin grid0.N, win0_1.index t (0 : Fin 2) = 0 ∧ win0_1.index t (1 : Fin 2) = 0 := by decide +kernel
theorem index2 : ∀ t : Fin grid0.N, win0_2.index t (0 : Fin 2) = 0 ∧ win0_2.index t (1 : Fin 2) = t.val % 8 := by decide +kernel
theorem index3 : ∀ t : Fin grid0.N, win0_3.index t (0 : Fin 2) = t.val % 8 ∧ win0_3.index t (1 : Fin 2) = 0 := by decide +kernel
theorem index4 : ∀ t : Fin grid0.N, win0_4.index t (0 : Fin 2) = t.val / 8 ∧ win0_4.index t (1 : Fin 2) = 0 := by decide +kernel

/-- Row `r` of the row block of point `n`. -/
def row (n : ℕ) (h : n < 512) (r : Fin 512) : Fin 32768 := ⟨512 * (n / 8) + r.val, by omega⟩

/-- Hidden unit `k` of the slice of point `n`. -/
def unit (n : ℕ) (k : Fin 1024) : Fin 8192 := ⟨1024 * (n % 8) + k.val, by omega⟩

theorem emb0 (t : Fin cfg0.N) (r : Fin 512) (d : Fin 2048) :
    ((cfg0.win 0).blk t).view.emb (ix2 r d) = ix2 (row t.val t.isLt r) d := by
  obtain ⟨e0, e1⟩ := index0 t
  funext x
  refine Fin.ext ?_
  match x with
  | ⟨0, _⟩ => show win0_0.index t (0 : Fin 2) * 512 + 1 * r.val = 512 * (t.val / 8) + r.val; omega
  | ⟨1, _⟩ => show win0_0.index t (1 : Fin 2) * 2048 + 1 * d.val = d.val; omega

theorem emb1 (t : Fin cfg0.N) (u : Fin 1) (d : Fin 2048) :
    ((cfg0.win 1).blk t).view.emb (ix2 u d) = ix2 (n0 := 1) (n1 := 2048) 0 d := by
  obtain ⟨e0, e1⟩ := index1 t
  funext x
  refine Fin.ext ?_
  match x with
  | ⟨0, _⟩ => show win0_1.index t (0 : Fin 2) * 1 + 1 * u.val = 0; omega
  | ⟨1, _⟩ => show win0_1.index t (1 : Fin 2) * 2048 + 1 * d.val = d.val; omega

theorem emb2 (t : Fin cfg0.N) (d : Fin 2048) (k : Fin 1024) :
    ((cfg0.win 2).blk t).view.emb (ix2 d k) = ix2 d (unit t.val k) := by
  obtain ⟨e0, e1⟩ := index2 t
  funext x
  refine Fin.ext ?_
  match x with
  | ⟨0, _⟩ => show win0_2.index t (0 : Fin 2) * 2048 + 1 * d.val = d.val; omega
  | ⟨1, _⟩ => show win0_2.index t (1 : Fin 2) * 1024 + 1 * k.val = 1024 * (t.val % 8) + k.val; omega

theorem emb3 (t : Fin cfg0.N) (k : Fin 1024) (z : Fin 2048) :
    ((cfg0.win 3).blk t).view.emb (ix2 k z) = ix2 (unit t.val k) z := by
  obtain ⟨e0, e1⟩ := index3 t
  funext x
  refine Fin.ext ?_
  match x with
  | ⟨0, _⟩ => show win0_3.index t (0 : Fin 2) * 1024 + 1 * k.val = 1024 * (t.val % 8) + k.val; omega
  | ⟨1, _⟩ => show win0_3.index t (1 : Fin 2) * 2048 + 1 * z.val = z.val; omega

theorem emb4 (t : Fin cfg0.N) (r : Fin 512) (d : Fin 2048) :
    ((cfg0.win 4).blk t).view.emb (ix2 r d) = ix2 (row t.val t.isLt r) d := by
  obtain ⟨e0, e1⟩ := index4 t
  funext x
  refine Fin.ext ?_
  match x with
  | ⟨0, _⟩ => show win0_4.index t (0 : Fin 2) * 512 + 1 * r.val = 512 * (t.val / 8) + r.val; omega
  | ⟨1, _⟩ => show win0_4.index t (1 : Fin 2) * 2048 + 1 * d.val = d.val; omega

/-! ## The arguments as the region finds them -/

variable (m : (ℓ : Loc nD τ sig) → Buf (Elt Ideal) ℓ)

/-- The data of a core's arguments. -/
def data (c : Dev nD) : Data where
  x r e := m (c, Proc.devRef .tc main_arg0) (ix3 (n0 := 16) (n1 := 2048) (n2 := 2048) ⟨r.val / 2048, by omega⟩ ⟨r.val % 2048, by omega⟩ e)
  g e := m (c, Proc.devRef .tc main_arg1) (ix1 (n0 := 2048) e)
  w1 d k := m (c, Proc.devRef .tc main_arg2) (ix2 (n0 := 2048) (n1 := 8192) d k)
  w2 k z := m (c, Proc.devRef .tc main_arg3) (ix2 (n0 := 8192) (n1 := 2048) k z)

theorem host_x (c : Dev nD) (r : Fin 32768) (e : Fin 2048) :
    V m c main_v0 (ix2 (n0 := 32768) (n1 := 2048) r e) = (data m c).x r e := by
  unfold V hostOps0
  after_results_simp
  pointwise []
  rfl

theorem host_g (c : Dev nD) (e : Fin 2048) : V m c main_v1 (ix2 (n0 := 1) (n1 := 2048) 0 e) = (data m c).g e := by
  unfold V hostOps0
  after_results_simp
  pointwise []
  rfl

theorem blk_x (c : Dev nD) (t : Fin cfg0.N) (r : Fin 512) (e : Fin 2048) :
    iblk m c 0 t (ix2 r e) = (data m c).x (row t.val t.isLt r) e := by
  show V m c main_v0 (((cfg0.win 0).blk t).view.emb (ix2 r e)) = _
  rw [emb0, host_x]

theorem blk_g (c : Dev nD) (t : Fin cfg0.N) (e : Fin 2048) : iblk m c 1 t (ix2 (n0 := 1) (n1 := 2048) 0 e) = (data m c).g e := by
  show V m c main_v1 (((cfg0.win 1).blk t).view.emb (ix2 0 e)) = _
  rw [emb1, host_g]

theorem blk_w1 (c : Dev nD) (t : Fin cfg0.N) (d : Fin 2048) (k : Fin 1024) :
    iblk m c 2 t (ix2 d k) = (data m c).w1 d (unit t.val k) := by
  show V m c main_arg2 (((cfg0.win 2).blk t).view.emb (ix2 d k)) = _
  rw [emb2, V_main_arg2]
  rfl

theorem blk_w2 (c : Dev nD) (t : Fin cfg0.N) (k : Fin 1024) (z : Fin 2048) :
    iblk m c 3 t (ix2 k z) = (data m c).w2 (unit t.val k) z := by
  show V m c main_arg3 (((cfg0.win 3).blk t).view.emb (ix2 k z)) = _
  rw [emb3, V_main_arg3]
  rfl

/-! ## What each point leaves -/

variable {m}

/-- The normalised rows of a point's row block. -/
theorem rows_eq (c : Dev nD) (t : Fin cfg0.N) (r : Fin 512) (d : Fin 2048) :
    k0_pay2 (F := Ideal) (iblk m c 0 t) (iblk m c 1 t) (ix2 r d) = nrow ((data m c).x (row t.val t.isLt r)) (data m c).g d := by
  refine (rows_apply (iblk m c 0 t) (iblk m c 1 t) r d).trans ?_
  exact congrArg₂ (fun u v => nrow u v d) (funext fun e => blk_x m c t r e) (funext fun e => blk_g m c t e)

/-- The slice that a point adds. -/
theorem slice_eq (c : Dev nD) (t : Fin cfg0.N) (hn : Vec Ideal S512x2048 .bf16) (r : Fin 512) (z : Fin 2048)
    (h : ∀ d, hn (ix2 r d) = nrow ((data m c).x (row t.val t.isLt r)) (data m c).g d) :
    ∑ k : Fin 1024, act (∑ d : Fin 2048, hn (ix2 r d) * iblk m c 2 t (ix2 d k)) * iblk m c 3 t (ix2 k z)
      = ∑ k : Fin 1024, (data m c).term (row t.val t.isLt r) z (unit t.val k) := by
  refine Finset.sum_congr rfl fun k _ => ?_
  rw [blk_w2]
  unfold Data.term
  refine congrArg (fun s => act s * (data m c).w2 (unit t.val k) z) (Finset.sum_congr rfl fun d _ => ?_)
  rw [h, blk_w1]

/-- A row block's rows do not change from one of its points to the next. -/
theorem row_pred (n : ℕ) (h : n + 1 < 512) (h0 : ¬(n + 1) % 8 = 0) (r : Fin 512) :
    row n (by omega) r = row (n + 1) h r := by
  refine Fin.ext ?_
  show 512 * (n / 8) + r.val = 512 * ((n + 1) / 8) + r.val
  omega

/-- The sum so far and a point's slice. -/
theorem add_slice (D : Data) (n : ℕ) (R : Fin 32768) (z : Fin 2048) (a : EReal) :
    (a + D.part R z (1024 * (n % 8))) + ∑ k : Fin 1024, D.term R z (unit n k) = a + D.part R z (1024 * (n % 8 + 1)) := by
  rw [D.part_slice R z (n % 8) (Nat.mod_lt _ (by omega)), add_assoc]
  rfl

/-- A point's sum, over rows and a sum that are right so far. -/
theorem sum_step (c : Dev nD) (t : Fin cfg0.N) (hn : Vec Ideal S512x2048 .bf16) (acc : Vec Ideal S512x2048 .f32) (r : Fin 512)
    (z : Fin 2048) (a : EReal) (h : ∀ d, hn (ix2 r d) = nrow ((data m c).x (row t.val t.isLt r)) (data m c).g d)
    (ha : acc (ix2 r z) = a + (data m c).part (row t.val t.isLt r) z (1024 * (t.val % 8))) :
    acc (ix2 r z) + ∑ k : Fin 1024, act (∑ d : Fin 2048, hn (ix2 r d) * iblk m c 2 t (ix2 d k)) * iblk m c 3 t (ix2 k z)
      = a + (data m c).part (row t.val t.isLt r) z (1024 * (t.val % 8 + 1)) := by
  rw [slice_eq c t hn r z h, ha, add_slice]

/-- The sum before the first slice. -/
theorem part_zero (D : Data) (R : Fin 32768) (z : Fin 2048) : D.part R z (1024 * 0) = 0 := by
  unfold Data.part
  rw [Nat.mul_zero, Finset.range_zero, Finset.sum_empty]

/-- What a point leaves, given what the point before left. -/
def Good (c : Dev nD) (n : ℕ) (h : n < cfg0.N) : Prop :=
  (∀ r d, (outsAt0 (F := Ideal) m c n h).2.1 (ix2 r d) = nrow ((data m c).x (row n h r)) (data m c).g d)
    ∧ (n % 8 ≤ 6 → ∀ r z, (outsAt0 (F := Ideal) m c n h).2.2 (ix2 r z)
      = (data m c).x (row n h r) z + (data m c).part (row n h r) z (1024 * (n % 8 + 1)))

/-- The first point of a row block. -/
theorem state_first (c : Dev nD) (t : Fin cfg0.N) (h0 : t.val % 8 = 0) : Good (m := m) c t.val t.isLt := by
  unfold Good
  rw [outsAt0_A m c t h0 (by omega) (by omega)]
  dsimp only
  rw [first_rows, first_sum]
  refine ⟨fun r d => rows_eq c t r d, fun _ r z => ?_⟩
  refine (add_apply _ (iblk m c 2 t) _ (iblk m c 3 t) r z).trans ?_
  refine sum_step c t _ _ r z _ (fun d => rows_eq c t r d) ?_
  rw [h0, part_zero, add_zero, start_apply, blk_x]

/-- After point `n` the scratch holds the normalised rows and, before the last slice, the sum so far. -/
theorem state (c : Dev nD) : ∀ (n : ℕ) (h : n < cfg0.N), Good (m := m) c n h := by
  intro n
  induction n with
  | zero => exact fun h => state_first c ⟨0, h⟩ rfl
  | succ n ih =>
    intro h
    by_cases h0 : (n + 1) % 8 = 0
    · exact state_first c ⟨n + 1, h⟩ h0
    obtain ⟨hr, hs⟩ := ih (by omega)
    have hr' : ∀ r d, (outsAt0 (F := Ideal) m c n (by omega)).2.1 (ix2 r d)
        = nrow ((data m c).x (row (n + 1) h r)) (data m c).g d := fun r d => by
      rw [hr, row_pred n h h0]
    unfold Good
    by_cases h1 : (n + 1) % 8 ≤ 6
    · have h2 : ¬(n + 1) % 8 = 7 := by omega
      rw [outsAt0_B m c ⟨n + 1, h⟩ h0 h1 h2]
      dsimp only
      rw [mid_sum]
      refine ⟨fun r d => hr' r d, fun _ r z => ?_⟩
      refine (add_apply _ (iblk m c 2 ⟨n + 1, h⟩) _ (iblk m c 3 ⟨n + 1, h⟩) r z).trans ?_
      refine sum_step c ⟨n + 1, h⟩ _ _ r z _ (fun d => hr' r d) ?_
      refine (hs (by omega) r z).trans ?_
      rw [row_pred n h h0, show n % 8 + 1 = (n + 1) % 8 from by omega]
    · have h2 : (n + 1) % 8 = 7 := by omega
      rw [outsAt0_C m c ⟨n + 1, h⟩ h0 h1 h2]
      exact ⟨fun r d => hr' r d, fun h => absurd h h1⟩

/-- The last point of a row block writes the rows' results. -/
theorem point_apply (c : Dev nD) (t : Fin cfg0.N) (ht : t.val % 8 = 7) (r : Fin 512) (z : Fin 2048) :
    (dats m 0 c).flushed 4 t (ix2 r z) = (data m c).out (row t.val t.isLt r) z := by
  obtain ⟨n, h⟩ := t
  obtain ⟨n, rfl⟩ : ∃ k, n = k + 1 := ⟨n - 1, by dsimp only at ht; omega⟩
  dsimp only at ht ⊢
  obtain ⟨hr, hs⟩ := state (m := m) c n (by omega)
  rw [flushed4_C m c ⟨n + 1, h⟩ (by dsimp only; omega) (by dsimp only; omega) ht, last_out]
  refine (out_apply _ (iblk m c 2 ⟨n + 1, h⟩) _ (iblk m c 3 ⟨n + 1, h⟩) r z).trans ?_
  refine (sum_step c ⟨n + 1, h⟩ _ _ r z ((data m c).x (row (n + 1) h r) z)
    (fun d => (hr r d).trans (by rw [row_pred n h (by omega)])) ((hs (by omega) r z).trans ?_)).trans ?_
  · rw [row_pred n h (by omega), show n % 8 + 1 = (n + 1) % 8 from by omega]
  · dsimp only
    rw [ht, Data.out, ← Data.part_all]

/-- The array after the run. -/
theorem array_eq (c : Dev nD) : (dats m 0 c).arrAt 4 cfg0.N = (data m c).arr := by
  refine (dats m 0 c).arrAt_eq_of_cover 4 (data m c).arr (fun t ht => ?_) (fun y => ?_)
  · funext y
    obtain ⟨r, z, rfl⟩ : ∃ (r : Fin 512) (z : Fin 2048), y = ix2 r z := ⟨y 0, y 1, eq_ix2 y⟩
    refine (point_apply c t ((flush0_4 t).mp ht) r z).trans ?_
    show _ = (data m c).arr (((cfg0.win 4).blk t).view.emb (ix2 r z))
    rw [emb4]
    rfl
  · obtain ⟨R, z, rfl⟩ : ∃ (R : Fin 32768) (z : Fin 2048), y = ix2 R z := ⟨y 0, y 1, eq_ix2 y⟩
    have hN : 8 * (R.val / 512) + 7 < cfg0.N := by
      show _ < 512
      omega
    refine ⟨⟨8 * (R.val / 512) + 7, hN⟩, (flush0_4 _).mpr (by dsimp only; omega), ?_⟩
    have h := ((cfg0.win 4).blk ⟨8 * (R.val / 512) + 7, hN⟩).view.emb_mem_set
      (ix2 (⟨R.val % 512, Nat.mod_lt _ (by omega)⟩ : Fin 512) z)
    rw [emb4] at h
    have e : row (8 * (R.val / 512) + 7) hN ⟨R.val % 512, Nat.mod_lt _ (by omega)⟩ = R := by
      refine Fin.ext ?_
      show 512 * ((8 * (R.val / 512) + 7) / 8) + R.val % 512 = R.val
      omega
    dsimp only at h
    rwa [e] at h

end Cert.Ffn

end
-- ==== Proof.Mlp.Ref.lean ====
/-
  The feed-forward reference read entry by entry: each entry is the row's entry plus the hidden layer times the second
  weights.
-/
module

public import proofs.«01_k».proof.Proof.Gen.MlpRefIdeal.Run
public import proofs.«01_k».proof.Proof.Mlp.Read

@[expose] public section

set_option maxRecDepth 16384

noncomputable section

namespace Cert.Ffn.Ref

open Cert.MlpRefIdeal Cert.MlpRefIdeal.Gen Idealize.ShloMosaic Idealize.ShloMosaic.TcCoe Idealize.SL.Sem
open Idealize.ShloMosaic.Pointwise Cert.Dense

/-- The normalised rows. -/
def rows (x : Vec Ideal S16x2048x2048 .f32) (g : Vec Ideal S2048 .f32) : FVec Ideal S16x2048x2048 .f32 :=
  mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 g))

theorem rows_apply (x : Vec Ideal S16x2048x2048 .f32) (g : Vec Ideal S2048 .f32) (b : Fin 16) (p d : Fin 2048) :
    rows x g (ix3 b p d) = nrow (fun e => x (ix3 b p e)) (fun e => g (ix1 e)) d := by
  pointwise [rows]
  rfl

/-- The hidden layer. -/
def hidden (n : FVec Ideal S16x2048x2048 .f32) (w1 : Vec Ideal S2048x8192 .bf16) : FVec Ideal S16x2048x8192 .f32 :=
  mulf (maximumf (Host.dotGeneral dot_S16x2048x2048_S2048x8192_S16x2048x8192_2_0_01_1_n_n none n (extf .f32 w1 bitsLt_bf16_f32)) (broadcastInDim S16x2048x8192 ![] bcast_S_S16x2048x8192 (constant S_ .f32 0x00000000#32))) (maximumf (Host.dotGeneral dot_S16x2048x2048_S2048x8192_S16x2048x8192_2_0_01_1_n_n none n (extf .f32 w1 bitsLt_bf16_f32)) (broadcastInDim S16x2048x8192 ![] bcast_S_S16x2048x8192 (constant S_ .f32 0x00000000#32)))

theorem hidden_apply (n : FVec Ideal S16x2048x2048 .f32) (w1 : Vec Ideal S2048x8192 .bf16) (b : Fin 16) (p : Fin 2048) (k : Fin 8192) :
    hidden n w1 (ix3 b p k) = act (∑ d : Fin 2048, n (ix3 b p d) * w1 (ix2 d k)) := by
  pointwise [hidden]
  rfl

/-- The layer over the hidden layer. -/
def layer (x : Vec Ideal S16x2048x2048 .f32) (h : FVec Ideal S16x2048x8192 .f32) (w2 : Vec Ideal S8192x2048 .bf16) : FVec Ideal S32768x2048 .f32 :=
  shapeCast _ (addf x (Host.dotGeneral dot_S16x2048x8192_S8192x2048_S16x2048x2048_2_0_01_1_n_n none h (extf .f32 w2 bitsLt_bf16_f32))) shapeCasts_S16x2048x2048_S32768x2048

theorem layer_apply (x : Vec Ideal S16x2048x2048 .f32) (h : FVec Ideal S16x2048x8192 .f32) (w2 : Vec Ideal S8192x2048 .bf16)
    (R : Fin 32768) (z : Fin 2048) :
    layer x h w2 (ix2 R z) = x (ix3 (⟨R.val / 2048, by omega⟩ : Fin 16) (⟨R.val % 2048, by omega⟩ : Fin 2048) z)
      + ∑ k : Fin 8192, h (ix3 (⟨R.val / 2048, by omega⟩ : Fin 16) (⟨R.val % 2048, by omega⟩ : Fin 2048) k) * w2 (ix2 k z) := by
  pointwise [layer]

/-- The reference's result. -/
def result (x : Vec Ideal S16x2048x2048 .f32) (g : Vec Ideal S2048 .f32) (w1 : Vec Ideal S2048x8192 .bf16)
    (w2 : Vec Ideal S8192x2048 .bf16) : FVec Ideal S32768x2048 .f32 := layer x (hidden (rows x g) w1) w2

end Cert.Ffn.Ref

end
-- ==== Proof.Mlp.Claims.lean ====
/-
  The claims of the feed-forward layer.
-/
module

public import proofs.«01_k».proof.Defs
public import proofs.«01_k».proof.Proof.Gen.Mlp
public import proofs.«01_k».proof.Proof.Gen.MlpIdeal
public import proofs.«01_k».proof.Proof.Gen.MlpRefIdeal
public import proofs.«01_k».proof.Proof.Mlp.Array
public import proofs.«01_k».proof.Proof.Mlp.Ref
public import Idealize.ShloMosaic.Lib.Claim
public import Idealize.ShloMosaic.Lib.Quiescent

@[expose] public section

set_option maxRecDepth 16384

noncomputable section

namespace Cert.Ffn

open Idealize.ShloMosaic Idealize.ShloMosaic.TcCoe Idealize.SL.Sem
open Idealize.ShloMosaic.Pointwise

attribute [local instance] Cert.Mlp.Gen.facts Cert.MlpIdeal.Gen.facts Cert.MlpRefIdeal.Gen.facts

/-- The reference runs, keeps its arguments, and leaves every semaphore at zero. -/
theorem ref_frame : Cert.quiescent_MlpRefIdeal := fun m ρ _ =>
  (θ_run Cert.MlpRefIdeal.defs _ _).mono
    (fun r h => ⟨fun c => (h c).2, Idealize.ShloMosaic.sem_eq_zero_of_no_sems (by decide) r.2⟩)
    (Cert.MlpRefIdeal.Value.run (F := Ideal) m ρ)

/-- Nothing is rewritten. -/
theorem preserves : Cert.preserves_Mlp_MlpIdeal := trivial

open Cert.MlpIdeal in
/-- The reference's result on arguments that agree with the kernel's. -/
theorem result_eq (m : (ℓ : Loc Cert.MlpIdeal.nD Cert.MlpIdeal.τ Cert.MlpIdeal.sig) → Buf (Elt Ideal) ℓ) (c : Dev Cert.MlpIdeal.nD)
    (x : Vec Ideal Cert.MlpRefIdeal.S16x2048x2048 .f32) (g : Vec Ideal Cert.MlpRefIdeal.S2048 .f32)
    (w1 : Vec Ideal Cert.MlpRefIdeal.S2048x8192 .bf16) (w2 : Vec Ideal Cert.MlpRefIdeal.S8192x2048 .bf16)
    (hx : x = m (c, Proc.devRef .tc main_arg0)) (hg : g = m (c, Proc.devRef .tc main_arg1))
    (h1 : w1 = m (c, Proc.devRef .tc main_arg2)) (h2 : w2 = m (c, Proc.devRef .tc main_arg3)) :
    Ref.result x g w1 w2 = (data m c).arr := by
  subst hx hg h1 h2
  funext y
  obtain ⟨R, z, rfl⟩ : ∃ (R : Fin 32768) (z : Fin 2048), y = ix2 R z := ⟨y 0, y 1, eq_ix2 y⟩
  refine (Ref.layer_apply _ _ _ R z).trans ?_
  show _ = (data m c).x R z + ∑ k, (data m c).term R z k
  refine congrArg (fun s : EReal => (data m c).x R z + s) (Finset.sum_congr rfl fun k _ => ?_)
  rw [Ref.hidden_apply]
  simp only [Ref.rows_apply]
  rfl

/-- Over the extended reals the kernel's result is the reference's, entry by entry. -/
theorem algebraic : Cert.algebraic_MlpIdeal_MlpRefIdeal := by
  intro m ρ m' ρ' _ hagree
  refine ⟨fun c => (data m c).arr, ?_, ?_⟩
  · exact (θ_run Cert.MlpIdeal.defs _ _).mono (fun _ h c => ⟨(h c).1.trans (array_eq c), (h c).2⟩)
      (Cert.MlpIdeal.Value.run_blocks m ρ)
  · refine (θ_run Cert.MlpRefIdeal.defs _ _).mono (fun _ h c => ⟨(h c).1.trans ?_, (h c).2⟩)
      (Cert.MlpRefIdeal.Value.run (F := Ideal) m' ρ')
    exact result_eq m c _ _ _ _ (hagree c).1 (hagree c).2.1 (hagree c).2.2.1 (hagree c).2.2.2

end Cert.Ffn

end
-- ==== Proof.InEven.Array.lean ====
/-
  The even layer's input projection: what each grid point leaves, and the array after the run. The first point of a row
  block normalises the rows, and every point multiplies them by its columns of the weights.
-/
module

public import proofs.«01_k».proof.Proof.Gen.InEvenIdeal.Value
public import proofs.«01_k».proof.Proof.Dense
public import Idealize.ShloMosaic.Lib.Pipeline.Value
public import Idealize.ShloMosaic.Lib.Pointwise

@[expose] public section

set_option maxRecDepth 16384

noncomputable section

namespace Cert.ProjEven

open Cert.InEvenIdeal Cert.InEvenIdeal.Gen Cert.InEvenIdeal.Value Idealize.ShloMosaic Idealize.ShloMosaic.TcCoe Idealize.SL.Sem
open Idealize.ShloMosaic.Pointwise Cert.Dense

/-! ## The two kinds of point -/

theorem hz : (![0, 0] : Fin 2 → Nat) = fun _ => 0 := funext fun a => by fin_cases a <;> rfl

/-- The first point of a row block leaves the normalised rows. -/
theorem first_rows (c : Dev nD) (i : grid0.Coords)
    (arg2 : Memref sig .tc .vmem S1024x2048 .f32) (h2 : arg2.IsWhole)
    (arg3 : Memref sig .tc .vmem S1x2048 .f32) (h3 : arg3.IsWhole)
    (arg4 : Memref sig .tc .vmem S2048x1536 .bf16) (h4 : arg4.IsWhole)
    (arg5 : Memref sig .tc .vmem S1024x1536 .f32) (h5 : arg5.IsWhole)
    (arg6 : Memref sig .tc .vmem S1024x2048 .bf16) (h6 : arg6.IsWhole)
    (hc0 : cond0_0 i) (x : Vec Ideal S1024x2048 .f32) (g : Vec Ideal S1x2048 .f32) (w : Vec Ideal S2048x1536 .bf16) :
    sout0_A_0 c i arg2 h2 arg3 h3 arg4 h4 arg5 h5 arg6 h6 hc0 x g w = k0_pay1 x g := by
  unfold sout0_A_0
  rw [View.read_writes_junk_eq_canon]
  unfold kernelRun0_A
  dsimp only
  sl_unfold_words
  rw [View.canon_unit_zero hz]
  simp only [View.readAt_eq_ld, h2.read_unread, h3.read_unread, View.ld_unit_zero (S := S1024x2048) hz, View.ld_unit_zero (S := S1x2048) hz]

/-- The first point of a row block writes its columns. -/
theorem first_out (c : Dev nD) (i : grid0.Coords)
    (arg2 : Memref sig .tc .vmem S1024x2048 .f32) (h2 : arg2.IsWhole)
    (arg3 : Memref sig .tc .vmem S1x2048 .f32) (h3 : arg3.IsWhole)
    (arg4 : Memref sig .tc .vmem S2048x1536 .bf16) (h4 : arg4.IsWhole)
    (arg5 : Memref sig .tc .vmem S1024x1536 .f32) (h5 : arg5.IsWhole)
    (arg6 : Memref sig .tc .vmem S1024x2048 .bf16) (h6 : arg6.IsWhole)
    (hc0 : cond0_0 i) (x : Vec Ideal S1024x2048 .f32) (g : Vec Ideal S1x2048 .f32) (w : Vec Ideal S2048x1536 .bf16) :
    out0_A_3 c i arg2 h2 arg3 h3 arg4 h4 arg5 h5 arg6 h6 hc0 x g w = k0_pay2 (k0_pay1 x g) w := by
  unfold out0_A_3
  rw [View.read_writes_junk_eq_canon]
  unfold kernelRun0_A
  dsimp only
  sl_unfold_words
  rw [View.canon_unit_zero hz, View.readCov_unit_zero (S := S1024x2048) _ hz]
  simp only [View.readAt_eq_ld, h2.read_unread, h3.read_unread, h4.read_unread, View.ld_unit_zero (S := S1024x2048) hz,
    View.ld_unit_zero (S := S1x2048) hz, View.ld_unit_zero (S := S2048x1536) hz]

/-- A later point of a row block writes its columns. -/
theorem next_out (c : Dev nD) (i : grid0.Coords)
    (arg2 : Memref sig .tc .vmem S1024x2048 .f32) (h2 : arg2.IsWhole)
    (arg3 : Memref sig .tc .vmem S1x2048 .f32) (h3 : arg3.IsWhole)
    (arg4 : Memref sig .tc .vmem S2048x1536 .bf16) (h4 : arg4.IsWhole)
    (arg5 : Memref sig .tc .vmem S1024x1536 .f32) (h5 : arg5.IsWhole)
    (arg6 : Memref sig .tc .vmem S1024x2048 .bf16) (h6 : arg6.IsWhole)
    (hc0 : ¬cond0_0 i) (x : Vec Ideal S1024x2048 .f32) (g : Vec Ideal S1x2048 .f32) (w : Vec Ideal S2048x1536 .bf16)
    (hn : Vec Ideal S1024x2048 .bf16) :
    out0_B_3 c i arg2 h2 arg3 h3 arg4 h4 arg5 h5 arg6 h6 hc0 x g w hn = k0_pay2 hn w := by
  unfold out0_B_3
  rw [View.read_writes_junk_eq_canon]
  unfold kernelRun0_B
  dsimp only
  rw [View.canon_unit_zero hz]
  simp only [View.readAt_eq_ld, h4.read_unread, h6.read_unread, View.ld_unit_zero (S := S1024x2048) hz,
    View.ld_unit_zero (S := S2048x1536) hz]

/-- The rows, normalised. -/
theorem rows_apply (x : Vec Ideal S1024x2048 .f32) (g : Vec Ideal S1x2048 .f32) (r : Fin 1024) (d : Fin 2048) :
    k0_pay1 x g (ix2 r d) = nrow (fun e => x (ix2 r e)) (fun e => g (ix2 0 e)) d := by
  pointwise [k0_pay1]
  rfl

/-- Normalised rows times columns of the weights. -/
theorem out_apply (hn : Vec Ideal S1024x2048 .bf16) (w : Vec Ideal S2048x1536 .bf16) (r : Fin 1024) (z : Fin 1536) :
    k0_pay2 hn w (ix2 r z) = ∑ d : Fin 2048, hn (ix2 r d) * w (ix2 d z) := by
  pointwise [k0_pay2]

/-! ## The blocks of each window -/

/-- The projection's rows, gain and weights. -/
structure Data where
  x : Fin 32768 → Fin 2048 → EReal
  g : Fin 2048 → EReal
  w : Fin 2048 → Fin 6144 → EReal

/-- Row `r`, column `c` of the projection. -/
def Data.out (D : Data) (r : Fin 32768) (c : Fin 6144) : EReal := ∑ d, nrow (D.x r) D.g d * D.w d c

/-- The array of the results. -/
def Data.arr (D : Data) : Vec Ideal S32768x6144 .f32 := fun y => D.out (y 0) (y 1)

theorem index0 : ∀ t : Fin grid0.N, win0_0.index t (0 : Fin 2) = t.val / 4 ∧ win0_0.index t (1 : Fin 2) = 0 := by decide +kernel
theorem index1 : ∀ t : Fin grid0.N, win0_1.index t (0 : Fin 2) = 0 ∧ win0_1.index t (1 : Fin 2) = 0 := by decide +kernel
theorem index2 : ∀ t : Fin grid0.N, win0_2.index t (0 : Fin 2) = 0 ∧ win0_2.index t (1 : Fin 2) = t.val % 4 := by decide +kernel
theorem index3 : ∀ t : Fin grid0.N, win0_3.index t (0 : Fin 2) = t.val / 4 ∧ win0_3.index t (1 : Fin 2) = t.val % 4 := by decide +kernel

/-- Row `r` of the row block of point `n`. -/
def row (n : ℕ) (h : n < 128) (r : Fin 1024) : Fin 32768 := ⟨1024 * (n / 4) + r.val, by omega⟩

/-- Column `z` of the columns of point `n`. -/
def col (n : ℕ) (z : Fin 1536) : Fin 6144 := ⟨1536 * (n % 4) + z.val, by omega⟩

theorem emb0 (t : Fin cfg0.N) (r : Fin 1024) (d : Fin 2048) :
    ((cfg0.win 0).blk t).view.emb (ix2 r d) = ix2 (row t.val t.isLt r) d := by
  obtain ⟨e0, e1⟩ := index0 t
  funext x
  refine Fin.ext ?_
  match x with
  | ⟨0, _⟩ => show win0_0.index t (0 : Fin 2) * 1024 + 1 * r.val = 1024 * (t.val / 4) + r.val; omega
  | ⟨1, _⟩ => show win0_0.index t (1 : Fin 2) * 2048 + 1 * d.val = d.val; omega

theorem emb1 (t : Fin cfg0.N) (u : Fin 1) (d : Fin 2048) :
    ((cfg0.win 1).blk t).view.emb (ix2 u d) = ix2 (n0 := 1) (n1 := 2048) 0 d := by
  obtain ⟨e0, e1⟩ := index1 t
  funext x
  refine Fin.ext ?_
  match x with
  | ⟨0, _⟩ => show win0_1.index t (0 : Fin 2) * 1 + 1 * u.val = 0; omega
  | ⟨1, _⟩ => show win0_1.index t (1 : Fin 2) * 2048 + 1 * d.val = d.val; omega

theorem emb2 (t : Fin cfg0.N) (d : Fin 2048) (z : Fin 1536) :
    ((cfg0.win 2).blk t).view.emb (ix2 d z) = ix2 d (col t.val z) := by
  obtain ⟨e0, e1⟩ := index2 t
  funext x
  refine Fin.ext ?_
  match x with
  | ⟨0, _⟩ => show win0_2.index t (0 : Fin 2) * 2048 + 1 * d.val = d.val; omega
  | ⟨1, _⟩ => show win0_2.index t (1 : Fin 2) * 1536 + 1 * z.val = 1536 * (t.val % 4) + z.val; omega

theorem emb3 (t : Fin cfg0.N) (r : Fin 1024) (z : Fin 1536) :
    ((cfg0.win 3).blk t).view.emb (ix2 r z) = ix2 (row t.val t.isLt r) (col t.val z) := by
  obtain ⟨e0, e1⟩ := index3 t
  funext x
  refine Fin.ext ?_
  match x with
  | ⟨0, _⟩ => show win0_3.index t (0 : Fin 2) * 1024 + 1 * r.val = 1024 * (t.val / 4) + r.val; omega
  | ⟨1, _⟩ => show win0_3.index t (1 : Fin 2) * 1536 + 1 * z.val = 1536 * (t.val % 4) + z.val; omega

/-! ## The arguments as the region finds them -/

variable (m : (ℓ : Loc nD τ sig) → Buf (Elt Ideal) ℓ)

/-- The data of a core's arguments. -/
def data (c : Dev nD) : Data where
  x r e := m (c, Proc.devRef .tc main_arg0) (ix3 (n0 := 16) (n1 := 2048) (n2 := 2048) ⟨r.val / 2048, by omega⟩ ⟨r.val % 2048, by omega⟩ e)
  g e := m (c, Proc.devRef .tc main_arg1) (ix1 (n0 := 2048) e)
  w d k := m (c, Proc.devRef .tc main_arg2) (ix2 (n0 := 2048) (n1 := 6144) d k)

theorem host_x (c : Dev nD) (r : Fin 32768) (e : Fin 2048) :
    V m c main_v0 (ix2 (n0 := 32768) (n1 := 2048) r e) = (data m c).x r e := by
  unfold V hostOps0
  after_results_simp
  pointwise []
  rfl

theorem host_w (c : Dev nD) (d : Fin 2048) (k : Fin 6144) :
    V m c main_v1 (ix2 (n0 := 2048) (n1 := 6144) d k) = (data m c).w d k := by
  unfold V hostOps0
  after_results_simp
  pointwise []
  rfl

theorem host_g (c : Dev nD) (e : Fin 2048) : V m c main_v2 (ix2 (n0 := 1) (n1 := 2048) 0 e) = (data m c).g e := by
  unfold V hostOps0
  after_results_simp
  pointwise []
  rfl

theorem blk_x (c : Dev nD) (t : Fin cfg0.N) (r : Fin 1024) (e : Fin 2048) :
    iblk m c 0 t (ix2 r e) = (data m c).x (row t.val t.isLt r) e := by
  show V m c main_v0 (((cfg0.win 0).blk t).view.emb (ix2 r e)) = _
  rw [emb0, host_x]

theorem blk_g (c : Dev nD) (t : Fin cfg0.N) (e : Fin 2048) : iblk m c 1 t (ix2 (n0 := 1) (n1 := 2048) 0 e) = (data m c).g e := by
  show V m c main_v2 (((cfg0.win 1).blk t).view.emb (ix2 0 e)) = _
  rw [emb1, host_g]

theorem blk_w (c : Dev nD) (t : Fin cfg0.N) (d : Fin 2048) (z : Fin 1536) :
    iblk m c 2 t (ix2 d z) = (data m c).w d (col t.val z) := by
  show V m c main_v1 (((cfg0.win 2).blk t).view.emb (ix2 d z)) = _
  rw [emb2, host_w]

/-! ## What each point leaves -/

variable {m}

/-- The normalised rows of a point's row block. -/
theorem rows_eq (c : Dev nD) (t : Fin cfg0.N) (r : Fin 1024) (d : Fin 2048) :
    k0_pay1 (F := Ideal) (iblk m c 0 t) (iblk m c 1 t) (ix2 r d) = nrow ((data m c).x (row t.val t.isLt r)) (data m c).g d := by
  refine (rows_apply (iblk m c 0 t) (iblk m c 1 t) r d).trans ?_
  exact congrArg₂ (fun u v => nrow u v d) (funext fun e => blk_x m c t r e) (funext fun e => blk_g m c t e)

/-- A point's columns, over rows that are right. -/
theorem cols_eq (c : Dev nD) (t : Fin cfg0.N) (hn : Vec Ideal S1024x2048 .bf16) (r : Fin 1024) (z : Fin 1536)
    (h : ∀ d, hn (ix2 r d) = nrow ((data m c).x (row t.val t.isLt r)) (data m c).g d) :
    k0_pay2 (F := Ideal) hn (iblk m c 2 t) (ix2 r z) = (data m c).out (row t.val t.isLt r) (col t.val z) := by
  refine (out_apply hn (iblk m c 2 t) r z).trans (Finset.sum_congr rfl fun d _ => ?_)
  rw [h, blk_w]

/-- A row block's rows do not change from one of its points to the next. -/
theorem row_pred (n : ℕ) (h : n + 1 < 128) (h0 : ¬(n + 1) % 4 = 0) (r : Fin 1024) :
    row n (by omega) r = row (n + 1) h r := by
  refine Fin.ext ?_
  show 1024 * (n / 4) + r.val = 1024 * ((n + 1) / 4) + r.val
  omega

/-- After each point the scratch holds the normalised rows. -/
theorem state (c : Dev nD) : ∀ (n : ℕ) (h : n < cfg0.N) (r : Fin 1024) (d : Fin 2048),
    (outsAt0 (F := Ideal) m c n h).2 (ix2 r d) = nrow ((data m c).x (row n h r)) (data m c).g d := by
  have first : ∀ (t : Fin cfg0.N), t.val % 4 = 0 → ∀ (r : Fin 1024) (d : Fin 2048),
      (outsAt0 (F := Ideal) m c t.val t.isLt).2 (ix2 r d) = nrow ((data m c).x (row t.val t.isLt r)) (data m c).g d := by
    intro t h0 r d
    rw [outsAt0_A m c t h0]
    dsimp only
    rw [first_rows]
    exact rows_eq c t r d
  intro n
  induction n with
  | zero => exact fun h => first ⟨0, h⟩ rfl
  | succ n ih =>
    intro h r d
    by_cases h0 : (n + 1) % 4 = 0
    · exact first ⟨n + 1, h⟩ h0 r d
    have hr : (outsAt0 (F := Ideal) m c n (by omega)).2 (ix2 r d) = nrow ((data m c).x (row (n + 1) h r)) (data m c).g d := by
      rw [ih, row_pred n h h0]
    rw [outsAt0_B m c ⟨n + 1, h⟩ h0]
    exact hr

/-- A point writes its rows' projections at its columns. -/
theorem point_apply (c : Dev nD) (t : Fin cfg0.N) (r : Fin 1024) (z : Fin 1536) :
    (dats m 0 c).flushed 3 t (ix2 r z) = (data m c).out (row t.val t.isLt r) (col t.val z) := by
  by_cases h0 : t.val % 4 = 0
  · rw [flushed3_A m c t h0, first_out]
    exact cols_eq c t _ r z fun d => rows_eq c t r d
  · obtain ⟨n, h⟩ := t
    obtain ⟨n, rfl⟩ : ∃ k, n = k + 1 := ⟨n - 1, by dsimp only at h0; omega⟩
    rw [flushed3_B m c ⟨n + 1, h⟩ h0, next_out]
    refine cols_eq c ⟨n + 1, h⟩ _ r z fun d => (state (m := m) c n (by omega) r d).trans ?_
    rw [row_pred n h h0]

/-- The array after the run. -/
theorem array_eq (c : Dev nD) : (dats m 0 c).arrAt 3 cfg0.N = (data m c).arr := by
  refine (dats m 0 c).arrAt_eq_of_cover 3 (data m c).arr (fun t _ => ?_) (fun y => ?_)
  · funext y
    obtain ⟨r, z, rfl⟩ : ∃ (r : Fin 1024) (z : Fin 1536), y = ix2 r z := ⟨y 0, y 1, eq_ix2 y⟩
    refine (point_apply c t r z).trans ?_
    show _ = (data m c).arr (((cfg0.win 3).blk t).view.emb (ix2 r z))
    rw [emb3]
    rfl
  · obtain ⟨R, z, rfl⟩ : ∃ (R : Fin 32768) (z : Fin 6144), y = ix2 R z := ⟨y 0, y 1, eq_ix2 y⟩
    have hN : 4 * (R.val / 1024) + z.val / 1536 < cfg0.N := by
      show _ < 128
      omega
    refine ⟨⟨4 * (R.val / 1024) + z.val / 1536, hN⟩, flush0_3 _, ?_⟩
    have h := ((cfg0.win 3).blk ⟨4 * (R.val / 1024) + z.val / 1536, hN⟩).view.emb_mem_set
      (ix2 (⟨R.val % 1024, Nat.mod_lt _ (by omega)⟩ : Fin 1024) (⟨z.val % 1536, Nat.mod_lt _ (by omega)⟩ : Fin 1536))
    rw [emb3] at h
    have e : row (4 * (R.val / 1024) + z.val / 1536) hN ⟨R.val % 1024, Nat.mod_lt _ (by omega)⟩ = R := by
      refine Fin.ext ?_
      show 1024 * ((4 * (R.val / 1024) + z.val / 1536) / 4) + R.val % 1024 = R.val
      omega
    have e' : col (4 * (R.val / 1024) + z.val / 1536) ⟨z.val % 1536, Nat.mod_lt _ (by omega)⟩ = z := by
      refine Fin.ext ?_
      show 1536 * ((4 * (R.val / 1024) + z.val / 1536) % 4) + z.val % 1536 = z.val
      omega
    dsimp only at h
    rwa [e, e'] at h

end Cert.ProjEven

end
-- ==== Proof.InEven.Claims.lean ====
/-
  The claims of the even layer's input projection.
-/
module

public import proofs.«01_k».proof.Defs
public import proofs.«01_k».proof.Proof.Gen.InEven
public import proofs.«01_k».proof.Proof.Gen.InEvenIdeal
public import proofs.«01_k».proof.Proof.Gen.InEvenRefIdeal
public import proofs.«01_k».proof.Proof.Gen.InEvenRefIdeal.Run
public import proofs.«01_k».proof.Proof.InEven.Array
public import Idealize.ShloMosaic.Lib.Claim
public import Idealize.ShloMosaic.Lib.Quiescent

@[expose] public section

set_option maxRecDepth 16384

noncomputable section

namespace Cert.ProjEven.Ref

open Cert.InEvenRefIdeal Cert.InEvenRefIdeal.Gen Idealize.ShloMosaic Idealize.ShloMosaic.TcCoe Idealize.SL.Sem
open Idealize.ShloMosaic.Pointwise Cert.Dense

/-- The reference's normalised rows. -/
def rows (x : Vec Ideal S16x2048x2048 .f32) (g : Vec Ideal S2048 .f32) : FVec Ideal S16x2048x2048 .f32 :=
  mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 g))

theorem rows_apply (x : Vec Ideal S16x2048x2048 .f32) (g : Vec Ideal S2048 .f32) (b : Fin 16) (p d : Fin 2048) :
    rows x g (ix3 b p d) = nrow (fun e => x (ix3 b p e)) (fun e => g (ix1 e)) d := by
  pointwise [rows]
  rfl

/-- The reference's projection of normalised rows. -/
def proj (n : FVec Ideal S16x2048x2048 .f32) (w : FVec Ideal S2048x6144 .f32) : FVec Ideal S32768x6144 .f32 :=
  shapeCast _ (Host.dotGeneral dot_S16x2048x2048_S2048x6144_S16x2048x6144_2_0_01_1_n_n none n w) shapeCasts_S16x2048x6144_S32768x6144

theorem proj_apply (n : FVec Ideal S16x2048x2048 .f32) (w : FVec Ideal S2048x6144 .f32) (R : Fin 32768) (z : Fin 6144) :
    proj n w (ix2 R z)
      = ∑ d : Fin 2048, n (ix3 (⟨R.val / 2048, by omega⟩ : Fin 16) (⟨R.val % 2048, by omega⟩ : Fin 2048) d) * w (ix2 d z) := by
  pointwise [proj]

end Cert.ProjEven.Ref

namespace Cert.ProjEven

open Idealize.ShloMosaic Idealize.ShloMosaic.TcCoe Idealize.SL.Sem
open Idealize.ShloMosaic.Pointwise

attribute [local instance] Cert.InEven.Gen.facts Cert.InEvenIdeal.Gen.facts Cert.InEvenRefIdeal.Gen.facts

/-- The reference runs, keeps its arguments, and leaves every semaphore at zero. -/
theorem ref_frame : Cert.quiescent_InEvenRefIdeal := fun m ρ _ =>
  (θ_run Cert.InEvenRefIdeal.defs _ _).mono
    (fun r h => ⟨fun c => (h c).2, Idealize.ShloMosaic.sem_eq_zero_of_no_sems (by decide) r.2⟩)
    (Cert.InEvenRefIdeal.Value.run (F := Ideal) m ρ)

/-- Nothing is rewritten. -/
theorem preserves : Cert.preserves_InEven_InEvenIdeal := trivial

open Cert.InEvenIdeal in
/-- The reference's result on arguments that agree with the kernel's. -/
theorem result_eq (m : (ℓ : Loc Cert.InEvenIdeal.nD Cert.InEvenIdeal.τ Cert.InEvenIdeal.sig) → Buf (Elt Ideal) ℓ) (c : Dev Cert.InEvenIdeal.nD)
    (x : Vec Ideal Cert.InEvenRefIdeal.S16x2048x2048 .f32) (g : Vec Ideal Cert.InEvenRefIdeal.S2048 .f32)
    (w : Vec Ideal Cert.InEvenRefIdeal.S2048x6144 .f32)
    (hx : x = m (c, Proc.devRef .tc main_arg0)) (hg : g = m (c, Proc.devRef .tc main_arg1))
    (hw : w = m (c, Proc.devRef .tc main_arg2)) :
    Ref.proj (Ref.rows x g) w = (data m c).arr := by
  subst hx hg hw
  funext y
  obtain ⟨R, z, rfl⟩ : ∃ (R : Fin 32768) (z : Fin 6144), y = ix2 R z := ⟨y 0, y 1, eq_ix2 y⟩
  refine (Ref.proj_apply _ _ R z).trans ?_
  show _ = ∑ d, Dense.nrow ((data m c).x R) (data m c).g d * (data m c).w d z
  refine Finset.sum_congr rfl fun d _ => ?_
  rw [Ref.rows_apply]
  rfl

/-- Over the extended reals the kernel's result is the reference's, entry by entry. -/
theorem algebraic : Cert.algebraic_InEvenIdeal_InEvenRefIdeal := by
  intro m ρ m' ρ' _ hagree
  refine ⟨fun c => (data m c).arr, ?_, ?_⟩
  · exact (θ_run Cert.InEvenIdeal.defs _ _).mono (fun _ h c => ⟨(h c).1.trans (array_eq c), (h c).2⟩)
      (Cert.InEvenIdeal.Value.run_blocks m ρ)
  · refine (θ_run Cert.InEvenRefIdeal.defs _ _).mono (fun _ h c => ⟨(h c).1.trans ?_, (h c).2⟩)
      (Cert.InEvenRefIdeal.Value.run (F := Ideal) m' ρ')
    exact result_eq m c _ _ _ (hagree c).1 (hagree c).2.1 (hagree c).2.2

end Cert.ProjEven

end
-- ==== Proof.InOdd.Array.lean ====
/-
  The odd layer's input projection: what each grid point leaves, and the array after the run. The first point of a row
  block normalises the rows, and every point multiplies them by its columns of the weights.
-/
module

public import proofs.«01_k».proof.Proof.Gen.InOddIdeal.Value
public import proofs.«01_k».proof.Proof.Dense
public import Idealize.ShloMosaic.Lib.Pipeline.Value
public import Idealize.ShloMosaic.Lib.Pointwise

@[expose] public section

set_option maxRecDepth 16384

noncomputable section

namespace Cert.ProjOdd

open Cert.InOddIdeal Cert.InOddIdeal.Gen Cert.InOddIdeal.Value Idealize.ShloMosaic Idealize.ShloMosaic.TcCoe Idealize.SL.Sem
open Idealize.ShloMosaic.Pointwise Cert.Dense

/-! ## The two kinds of point -/

theorem hz : (![0, 0] : Fin 2 → Nat) = fun _ => 0 := funext fun a => by fin_cases a <;> rfl

/-- The first point of a row block leaves the normalised rows. -/
theorem first_rows (c : Dev nD) (i : grid0.Coords)
    (arg2 : Memref sig .tc .vmem S1024x2048 .f32) (h2 : arg2.IsWhole)
    (arg3 : Memref sig .tc .vmem S1x2048 .f32) (h3 : arg3.IsWhole)
    (arg4 : Memref sig .tc .vmem S2048x1664 .bf16) (h4 : arg4.IsWhole)
    (arg5 : Memref sig .tc .vmem S1024x1664 .f32) (h5 : arg5.IsWhole)
    (arg6 : Memref sig .tc .vmem S1024x2048 .bf16) (h6 : arg6.IsWhole)
    (hc0 : cond0_0 i) (x : Vec Ideal S1024x2048 .f32) (g : Vec Ideal S1x2048 .f32) (w : Vec Ideal S2048x1664 .bf16) :
    sout0_A_0 c i arg2 h2 arg3 h3 arg4 h4 arg5 h5 arg6 h6 hc0 x g w = k0_pay1 x g := by
  unfold sout0_A_0
  rw [View.read_writes_junk_eq_canon]
  unfold kernelRun0_A
  dsimp only
  sl_unfold_words
  rw [View.canon_unit_zero hz]
  simp only [View.readAt_eq_ld, h2.read_unread, h3.read_unread, View.ld_unit_zero (S := S1024x2048) hz, View.ld_unit_zero (S := S1x2048) hz]

/-- The first point of a row block writes its columns. -/
theorem first_out (c : Dev nD) (i : grid0.Coords)
    (arg2 : Memref sig .tc .vmem S1024x2048 .f32) (h2 : arg2.IsWhole)
    (arg3 : Memref sig .tc .vmem S1x2048 .f32) (h3 : arg3.IsWhole)
    (arg4 : Memref sig .tc .vmem S2048x1664 .bf16) (h4 : arg4.IsWhole)
    (arg5 : Memref sig .tc .vmem S1024x1664 .f32) (h5 : arg5.IsWhole)
    (arg6 : Memref sig .tc .vmem S1024x2048 .bf16) (h6 : arg6.IsWhole)
    (hc0 : cond0_0 i) (x : Vec Ideal S1024x2048 .f32) (g : Vec Ideal S1x2048 .f32) (w : Vec Ideal S2048x1664 .bf16) :
    out0_A_3 c i arg2 h2 arg3 h3 arg4 h4 arg5 h5 arg6 h6 hc0 x g w = k0_pay2 (k0_pay1 x g) w := by
  unfold out0_A_3
  rw [View.read_writes_junk_eq_canon]
  unfold kernelRun0_A
  dsimp only
  sl_unfold_words
  rw [View.canon_unit_zero hz, View.readCov_unit_zero (S := S1024x2048) _ hz]
  simp only [View.readAt_eq_ld, h2.read_unread, h3.read_unread, h4.read_unread, View.ld_unit_zero (S := S1024x2048) hz,
    View.ld_unit_zero (S := S1x2048) hz, View.ld_unit_zero (S := S2048x1664) hz]

/-- A later point of a row block writes its columns. -/
theorem next_out (c : Dev nD) (i : grid0.Coords)
    (arg2 : Memref sig .tc .vmem S1024x2048 .f32) (h2 : arg2.IsWhole)
    (arg3 : Memref sig .tc .vmem S1x2048 .f32) (h3 : arg3.IsWhole)
    (arg4 : Memref sig .tc .vmem S2048x1664 .bf16) (h4 : arg4.IsWhole)
    (arg5 : Memref sig .tc .vmem S1024x1664 .f32) (h5 : arg5.IsWhole)
    (arg6 : Memref sig .tc .vmem S1024x2048 .bf16) (h6 : arg6.IsWhole)
    (hc0 : ¬cond0_0 i) (x : Vec Ideal S1024x2048 .f32) (g : Vec Ideal S1x2048 .f32) (w : Vec Ideal S2048x1664 .bf16)
    (hn : Vec Ideal S1024x2048 .bf16) :
    out0_B_3 c i arg2 h2 arg3 h3 arg4 h4 arg5 h5 arg6 h6 hc0 x g w hn = k0_pay2 hn w := by
  unfold out0_B_3
  rw [View.read_writes_junk_eq_canon]
  unfold kernelRun0_B
  dsimp only
  rw [View.canon_unit_zero hz]
  simp only [View.readAt_eq_ld, h4.read_unread, h6.read_unread, View.ld_unit_zero (S := S1024x2048) hz,
    View.ld_unit_zero (S := S2048x1664) hz]

/-- The rows, normalised. -/
theorem rows_apply (x : Vec Ideal S1024x2048 .f32) (g : Vec Ideal S1x2048 .f32) (r : Fin 1024) (d : Fin 2048) :
    k0_pay1 x g (ix2 r d) = nrow (fun e => x (ix2 r e)) (fun e => g (ix2 0 e)) d := by
  pointwise [k0_pay1]
  rfl

/-- Normalised rows times columns of the weights. -/
theorem out_apply (hn : Vec Ideal S1024x2048 .bf16) (w : Vec Ideal S2048x1664 .bf16) (r : Fin 1024) (z : Fin 1664) :
    k0_pay2 hn w (ix2 r z) = ∑ d : Fin 2048, hn (ix2 r d) * w (ix2 d z) := by
  pointwise [k0_pay2]

/-! ## The blocks of each window -/

/-- The projection's rows, gain and weights. -/
structure Data where
  x : Fin 32768 → Fin 2048 → EReal
  g : Fin 2048 → EReal
  w : Fin 2048 → Fin 6656 → EReal

/-- Row `r`, column `c` of the projection. -/
def Data.out (D : Data) (r : Fin 32768) (c : Fin 6656) : EReal := ∑ d, nrow (D.x r) D.g d * D.w d c

/-- The array of the results. -/
def Data.arr (D : Data) : Vec Ideal S32768x6656 .f32 := fun y => D.out (y 0) (y 1)

theorem index0 : ∀ t : Fin grid0.N, win0_0.index t (0 : Fin 2) = t.val / 4 ∧ win0_0.index t (1 : Fin 2) = 0 := by decide +kernel
theorem index1 : ∀ t : Fin grid0.N, win0_1.index t (0 : Fin 2) = 0 ∧ win0_1.index t (1 : Fin 2) = 0 := by decide +kernel
theorem index2 : ∀ t : Fin grid0.N, win0_2.index t (0 : Fin 2) = 0 ∧ win0_2.index t (1 : Fin 2) = t.val % 4 := by decide +kernel
theorem index3 : ∀ t : Fin grid0.N, win0_3.index t (0 : Fin 2) = t.val / 4 ∧ win0_3.index t (1 : Fin 2) = t.val % 4 := by decide +kernel

/-- Row `r` of the row block of point `n`. -/
def row (n : ℕ) (h : n < 128) (r : Fin 1024) : Fin 32768 := ⟨1024 * (n / 4) + r.val, by omega⟩

/-- Column `z` of the columns of point `n`. -/
def col (n : ℕ) (z : Fin 1664) : Fin 6656 := ⟨1664 * (n % 4) + z.val, by omega⟩

theorem emb0 (t : Fin cfg0.N) (r : Fin 1024) (d : Fin 2048) :
    ((cfg0.win 0).blk t).view.emb (ix2 r d) = ix2 (row t.val t.isLt r) d := by
  obtain ⟨e0, e1⟩ := index0 t
  funext x
  refine Fin.ext ?_
  match x with
  | ⟨0, _⟩ => show win0_0.index t (0 : Fin 2) * 1024 + 1 * r.val = 1024 * (t.val / 4) + r.val; omega
  | ⟨1, _⟩ => show win0_0.index t (1 : Fin 2) * 2048 + 1 * d.val = d.val; omega

theorem emb1 (t : Fin cfg0.N) (u : Fin 1) (d : Fin 2048) :
    ((cfg0.win 1).blk t).view.emb (ix2 u d) = ix2 (n0 := 1) (n1 := 2048) 0 d := by
  obtain ⟨e0, e1⟩ := index1 t
  funext x
  refine Fin.ext ?_
  match x with
  | ⟨0, _⟩ => show win0_1.index t (0 : Fin 2) * 1 + 1 * u.val = 0; omega
  | ⟨1, _⟩ => show win0_1.index t (1 : Fin 2) * 2048 + 1 * d.val = d.val; omega

theorem emb2 (t : Fin cfg0.N) (d : Fin 2048) (z : Fin 1664) :
    ((cfg0.win 2).blk t).view.emb (ix2 d z) = ix2 d (col t.val z) := by
  obtain ⟨e0, e1⟩ := index2 t
  funext x
  refine Fin.ext ?_
  match x with
  | ⟨0, _⟩ => show win0_2.index t (0 : Fin 2) * 2048 + 1 * d.val = d.val; omega
  | ⟨1, _⟩ => show win0_2.index t (1 : Fin 2) * 1664 + 1 * z.val = 1664 * (t.val % 4) + z.val; omega

theorem emb3 (t : Fin cfg0.N) (r : Fin 1024) (z : Fin 1664) :
    ((cfg0.win 3).blk t).view.emb (ix2 r z) = ix2 (row t.val t.isLt r) (col t.val z) := by
  obtain ⟨e0, e1⟩ := index3 t
  funext x
  refine Fin.ext ?_
  match x with
  | ⟨0, _⟩ => show win0_3.index t (0 : Fin 2) * 1024 + 1 * r.val = 1024 * (t.val / 4) + r.val; omega
  | ⟨1, _⟩ => show win0_3.index t (1 : Fin 2) * 1664 + 1 * z.val = 1664 * (t.val % 4) + z.val; omega

/-! ## The arguments as the region finds them -/

variable (m : (ℓ : Loc nD τ sig) → Buf (Elt Ideal) ℓ)

/-- The data of a core's arguments. -/
def data (c : Dev nD) : Data where
  x r e := m (c, Proc.devRef .tc main_arg0) (ix3 (n0 := 16) (n1 := 2048) (n2 := 2048) ⟨r.val / 2048, by omega⟩ ⟨r.val % 2048, by omega⟩ e)
  g e := m (c, Proc.devRef .tc main_arg1) (ix1 (n0 := 2048) e)
  w d k := m (c, Proc.devRef .tc main_arg2) (ix2 (n0 := 2048) (n1 := 6656) d k)

theorem host_x (c : Dev nD) (r : Fin 32768) (e : Fin 2048) :
    V m c main_v0 (ix2 (n0 := 32768) (n1 := 2048) r e) = (data m c).x r e := by
  unfold V hostOps0
  after_results_simp
  pointwise []
  rfl

theorem host_w (c : Dev nD) (d : Fin 2048) (k : Fin 6656) :
    V m c main_v1 (ix2 (n0 := 2048) (n1 := 6656) d k) = (data m c).w d k := by
  unfold V hostOps0
  after_results_simp
  pointwise []
  rfl

theorem host_g (c : Dev nD) (e : Fin 2048) : V m c main_v2 (ix2 (n0 := 1) (n1 := 2048) 0 e) = (data m c).g e := by
  unfold V hostOps0
  after_results_simp
  pointwise []
  rfl

theorem blk_x (c : Dev nD) (t : Fin cfg0.N) (r : Fin 1024) (e : Fin 2048) :
    iblk m c 0 t (ix2 r e) = (data m c).x (row t.val t.isLt r) e := by
  show V m c main_v0 (((cfg0.win 0).blk t).view.emb (ix2 r e)) = _
  rw [emb0, host_x]

theorem blk_g (c : Dev nD) (t : Fin cfg0.N) (e : Fin 2048) : iblk m c 1 t (ix2 (n0 := 1) (n1 := 2048) 0 e) = (data m c).g e := by
  show V m c main_v2 (((cfg0.win 1).blk t).view.emb (ix2 0 e)) = _
  rw [emb1, host_g]

theorem blk_w (c : Dev nD) (t : Fin cfg0.N) (d : Fin 2048) (z : Fin 1664) :
    iblk m c 2 t (ix2 d z) = (data m c).w d (col t.val z) := by
  show V m c main_v1 (((cfg0.win 2).blk t).view.emb (ix2 d z)) = _
  rw [emb2, host_w]

/-! ## What each point leaves -/

variable {m}

/-- The normalised rows of a point's row block. -/
theorem rows_eq (c : Dev nD) (t : Fin cfg0.N) (r : Fin 1024) (d : Fin 2048) :
    k0_pay1 (F := Ideal) (iblk m c 0 t) (iblk m c 1 t) (ix2 r d) = nrow ((data m c).x (row t.val t.isLt r)) (data m c).g d := by
  refine (rows_apply (iblk m c 0 t) (iblk m c 1 t) r d).trans ?_
  exact congrArg₂ (fun u v => nrow u v d) (funext fun e => blk_x m c t r e) (funext fun e => blk_g m c t e)

/-- A point's columns, over rows that are right. -/
theorem cols_eq (c : Dev nD) (t : Fin cfg0.N) (hn : Vec Ideal S1024x2048 .bf16) (r : Fin 1024) (z : Fin 1664)
    (h : ∀ d, hn (ix2 r d) = nrow ((data m c).x (row t.val t.isLt r)) (data m c).g d) :
    k0_pay2 (F := Ideal) hn (iblk m c 2 t) (ix2 r z) = (data m c).out (row t.val t.isLt r) (col t.val z) := by
  refine (out_apply hn (iblk m c 2 t) r z).trans (Finset.sum_congr rfl fun d _ => ?_)
  rw [h, blk_w]

/-- A row block's rows do not change from one of its points to the next. -/
theorem row_pred (n : ℕ) (h : n + 1 < 128) (h0 : ¬(n + 1) % 4 = 0) (r : Fin 1024) :
    row n (by omega) r = row (n + 1) h r := by
  refine Fin.ext ?_
  show 1024 * (n / 4) + r.val = 1024 * ((n + 1) / 4) + r.val
  omega

/-- After each point the scratch holds the normalised rows. -/
theorem state (c : Dev nD) : ∀ (n : ℕ) (h : n < cfg0.N) (r : Fin 1024) (d : Fin 2048),
    (outsAt0 (F := Ideal) m c n h).2 (ix2 r d) = nrow ((data m c).x (row n h r)) (data m c).g d := by
  have first : ∀ (t : Fin cfg0.N), t.val % 4 = 0 → ∀ (r : Fin 1024) (d : Fin 2048),
      (outsAt0 (F := Ideal) m c t.val t.isLt).2 (ix2 r d) = nrow ((data m c).x (row t.val t.isLt r)) (data m c).g d := by
    intro t h0 r d
    rw [outsAt0_A m c t h0]
    dsimp only
    rw [first_rows]
    exact rows_eq c t r d
  intro n
  induction n with
  | zero => exact fun h => first ⟨0, h⟩ rfl
  | succ n ih =>
    intro h r d
    by_cases h0 : (n + 1) % 4 = 0
    · exact first ⟨n + 1, h⟩ h0 r d
    have hr : (outsAt0 (F := Ideal) m c n (by omega)).2 (ix2 r d) = nrow ((data m c).x (row (n + 1) h r)) (data m c).g d := by
      rw [ih, row_pred n h h0]
    rw [outsAt0_B m c ⟨n + 1, h⟩ h0]
    exact hr

/-- A point writes its rows' projections at its columns. -/
theorem point_apply (c : Dev nD) (t : Fin cfg0.N) (r : Fin 1024) (z : Fin 1664) :
    (dats m 0 c).flushed 3 t (ix2 r z) = (data m c).out (row t.val t.isLt r) (col t.val z) := by
  by_cases h0 : t.val % 4 = 0
  · rw [flushed3_A m c t h0, first_out]
    exact cols_eq c t _ r z fun d => rows_eq c t r d
  · obtain ⟨n, h⟩ := t
    obtain ⟨n, rfl⟩ : ∃ k, n = k + 1 := ⟨n - 1, by dsimp only at h0; omega⟩
    rw [flushed3_B m c ⟨n + 1, h⟩ h0, next_out]
    refine cols_eq c ⟨n + 1, h⟩ _ r z fun d => (state (m := m) c n (by omega) r d).trans ?_
    rw [row_pred n h h0]

/-- The array after the run. -/
theorem array_eq (c : Dev nD) : (dats m 0 c).arrAt 3 cfg0.N = (data m c).arr := by
  refine (dats m 0 c).arrAt_eq_of_cover 3 (data m c).arr (fun t _ => ?_) (fun y => ?_)
  · funext y
    obtain ⟨r, z, rfl⟩ : ∃ (r : Fin 1024) (z : Fin 1664), y = ix2 r z := ⟨y 0, y 1, eq_ix2 y⟩
    refine (point_apply c t r z).trans ?_
    show _ = (data m c).arr (((cfg0.win 3).blk t).view.emb (ix2 r z))
    rw [emb3]
    rfl
  · obtain ⟨R, z, rfl⟩ : ∃ (R : Fin 32768) (z : Fin 6656), y = ix2 R z := ⟨y 0, y 1, eq_ix2 y⟩
    have hN : 4 * (R.val / 1024) + z.val / 1664 < cfg0.N := by
      show _ < 128
      omega
    refine ⟨⟨4 * (R.val / 1024) + z.val / 1664, hN⟩, flush0_3 _, ?_⟩
    have h := ((cfg0.win 3).blk ⟨4 * (R.val / 1024) + z.val / 1664, hN⟩).view.emb_mem_set
      (ix2 (⟨R.val % 1024, Nat.mod_lt _ (by omega)⟩ : Fin 1024) (⟨z.val % 1664, Nat.mod_lt _ (by omega)⟩ : Fin 1664))
    rw [emb3] at h
    have e : row (4 * (R.val / 1024) + z.val / 1664) hN ⟨R.val % 1024, Nat.mod_lt _ (by omega)⟩ = R := by
      refine Fin.ext ?_
      show 1024 * ((4 * (R.val / 1024) + z.val / 1664) / 4) + R.val % 1024 = R.val
      omega
    have e' : col (4 * (R.val / 1024) + z.val / 1664) ⟨z.val % 1664, Nat.mod_lt _ (by omega)⟩ = z := by
      refine Fin.ext ?_
      show 1664 * ((4 * (R.val / 1024) + z.val / 1664) % 4) + z.val % 1664 = z.val
      omega
    dsimp only at h
    rwa [e, e'] at h

end Cert.ProjOdd

end
-- ==== Proof.InOdd.Claims.lean ====
/-
  The claims of the odd layer's input projection.
-/
module

public import proofs.«01_k».proof.Defs
public import proofs.«01_k».proof.Proof.Gen.InOdd
public import proofs.«01_k».proof.Proof.Gen.InOddIdeal
public import proofs.«01_k».proof.Proof.Gen.InOddRefIdeal
public import proofs.«01_k».proof.Proof.Gen.InOddRefIdeal.Run
public import proofs.«01_k».proof.Proof.InOdd.Array
public import Idealize.ShloMosaic.Lib.Claim
public import Idealize.ShloMosaic.Lib.Quiescent

@[expose] public section

set_option maxRecDepth 16384

noncomputable section

namespace Cert.ProjOdd.Ref

open Cert.InOddRefIdeal Cert.InOddRefIdeal.Gen Idealize.ShloMosaic Idealize.ShloMosaic.TcCoe Idealize.SL.Sem
open Idealize.ShloMosaic.Pointwise Cert.Dense

/-- The reference's normalised rows. -/
def rows (x : Vec Ideal S16x2048x2048 .f32) (g : Vec Ideal S2048 .f32) : FVec Ideal S16x2048x2048 .f32 :=
  mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 g))

theorem rows_apply (x : Vec Ideal S16x2048x2048 .f32) (g : Vec Ideal S2048 .f32) (b : Fin 16) (p d : Fin 2048) :
    rows x g (ix3 b p d) = nrow (fun e => x (ix3 b p e)) (fun e => g (ix1 e)) d := by
  pointwise [rows]
  rfl

/-- The reference's projection of normalised rows. -/
def proj (n : FVec Ideal S16x2048x2048 .f32) (w : FVec Ideal S2048x6656 .f32) : FVec Ideal S32768x6656 .f32 :=
  shapeCast _ (Host.dotGeneral dot_S16x2048x2048_S2048x6656_S16x2048x6656_2_0_01_1_n_n none n w) shapeCasts_S16x2048x6656_S32768x6656

theorem proj_apply (n : FVec Ideal S16x2048x2048 .f32) (w : FVec Ideal S2048x6656 .f32) (R : Fin 32768) (z : Fin 6656) :
    proj n w (ix2 R z)
      = ∑ d : Fin 2048, n (ix3 (⟨R.val / 2048, by omega⟩ : Fin 16) (⟨R.val % 2048, by omega⟩ : Fin 2048) d) * w (ix2 d z) := by
  pointwise [proj]

end Cert.ProjOdd.Ref

namespace Cert.ProjOdd

open Idealize.ShloMosaic Idealize.ShloMosaic.TcCoe Idealize.SL.Sem
open Idealize.ShloMosaic.Pointwise

attribute [local instance] Cert.InOdd.Gen.facts Cert.InOddIdeal.Gen.facts Cert.InOddRefIdeal.Gen.facts

/-- The reference runs, keeps its arguments, and leaves every semaphore at zero. -/
theorem ref_frame : Cert.quiescent_InOddRefIdeal := fun m ρ _ =>
  (θ_run Cert.InOddRefIdeal.defs _ _).mono
    (fun r h => ⟨fun c => (h c).2, Idealize.ShloMosaic.sem_eq_zero_of_no_sems (by decide) r.2⟩)
    (Cert.InOddRefIdeal.Value.run (F := Ideal) m ρ)

/-- Nothing is rewritten. -/
theorem preserves : Cert.preserves_InOdd_InOddIdeal := trivial

open Cert.InOddIdeal in
/-- The reference's result on arguments that agree with the kernel's. -/
theorem result_eq (m : (ℓ : Loc Cert.InOddIdeal.nD Cert.InOddIdeal.τ Cert.InOddIdeal.sig) → Buf (Elt Ideal) ℓ) (c : Dev Cert.InOddIdeal.nD)
    (x : Vec Ideal Cert.InOddRefIdeal.S16x2048x2048 .f32) (g : Vec Ideal Cert.InOddRefIdeal.S2048 .f32)
    (w : Vec Ideal Cert.InOddRefIdeal.S2048x6656 .f32)
    (hx : x = m (c, Proc.devRef .tc main_arg0)) (hg : g = m (c, Proc.devRef .tc main_arg1))
    (hw : w = m (c, Proc.devRef .tc main_arg2)) :
    Ref.proj (Ref.rows x g) w = (data m c).arr := by
  subst hx hg hw
  funext y
  obtain ⟨R, z, rfl⟩ : ∃ (R : Fin 32768) (z : Fin 6656), y = ix2 R z := ⟨y 0, y 1, eq_ix2 y⟩
  refine (Ref.proj_apply _ _ R z).trans ?_
  show _ = ∑ d, Dense.nrow ((data m c).x R) (data m c).g d * (data m c).w d z
  refine Finset.sum_congr rfl fun d _ => ?_
  rw [Ref.rows_apply]
  rfl

/-- Over the extended reals the kernel's result is the reference's, entry by entry. -/
theorem algebraic : Cert.algebraic_InOddIdeal_InOddRefIdeal := by
  intro m ρ m' ρ' _ hagree
  refine ⟨fun c => (data m c).arr, ?_, ?_⟩
  · exact (θ_run Cert.InOddIdeal.defs _ _).mono (fun _ h c => ⟨(h c).1.trans (array_eq c), (h c).2⟩)
      (Cert.InOddIdeal.Value.run_blocks m ρ)
  · refine (θ_run Cert.InOddRefIdeal.defs _ _).mono (fun _ h c => ⟨(h c).1.trans ?_, (h c).2⟩)
      (Cert.InOddRefIdeal.Value.run (F := Ideal) m' ρ')
    exact result_eq m c _ _ _ (hagree c).1 (hagree c).2.1 (hagree c).2.2

end Cert.ProjOdd

end
-- ==== Proof.MemKv.Array.lean ====
/-
  The projection of `mem` to keys and values: what each grid point leaves, and the array after the run. A point
  normalises its rows and multiplies them by the weights.
-/
module

public import proofs.«01_k».proof.Proof.Gen.MemKvIdeal.Value
public import proofs.«01_k».proof.Proof.Dense
public import Idealize.ShloMosaic.Lib.Pipeline.Value
public import Idealize.ShloMosaic.Lib.Pointwise

@[expose] public section

set_option maxRecDepth 16384

noncomputable section

namespace Cert.ProjKv

open Cert.MemKvIdeal Cert.MemKvIdeal.Gen Cert.MemKvIdeal.Value Idealize.ShloMosaic Idealize.ShloMosaic.TcCoe Idealize.SL.Sem
open Idealize.ShloMosaic.Pointwise Cert.Dense

/-! ## One point -/

theorem hz : (![0, 0] : Fin 2 → Nat) = fun _ => 0 := funext fun a => by fin_cases a <;> rfl

/-- A point writes its rows' projections. -/
theorem first_out (c : Dev nD) (i : grid0.Coords)
    (arg2 : Memref sig .tc .vmem S1024x2048 .f32) (h2 : arg2.IsWhole)
    (arg3 : Memref sig .tc .vmem S1x2048 .f32) (h3 : arg3.IsWhole)
    (arg4 : Memref sig .tc .vmem S2048x1024 .bf16) (h4 : arg4.IsWhole)
    (arg5 : Memref sig .tc .vmem S1024x1024 .f32) (h5 : arg5.IsWhole)
    (arg6 : Memref sig .tc .vmem S1024x2048 .bf16) (h6 : arg6.IsWhole)
    (hc0 : cond0_0 i) (x : Vec Ideal S1024x2048 .f32) (g : Vec Ideal S1x2048 .f32) (w : Vec Ideal S2048x1024 .bf16) :
    out0_A_3 c i arg2 h2 arg3 h3 arg4 h4 arg5 h5 arg6 h6 hc0 x g w = k0_pay2 (k0_pay1 x g) w := by
  unfold out0_A_3
  rw [View.read_writes_junk_eq_canon]
  unfold kernelRun0_A
  dsimp only
  sl_unfold_words
  rw [View.canon_unit_zero hz, View.readCov_unit_zero (S := S1024x2048) _ hz]
  simp only [View.readAt_eq_ld, h2.read_unread, h3.read_unread, h4.read_unread, View.ld_unit_zero (S := S1024x2048) hz,
    View.ld_unit_zero (S := S1x2048) hz, View.ld_unit_zero (S := S2048x1024) hz]

/-- The rows, normalised. -/
theorem rows_apply (x : Vec Ideal S1024x2048 .f32) (g : Vec Ideal S1x2048 .f32) (r : Fin 1024) (d : Fin 2048) :
    k0_pay1 x g (ix2 r d) = nrow (fun e => x (ix2 r e)) (fun e => g (ix2 0 e)) d := by
  pointwise [k0_pay1]
  rfl

/-- Normalised rows times columns of the weights. -/
theorem out_apply (hn : Vec Ideal S1024x2048 .bf16) (w : Vec Ideal S2048x1024 .bf16) (r : Fin 1024) (z : Fin 1024) :
    k0_pay2 hn w (ix2 r z) = ∑ d : Fin 2048, hn (ix2 r d) * w (ix2 d z) := by
  pointwise [k0_pay2]

/-! ## The blocks of each window -/

/-- The projection's rows, gain and weights. -/
structure Data where
  x : Fin 4096 → Fin 2048 → EReal
  g : Fin 2048 → EReal
  w : Fin 2048 → Fin 1024 → EReal

/-- Row `r`, column `c` of the projection. -/
def Data.out (D : Data) (r : Fin 4096) (c : Fin 1024) : EReal := ∑ d, nrow (D.x r) D.g d * D.w d c

/-- The array of the results. -/
def Data.arr (D : Data) : Vec Ideal S4096x1024 .f32 := fun y => D.out (y 0) (y 1)

theorem index0 : ∀ t : Fin grid0.N, win0_0.index t (0 : Fin 2) = t.val ∧ win0_0.index t (1 : Fin 2) = 0 := by decide +kernel
theorem index1 : ∀ t : Fin grid0.N, win0_1.index t (0 : Fin 2) = 0 ∧ win0_1.index t (1 : Fin 2) = 0 := by decide +kernel
theorem index2 : ∀ t : Fin grid0.N, win0_2.index t (0 : Fin 2) = 0 ∧ win0_2.index t (1 : Fin 2) = 0 := by decide +kernel
theorem index3 : ∀ t : Fin grid0.N, win0_3.index t (0 : Fin 2) = t.val ∧ win0_3.index t (1 : Fin 2) = 0 := by decide +kernel

/-- Row `r` of the row block of point `n`. -/
def row (n : ℕ) (h : n < 4) (r : Fin 1024) : Fin 4096 := ⟨1024 * n + r.val, by omega⟩

theorem emb0 (t : Fin cfg0.N) (r : Fin 1024) (d : Fin 2048) :
    ((cfg0.win 0).blk t).view.emb (ix2 r d) = ix2 (row t.val t.isLt r) d := by
  obtain ⟨e0, e1⟩ := index0 t
  funext x
  refine Fin.ext ?_
  match x with
  | ⟨0, _⟩ => show win0_0.index t (0 : Fin 2) * 1024 + 1 * r.val = 1024 * t.val + r.val; omega
  | ⟨1, _⟩ => show win0_0.index t (1 : Fin 2) * 2048 + 1 * d.val = d.val; omega

theorem emb1 (t : Fin cfg0.N) (u : Fin 1) (d : Fin 2048) :
    ((cfg0.win 1).blk t).view.emb (ix2 u d) = ix2 (n0 := 1) (n1 := 2048) 0 d := by
  obtain ⟨e0, e1⟩ := index1 t
  funext x
  refine Fin.ext ?_
  match x with
  | ⟨0, _⟩ => show win0_1.index t (0 : Fin 2) * 1 + 1 * u.val = 0; omega
  | ⟨1, _⟩ => show win0_1.index t (1 : Fin 2) * 2048 + 1 * d.val = d.val; omega

theorem emb2 (t : Fin cfg0.N) (d : Fin 2048) (z : Fin 1024) :
    ((cfg0.win 2).blk t).view.emb (ix2 d z) = ix2 d z := by
  obtain ⟨e0, e1⟩ := index2 t
  funext x
  refine Fin.ext ?_
  match x with
  | ⟨0, _⟩ => show win0_2.index t (0 : Fin 2) * 2048 + 1 * d.val = d.val; omega
  | ⟨1, _⟩ => show win0_2.index t (1 : Fin 2) * 1024 + 1 * z.val = z.val; omega

theorem emb3 (t : Fin cfg0.N) (r : Fin 1024) (z : Fin 1024) :
    ((cfg0.win 3).blk t).view.emb (ix2 r z) = ix2 (row t.val t.isLt r) z := by
  obtain ⟨e0, e1⟩ := index3 t
  funext x
  refine Fin.ext ?_
  match x with
  | ⟨0, _⟩ => show win0_3.index t (0 : Fin 2) * 1024 + 1 * r.val = 1024 * t.val + r.val; omega
  | ⟨1, _⟩ => show win0_3.index t (1 : Fin 2) * 1024 + 1 * z.val = z.val; omega

/-! ## The arguments as the region finds them -/

variable (m : (ℓ : Loc nD τ sig) → Buf (Elt Ideal) ℓ)

/-- The data of a core's arguments. -/
def data (c : Dev nD) : Data where
  x r e := m (c, Proc.devRef .tc main_arg0) (ix3 (n0 := 16) (n1 := 256) (n2 := 2048) ⟨r.val / 256, by omega⟩ ⟨r.val % 256, by omega⟩ e)
  g e := m (c, Proc.devRef .tc main_arg1) (ix1 (n0 := 2048) e)
  w d k := m (c, Proc.devRef .tc main_arg2) (ix2 (n0 := 2048) (n1 := 1024) d k)

theorem host_x (c : Dev nD) (r : Fin 4096) (e : Fin 2048) :
    V m c main_v0 (ix2 (n0 := 4096) (n1 := 2048) r e) = (data m c).x r e := by
  unfold V hostOps0
  after_results_simp
  pointwise []
  rfl

theorem host_w (c : Dev nD) (d : Fin 2048) (k : Fin 1024) :
    V m c main_v1 (ix2 (n0 := 2048) (n1 := 1024) d k) = (data m c).w d k := by
  unfold V hostOps0
  after_results_simp
  pointwise []
  rfl

theorem host_g (c : Dev nD) (e : Fin 2048) : V m c main_v2 (ix2 (n0 := 1) (n1 := 2048) 0 e) = (data m c).g e := by
  unfold V hostOps0
  after_results_simp
  pointwise []
  rfl

theorem blk_x (c : Dev nD) (t : Fin cfg0.N) (r : Fin 1024) (e : Fin 2048) :
    iblk m c 0 t (ix2 r e) = (data m c).x (row t.val t.isLt r) e := by
  show V m c main_v0 (((cfg0.win 0).blk t).view.emb (ix2 r e)) = _
  rw [emb0, host_x]

theorem blk_g (c : Dev nD) (t : Fin cfg0.N) (e : Fin 2048) : iblk m c 1 t (ix2 (n0 := 1) (n1 := 2048) 0 e) = (data m c).g e := by
  show V m c main_v2 (((cfg0.win 1).blk t).view.emb (ix2 0 e)) = _
  rw [emb1, host_g]

theorem blk_w (c : Dev nD) (t : Fin cfg0.N) (d : Fin 2048) (z : Fin 1024) :
    iblk m c 2 t (ix2 d z) = (data m c).w d z := by
  show V m c main_v1 (((cfg0.win 2).blk t).view.emb (ix2 d z)) = _
  rw [emb2, host_w]

/-! ## What each point leaves -/

variable {m}

/-- The normalised rows of a point's row block. -/
theorem rows_eq (c : Dev nD) (t : Fin cfg0.N) (r : Fin 1024) (d : Fin 2048) :
    k0_pay1 (F := Ideal) (iblk m c 0 t) (iblk m c 1 t) (ix2 r d) = nrow ((data m c).x (row t.val t.isLt r)) (data m c).g d := by
  refine (rows_apply (iblk m c 0 t) (iblk m c 1 t) r d).trans ?_
  exact congrArg₂ (fun u v => nrow u v d) (funext fun e => blk_x m c t r e) (funext fun e => blk_g m c t e)

/-- A point writes its rows' projections. -/
theorem point_apply (c : Dev nD) (t : Fin cfg0.N) (r : Fin 1024) (z : Fin 1024) :
    (dats m 0 c).flushed 3 t (ix2 r z) = (data m c).out (row t.val t.isLt r) z := by
  rw [flushed3_A m c t, first_out]
  refine (out_apply _ (iblk m c 2 t) r z).trans (Finset.sum_congr rfl fun d _ => ?_)
  rw [blk_w]
  exact congrArg (fun s : EReal => s * (data m c).w d z) (rows_eq c t r d)

/-- The array after the run. -/
theorem array_eq (c : Dev nD) : (dats m 0 c).arrAt 3 cfg0.N = (data m c).arr := by
  refine (dats m 0 c).arrAt_eq_of_cover 3 (data m c).arr (fun t _ => ?_) (fun y => ?_)
  · funext y
    obtain ⟨r, z, rfl⟩ : ∃ (r : Fin 1024) (z : Fin 1024), y = ix2 r z := ⟨y 0, y 1, eq_ix2 y⟩
    refine (point_apply c t r z).trans ?_
    show _ = (data m c).arr (((cfg0.win 3).blk t).view.emb (ix2 r z))
    rw [emb3]
    rfl
  · obtain ⟨R, z, rfl⟩ : ∃ (R : Fin 4096) (z : Fin 1024), y = ix2 R z := ⟨y 0, y 1, eq_ix2 y⟩
    have hN : R.val / 1024 < cfg0.N := by
      show _ < 4
      omega
    refine ⟨⟨R.val / 1024, hN⟩, flush0_3 _, ?_⟩
    have h := ((cfg0.win 3).blk ⟨R.val / 1024, hN⟩).view.emb_mem_set
      (ix2 (⟨R.val % 1024, Nat.mod_lt _ (by omega)⟩ : Fin 1024) z)
    rw [emb3] at h
    have e : row (R.val / 1024) hN ⟨R.val % 1024, Nat.mod_lt _ (by omega)⟩ = R := by
      refine Fin.ext ?_
      show 1024 * (R.val / 1024) + R.val % 1024 = R.val
      omega
    dsimp only at h
    rwa [e] at h

end Cert.ProjKv

end
-- ==== Proof.MemKv.Claims.lean ====
/-
  The claims of the projection of `mem` to keys and values.
-/
module

public import proofs.«01_k».proof.Defs
public import proofs.«01_k».proof.Proof.Gen.MemKv
public import proofs.«01_k».proof.Proof.Gen.MemKvIdeal
public import proofs.«01_k».proof.Proof.Gen.MemKvRefIdeal
public import proofs.«01_k».proof.Proof.Gen.MemKvRefIdeal.Run
public import proofs.«01_k».proof.Proof.MemKv.Array
public import Idealize.ShloMosaic.Lib.Claim
public import Idealize.ShloMosaic.Lib.Quiescent

@[expose] public section

set_option maxRecDepth 16384

noncomputable section

namespace Cert.ProjKv.Ref

open Cert.MemKvRefIdeal Cert.MemKvRefIdeal.Gen Idealize.ShloMosaic Idealize.ShloMosaic.TcCoe Idealize.SL.Sem
open Idealize.ShloMosaic.Pointwise Cert.Dense

/-- The reference's normalised rows. -/
def rows (x : Vec Ideal S16x256x2048 .f32) (g : Vec Ideal S2048 .f32) : FVec Ideal S16x256x2048 .f32 :=
  mulf (mulf x (broadcastInDim S16x256x2048 ![0, 1, 2] bcast_S16x256x1_S16x256x2048_0_1_2 (Host.rsqrt (addf (Host.divf (broadcastInDim S16x256x1 ![0, 1] bcast_S16x256_S16x256x1_0_1 (Host.reduceAdd (mulf x x) (constant S_ .f32 0x00000000#32) reducesTo_S16x256x2048_S16x256_d2 h_S_)) (broadcastInDim S16x256x1 ![] bcast_S_S16x256x1 (constant S_ .f32 0x45000000#32))) (broadcastInDim S16x256x1 ![] bcast_S_S16x256x1 (constant S_ .f32 0x358637BD#32)))))) (broadcastInDim S16x256x2048 ![0, 1, 2] bcast_S1x1x2048_S16x256x2048_0_1_2 (broadcastInDim S1x1x2048 ![2] bcast_S2048_S1x1x2048_2 g))

theorem rows_apply (x : Vec Ideal S16x256x2048 .f32) (g : Vec Ideal S2048 .f32) (b : Fin 16) (p : Fin 256) (d : Fin 2048) :
    rows x g (ix3 b p d) = nrow (fun e => x (ix3 b p e)) (fun e => g (ix1 e)) d := by
  pointwise [rows]
  rfl

/-- The reference's projection of normalised rows. -/
def proj (n : FVec Ideal S16x256x2048 .f32) (w : FVec Ideal S2048x1024 .f32) : FVec Ideal S4096x1024 .f32 :=
  shapeCast _ (Host.dotGeneral dot_S16x256x2048_S2048x1024_S16x256x1024_2_0_01_1_n_n none n w) shapeCasts_S16x256x1024_S4096x1024

theorem proj_apply (n : FVec Ideal S16x256x2048 .f32) (w : FVec Ideal S2048x1024 .f32) (R : Fin 4096) (z : Fin 1024) :
    proj n w (ix2 R z)
      = ∑ d : Fin 2048, n (ix3 (⟨R.val / 256, by omega⟩ : Fin 16) (⟨R.val % 256, by omega⟩ : Fin 256) d) * w (ix2 d z) := by
  pointwise [proj]

end Cert.ProjKv.Ref

namespace Cert.ProjKv

open Idealize.ShloMosaic Idealize.ShloMosaic.TcCoe Idealize.SL.Sem
open Idealize.ShloMosaic.Pointwise

attribute [local instance] Cert.MemKv.Gen.facts Cert.MemKvIdeal.Gen.facts Cert.MemKvRefIdeal.Gen.facts

/-- The reference runs, keeps its arguments, and leaves every semaphore at zero. -/
theorem ref_frame : Cert.quiescent_MemKvRefIdeal := fun m ρ _ =>
  (θ_run Cert.MemKvRefIdeal.defs _ _).mono
    (fun r h => ⟨fun c => (h c).2, Idealize.ShloMosaic.sem_eq_zero_of_no_sems (by decide) r.2⟩)
    (Cert.MemKvRefIdeal.Value.run (F := Ideal) m ρ)

/-- Nothing is rewritten. -/
theorem preserves : Cert.preserves_MemKv_MemKvIdeal := trivial

open Cert.MemKvIdeal in
/-- The reference's result on arguments that agree with the kernel's. -/
theorem result_eq (m : (ℓ : Loc Cert.MemKvIdeal.nD Cert.MemKvIdeal.τ Cert.MemKvIdeal.sig) → Buf (Elt Ideal) ℓ) (c : Dev Cert.MemKvIdeal.nD)
    (x : Vec Ideal Cert.MemKvRefIdeal.S16x256x2048 .f32) (g : Vec Ideal Cert.MemKvRefIdeal.S2048 .f32)
    (w : Vec Ideal Cert.MemKvRefIdeal.S2048x1024 .f32)
    (hx : x = m (c, Proc.devRef .tc main_arg0)) (hg : g = m (c, Proc.devRef .tc main_arg1))
    (hw : w = m (c, Proc.devRef .tc main_arg2)) :
    Ref.proj (Ref.rows x g) w = (data m c).arr := by
  subst hx hg hw
  funext y
  obtain ⟨R, z, rfl⟩ : ∃ (R : Fin 4096) (z : Fin 1024), y = ix2 R z := ⟨y 0, y 1, eq_ix2 y⟩
  refine (Ref.proj_apply _ _ R z).trans ?_
  show _ = ∑ d, Dense.nrow ((data m c).x R) (data m c).g d * (data m c).w d z
  refine Finset.sum_congr rfl fun d _ => ?_
  rw [Ref.rows_apply]
  rfl

/-- Over the extended reals the kernel's result is the reference's, entry by entry. -/
theorem algebraic : Cert.algebraic_MemKvIdeal_MemKvRefIdeal := by
  intro m ρ m' ρ' _ hagree
  refine ⟨fun c => (data m c).arr, ?_, ?_⟩
  · exact (θ_run Cert.MemKvIdeal.defs _ _).mono (fun _ h c => ⟨(h c).1.trans (array_eq c), (h c).2⟩)
      (Cert.MemKvIdeal.Value.run_blocks m ρ)
  · refine (θ_run Cert.MemKvRefIdeal.defs _ _).mono (fun _ h c => ⟨(h c).1.trans ?_, (h c).2⟩)
      (Cert.MemKvRefIdeal.Value.run (F := Ideal) m' ρ')
    exact result_eq m c _ _ _ (hagree c).1 (hagree c).2.1 (hagree c).2.2

end Cert.ProjKv

end
-- ==== Proof.Soft.lean ====
/-
  Softmax attention over extended-real values: the scores are real, since a norm with a real gain is real whatever its row,
  but the values may be anything. A row of the kernel's (powers of two, division after the product) is one of the reference's.
-/
module

public import proofs.«01_k».proof.Proof.Diff.Math

@[expose] public section

noncomputable section

namespace Cert.Soft

open Idealize.ShloMosaic Cert.Diff

/-! ## Norms -/

theorem ofBits_128 : Ideal.ofBits .f32 0x43000000#32 = ((128 : ℝ) : EReal) := by
  simp [Ideal.ofBits, Ideal.ieee, -EReal.coe_mul]; norm_num

/-- An entry of a row of 128 over the root of the row's mean square, times the gain. -/
def rms (x g : Fin 128 → EReal) (d : Fin 128) : EReal :=
  x d * Ideal.rsqrt (Ideal.div (∑ e, x e * x e) (Ideal.ofBits .f32 0x43000000#32) + Ideal.ofBits .f32 0x358637BD#32) * g d

theorem sq_nonneg' (x : EReal) : 0 ≤ x * x := by
  induction x with
  | bot => simp
  | coe r => exact_mod_cast mul_self_nonneg r
  | top => simp

/-- A norm with a real gain is real: an infinite entry makes the mean square infinite, and the inverse root zero. -/
theorem rms_real (x g : Fin 128 → EReal) (hg : ∀ d, ∃ r : ℝ, g d = (r : EReal)) (d : Fin 128) :
    ∃ r : ℝ, rms x g d = (r : EReal) := by
  obtain ⟨G, hG⟩ := hg d
  unfold rms
  by_cases h : ∃ e, x e * x e = ⊤
  · obtain ⟨e, he⟩ := h
    have hs : ∑ e, x e * x e = ⊤ := by
      refine top_le_iff.1 (he ▸ ?_)
      exact Finset.single_le_sum (f := fun e => x e * x e) (fun e _ => sq_nonneg' (x e)) (Finset.mem_univ e)
    rw [hs, ofBits_128, Ideal.div_coe (by norm_num), EReal.top_mul_coe_of_pos (by norm_num), ofBits_eps, EReal.top_add_coe,
      Ideal.rsqrt_top, mul_zero, zero_mul]
    exact ⟨0, rfl⟩
  · have hr : ∀ e, ∃ r : ℝ, x e = (r : EReal) := fun e => by
      refine exists_real (fun hx => h ⟨e, ?_⟩) (fun hx => h ⟨e, ?_⟩) <;> rw [hx] <;> simp
    choose X hX using hr
    simp only [hX, hG, ← EReal.coe_mul]
    have hp : 0 < (∑ e, X e * X e) / 128 + eps :=
      add_pos_of_nonneg_of_pos (div_nonneg (Finset.sum_nonneg fun e _ => mul_self_nonneg (X e)) (by norm_num)) eps_pos
    rw [coe_sum, ofBits_128, ofBits_eps, div_real (by norm_num), ← EReal.coe_add, rsqrt_pos hp, ← EReal.coe_mul,
      ← EReal.coe_mul]
    exact ⟨_, rfl⟩

/-! ## Attention -/

/-- The scale of the scores: the float nearest to the inverse root of 128. -/
def scale : ℝ := 11863283 / 134217728

theorem ofBits_scale : Ideal.ofBits .f32 0x3DB504F3#32 = ((scale : ℝ) : EReal) := by
  simp [Ideal.ofBits, Ideal.ieee, -EReal.coe_mul]; norm_num [scale]

/-- The scaled score of a query against a key. -/
def score (a b : Fin 128 → EReal) : ℝ := (∑ d, a d * b d).toReal * scale

/-- One lane of the attention of a query over the keys. -/
def att {n : ℕ} (a : Fin 128 → EReal) (b : Fin n → Fin 128 → EReal) (v : Fin n → EReal) : EReal :=
  ∑ j, v j * ((prob (fun i => score a (b i)) j : ℝ) : EReal)

/-- A factor that is real and not negative goes into a sum. -/
theorem sum_mul_real {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

/-- Weights moved by one number, with the division after the product with the values. -/
theorem late {n : ℕ} (s : Fin (n + 1) → ℝ) (M : ℝ) (v : Fin (n + 1) → EReal) :
    (∑ j, ((Real.exp (s j - M) : ℝ) : EReal) * v j) * Ideal.div 1 (∑ j, ((Real.exp (s j - M) : ℝ) : EReal))
      = ∑ j, v j * ((prob s j : ℝ) : EReal) := by
  have hp := sum_exp_pos fun j => s j - M
  rw [coe_sum, Ideal.div_coe hp.ne', one_mul, sum_mul_real _ _ _ (by positivity)]
  refine Finset.sum_congr rfl fun j _ => ?_
  rw [mul_comm _ (v j), mul_assoc, ← EReal.coe_mul, mul_one_div, prob_shift]

/-- A product of real vectors. -/
theorem dot_real (a b : Fin 128 → EReal) (ha : ∀ d, ∃ r : ℝ, a d = (r : EReal)) (hb : ∀ d, ∃ r : ℝ, b d = (r : EReal)) :
    ∃ r : ℝ, ∑ d, a d * b d = (r : EReal) := by
  choose A hA using ha
  choose B hB using hb
  simp only [hA, hB, ← EReal.coe_mul]
  exact ⟨_, coe_sum _ _⟩

/-- The reference's score. -/
theorem score_ref (a b : Fin 128 → EReal) (ha : ∀ d, ∃ r : ℝ, a d = (r : EReal)) (hb : ∀ d, ∃ r : ℝ, b d = (r : EReal)) :
    (∑ d, a d * b d) * Ideal.ofBits .f32 0x3DB504F3#32 = ((score a b : ℝ) : EReal) := by
  obtain ⟨r, hr⟩ := dot_real a b ha hb
  rw [score, hr, ofBits_scale, ← EReal.coe_mul, EReal.toReal_coe]

/-- The kernel's score: the scale sits on the query, and the unit is that of powers of two. -/
theorem score_ker (a b : Fin 128 → EReal) (c : EReal) (hc : c = ((scale * (Real.log 2)⁻¹ : ℝ) : EReal))
    (ha : ∀ d, ∃ r : ℝ, a d = (r : EReal)) (hb : ∀ d, ∃ r : ℝ, b d = (r : EReal)) :
    ∑ d, (a d * c) * b d = ((score a b * (Real.log 2)⁻¹ : ℝ) : EReal) := by
  choose A hA using ha
  choose B hB using hb
  simp only [score, hA, hB, hc, ← EReal.coe_mul]
  rw [coe_sum, coe_sum, EReal.toReal_coe, Finset.sum_mul, Finset.sum_mul]
  congr 1
  exact Finset.sum_congr rfl fun d _ => by ring

/-- A row of the kernel's weights. -/
theorem weights_ker {n : ℕ} (T : Fin (n + 1) → ℝ) (a : Fin (n + 1) → EReal)
    (ha : ∀ j, a j = ((T j * (Real.log 2)⁻¹ : ℝ) : EReal)) :
    ∃ M : ℝ, ∀ j, Ideal.exp2 (a j - Finset.univ.fold max (Ideal.ofBits .f32 0xFF800000#32) a)
      = ((Real.exp (T j - M) : ℝ) : EReal) := by
  obtain ⟨M, hM⟩ := fold_max_coe (n := n) (fun j => T j * (Real.log 2)⁻¹)
  refine ⟨M * Real.log 2, fun j => ?_⟩
  rw [funext ha, ofBits_bot, hM, ← EReal.coe_sub, Ideal.exp2_coe, rpow_two]

/-- A row of the reference's weights. -/
theorem weights_ref {n : ℕ} (T : Fin (n + 1) → ℝ) (a : Fin (n + 1) → EReal) (ha : ∀ j, a j = ((T j : ℝ) : EReal)) :
    ∃ M : ℝ, ∀ j, Ideal.exp (a j - max (Ideal.ofBits .f32 0xFF800000#32) (Finset.univ.fold max (Ideal.ofBits .f32 0xFF800000#32) a))
      = ((Real.exp (T j - M) : ℝ) : EReal) := by
  obtain ⟨M, hM⟩ := fold_max_coe (n := n) T
  refine ⟨M, fun j => ?_⟩
  rw [funext ha, ofBits_bot, hM, max_eq_right bot_le, ← EReal.coe_sub, Ideal.exp_coe]

/-- The kernel's row is the attention. -/
theorem att_ker {n : ℕ} (a : Fin 128 → EReal) (b : Fin (n + 1) → Fin 128 → EReal) (v w : Fin (n + 1) → EReal) (M : ℝ)
    (hw : ∀ j, w j = ((Real.exp (score a (b j) - M) : ℝ) : EReal)) :
    (∑ j, w j * v j) * Ideal.div 1 (∑ j, w j) = att a b v := by
  simp only [hw]
  exact late (fun j => score a (b j)) M v

/-- The reference's row is the attention. -/
theorem att_ref {n : ℕ} (a : Fin 128 → EReal) (b : Fin (n + 1) → Fin 128 → EReal) (v w : Fin (n + 1) → EReal) (M : ℝ)
    (hw : ∀ j, w j = ((Real.exp (score a (b j) - M) : ℝ) : EReal)) :
    ∑ j, v j * Ideal.div (w j) (∑ i, w i) = att a b v := by
  simp only [hw, att]
  refine Finset.sum_congr rfl fun j _ => ?_
  rw [coe_sum, div_real (sum_exp_pos (n := n) _).ne']
  exact congrArg (fun r : ℝ => v j * (r : EReal)) (prob_shift (fun j => score a (b j)) M j)

end Cert.Soft

end
-- ==== Proof.Cross.Read.lean ====
/-
  One block of 512 queries of the cross-attention, as a few functions, each read entry by entry at the ideal instance.
-/
module

public import proofs.«01_k».proof.Proof.Gen.CrossIdeal.Value
public import proofs.«01_k».proof.Proof.Soft
public import proofs.«01_k».proof.Proof.Dense
public import Idealize.ShloMosaic.Lib.Pointwise

@[expose] public section

set_option maxRecDepth 16384

noncomputable section

namespace Cert.CrossAttn

open Cert.CrossIdeal Cert.CrossIdeal.Gen Idealize.ShloMosaic Idealize.ShloMosaic.TcCoe
open Idealize.ShloMosaic.Pointwise Cert.Soft Cert.Dense

/-! ## The pieces -/

/-- A head's queries, normalised and scaled. -/
def qhead (x : FVec Ideal S512x128 .f32) (g : Vec Ideal S1x128 .f32) : FVec Ideal S512x128 .bf16 :=
  truncf .bf16 (mulf (mulf (mulf x (broadcastTo S512x128 (rsqrt (addf (divf (shapeCast S512x1 (multiReduction .add [1] S512 (mulf x x) 0x00000000#32 reduces_S512x128_S512 (.inl rfl) rfl) shapeCasts_S512_S512x1) (broadcast S512x1 (Scalar.ofBits (F := Ideal) .f32 0x43000000#32))) (broadcast S512x1 (Scalar.ofBits (F := Ideal) .f32 0x358637BD#32)))) broadcasts_S512x1_S512x128)) (broadcastTo S512x128 (shapeCast S1x128 g shapeCasts_S1x128_S1x128) broadcasts_S1x128_S512x128)) (broadcast S512x128 (Named.named (F := Ideal) κ "cscale" (φ := .f32) 0x3E0293EE#32))) bitsLt_bf16_f32

/-- A head's keys, normalised. -/
def khead (x : FVec Ideal S256x128 .f32) (g : Vec Ideal S1x128 .f32) : FVec Ideal S256x128 .bf16 :=
  truncf .bf16 (mulf (mulf x (broadcastTo S256x128 (rsqrt (addf (divf (shapeCast S256x1 (multiReduction .add [1] S256 (mulf x x) 0x00000000#32 reduces_S256x128_S256 (.inl rfl) rfl) shapeCasts_S256_S256x1) (broadcast S256x1 (Scalar.ofBits (F := Ideal) .f32 0x43000000#32))) (broadcast S256x1 (Scalar.ofBits (F := Ideal) .f32 0x358637BD#32)))) broadcasts_S256x1_S256x128)) (broadcastTo S256x128 (shapeCast S1x128 g shapeCasts_S1x128_S1x128) broadcasts_S1x128_S256x128)) bitsLt_bf16_f32

/-- A head's scores. -/
def scores (q : FVec Ideal S512x128 .bf16) (k : FVec Ideal S256x128 .bf16) : FVec Ideal S512x256 .f32 :=
  matmul dot_S512x128_S256x128_S512x256_1_1_0_0_n_n none q k (constant S512x256 .f32 0x00000000#32)

/-- A head's result. -/
def head (q : FVec Ideal S512x128 .f32) (k v : FVec Ideal S256x128 .f32) (gq gk : Vec Ideal S1x128 .f32) : FVec Ideal S512x128 .f32 :=
  k0_pay11 k0_pay5 (truncf .bf16 v bitsLt_bf16_f32) (scores (qhead q gq) (khead k gk))

/-- The heads side by side, times the output weights, added to the rows. -/
def fin (x : FVec Ideal S512x2048 .f32) (o0 o1 o2 o3 : FVec Ideal S512x128 .f32) (w : FVec Ideal S512x2048 .bf16) : FVec Ideal S1x512x2048 .f32 :=
  shapeCast S1x512x2048 (addf x (matmul dot_S512x512_S512x2048_S512x2048_1_0_0_1_n_n none (truncf .bf16 (concatenate S512x512 1 [⟨S512x128, o0⟩, ⟨S512x128, o1⟩, ⟨S512x128, o2⟩, ⟨S512x128, o3⟩] concatenates_S512x128_S512x128_S512x128_S512x128_S512x512_d1) bitsLt_bf16_f32) (shapeCast S512x2048 w shapeCasts_S512x2048_S512x2048) (constant S512x2048 .f32 0x00000000#32))) shapeCasts_S512x2048_S1x512x2048

/-- A block's result over its queries `q` and its keys and values `kv`. -/
def block (x : FVec Ideal S512x2048 .f32) (q : FVec Ideal S512x512 .f32) (kv : FVec Ideal S256x1024 .f32)
    (gq gk : Vec Ideal S1x128 .f32) (w : Vec Ideal S512x2048 .bf16) : FVec Ideal S1x512x2048 .f32 :=
  fin x
    (head (extractStridedSlice S512x128 ![0, 0] q slices_S512x512_o0_0_S512x128) (extractStridedSlice S256x128 ![0, 0] kv slices_S256x1024_o0_0_S256x128) (extractStridedSlice S256x128 ![0, 512] kv slices_S256x1024_o0_512_S256x128) gq gk)
    (head (extractStridedSlice S512x128 ![0, 128] q slices_S512x512_o0_128_S512x128) (extractStridedSlice S256x128 ![0, 128] kv slices_S256x1024_o0_128_S256x128) (extractStridedSlice S256x128 ![0, 640] kv slices_S256x1024_o0_640_S256x128) gq gk)
    (head (extractStridedSlice S512x128 ![0, 256] q slices_S512x512_o0_256_S512x128) (extractStridedSlice S256x128 ![0, 256] kv slices_S256x1024_o0_256_S256x128) (extractStridedSlice S256x128 ![0, 768] kv slices_S256x1024_o0_768_S256x128) gq gk)
    (head (extractStridedSlice S512x128 ![0, 384] q slices_S512x512_o0_384_S512x128) (extractStridedSlice S256x128 ![0, 384] kv slices_S256x1024_o0_384_S256x128) (extractStridedSlice S256x128 ![0, 896] kv slices_S256x1024_o0_896_S256x128) gq gk)
    w

theorem hz2 : (![0, 0] : Fin 2 → Nat) = fun _ => 0 := funext fun a => by fin_cases a <;> rfl
theorem hz3 : (![0, 0, 0] : Fin 3 → Nat) = fun _ => 0 := funext fun a => by fin_cases a <;> rfl

/-- What a point writes is its block. -/
theorem out_eq (a1 a2 : Vec Ideal S1x512x1024 .bf16) (w1 w2 : Vec Ideal S1024x2048 .bf16) (x : Vec Ideal S1x512x2048 .f32)
    (g : Vec Ideal S1x2048 .f32) (wq : Vec Ideal S2048x512 .bf16) (kv : Vec Ideal S1x256x1024 .f32) (gq gk : Vec Ideal S1x128 .f32)
    (wo : Vec Ideal S512x2048 .bf16) :
    out0_11 (F := Ideal) a1 a2 w1 w2 x g wq kv gq gk wo
      = block (k0_pay2 x a1 w1 a2 w2) (k0_pay3 x a1 w1 a2 w2 g wq) (k0_pay4 kv) gq gk wo := by
  unfold out0_11 k0_pay22 k0_pay21 k0_pay20
  rw [View.canon_unit_zero hz3]
  simp only [View.ld_unit_zero (S := S1x512x2048) hz3, View.ld_unit_zero (S := S1x512x1024) hz3,
    View.ld_unit_zero (S := S1024x2048) hz2, View.ld_unit_zero (S := S1x2048) hz2, View.ld_unit_zero (S := S2048x512) hz2,
    View.ld_unit_zero (S := S1x256x1024) hz3, View.ld_unit_zero (S := S1x128) hz2, View.ld_unit_zero (S := S512x2048) hz2]
  rfl

/-! ## Entries -/

theorem mix_apply (x : Vec Ideal S1x512x2048 .f32) (a1 : Vec Ideal S1x512x1024 .bf16) (w1 : Vec Ideal S1024x2048 .bf16)
    (a2 : Vec Ideal S1x512x1024 .bf16) (w2 : Vec Ideal S1024x2048 .bf16) (p : Fin 512) (z : Fin 2048) :
    k0_pay2 (F := Ideal) x a1 w1 a2 w2 (ix2 p z)
      = x (ix3 0 p z) + ∑ d : Fin 1024, a1 (ix3 0 p d) * w1 (ix2 d z) + ∑ d : Fin 1024, a2 (ix3 0 p d) * w2 (ix2 d z) := by
  pointwise [k0_pay2]

theorem q_apply (x : Vec Ideal S1x512x2048 .f32) (a1 : Vec Ideal S1x512x1024 .bf16) (w1 : Vec Ideal S1024x2048 .bf16)
    (a2 : Vec Ideal S1x512x1024 .bf16) (w2 : Vec Ideal S1024x2048 .bf16) (g : Vec Ideal S1x2048 .f32)
    (wq : Vec Ideal S2048x512 .bf16) (X : FVec Ideal S512x2048 .f32) (hX : k0_pay2 (F := Ideal) x a1 w1 a2 w2 = X) (p : Fin 512) (z : Fin 512) :
    k0_pay3 (F := Ideal) x a1 w1 a2 w2 g wq (ix2 p z)
      = ∑ d : Fin 2048, nrow (fun e => X (ix2 p e)) (fun e => g (ix2 0 e)) d * wq (ix2 d z) := by
  unfold k0_pay3
  rw [hX]
  pointwise []
  rfl

theorem kv_apply (kv : Vec Ideal S1x256x1024 .f32) (j : Fin 256) (z : Fin 1024) :
    k0_pay4 (F := Ideal) kv (ix2 j z) = kv (ix3 0 j z) := by
  pointwise [k0_pay4]

/-- The named scale of the queries. -/
theorem cscale_val : Named.named (F := Ideal) κ "cscale" (φ := .f32) 0x3E0293EE#32 = ((scale * (Real.log 2)⁻¹ : ℝ) : EReal) :=
  IdealRules.named_const.ideal_named_scalar _ _ _ _ rfl

theorem qhead_apply (x : FVec Ideal S512x128 .f32) (g : Vec Ideal S1x128 .f32) (p : Fin 512) (d : Fin 128) :
    qhead x g (ix2 p d) = rms (fun e => x (ix2 p e)) (fun e => g (ix2 0 e)) d * ((scale * (Real.log 2)⁻¹ : ℝ) : EReal) := by
  rw [← cscale_val]
  pointwise [qhead]
  rfl

theorem khead_apply (x : FVec Ideal S256x128 .f32) (g : Vec Ideal S1x128 .f32) (p : Fin 256) (d : Fin 128) :
    khead x g (ix2 p d) = rms (fun e => x (ix2 p e)) (fun e => g (ix2 0 e)) d := by
  pointwise [khead]
  rfl

theorem scores_apply (q : FVec Ideal S512x128 .bf16) (k : FVec Ideal S256x128 .bf16) (p : Fin 512) (j : Fin 256) :
    scores q k (ix2 p j) = ∑ d : Fin 128, q (ix2 p d) * k (ix2 j d) := by
  pointwise [scores]

/-- The weighted values over the weights' sum. -/
theorem late_apply (v : FVec Ideal S256x128 .bf16) (s : FVec Ideal S512x256 .f32) (p : Fin 512) (d : Fin 128) :
    k0_pay11 (F := Ideal) k0_pay5 v s (ix2 p d)
      = (∑ j : Fin 256, Ideal.exp2 (s (ix2 p j) - Finset.univ.fold max (Ideal.ofBits .f32 0xFF800000#32) (fun i : Fin 256 => s (ix2 p i))) * v (ix2 j d))
        * Ideal.div (Ideal.ofBits .f32 0x3F800000#32)
          (∑ j : Fin 256, Ideal.exp2 (s (ix2 p j) - Finset.univ.fold max (Ideal.ofBits .f32 0xFF800000#32) (fun i : Fin 256 => s (ix2 p i)))
            * Ideal.ofBits .bf16 0x3F80#16) := by
  pointwise [k0_pay11, k0_pay5]
  rfl

/-- The heads side by side: lane `d` of head `h`. -/
theorem fin_apply (x : FVec Ideal S512x2048 .f32) (o0 o1 o2 o3 : FVec Ideal S512x128 .f32) (w : FVec Ideal S512x2048 .bf16)
    (p : Fin 512) (z : Fin 2048) :
    fin x o0 o1 o2 o3 w (ix3 0 p z)
      = x (ix2 p z) + ∑ e : Fin 512, (if h0 : e.val < 128 then o0 (ix2 p ⟨e.val, h0⟩) else
          if h1 : e.val - 128 < 128 then o1 (ix2 p ⟨e.val - 128, h1⟩) else
          if h2 : e.val - 128 - 128 < 128 then o2 (ix2 p ⟨e.val - 128 - 128, h2⟩) else
          o3 (ix2 p ⟨e.val - 128 - 128 - 128, by omega⟩)) * w (ix2 e z) := by
  pointwise [fin]

end Cert.CrossAttn

end
-- ==== Proof.Cross.Data.lean ====
/-
  The cross-attention's arguments as functions of their indices, and its result over them.
-/
module

public import proofs.«01_k».proof.Proof.Soft
public import proofs.«01_k».proof.Proof.Dense
public import Idealize.ShloMosaic.Lib.Pointwise

@[expose] public section

noncomputable section

namespace Cert.CrossAttn

open Idealize.ShloMosaic Cert.Soft Cert.Dense

/-- The halves of a mixer's output, its weights, the rows, the keys and values, and the weights and gains of the attention. -/
structure Data where
  a1 : Fin 16 → Fin 2048 → Fin 1024 → EReal
  a2 : Fin 16 → Fin 2048 → Fin 1024 → EReal
  wm : Fin 2048 → Fin 2048 → EReal
  x : Fin 16 → Fin 2048 → Fin 2048 → EReal
  kv : Fin 16 → Fin 256 → Fin 1024 → EReal
  g : Fin 2048 → EReal
  wq : Fin 2048 → Fin 512 → EReal
  gq : Fin 128 → EReal
  gk : Fin 128 → EReal
  wo : Fin 512 → Fin 2048 → EReal

/-- The upper half of the mixing weights' rows. -/
def up (d : Fin 1024) : Fin 2048 := ⟨1024 + d.val, by omega⟩

/-- The lower half of the mixing weights' rows. -/
def lo (d : Fin 1024) : Fin 2048 := ⟨d.val, by omega⟩

/-- Lane `d` of head `h` among four heads of 128 lanes. -/
def lane (h : Fin 4) (d : Fin 128) : Fin 512 := ⟨h.val * 128 + d.val, by omega⟩

/-- A column of the keys. -/
def kcol (e : Fin 512) : Fin 1024 := ⟨e.val, by omega⟩

/-- A column of the values. -/
def vcol (e : Fin 512) : Fin 1024 := ⟨512 + e.val, by omega⟩

namespace Data

variable (D : Data)

/-- The rows after the mixing projection. -/
def x1 (b : Fin 16) (p z : Fin 2048) : EReal :=
  D.x b p z + ∑ d, D.a1 b p d * D.wm (lo d) z + ∑ d, D.a2 b p d * D.wm (up d) z

/-- The queries. -/
def q (b : Fin 16) (p : Fin 2048) (z : Fin 512) : EReal := ∑ d, nrow (D.x1 b p) D.g d * D.wq d z

/-- A head's normalised query. -/
def qn (b : Fin 16) (p : Fin 2048) (h : Fin 4) : Fin 128 → EReal := rms (fun e => D.q b p (lane h e)) D.gq

/-- A head's normalised keys. -/
def kn (b : Fin 16) (j : Fin 256) (h : Fin 4) : Fin 128 → EReal := rms (fun e => D.kv b j (kcol (lane h e))) D.gk

/-- A head's result. -/
def o (b : Fin 16) (p : Fin 2048) (h : Fin 4) (d : Fin 128) : EReal :=
  att (D.qn b p h) (fun j => D.kn b j h) (fun j => D.kv b j (vcol (lane h d)))

/-- The heads side by side. -/
def os (b : Fin 16) (p : Fin 2048) (e : Fin 512) : EReal :=
  D.o b p ⟨e.val / 128, by omega⟩ ⟨e.val % 128, Nat.mod_lt _ (by omega)⟩

/-- The result. -/
def out (b : Fin 16) (p z : Fin 2048) : EReal := D.x1 b p z + ∑ e, D.os b p e * D.wo e z

/-- The array of the results. -/
def arr : (⟨3, ![16, 2048, 2048]⟩ : Shape).Idx → EReal := fun y => D.out (y 0) (y 1) (y 2)

/-- The gains of queries and keys are real. -/
structure Real : Prop where
  q : ∀ d, ∃ r : ℝ, D.gq d = (r : EReal)
  k : ∀ d, ∃ r : ℝ, D.gk d = (r : EReal)

end Data

end Cert.CrossAttn

end
-- ==== Proof.Cross.Block.lean ====
/-
  One block of the cross-attention, from its staged arrays to its rows of the result.
-/
module

public import proofs.«01_k».proof.Proof.Cross.Read
public import proofs.«01_k».proof.Proof.Cross.Data

@[expose] public section

set_option maxRecDepth 16384

noncomputable section

namespace Cert.CrossAttn

open Cert.CrossIdeal Cert.CrossIdeal.Gen Idealize.ShloMosaic Idealize.ShloMosaic.TcCoe
open Idealize.ShloMosaic.Pointwise Cert.Soft Cert.Dense

theorem ofBits_one_bf16 : Ideal.ofBits .bf16 0x3F80#16 = 1 := by
  simp [Ideal.ofBits, Ideal.ieee, -EReal.coe_mul]; norm_num

theorem ofBits_one_f32 : Ideal.ofBits .f32 0x3F800000#32 = 1 := by
  simp [Ideal.ofBits, Ideal.ieee, -EReal.coe_mul]; norm_num

/-- A head's result is the attention of its normalised queries over its normalised keys. -/
theorem head_apply (q : FVec Ideal S512x128 .f32) (k v : FVec Ideal S256x128 .f32) (gq gk : Vec Ideal S1x128 .f32)
    (hq : ∀ d, ∃ r : ℝ, gq (ix2 (n0 := 1) (n1 := 128) 0 d) = (r : EReal))
    (hk : ∀ d, ∃ r : ℝ, gk (ix2 (n0 := 1) (n1 := 128) 0 d) = (r : EReal))
    (p : Fin 512) (d : Fin 128) :
    head q k v gq gk (ix2 p d)
      = att (rms (fun e => q (ix2 p e)) (fun e => gq (ix2 0 e))) (fun j => rms (fun e => k (ix2 j e)) (fun e => gk (ix2 0 e)))
          (fun j => v (ix2 j d)) := by
  have hs : ∀ j, scores (qhead q gq) (khead k gk) (ix2 p j)
      = ((score (rms (fun e => q (ix2 p e)) (fun e => gq (ix2 0 e))) (rms (fun e => k (ix2 j e)) (fun e => gk (ix2 0 e)))
          * (Real.log 2)⁻¹ : ℝ) : EReal) := fun j => by
    rw [scores_apply]
    simp only [qhead_apply, khead_apply]
    exact score_ker _ _ _ rfl (rms_real _ _ hq) (rms_real _ _ hk)
  unfold head
  rw [late_apply, ofBits_one_bf16, ofBits_one_f32]
  simp only [mul_one]
  obtain ⟨M, hM⟩ := weights_ker _ _ hs
  exact att_ker _ _ _ _ M hM

/-- Four choices by the quotient of a column by 128. -/
theorem pick_lane (f : Fin 4 → Fin 128 → EReal) (e : Fin 512) :
    (if h0 : e.val < 128 then f 0 ⟨e.val, h0⟩ else if h1 : e.val - 128 < 128 then f 1 ⟨e.val - 128, h1⟩ else
      if h2 : e.val - 128 - 128 < 128 then f 2 ⟨e.val - 128 - 128, h2⟩ else f 3 ⟨e.val - 128 - 128 - 128, by omega⟩)
      = f ⟨e.val / 128, by omega⟩ ⟨e.val % 128, Nat.mod_lt _ (by omega)⟩ := by
  split
  · exact congrArg₂ f (Fin.ext (by show 0 = e.val / 128; omega)) (Fin.ext (by show e.val = e.val % 128; omega))
  split
  · exact congrArg₂ f (Fin.ext (by show 1 = e.val / 128; omega)) (Fin.ext (by show e.val - 128 = e.val % 128; omega))
  split
  · exact congrArg₂ f (Fin.ext (by show 2 = e.val / 128; omega)) (Fin.ext (by show e.val - 128 - 128 = e.val % 128; omega))
  · exact congrArg₂ f (Fin.ext (by show 3 = e.val / 128; omega)) (Fin.ext (by show e.val - 128 - 128 - 128 = e.val % 128; omega))

/-- Columns of the queries from `o` on. -/
theorem qslice_apply (o : ℕ) (ho : o + 128 ≤ 512) (q : FVec Ideal S512x512 .f32) (h : S512x512.Slices ![0, o] S512x128) (p : Fin 512) (e : Fin 128) :
    extractStridedSlice S512x128 ![0, o] q h (ix2 p e) = q (ix2 p (⟨o + e.val, by omega⟩ : Fin 512)) := by
  pointwise []

/-- Columns of the keys and values from `o` on. -/
theorem kslice_apply (o : ℕ) (ho : o + 128 ≤ 1024) (q : FVec Ideal S256x1024 .f32) (h : S256x1024.Slices ![0, o] S256x128) (p : Fin 256) (e : Fin 128) :
    extractStridedSlice S256x128 ![0, o] q h (ix2 p e) = q (ix2 p (⟨o + e.val, by omega⟩ : Fin 1024)) := by
  pointwise []

/-- A block over arrays that hold the data holds the results. -/
theorem block_apply (D : Data) (R : D.Real) (x : FVec Ideal S512x2048 .f32) (q : FVec Ideal S512x512 .f32)
    (kv : FVec Ideal S256x1024 .f32) (gq gk : Vec Ideal S1x128 .f32) (w : FVec Ideal S512x2048 .bf16) (b : Fin 16) (P : Fin 2048)
    (p : Fin 512) (z : Fin 2048)
    (hx : ∀ z, x (ix2 p z) = D.x1 b P z) (hq : ∀ z, q (ix2 p z) = D.q b P z) (hkv : ∀ j z, kv (ix2 j z) = D.kv b j z)
    (hgq : ∀ e, gq (ix2 (n0 := 1) (n1 := 128) 0 e) = D.gq e) (hgk : ∀ e, gk (ix2 (n0 := 1) (n1 := 128) 0 e) = D.gk e)
    (hw : ∀ e z, w (ix2 e z) = D.wo e z) :
    block x q kv gq gk w (ix3 0 p z) = D.out b P z := by
  have hrq : ∀ d, ∃ r : ℝ, gq (ix2 (n0 := 1) (n1 := 128) 0 d) = (r : EReal) := fun d => by rw [hgq]; exact R.q d
  have hrk : ∀ d, ∃ r : ℝ, gk (ix2 (n0 := 1) (n1 := 128) 0 d) = (r : EReal) := fun d => by rw [hgk]; exact R.k d
  have ho : ∀ (h : Fin 4) (hq' : S512x512.Slices ![0, h.val * 128] S512x128) (hk' : S256x1024.Slices ![0, h.val * 128] S256x128)
      (hv' : S256x1024.Slices ![0, 512 + h.val * 128] S256x128) (d : Fin 128),
      head (extractStridedSlice S512x128 ![0, h.val * 128] q hq') (extractStridedSlice S256x128 ![0, h.val * 128] kv hk')
        (extractStridedSlice S256x128 ![0, 512 + h.val * 128] kv hv') gq gk (ix2 p d) = D.o b P h d := fun h hq' hk' hv' d => by
    rw [head_apply _ _ _ _ _ hrq hrk]
    simp only [qslice_apply (h.val * 128) (by omega), kslice_apply (h.val * 128) (by omega), kslice_apply (512 + h.val * 128) (by omega),
      hq, hkv, hgq, hgk]
    unfold Data.o Data.qn Data.kn
    refine congrArg (att _ _) (funext fun j => congrArg (D.kv b j) (Fin.ext ?_))
    show 512 + h.val * 128 + d.val = 512 + (h.val * 128 + d.val)
    omega
  unfold block
  refine (fin_apply _ _ _ _ _ _ p z).trans ?_
  rw [hx]
  refine congrArg (fun s : EReal => D.x1 b P z + s) (Finset.sum_congr rfl fun e _ => ?_)
  rw [hw]
  refine congrArg (fun s : EReal => s * D.wo e z) (Eq.trans ?_ (pick_lane (D.o b P) e))
  have h0 := ho 0 slices_S512x512_o0_0_S512x128 slices_S256x1024_o0_0_S256x128 slices_S256x1024_o0_512_S256x128
  have h1 := ho 1 slices_S512x512_o0_128_S512x128 slices_S256x1024_o0_128_S256x128 slices_S256x1024_o0_640_S256x128
  have h2 := ho 2 slices_S512x512_o0_256_S512x128 slices_S256x1024_o0_256_S256x128 slices_S256x1024_o0_768_S256x128
  have h3 := ho 3 slices_S512x512_o0_384_S512x128 slices_S256x1024_o0_384_S256x128 slices_S256x1024_o0_896_S256x128
  split
  · exact h0 _
  split
  · exact h1 _
  split
  · exact h2 _
  · exact h3 _

end Cert.CrossAttn

end
-- ==== Proof.Cross.Array.lean ====
/-
  The cross-attention's blocks in its arrays, what each point leaves, and the array after the run.
-/
module

public import proofs.«01_k».proof.Proof.Cross.Block
public import Idealize.ShloMosaic.Lib.Pipeline.Value

@[expose] public section

set_option maxRecDepth 16384

noncomputable section

namespace Cert.CrossAttn

open Cert.CrossIdeal Cert.CrossIdeal.Gen Cert.CrossIdeal.Value Idealize.ShloMosaic Idealize.ShloMosaic.TcCoe Idealize.SL.Sem
open Idealize.ShloMosaic.Pointwise Cert.Dense Cert.Soft

/-! ## The blocks of each window -/

theorem index0 : ∀ t : Fin grid0.N, win0_0.index t (0 : Fin 3) = t.val / 4 ∧ win0_0.index t (1 : Fin 3) = t.val % 4 ∧ win0_0.index t (2 : Fin 3) = 0 := by decide +kernel
theorem index1 : ∀ t : Fin grid0.N, win0_1.index t (0 : Fin 3) = t.val / 4 ∧ win0_1.index t (1 : Fin 3) = t.val % 4 ∧ win0_1.index t (2 : Fin 3) = 0 := by decide +kernel
theorem index2 : ∀ t : Fin grid0.N, win0_2.index t (0 : Fin 2) = 0 ∧ win0_2.index t (1 : Fin 2) = 0 := by decide +kernel
theorem index3 : ∀ t : Fin grid0.N, win0_3.index t (0 : Fin 2) = 1 ∧ win0_3.index t (1 : Fin 2) = 0 := by decide +kernel
theorem index4 : ∀ t : Fin grid0.N, win0_4.index t (0 : Fin 3) = t.val / 4 ∧ win0_4.index t (1 : Fin 3) = t.val % 4 ∧ win0_4.index t (2 : Fin 3) = 0 := by decide +kernel
theorem index5 : ∀ t : Fin grid0.N, win0_5.index t (0 : Fin 2) = 0 ∧ win0_5.index t (1 : Fin 2) = 0 := by decide +kernel
theorem index6 : ∀ t : Fin grid0.N, win0_6.index t (0 : Fin 2) = 0 ∧ win0_6.index t (1 : Fin 2) = 0 := by decide +kernel
theorem index7 : ∀ t : Fin grid0.N, win0_7.index t (0 : Fin 3) = t.val / 4 ∧ win0_7.index t (1 : Fin 3) = 0 ∧ win0_7.index t (2 : Fin 3) = 0 := by decide +kernel
theorem index8 : ∀ t : Fin grid0.N, win0_8.index t (0 : Fin 2) = 0 ∧ win0_8.index t (1 : Fin 2) = 0 := by decide +kernel
theorem index9 : ∀ t : Fin grid0.N, win0_9.index t (0 : Fin 2) = 0 ∧ win0_9.index t (1 : Fin 2) = 0 := by decide +kernel
theorem index10 : ∀ t : Fin grid0.N, win0_10.index t (0 : Fin 2) = 0 ∧ win0_10.index t (1 : Fin 2) = 0 := by decide +kernel
theorem index11 : ∀ t : Fin grid0.N, win0_11.index t (0 : Fin 3) = t.val / 4 ∧ win0_11.index t (1 : Fin 3) = t.val % 4 ∧ win0_11.index t (2 : Fin 3) = 0 := by decide +kernel

/-- The batch of a point. -/
def bat (t : Fin cfg0.N) : Fin 16 := ⟨t.val / 4, by have h : t.val < 64 := t.isLt; omega⟩

/-- Query `p` of the block of a point. -/
def pos (t : Fin cfg0.N) (p : Fin 512) : Fin 2048 := ⟨512 * (t.val % 4) + p.val, by omega⟩

theorem emb0 (t : Fin cfg0.N) (u : Fin 1) (p : Fin 512) (d : Fin 1024) :
    ((cfg0.win 0).blk t).view.emb (ix3 u p d) = ix3 (bat t) (pos t p) d := by
  obtain ⟨e0, e1, e2⟩ := index0 t
  funext x
  refine Fin.ext ?_
  match x with
  | ⟨0, _⟩ => show win0_0.index t (0 : Fin 3) * 1 + 1 * u.val = t.val / 4; omega
  | ⟨1, _⟩ => show win0_0.index t (1 : Fin 3) * 512 + 1 * p.val = 512 * (t.val % 4) + p.val; omega
  | ⟨2, _⟩ => show win0_0.index t (2 : Fin 3) * 1024 + 1 * d.val = d.val; omega

theorem emb1 (t : Fin cfg0.N) (u : Fin 1) (p : Fin 512) (d : Fin 1024) :
    ((cfg0.win 1).blk t).view.emb (ix3 u p d) = ix3 (bat t) (pos t p) d := by
  obtain ⟨e0, e1, e2⟩ := index1 t
  funext x
  refine Fin.ext ?_
  match x with
  | ⟨0, _⟩ => show win0_1.index t (0 : Fin 3) * 1 + 1 * u.val = t.val / 4; omega
  | ⟨1, _⟩ => show win0_1.index t (1 : Fin 3) * 512 + 1 * p.val = 512 * (t.val % 4) + p.val; omega
  | ⟨2, _⟩ => show win0_1.index t (2 : Fin 3) * 1024 + 1 * d.val = d.val; omega

theorem emb2 (t : Fin cfg0.N) (d : Fin 1024) (z : Fin 2048) :
    ((cfg0.win 2).blk t).view.emb (ix2 d z) = ix2 (lo d) z := by
  obtain ⟨e0, e1⟩ := index2 t
  funext x
  refine Fin.ext ?_
  match x with
  | ⟨0, _⟩ => show win0_2.index t (0 : Fin 2) * 1024 + 1 * d.val = d.val; omega
  | ⟨1, _⟩ => show win0_2.index t (1 : Fin 2) * 2048 + 1 * z.val = z.val; omega

theorem emb3 (t : Fin cfg0.N) (d : Fin 1024) (z : Fin 2048) :
    ((cfg0.win 3).blk t).view.emb (ix2 d z) = ix2 (up d) z := by
  obtain ⟨e0, e1⟩ := index3 t
  funext x
  refine Fin.ext ?_
  match x with
  | ⟨0, _⟩ => show win0_3.index t (0 : Fin 2) * 1024 + 1 * d.val = 1024 + d.val; omega
  | ⟨1, _⟩ => show win0_3.index t (1 : Fin 2) * 2048 + 1 * z.val = z.val; omega

theorem emb4 (t : Fin cfg0.N) (u : Fin 1) (p : Fin 512) (d : Fin 2048) :
    ((cfg0.win 4).blk t).view.emb (ix3 u p d) = ix3 (bat t) (pos t p) d := by
  obtain ⟨e0, e1, e2⟩ := index4 t
  funext x
  refine Fin.ext ?_
  match x with
  | ⟨0, _⟩ => show win0_4.index t (0 : Fin 3) * 1 + 1 * u.val = t.val / 4; omega
  | ⟨1, _⟩ => show win0_4.index t (1 : Fin 3) * 512 + 1 * p.val = 512 * (t.val % 4) + p.val; omega
  | ⟨2, _⟩ => show win0_4.index t (2 : Fin 3) * 2048 + 1 * d.val = d.val; omega

theorem emb5 (t : Fin cfg0.N) (u : Fin 1) (d : Fin 2048) :
    ((cfg0.win 5).blk t).view.emb (ix2 u d) = ix2 (n0 := 1) (n1 := 2048) 0 d := by
  obtain ⟨e0, e1⟩ := index5 t
  funext x
  refine Fin.ext ?_
  match x with
  | ⟨0, _⟩ => show win0_5.index t (0 : Fin 2) * 1 + 1 * u.val = 0; omega
  | ⟨1, _⟩ => show win0_5.index t (1 : Fin 2) * 2048 + 1 * d.val = d.val; omega

theorem emb6 (t : Fin cfg0.N) (d : Fin 2048) (z : Fin 512) :
    ((cfg0.win 6).blk t).view.emb (ix2 d z) = ix2 d z := by
  obtain ⟨e0, e1⟩ := index6 t
  funext x
  refine Fin.ext ?_
  match x with
  | ⟨0, _⟩ => show win0_6.index t (0 : Fin 2) * 2048 + 1 * d.val = d.val; omega
  | ⟨1, _⟩ => show win0_6.index t (1 : Fin 2) * 512 + 1 * z.val = z.val; omega

theorem emb7 (t : Fin cfg0.N) (u : Fin 1) (p : Fin 256) (d : Fin 1024) :
    ((cfg0.win 7).blk t).view.emb (ix3 u p d) = ix3 (bat t) p d := by
  obtain ⟨e0, e1, e2⟩ := index7 t
  funext x
  refine Fin.ext ?_
  match x with
  | ⟨0, _⟩ => show win0_7.index t (0 : Fin 3) * 1 + 1 * u.val = t.val / 4; omega
  | ⟨1, _⟩ => show win0_7.index t (1 : Fin 3) * 256 + 1 * p.val = p.val; omega
  | ⟨2, _⟩ => show win0_7.index t (2 : Fin 3) * 1024 + 1 * d.val = d.val; omega

theorem emb8 (t : Fin cfg0.N) (u : Fin 1) (d : Fin 128) :
    ((cfg0.win 8).blk t).view.emb (ix2 u d) = ix2 (n0 := 1) (n1 := 128) 0 d := by
  obtain ⟨e0, e1⟩ := index8 t
  funext x
  refine Fin.ext ?_
  match x with
  | ⟨0, _⟩ => show win0_8.index t (0 : Fin 2) * 1 + 1 * u.val = 0; omega
  | ⟨1, _⟩ => show win0_8.index t (1 : Fin 2) * 128 + 1 * d.val = d.val; omega

theorem emb9 (t : Fin cfg0.N) (u : Fin 1) (d : Fin 128) :
    ((cfg0.win 9).blk t).view.emb (ix2 u d) = ix2 (n0 := 1) (n1 := 128) 0 d := by
  obtain ⟨e0, e1⟩ := index9 t
  funext x
  refine Fin.ext ?_
  match x with
  | ⟨0, _⟩ => show win0_9.index t (0 : Fin 2) * 1 + 1 * u.val = 0; omega
  | ⟨1, _⟩ => show win0_9.index t (1 : Fin 2) * 128 + 1 * d.val = d.val; omega

theorem emb10 (t : Fin cfg0.N) (d : Fin 512) (z : Fin 2048) :
    ((cfg0.win 10).blk t).view.emb (ix2 d z) = ix2 d z := by
  obtain ⟨e0, e1⟩ := index10 t
  funext x
  refine Fin.ext ?_
  match x with
  | ⟨0, _⟩ => show win0_10.index t (0 : Fin 2) * 512 + 1 * d.val = d.val; omega
  | ⟨1, _⟩ => show win0_10.index t (1 : Fin 2) * 2048 + 1 * z.val = z.val; omega

theorem emb11 (t : Fin cfg0.N) (u : Fin 1) (p : Fin 512) (d : Fin 2048) :
    ((cfg0.win 11).blk t).view.emb (ix3 u p d) = ix3 (bat t) (pos t p) d := by
  obtain ⟨e0, e1, e2⟩ := index11 t
  funext x
  refine Fin.ext ?_
  match x with
  | ⟨0, _⟩ => show win0_11.index t (0 : Fin 3) * 1 + 1 * u.val = t.val / 4; omega
  | ⟨1, _⟩ => show win0_11.index t (1 : Fin 3) * 512 + 1 * p.val = 512 * (t.val % 4) + p.val; omega
  | ⟨2, _⟩ => show win0_11.index t (2 : Fin 3) * 2048 + 1 * d.val = d.val; omega

/-! ## The arguments as the region finds them -/

variable (m : (ℓ : Loc nD τ sig) → Buf (Elt Ideal) ℓ)

/-- The data of a core's arguments. -/
def data (c : Dev nD) : Data where
  a1 b p d := m (c, Proc.devRef .tc main_arg0) (ix3 (n0 := 16) (n1 := 2048) (n2 := 1024) b p d)
  a2 b p d := m (c, Proc.devRef .tc main_arg1) (ix3 (n0 := 16) (n1 := 2048) (n2 := 1024) b p d)
  wm d z := m (c, Proc.devRef .tc main_arg2) (ix2 (n0 := 2048) (n1 := 2048) d z)
  x b p z := m (c, Proc.devRef .tc main_arg3) (ix3 (n0 := 16) (n1 := 2048) (n2 := 2048) b p z)
  kv b j z := m (c, Proc.devRef .tc main_arg4) (ix3 (n0 := 16) (n1 := 256) (n2 := 1024) b j z)
  g d := m (c, Proc.devRef .tc main_arg5) (ix1 (n0 := 2048) d)
  wq d z := m (c, Proc.devRef .tc main_arg6) (ix2 (n0 := 2048) (n1 := 512) d z)
  gq d := m (c, Proc.devRef .tc main_arg7) (ix1 (n0 := 128) d)
  gk d := m (c, Proc.devRef .tc main_arg8) (ix1 (n0 := 128) d)
  wo d z := m (c, Proc.devRef .tc main_arg9) (ix2 (n0 := 512) (n1 := 2048) d z)

theorem host_wm (c : Dev nD) (d z : Fin 2048) : V m c main_v0 (ix2 (n0 := 2048) (n1 := 2048) d z) = (data m c).wm d z := by
  unfold V hostOps0
  after_results_simp
  pointwise []
  rfl

theorem host_wq (c : Dev nD) (d : Fin 2048) (z : Fin 512) : V m c main_v1 (ix2 (n0 := 2048) (n1 := 512) d z) = (data m c).wq d z := by
  unfold V hostOps0
  after_results_simp
  pointwise []
  rfl

theorem host_wo (c : Dev nD) (d : Fin 512) (z : Fin 2048) : V m c main_v2 (ix2 (n0 := 512) (n1 := 2048) d z) = (data m c).wo d z := by
  unfold V hostOps0
  after_results_simp
  pointwise []
  rfl

theorem host_g (c : Dev nD) (d : Fin 2048) : V m c main_v3 (ix2 (n0 := 1) (n1 := 2048) 0 d) = (data m c).g d := by
  unfold V hostOps0
  after_results_simp
  pointwise []
  rfl

theorem host_gq (c : Dev nD) (d : Fin 128) : V m c main_v4 (ix2 (n0 := 1) (n1 := 128) 0 d) = (data m c).gq d := by
  unfold V hostOps0
  after_results_simp
  pointwise []
  rfl

theorem host_gk (c : Dev nD) (d : Fin 128) : V m c main_v5 (ix2 (n0 := 1) (n1 := 128) 0 d) = (data m c).gk d := by
  unfold V hostOps0
  after_results_simp
  pointwise []
  rfl

theorem blk_a1 (c : Dev nD) (t : Fin cfg0.N) (p : Fin 512) (d : Fin 1024) : iblk m c 0 t (ix3 (n0 := 1) (n1 := 512) (n2 := 1024) 0 p d) = (data m c).a1 (bat t) (pos t p) d := by
  show V m c main_arg0 (((cfg0.win 0).blk t).view.emb (ix3 0 p d)) = _
  rw [emb0, V_main_arg0]; rfl

theorem blk_a2 (c : Dev nD) (t : Fin cfg0.N) (p : Fin 512) (d : Fin 1024) : iblk m c 1 t (ix3 (n0 := 1) (n1 := 512) (n2 := 1024) 0 p d) = (data m c).a2 (bat t) (pos t p) d := by
  show V m c main_arg1 (((cfg0.win 1).blk t).view.emb (ix3 0 p d)) = _
  rw [emb1, V_main_arg1]; rfl

theorem blk_w1 (c : Dev nD) (t : Fin cfg0.N) (d : Fin 1024) (z : Fin 2048) : iblk m c 2 t (ix2 (n0 := 1024) (n1 := 2048) d z) = (data m c).wm (lo d) z := by
  show V m c main_v0 (((cfg0.win 2).blk t).view.emb (ix2 d z)) = _
  rw [emb2, host_wm]

theorem blk_w2 (c : Dev nD) (t : Fin cfg0.N) (d : Fin 1024) (z : Fin 2048) : iblk m c 3 t (ix2 (n0 := 1024) (n1 := 2048) d z) = (data m c).wm (up d) z := by
  show V m c main_v0 (((cfg0.win 3).blk t).view.emb (ix2 d z)) = _
  rw [emb3, host_wm]

theorem blk_x (c : Dev nD) (t : Fin cfg0.N) (p : Fin 512) (d : Fin 2048) : iblk m c 4 t (ix3 (n0 := 1) (n1 := 512) (n2 := 2048) 0 p d) = (data m c).x (bat t) (pos t p) d := by
  show V m c main_arg3 (((cfg0.win 4).blk t).view.emb (ix3 0 p d)) = _
  rw [emb4, V_main_arg3]; rfl

theorem blk_g (c : Dev nD) (t : Fin cfg0.N) (d : Fin 2048) : iblk m c 5 t (ix2 (n0 := 1) (n1 := 2048) 0 d) = (data m c).g d := by
  show V m c main_v3 (((cfg0.win 5).blk t).view.emb (ix2 0 d)) = _
  rw [emb5, host_g]

theorem blk_wq (c : Dev nD) (t : Fin cfg0.N) (d : Fin 2048) (z : Fin 512) : iblk m c 6 t (ix2 (n0 := 2048) (n1 := 512) d z) = (data m c).wq d z := by
  show V m c main_v1 (((cfg0.win 6).blk t).view.emb (ix2 d z)) = _
  rw [emb6, host_wq]

theorem blk_kv (c : Dev nD) (t : Fin cfg0.N) (p : Fin 256) (d : Fin 1024) : iblk m c 7 t (ix3 (n0 := 1) (n1 := 256) (n2 := 1024) 0 p d) = (data m c).kv (bat t) p d := by
  show V m c main_arg4 (((cfg0.win 7).blk t).view.emb (ix3 0 p d)) = _
  rw [emb7, V_main_arg4]; rfl

theorem blk_gq (c : Dev nD) (t : Fin cfg0.N) (d : Fin 128) : iblk m c 8 t (ix2 (n0 := 1) (n1 := 128) 0 d) = (data m c).gq d := by
  show V m c main_v4 (((cfg0.win 8).blk t).view.emb (ix2 0 d)) = _
  rw [emb8, host_gq]

theorem blk_gk (c : Dev nD) (t : Fin cfg0.N) (d : Fin 128) : iblk m c 9 t (ix2 (n0 := 1) (n1 := 128) 0 d) = (data m c).gk d := by
  show V m c main_v5 (((cfg0.win 9).blk t).view.emb (ix2 0 d)) = _
  rw [emb9, host_gk]

theorem blk_wo (c : Dev nD) (t : Fin cfg0.N) (d : Fin 512) (z : Fin 2048) : iblk m c 10 t (ix2 (n0 := 512) (n1 := 2048) d z) = (data m c).wo d z := by
  show V m c main_v2 (((cfg0.win 10).blk t).view.emb (ix2 d z)) = _
  rw [emb10, host_wo]

/-! ## What each point leaves -/

variable {m}

/-- A point's rows after the mixing projection. -/
theorem mix_eq (c : Dev nD) (t : Fin cfg0.N) (p : Fin 512) (z : Fin 2048) :
    k0_pay2 (F := Ideal) (iblk m c 4 t) (iblk m c 0 t) (iblk m c 2 t) (iblk m c 1 t) (iblk m c 3 t) (ix2 p z)
      = (data m c).x1 (bat t) (pos t p) z := by
  refine (mix_apply _ _ _ _ _ p z).trans ?_
  unfold Data.x1
  refine congrArg₂ _ (congrArg₂ _ (blk_x m c t p z) (Finset.sum_congr rfl fun d _ => ?_)) (Finset.sum_congr rfl fun d _ => ?_)
  · exact congrArg₂ _ (blk_a1 m c t p d) (blk_w1 m c t d z)
  · exact congrArg₂ _ (blk_a2 m c t p d) (blk_w2 m c t d z)

/-- A point's queries. -/
theorem q_eq (c : Dev nD) (t : Fin cfg0.N) (p : Fin 512) (z : Fin 512) :
    k0_pay3 (F := Ideal) (iblk m c 4 t) (iblk m c 0 t) (iblk m c 2 t) (iblk m c 1 t) (iblk m c 3 t) (iblk m c 5 t) (iblk m c 6 t) (ix2 p z)
      = (data m c).q (bat t) (pos t p) z := by
  refine (q_apply _ _ _ _ _ _ _ _ rfl p z).trans ?_
  unfold Data.q
  refine Finset.sum_congr rfl fun d _ => congrArg₂ _ ?_ (blk_wq m c t d z)
  exact congrArg₂ (fun u v => nrow u v d) (funext fun e => mix_eq c t p e) (funext fun e => blk_g m c t e)

/-- A point writes its queries' results. -/
theorem point_apply (c : Dev nD) (R : (data m c).Real) (t : Fin cfg0.N) (p : Fin 512) (z : Fin 2048) :
    (dats m 0 c).flushed 11 t (ix3 0 p z) = (data m c).out (bat t) (pos t p) z := by
  rw [flushed11]
  refine (congrFun (out_eq (iblk m c 0 t) (iblk m c 1 t) (iblk m c 2 t) (iblk m c 3 t) (iblk m c 4 t) (iblk m c 5 t)
    (iblk m c 6 t) (iblk m c 7 t) (iblk m c 8 t) (iblk m c 9 t) (iblk m c 10 t)) (ix3 0 p z)).trans ?_
  exact block_apply (data m c) R _ _ _ _ _ _ (bat t) (pos t p) p z (mix_eq c t p) (q_eq c t p)
    (fun j e => (kv_apply _ j e).trans (blk_kv m c t j e)) (blk_gq m c t) (blk_gk m c t) (blk_wo m c t)

/-- The array after the run. -/
theorem array_eq (c : Dev nD) (R : (data m c).Real) : (dats m 0 c).arrAt 11 cfg0.N = (data m c).arr := by
  refine (dats m 0 c).arrAt_eq_of_cover 11 (data m c).arr (fun t _ => ?_) (fun y => ?_)
  · funext y
    obtain ⟨u, p, z, rfl⟩ : ∃ (u : Fin 1) (p : Fin 512) (z : Fin 2048), y = ix3 u p z := ⟨y 0, y 1, y 2, eq_ix3 y⟩
    obtain rfl : u = 0 := Subsingleton.elim _ _
    refine (point_apply c R t p z).trans ?_
    show _ = (data m c).arr (((cfg0.win 11).blk t).view.emb (ix3 0 p z))
    rw [emb11]
    rfl
  · obtain ⟨b, p, z, rfl⟩ : ∃ (b : Fin 16) (p z : Fin 2048), y = ix3 b p z := ⟨y 0, y 1, y 2, eq_ix3 y⟩
    have hN : 4 * b.val + p.val / 512 < cfg0.N := by
      show _ < 64
      omega
    refine ⟨⟨4 * b.val + p.val / 512, hN⟩, flush0_11 _, ?_⟩
    have h := ((cfg0.win 11).blk ⟨4 * b.val + p.val / 512, hN⟩).view.emb_mem_set
      (ix3 (0 : Fin 1) (⟨p.val % 512, Nat.mod_lt _ (by omega)⟩ : Fin 512) z)
    rw [emb11] at h
    have e : bat ⟨4 * b.val + p.val / 512, hN⟩ = b := by
      refine Fin.ext ?_
      show (4 * b.val + p.val / 512) / 4 = b.val
      omega
    have e' : pos ⟨4 * b.val + p.val / 512, hN⟩ ⟨p.val % 512, Nat.mod_lt _ (by omega)⟩ = p := by
      refine Fin.ext ?_
      show 512 * ((4 * b.val + p.val / 512) % 4) + p.val % 512 = p.val
      omega
    rwa [e, e'] at h

end Cert.CrossAttn

end
-- ==== Proof.Cross.Ref.lean ====
/-
  The reference's cross-attention in named steps, read entry by entry.
-/
module

public import proofs.«01_k».proof.Proof.Gen.CrossRefIdeal.Run
public import proofs.«01_k».proof.Proof.Cross.Data
public import Idealize.ShloMosaic.Lib.Pointwise

@[expose] public section

set_option maxRecDepth 16384

noncomputable section

namespace Cert.CrossAttn.Ref

open Cert.CrossRefIdeal Cert.CrossRefIdeal.Gen Idealize.ShloMosaic Idealize.ShloMosaic.TcCoe Idealize.SL.Sem
open Idealize.ShloMosaic.Pointwise Cert.Dense Cert.Soft Cert.CrossAttn

/-! ## The steps -/

/-- The rows after the mixing projection. -/
def mixed (A0 A1 : Vec Ideal S16x2048x1024 .bf16) (A2 : FVec Ideal S2048x2048 .f32) (A3 : Vec Ideal S16x2048x2048 .f32) : FVec Ideal S16x2048x2048 .f32 :=
  addf A3 (Host.dotGeneral dot_S16x2048x2048_S2048x2048_S16x2048x2048_2_0_01_1_n_n none (extf .f32 (concatenate S16x2048x2048 2 [⟨S16x2048x1024, A0⟩, ⟨S16x2048x1024, A1⟩] concatenates_S16x2048x1024_S16x2048x1024_S16x2048x2048_d2) bitsLt_bf16_f32) A2)

/-- The normalised rows. -/
def rows (X1 : FVec Ideal S16x2048x2048 .f32) (A5 : Vec Ideal S2048 .f32) : FVec Ideal S16x2048x2048 .f32 :=
  mulf (mulf X1 (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf X1 X1) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 A5))

/-- The queries by heads. -/
def queries (NR : FVec Ideal S16x2048x2048 .f32) (A6 : FVec Ideal S2048x512 .f32) : FVec Ideal S16x2048x4x128 .f32 :=
  shapeCast _ (Host.dotGeneral dot_S16x2048x2048_S2048x512_S16x2048x512_2_0_01_1_n_n none NR A6) shapeCasts_S16x2048x512_S16x2048x4x128

/-- The normalised queries. -/
def qnorm (Q : FVec Ideal S16x2048x4x128 .f32) (A7 : Vec Ideal S128 .f32) : FVec Ideal S16x2048x4x128 .f32 :=
  mulf (mulf Q (broadcastInDim S16x2048x4x128 ![0, 1, 2, 3] bcast_S16x2048x4x1_S16x2048x4x128_0_1_2_3 (Host.rsqrt (addf (Host.divf (broadcastInDim S16x2048x4x1 ![0, 1, 2] bcast_S16x2048x4_S16x2048x4x1_0_1_2 (Host.reduceAdd (mulf Q Q) (constant S_ .f32 0x00000000#32) reducesTo_S16x2048x4x128_S16x2048x4_d3 h_S_)) (broadcastInDim S16x2048x4x1 ![] bcast_S_S16x2048x4x1 (constant S_ .f32 0x43000000#32))) (broadcastInDim S16x2048x4x1 ![] bcast_S_S16x2048x4x1 (constant S_ .f32 0x358637BD#32)))))) (broadcastInDim S16x2048x4x128 ![0, 1, 2, 3] bcast_S1x1x1x128_S16x2048x4x128_0_1_2_3 (broadcastInDim S1x1x1x128 ![3] bcast_S128_S1x1x1x128_3 A7))

/-- The keys by heads. -/
def keys (A4 : FVec Ideal S16x256x1024 .f32) : FVec Ideal S16x256x4x128 .f32 :=
  shapeCast _ (extractStridedSlice S16x256x512 ![0, 0, 0] A4 slices_S16x256x1024_S16x256x512_0_0_0) shapeCasts_S16x256x512_S16x256x4x128

/-- The normalised keys. -/
def knorm (K : FVec Ideal S16x256x4x128 .f32) (A8 : Vec Ideal S128 .f32) : FVec Ideal S16x256x4x128 .f32 :=
  mulf (mulf K (broadcastInDim S16x256x4x128 ![0, 1, 2, 3] bcast_S16x256x4x1_S16x256x4x128_0_1_2_3 (Host.rsqrt (addf (Host.divf (broadcastInDim S16x256x4x1 ![0, 1, 2] bcast_S16x256x4_S16x256x4x1_0_1_2 (Host.reduceAdd (mulf K K) (constant S_ .f32 0x00000000#32) reducesTo_S16x256x4x128_S16x256x4_d3 h_S_)) (broadcastInDim S16x256x4x1 ![] bcast_S_S16x256x4x1 (constant S_ .f32 0x43000000#32))) (broadcastInDim S16x256x4x1 ![] bcast_S_S16x256x4x1 (constant S_ .f32 0x358637BD#32)))))) (broadcastInDim S16x256x4x128 ![0, 1, 2, 3] bcast_S1x1x1x128_S16x256x4x128_0_1_2_3 (broadcastInDim S1x1x1x128 ![3] bcast_S128_S1x1x1x128_3 A8))

/-- The values by heads. -/
def values (A4 : FVec Ideal S16x256x1024 .f32) : FVec Ideal S16x256x4x128 .f32 :=
  shapeCast _ (extractStridedSlice S16x256x512 ![0, 0, 512] A4 slices_S16x256x1024_S16x256x512_0_0_512) shapeCasts_S16x256x512_S16x256x4x128

/-- The scaled scores. -/
def scores (QN : FVec Ideal S16x2048x4x128 .f32) (KN : FVec Ideal S16x256x4x128 .f32) : FVec Ideal S16x4x2048x256 .f32 :=
  mulf (Host.dotGeneral dot_S16x2048x4x128_S16x256x4x128_S16x4x2048x256_3_3_1_1_02_02 none QN KN) (broadcastInDim S16x4x2048x256 ![] bcast_S_S16x4x2048x256 (constant S_ .f32 0x3DB504F3#32))

/-- The exponentials of the scores less their greatest. -/
def exps (S : FVec Ideal S16x4x2048x256 .f32) : FVec Ideal S16x4x2048x256 .f32 :=
  Host.exp (subf S (broadcastInDim S16x4x2048x256 ![0, 1, 2, 3] bcast_S16x4x2048x1_S16x4x2048x256_0_1_2_3 (broadcastInDim S16x4x2048x1 ![0, 1, 2] bcast_S16x4x2048_S16x4x2048x1_0_1_2 (maximumf (broadcastInDim S16x4x2048 ![] bcast_S_S16x4x2048 (constant S_ .f32 0xFF800000#32)) (Host.reduce FloatOps.maximumf S (constant S_ .f32 0xFF800000#32) reducesTo_S16x4x2048x256_S16x4x2048_d3 h_S_)))))

/-- The weights. -/
def probs (E : FVec Ideal S16x4x2048x256 .f32) : FVec Ideal S16x4x2048x256 .f32 :=
  Host.divf E (broadcastInDim S16x4x2048x256 ![0, 1, 2, 3] bcast_S16x4x2048x1_S16x4x2048x256_0_1_2_3 (broadcastInDim S16x4x2048x1 ![0, 1, 2] bcast_S16x4x2048_S16x4x2048x1_0_1_2 (Host.reduceAdd E (constant S_ .f32 0x00000000#32) reducesTo_S16x4x2048x256_S16x4x2048_d3 h_S_)))

/-- The heads' results side by side. -/
def heads (VV : FVec Ideal S16x256x4x128 .f32) (PP : FVec Ideal S16x4x2048x256 .f32) : FVec Ideal S16x2048x512 .f32 :=
  shapeCast _ (transpose S16x2048x4x128 [0, 3, 1, 2] (Host.dotGeneral dot_S16x256x4x128_S16x4x2048x256_S16x4x128x2048_1_3_3_2_02_01 none VV PP) transposes_S16x4x128x2048_S16x2048x4x128_0_3_1_2) shapeCasts_S16x2048x4x128_S16x2048x512

/-- The output projection with its residual. -/
def final (X1 : FVec Ideal S16x2048x2048 .f32) (O : FVec Ideal S16x2048x512 .f32) (A9 : FVec Ideal S512x2048 .f32) : FVec Ideal S16x2048x2048 .f32 :=
  addf X1 (Host.dotGeneral dot_S16x2048x512_S512x2048_S16x2048x2048_2_0_01_1_n_n none O A9)

/-- The whole. -/
def whole (A0 A1 : Vec Ideal S16x2048x1024 .bf16) (A2 : FVec Ideal S2048x2048 .f32) (A3 : Vec Ideal S16x2048x2048 .f32)
    (A4 : FVec Ideal S16x256x1024 .f32) (A5 : Vec Ideal S2048 .f32) (A6 : FVec Ideal S2048x512 .f32) (A7 A8 : Vec Ideal S128 .f32)
    (A9 : FVec Ideal S512x2048 .f32) : FVec Ideal S16x2048x2048 .f32 :=
  final (mixed A0 A1 A2 A3)
    (heads (values A4) (probs (exps (scores (qnorm (queries (rows (mixed A0 A1 A2 A3) A5) A6) A7) (knorm (keys A4) A8))))) A9

theorem result_whole (m : (ℓ : Loc nD τ sig) → Buf (Elt Ideal) ℓ) (c : Dev nD) :
    Value.res_main_v67 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := by
  unfold Value.res_main_v67
  rfl

/-! ## Entries -/

/-- A row of the two halves against the mixing weights, half by half. -/
theorem mix_sum (f h : Fin 1024 → EReal) (w : Fin 2048 → EReal) :
    ∑ d : Fin 2048, (if hd : d.val < 1024 then f ⟨d.val, hd⟩ else h ⟨d.val - 1024, by omega⟩) * w d
      = ∑ d, f d * w (lo d) + ∑ d, h d * w (up d) := by
  refine (Fin.sum_univ_add (a := 1024) (b := 1024) _).trans (congrArg₂ _ ?_ ?_)
  · refine Finset.sum_congr rfl fun d _ => ?_
    rw [dif_pos (show (Fin.castAdd 1024 d).val < 1024 from d.isLt)]
    rfl
  · refine Finset.sum_congr rfl fun d _ => ?_
    rw [dif_neg (show ¬(Fin.natAdd 1024 d).val < 1024 from by simp)]
    refine congrArg₂ _ (congrArg h (Fin.ext ?_)) rfl
    simp

theorem mixed_apply (A0 A1 : Vec Ideal S16x2048x1024 .bf16) (A2 : FVec Ideal S2048x2048 .f32) (A3 : Vec Ideal S16x2048x2048 .f32)
    (b : Fin 16) (p z : Fin 2048) :
    mixed A0 A1 A2 A3 (ix3 b p z)
      = A3 (ix3 b p z) + ∑ d, A0 (ix3 b p d) * A2 (ix2 (lo d) z) + ∑ d, A1 (ix3 b p d) * A2 (ix2 (up d) z) := by
  rw [add_assoc, ← mix_sum (fun d => A0 (ix3 b p d)) (fun d => A1 (ix3 b p d)) (fun d => A2 (ix2 d z))]
  pointwise [mixed]

theorem rows_apply (X1 : FVec Ideal S16x2048x2048 .f32) (A5 : Vec Ideal S2048 .f32) (b : Fin 16) (p d : Fin 2048) :
    rows X1 A5 (ix3 b p d) = nrow (fun e => X1 (ix3 b p e)) (fun e => A5 (ix1 e)) d := by
  pointwise [rows]
  rfl

theorem queries_apply (NR : FVec Ideal S16x2048x2048 .f32) (A6 : FVec Ideal S2048x512 .f32) (b : Fin 16) (p : Fin 2048) (h : Fin 4) (d : Fin 128) :
    queries NR A6 (ix4 b p h d) = ∑ e, NR (ix3 b p e) * A6 (ix2 e (lane h d)) := by
  pointwise [queries]
  rfl

theorem qnorm_apply (Q : FVec Ideal S16x2048x4x128 .f32) (A7 : Vec Ideal S128 .f32) (b : Fin 16) (p : Fin 2048) (h : Fin 4) (d : Fin 128) :
    qnorm Q A7 (ix4 b p h d) = rms (fun e => Q (ix4 b p h e)) (fun e => A7 (ix1 e)) d := by
  pointwise [qnorm]
  rfl

theorem keys_apply (A4 : FVec Ideal S16x256x1024 .f32) (b : Fin 16) (j : Fin 256) (h : Fin 4) (d : Fin 128) :
    keys A4 (ix4 b j h d) = A4 (ix3 b j (kcol (lane h d))) := by
  pointwise [keys]
  rfl

theorem knorm_apply (K : FVec Ideal S16x256x4x128 .f32) (A8 : Vec Ideal S128 .f32) (b : Fin 16) (j : Fin 256) (h : Fin 4) (d : Fin 128) :
    knorm K A8 (ix4 b j h d) = rms (fun e => K (ix4 b j h e)) (fun e => A8 (ix1 e)) d := by
  pointwise [knorm]
  rfl

theorem values_apply (A4 : FVec Ideal S16x256x1024 .f32) (b : Fin 16) (j : Fin 256) (h : Fin 4) (d : Fin 128) :
    values A4 (ix4 b j h d) = A4 (ix3 b j (vcol (lane h d))) := by
  pointwise [values]
  rfl

theorem scores_apply (QN : FVec Ideal S16x2048x4x128 .f32) (KN : FVec Ideal S16x256x4x128 .f32) (b : Fin 16) (h : Fin 4) (p : Fin 2048) (j : Fin 256) :
    scores QN KN (ix4 b h p j) = (∑ d, QN (ix4 b p h d) * KN (ix4 b j h d)) * Ideal.ofBits .f32 0x3DB504F3#32 := by
  pointwise [scores]

/-- A row's maximum. -/
theorem max_apply {n0 n1 n2 n3 : ℕ} (s : FVec Ideal ⟨4, ![n0, n1, n2, n3]⟩ .f32) (init : FVec Ideal S_ .f32)
    (h : (⟨4, ![n0, n1, n2, n3]⟩ : Shape).ReducesTo [3] ⟨3, ![n0, n1, n2]⟩) (hu : 0 < S_.numel)
    (a : Fin n0) (b : Fin n1) (c : Fin n2) :
    (Host.reduce FloatOps.maximumf s init h hu : FVec Ideal ⟨3, ![n0, n1, n2]⟩ .f32) (ix3 a b c)
      = Finset.univ.fold max (init (Shape.Idx.first hu)) (fun k => s (ix4 a b c k)) := by
  pointwise []

/-- An array of the rows' numbers, spread along the rows, with a lower bound. -/
theorem spread_apply (g : FVec Ideal S16x4x2048 .f32) (b : Fin 16) (h : Fin 4) (p : Fin 2048) (j : Fin 256) :
    (broadcastInDim S16x4x2048x256 ![0, 1, 2, 3] bcast_S16x4x2048x1_S16x4x2048x256_0_1_2_3 (broadcastInDim S16x4x2048x1 ![0, 1, 2] bcast_S16x4x2048_S16x4x2048x1_0_1_2 (maximumf (broadcastInDim S16x4x2048 ![] bcast_S_S16x4x2048 (constant S_ .f32 0xFF800000#32)) g)) : FVec Ideal S16x4x2048x256 .f32) (ix4 b h p j)
      = max (Ideal.ofBits .f32 0xFF800000#32) (g (ix3 b h p)) := by
  pointwise []

theorem exps_apply (S : FVec Ideal S16x4x2048x256 .f32) (b : Fin 16) (h : Fin 4) (p : Fin 2048) (j : Fin 256) :
    exps S (ix4 b h p j) = Ideal.exp (S (ix4 b h p j) - max (Ideal.ofBits .f32 0xFF800000#32)
      (Finset.univ.fold max (Ideal.ofBits .f32 0xFF800000#32) (fun i : Fin 256 => S (ix4 b h p i)))) := by
  have hm := max_apply S (constant S_ .f32 0xFF800000#32) reducesTo_S16x4x2048x256_S16x4x2048_d3 h_S_ b h p
  unfold exps
  generalize Host.reduce FloatOps.maximumf S (constant S_ .f32 0xFF800000#32) reducesTo_S16x4x2048x256_S16x4x2048_d3 h_S_ = g at hm ⊢
  show Ideal.exp (S (ix4 b h p j) - _) = _
  rw [spread_apply, hm]
  rfl

theorem probs_apply (E : FVec Ideal S16x4x2048x256 .f32) (b : Fin 16) (h : Fin 4) (p : Fin 2048) (j : Fin 256) :
    probs E (ix4 b h p j) = Ideal.div (E (ix4 b h p j)) (∑ i, E (ix4 b h p i)) := by
  pointwise [probs]

theorem heads_apply (VV : FVec Ideal S16x256x4x128 .f32) (PP : FVec Ideal S16x4x2048x256 .f32) (b : Fin 16) (p : Fin 2048) (e : Fin 512) :
    heads VV PP (ix3 b p e) = ∑ j, VV (ix4 b j (⟨e.val / 128, by omega⟩ : Fin 4) (⟨e.val % 128, Nat.mod_lt _ (by omega)⟩ : Fin 128))
      * PP (ix4 b (⟨e.val / 128, by omega⟩ : Fin 4) p j) := by
  pointwise [heads]

theorem final_apply (X1 : FVec Ideal S16x2048x2048 .f32) (O : FVec Ideal S16x2048x512 .f32) (A9 : FVec Ideal S512x2048 .f32)
    (b : Fin 16) (p z : Fin 2048) : final X1 O A9 (ix3 b p z) = X1 (ix3 b p z) + ∑ e, O (ix3 b p e) * A9 (ix2 e z) := by
  pointwise [final]

end Cert.CrossAttn.Ref

end
-- ==== Proof.Cross.Whole.lean ====
/-
  The reference's cross-attention as the attention over its data.
-/
module

public import proofs.«01_k».proof.Proof.Cross.Ref

@[expose] public section

set_option maxRecDepth 16384

noncomputable section

namespace Cert.CrossAttn.Ref

open Cert.CrossRefIdeal Cert.CrossRefIdeal.Gen Idealize.ShloMosaic Idealize.ShloMosaic.TcCoe Idealize.SL.Sem
open Idealize.ShloMosaic.Pointwise Cert.Dense Cert.Soft Cert.CrossAttn

/-- The attention of normalised queries over normalised keys, entry by entry. -/
theorem attention_apply (QN : FVec Ideal S16x2048x4x128 .f32) (KN VV : FVec Ideal S16x256x4x128 .f32)
    (hq : ∀ b p h d, ∃ r : ℝ, QN (ix4 (n0 := 16) (n1 := 2048) (n2 := 4) (n3 := 128) b p h d) = (r : EReal))
    (hk : ∀ b j h d, ∃ r : ℝ, KN (ix4 (n0 := 16) (n1 := 256) (n2 := 4) (n3 := 128) b j h d) = (r : EReal))
    (b : Fin 16) (p : Fin 2048) (e : Fin 512) :
    heads VV (probs (exps (scores QN KN))) (ix3 b p e)
      = att (fun d => QN (ix4 b p (⟨e.val / 128, by omega⟩ : Fin 4) d)) (fun (j : Fin 256) d => KN (ix4 b j (⟨e.val / 128, by omega⟩ : Fin 4) d))
          (fun j => VV (ix4 b j (⟨e.val / 128, by omega⟩ : Fin 4) (⟨e.val % 128, Nat.mod_lt _ (by omega)⟩ : Fin 128))) := by
  have hs : ∀ (h : Fin 4) (j : Fin 256), scores QN KN (ix4 b h p j)
      = ((score (fun d => QN (ix4 b p h d)) (fun d => KN (ix4 b j h d)) : ℝ) : EReal) := fun h j => by
    rw [scores_apply]
    exact score_ref (fun d => QN (ix4 b p h d)) (fun d => KN (ix4 b j h d)) (hq b p h) (hk b j h)
  rw [heads_apply]
  simp only [probs_apply, exps_apply]
  obtain ⟨M, hM⟩ := weights_ref _ _ (hs ⟨e.val / 128, by omega⟩)
  exact att_ref _ _ _ _ M hM

/-- The data of the reference's arrays. -/
def data (A0 A1 : Vec Ideal S16x2048x1024 .bf16) (A2 : FVec Ideal S2048x2048 .f32) (A3 : Vec Ideal S16x2048x2048 .f32)
    (A4 : FVec Ideal S16x256x1024 .f32) (A5 : Vec Ideal S2048 .f32) (A6 : FVec Ideal S2048x512 .f32) (A7 A8 : Vec Ideal S128 .f32)
    (A9 : FVec Ideal S512x2048 .f32) : Data where
  a1 b p d := A0 (ix3 (n0 := 16) (n1 := 2048) (n2 := 1024) b p d)
  a2 b p d := A1 (ix3 (n0 := 16) (n1 := 2048) (n2 := 1024) b p d)
  wm d z := A2 (ix2 (n0 := 2048) (n1 := 2048) d z)
  x b p z := A3 (ix3 (n0 := 16) (n1 := 2048) (n2 := 2048) b p z)
  kv b j z := A4 (ix3 (n0 := 16) (n1 := 256) (n2 := 1024) b j z)
  g d := A5 (ix1 (n0 := 2048) d)
  wq d z := A6 (ix2 (n0 := 2048) (n1 := 512) d z)
  gq d := A7 (ix1 (n0 := 128) d)
  gk d := A8 (ix1 (n0 := 128) d)
  wo d z := A9 (ix2 (n0 := 512) (n1 := 2048) d z)

theorem whole_apply (A0 A1 : Vec Ideal S16x2048x1024 .bf16) (A2 : FVec Ideal S2048x2048 .f32) (A3 : Vec Ideal S16x2048x2048 .f32)
    (A4 : FVec Ideal S16x256x1024 .f32) (A5 : Vec Ideal S2048 .f32) (A6 : FVec Ideal S2048x512 .f32) (A7 A8 : Vec Ideal S128 .f32)
    (A9 : FVec Ideal S512x2048 .f32) (R : (data A0 A1 A2 A3 A4 A5 A6 A7 A8 A9).Real) (b : Fin 16) (p z : Fin 2048) :
    whole A0 A1 A2 A3 A4 A5 A6 A7 A8 A9 (ix3 b p z) = (data A0 A1 A2 A3 A4 A5 A6 A7 A8 A9).out b p z := by
  have hx : ∀ b p z, mixed A0 A1 A2 A3 (ix3 b p z) = (data A0 A1 A2 A3 A4 A5 A6 A7 A8 A9).x1 b p z := fun b p z => mixed_apply A0 A1 A2 A3 b p z
  have hq : ∀ b p h d, queries (rows (mixed A0 A1 A2 A3) A5) A6 (ix4 b p h d)
      = (data A0 A1 A2 A3 A4 A5 A6 A7 A8 A9).q b p (lane h d) := fun b p h d => by
    rw [queries_apply]
    simp only [rows_apply, hx]
    rfl
  have hn : ∀ b p h d, qnorm (queries (rows (mixed A0 A1 A2 A3) A5) A6) A7 (ix4 b p h d)
      = (data A0 A1 A2 A3 A4 A5 A6 A7 A8 A9).qn b p h d := fun b p h d => by
    rw [qnorm_apply]
    simp only [hq]
    rfl
  have hk : ∀ b j h d, knorm (keys A4) A8 (ix4 b j h d) = (data A0 A1 A2 A3 A4 A5 A6 A7 A8 A9).kn b j h d := fun b j h d => by
    rw [knorm_apply]
    simp only [keys_apply]
    rfl
  unfold whole
  rw [final_apply, hx]
  refine congrArg (fun s : EReal => (data A0 A1 A2 A3 A4 A5 A6 A7 A8 A9).x1 b p z + s) (Finset.sum_congr rfl fun e _ => ?_)
  refine congrArg (fun s : EReal => s * A9 (ix2 e z)) ?_
  rw [attention_apply _ _ _ (fun b p h d => by rw [hn]; exact rms_real _ _ R.q d) (fun b j h d => by rw [hk]; exact rms_real _ _ R.k d)]
  simp only [hn, hk, values_apply]
  rfl

end Cert.CrossAttn.Ref

end
-- ==== Proof.Cross.Claims.lean ====
/-
  The claims about the mixing projection with the cross-attention.
-/
module

public import proofs.«01_k».proof.Proof.Cross.Array
public import proofs.«01_k».proof.Proof.Cross.Whole
public import proofs.«01_k».proof.Proof.Diff.Pre
public import proofs.«01_k».proof.Proof.Gen.Pre_finite_gains
public import proofs.«01_k».proof.Proof.Gen.Cross
public import Idealize.ShloMosaic.Lib.Claim
public import Idealize.ShloMosaic.Lib.Quiescent

@[expose] public section

set_option maxRecDepth 16384

noncomputable section

namespace Cert.CrossAttn

open Idealize.ShloMosaic Idealize.ShloMosaic.TcCoe Idealize.SL.Sem
open Idealize.ShloMosaic.Pointwise

attribute [local instance] Cert.Cross.Gen.facts Cert.CrossIdeal.Gen.facts Cert.CrossRefIdeal.Gen.facts Cert.Pre_finite_gains.Gen.facts

/-- The reference runs, keeps its arguments, and leaves every semaphore at zero. -/
theorem ref_frame : Cert.quiescent_CrossRefIdeal := fun m ρ _ =>
  (θ_run Cert.CrossRefIdeal.defs _ _).mono
    (fun r h => ⟨fun c => (h c).2, Idealize.ShloMosaic.sem_eq_zero_of_no_sems (by decide) r.2⟩)
    (Cert.CrossRefIdeal.Value.run (F := Ideal) m ρ)

/-- The named constant is the one that the rewrite names. -/
theorem preserves : Cert.preserves_Cross_CrossIdeal :=
  IdealRules.named_const.statement Cert.CrossIdeal.κ "cscale" .f32 0x3E0293EE#32 _ rfl

instance : Subsingleton Cert.Pre_finite_gains.S_.Idx := ⟨fun a b => funext fun i => absurd i.isLt (Nat.not_lt_zero _)⟩

/-- The precondition says that the gains of queries and keys are real. -/
theorem real_of_pre (m : (ℓ : Loc Cert.CrossIdeal.nD Cert.CrossIdeal.τ Cert.CrossIdeal.sig) → Buf (Elt Ideal) ℓ)
    (hpre : Cert.Pre_CrossIdeal_finite_gains m) (c : Dev Cert.CrossIdeal.nD) : (data m c).Real := by
  have h0 := congrFun (hpre c) (fun a => absurd a.isLt (Nat.not_lt_zero _))
  unfold Cert.Pre_finite_gains.fn at h0
  dsimp only at h0
  obtain ⟨e7, e8⟩ := IntOp.andi_eq_one.1 h0
  obtain ⟨Q, hQ⟩ := Diff.real_of_all _ _ (fun _ => Diff.ofBits_top) _ _ _ _ e7
  obtain ⟨K, hK⟩ := Diff.real_of_all _ _ (fun _ => Diff.ofBits_top) _ _ _ _ e8
  exact ⟨fun d => ⟨_, hQ _⟩, fun d => ⟨_, hK _⟩⟩

/-- The reference's result on arguments that agree with the kernel's. -/
theorem result_eq (m : (ℓ : Loc Cert.CrossIdeal.nD Cert.CrossIdeal.τ Cert.CrossIdeal.sig) → Buf (Elt Ideal) ℓ) (c : Dev Cert.CrossIdeal.nD)
    (R : (data m c).Real)
    (m' : (ℓ : Loc Cert.CrossRefIdeal.nD Cert.CrossRefIdeal.τ Cert.CrossRefIdeal.sig) → Buf (Elt Ideal) ℓ)
    (h0 : m' ((c.tc : Thread _ _).loc Cert.CrossRefIdeal.main_arg0) = m ((c.tc : Thread _ _).loc Cert.CrossIdeal.main_arg0))
    (h1 : m' ((c.tc : Thread _ _).loc Cert.CrossRefIdeal.main_arg1) = m ((c.tc : Thread _ _).loc Cert.CrossIdeal.main_arg1))
    (h2 : m' ((c.tc : Thread _ _).loc Cert.CrossRefIdeal.main_arg2) = m ((c.tc : Thread _ _).loc Cert.CrossIdeal.main_arg2))
    (h3 : m' ((c.tc : Thread _ _).loc Cert.CrossRefIdeal.main_arg3) = m ((c.tc : Thread _ _).loc Cert.CrossIdeal.main_arg3))
    (h4 : m' ((c.tc : Thread _ _).loc Cert.CrossRefIdeal.main_arg4) = m ((c.tc : Thread _ _).loc Cert.CrossIdeal.main_arg4))
    (h5 : m' ((c.tc : Thread _ _).loc Cert.CrossRefIdeal.main_arg5) = m ((c.tc : Thread _ _).loc Cert.CrossIdeal.main_arg5))
    (h6 : m' ((c.tc : Thread _ _).loc Cert.CrossRefIdeal.main_arg6) = m ((c.tc : Thread _ _).loc Cert.CrossIdeal.main_arg6))
    (h7 : m' ((c.tc : Thread _ _).loc Cert.CrossRefIdeal.main_arg7) = m ((c.tc : Thread _ _).loc Cert.CrossIdeal.main_arg7))
    (h8 : m' ((c.tc : Thread _ _).loc Cert.CrossRefIdeal.main_arg8) = m ((c.tc : Thread _ _).loc Cert.CrossIdeal.main_arg8))
    (h9 : m' ((c.tc : Thread _ _).loc Cert.CrossRefIdeal.main_arg9) = m ((c.tc : Thread _ _).loc Cert.CrossIdeal.main_arg9)) :
    Cert.CrossRefIdeal.Value.res_main_v67 m' c = (data m c).arr := by
  rw [Ref.result_whole, h0, h1, h2, h3, h4, h5, h6, h7, h8, h9]
  funext y
  obtain ⟨b, p, z, rfl⟩ : ∃ (b : Fin 16) (p z : Fin 2048), y = ix3 b p z := ⟨y 0, y 1, y 2, eq_ix3 y⟩
  exact Ref.whole_apply _ _ _ _ _ _ _ _ _ _ R b p z

/-- Over the extended reals the kernel's result is the reference's, entry by entry. -/
theorem algebraic : Cert.algebraic_CrossIdeal_CrossRefIdeal_pre_finite_gains := by
  intro m ρ m' ρ' hpre hagree
  refine ⟨fun c => (data m c).arr, ?_, ?_⟩
  · exact (θ_run Cert.CrossIdeal.defs _ _).mono (fun _ h c => ⟨(h c).1.trans (array_eq c (real_of_pre m hpre c)), (h c).2⟩)
      (Cert.CrossIdeal.Value.run_blocks m ρ)
  · refine (θ_run Cert.CrossRefIdeal.defs _ _).mono (fun _ h c => ⟨(h c).1.trans ?_, (h c).2⟩)
      (Cert.CrossRefIdeal.Value.run (F := Ideal) m' ρ')
    obtain ⟨h0, h1, h2, h3, h4, h5, h6, h7, h8, h9⟩ := hagree c
    exact result_eq m c (real_of_pre m hpre c) m' h0 h1 h2 h3 h4 h5 h6 h7 h8 h9

end Cert.CrossAttn

end
-- ==== Proof.Gqa.Strip.lean ====
/-
  The strips of the grouped-query attention: what the body stores, one function of a strip's rows.
-/
module

public import proofs.«01_k».proof.Proof.Gen.GqaIdeal.Value

@[expose] public section

set_option maxRecDepth 16384

noncomputable section

namespace Cert.Grouped

open Cert.GqaIdeal Cert.GqaIdeal.Gen Idealize.ShloMosaic Idealize.ShloMosaic.TcCoe

variable {F : FTy → Type} [FloatOps F] [Named F]

/-- One strip of 128 query rows of one head against all the keys. -/
def strip (q : Vec F S1x128x128 .f32) (g : Vec F S1x128 .f32) (cs sn : Vec F S128x128 .f32) (kn : Vec F S2048x128 .bf16)
    (vb : Vec F S2048x256 .bf16) : FVec F S1x128x128 .bf16 :=
  k0_pay18 (k0_pay13 (k0_pay9 k0_pay5 (k0_pay8 q g) cs sn kn)) vb

/-- The stored piece of the strip at row `o`, lane `l`. -/
def piece (arg3 : Memref sig .tc .vmem S1x1024x512 .f32) (harg3 : arg3.IsWhole) (arg6 : Memref sig .tc .vmem S1024x128 .f32)
    (harg6 : arg6.IsWhole) (arg7 : Memref sig .tc .vmem S1024x128 .f32) (harg7 : arg7.IsWhole)
    (x0 : Vec F S1x1024x512 .f32) (x3 x4 : Vec F S1024x128 .f32) (o l : ℕ)
    (inb : ∀ a, (![0, o, l] : Fin 3 → ℕ) a + S1x128x128.size a ≤ S1x1024x512.size a)
    (inb' : ∀ a, (![o, 0] : Fin 2 → ℕ) a + S128x128.size a ≤ S1024x128.size a)
    (g : Vec F S1x128 .f32) (kn : Vec F S2048x128 .bf16) (vb : Vec F S2048x256 .bf16) : View.Piece (Elt F) S1x1024x512 .bf16 :=
  ⟨Rect.unit (s := S1x1024x512) ![0, o, l] S1x128x128.size inb,
    strip (View.readAt (Elt F) arg3.view (Rect.unit (s := S1x1024x512) ![0, o, l] S1x128x128.size inb).toLoadRect (harg3.unread x0)) g
      (View.readAt (Elt F) arg6.view (Rect.unit (s := S1024x128) ![o, 0] S128x128.size inb').toLoadRect (harg6.unread x3))
      (View.readAt (Elt F) arg7.view (Rect.unit (s := S1024x128) ![o, 0] S128x128.size inb').toLoadRect (harg7.unread x4)) kn vb⟩

/-- The gain of the queries, as the body loads it. -/
def gain (arg10 : Memref sig .tc .vmem S1x128 .f32) (harg10 : arg10.IsWhole) (x7 : Vec F S1x128 .f32) : Vec F S1x128 .f32 :=
  View.readAt (Elt F) arg10.view (Rect.unit (s := S1x128) ![0, 0] S1x128.size inb_S1x128_S1x128_0_0).toLoadRect (harg10.unread x7)

end Cert.Grouped

end
-- ==== Proof.Gqa.Data.lean ====
/-
  The grouped-query attention's arguments as functions of their indices, and its result over them.
-/
module

public import proofs.«01_k».proof.Proof.Soft
public import Idealize.ShloMosaic.Lib.Pointwise

@[expose] public section

noncomputable section

namespace Cert.Grouped

open Idealize.ShloMosaic Cert.Soft

/-! ## The rotation -/

/-- The partner of each lane in its half of 64 lanes: the lane 32 above, negated, or the lane 32 below. -/
def rot (x : Fin 128 → EReal) (d : Fin 128) : EReal :=
  if d.val % 64 < 32 then -x ⟨(d.val + 32) % 128, Nat.mod_lt _ (by omega)⟩ else x ⟨(d.val + 96) % 128, Nat.mod_lt _ (by omega)⟩

/-- A row turned by the angles whose cosines and sines are given. -/
def turn (x cs sn : Fin 128 → EReal) (d : Fin 128) : EReal := x d * cs d + rot x d * sn d

/-- A real row turned by real cosines and sines is real. -/
theorem turn_real (x cs sn : Fin 128 → EReal) (hx : ∀ d, ∃ r : ℝ, x d = (r : EReal)) (hc : ∀ d, ∃ r : ℝ, cs d = (r : EReal))
    (hs : ∀ d, ∃ r : ℝ, sn d = (r : EReal)) (d : Fin 128) : ∃ r : ℝ, turn x cs sn d = (r : EReal) := by
  choose X hX using hx
  choose C hC using hc
  choose S hS using hs
  unfold turn rot
  simp only [hX, hC, hS]
  split
  · exact ⟨X d * C d + -X ⟨(d.val + 32) % 128, Nat.mod_lt _ (by omega)⟩ * S d, by push_cast; rfl⟩
  · exact ⟨X d * C d + X ⟨(d.val + 96) % 128, Nat.mod_lt _ (by omega)⟩ * S d, by push_cast; rfl⟩

/-! ## The result -/

/-- The projections, the gains of queries and keys, and the tables of the rotation by position. -/
structure Data where
  x : Fin 16 → Fin 2048 → Fin 6656 → EReal
  gq : Fin 128 → EReal
  gk : Fin 128 → EReal
  cs : Fin 2048 → Fin 128 → EReal
  sn : Fin 2048 → Fin 128 → EReal

/-- The column of a query lane. -/
def qcol (h : Fin 8) (d : Fin 128) : Fin 6656 := ⟨5120 + (h.val * 128 + d.val), by omega⟩

/-- The column of a key lane. -/
def kcol (g : Fin 2) (d : Fin 128) : Fin 6656 := ⟨6144 + (g.val * 128 + d.val), by omega⟩

/-- The column of a value lane. -/
def vcol (g : Fin 2) (d : Fin 128) : Fin 6656 := ⟨6400 + (g.val * 128 + d.val), by omega⟩

/-- The group of a head. -/
def grp (h : Fin 8) : Fin 2 := ⟨h.val / 4, by omega⟩

namespace Data

variable (D : Data)

/-- A head's normalised and turned query. -/
def q (b : Fin 16) (p : Fin 2048) (h : Fin 8) : Fin 128 → EReal :=
  turn (rms (fun e => D.x b p (qcol h e)) D.gq) (D.cs p) (D.sn p)

/-- A group's normalised and turned key. -/
def k (b : Fin 16) (j : Fin 2048) (g : Fin 2) : Fin 128 → EReal :=
  turn (rms (fun e => D.x b j (kcol g e)) D.gk) (D.cs j) (D.sn j)

/-- A head's result. -/
def o (b : Fin 16) (p : Fin 2048) (h : Fin 8) (d : Fin 128) : EReal :=
  att (D.q b p h) (fun j => D.k b j (grp h)) (fun j => D.x b j (vcol (grp h) d))

/-- The heads side by side. -/
def out (b : Fin 16) (p : Fin 2048) (e : Fin 1024) : EReal :=
  D.o b p ⟨e.val / 128, by omega⟩ ⟨e.val % 128, Nat.mod_lt _ (by omega)⟩

/-- The array of the results. -/
def arr : (⟨3, ![16, 2048, 1024]⟩ : Shape).Idx → EReal := fun y => D.out (y 0) (y 1) (y 2)

/-- The gains and the tables are real. -/
structure Real : Prop where
  q : ∀ d, ∃ r : ℝ, D.gq d = (r : EReal)
  k : ∀ d, ∃ r : ℝ, D.gk d = (r : EReal)
  c : ∀ p d, ∃ r : ℝ, D.cs p d = (r : EReal)
  s : ∀ p d, ∃ r : ℝ, D.sn p d = (r : EReal)

variable {D}

theorem q_real (R : D.Real) (b : Fin 16) (p : Fin 2048) (h : Fin 8) (d : Fin 128) : ∃ r : ℝ, D.q b p h d = (r : EReal) :=
  turn_real _ _ _ (fun d => rms_real _ _ R.q d) (R.c p) (R.s p) d

theorem k_real (R : D.Real) (b : Fin 16) (j : Fin 2048) (g : Fin 2) (d : Fin 128) : ∃ r : ℝ, D.k b j g d = (r : EReal) :=
  turn_real _ _ _ (fun d => rms_real _ _ R.k d) (R.c j) (R.s j) d

end Data

end Cert.Grouped

end
-- ==== Proof.Gqa.Read.lean ====
/-
  One strip of the grouped-query attention, and the scratch of its keys and values, read entry by entry at the ideal instance.
-/
module

public import proofs.«01_k».proof.Proof.Gqa.Strip
public import proofs.«01_k».proof.Proof.Gqa.Data
public import Idealize.ShloMosaic.Lib.KernelVsHost
public import Idealize.ShloMosaic.Lib.Pointwise

@[expose] public section

set_option maxRecDepth 16384

noncomputable section

namespace Cert.Grouped

open Cert.GqaIdeal Cert.GqaIdeal.Gen Idealize.ShloMosaic Idealize.ShloMosaic.TcCoe
open Idealize.ShloMosaic.Pointwise Cert.Soft

/-! ## The rotation -/

/-- The mask picks the lanes that come first in their half. -/
theorem mask_eq : ∀ d : Fin 128, k0_pay5 (ix2 (0 : Fin 1) d) = if d.val % 64 < 32 then 1#1 else 0#1 := by
  decide +kernel

/-- A rotation by 96 lanes reads the lane 32 above. -/
theorem above (n : ℕ) (x : FVec Ideal ⟨2, ![n, 128]⟩ .f32) (h : (⟨2, ![n, 128]⟩ : Shape).Rotates 1 none) (p : Fin n) (d : Fin 128) :
    dynamicRotate 1 96#32 none x h (ix2 p d) = x (ix2 p ⟨(d.val + 32) % 128, Nat.mod_lt _ (by omega)⟩) := by
  refine dynamicRotate_apply 1 96#32 x h _ _ fun b => ?_
  match b with
  | ⟨0, _⟩ => rfl
  | ⟨1, _⟩ => show (d.val + 32) % 128 = (d.val + 128 - 96 % 128) % 128; omega

/-- A rotation by 32 lanes reads the lane 32 below. -/
theorem below (n : ℕ) (x : FVec Ideal ⟨2, ![n, 128]⟩ .f32) (h : (⟨2, ![n, 128]⟩ : Shape).Rotates 1 none) (p : Fin n) (d : Fin 128) :
    dynamicRotate 1 32#32 none x h (ix2 p d) = x (ix2 p ⟨(d.val + 96) % 128, Nat.mod_lt _ (by omega)⟩) := by
  refine dynamicRotate_apply 1 32#32 x h _ _ fun b => ?_
  match b with
  | ⟨0, _⟩ => rfl
  | ⟨1, _⟩ => show (d.val + 96) % 128 = (d.val + 128 - 32 % 128) % 128; omega

/-- The mask's choice between the two rotations is the partner. -/
theorem partner (x : Fin 128 → EReal) (d : Fin 128) :
    Scalar.select (k0_pay5 (ix2 (0 : Fin 1) d)) (Ideal.ofBits .f32 0x00000000#32 - x ⟨(d.val + 32) % 128, Nat.mod_lt _ (by omega)⟩)
      (x ⟨(d.val + 96) % 128, Nat.mod_lt _ (by omega)⟩) = rot x d := by
  have h0 : Ideal.ofBits .f32 0x00000000#32 = 0 := by simp [Ideal.ofBits, Ideal.ieee]
  rw [mask_eq, h0, zero_sub]
  unfold rot
  split <;> rfl

/-! ## Queries -/

theorem gained_apply (q : Vec Ideal S1x128x128 .f32) (g : Vec Ideal S1x128 .f32) (r d : Fin 128) :
    k0_pay8 q g (ix2 r d) = rms (fun e => q (ix3 0 r e)) (fun e => g (ix2 0 e)) d := by
  pointwise [k0_pay8]
  rfl

/-- The rows turned and scaled. -/
def turned (x : FVec Ideal S128x128 .f32) (cs sn : Vec Ideal S128x128 .f32) : FVec Ideal S128x128 .bf16 :=
  truncf .bf16 (mulf (addf (mulf x (shapeCast S128x128 cs shapeCasts_S128x128_S128x128)) (mulf (select (broadcastTo S128x128 (shapeCast S1x128 k0_pay5 shapeCasts_S1x128_S1x128) broadcasts_S1x128_S128x128) (subf (broadcast S128x128 (Scalar.ofBits (F := Ideal) .f32 0x00000000#32)) (dynamicRotate 1 96#32 none x rotates_S128x128_d1)) (dynamicRotate 1 32#32 none x rotates_S128x128_d1)) (shapeCast S128x128 sn shapeCasts_S128x128_S128x128))) (broadcast S128x128 (Named.named (F := Ideal) κ "cscale" (φ := .f32) 0x3E0293EE#32))) bitsLt_bf16_f32

/-- The named scale of the queries. -/
theorem cscale_val : Named.named (F := Ideal) κ "cscale" (φ := .f32) 0x3E0293EE#32 = ((scale * (Real.log 2)⁻¹ : ℝ) : EReal) :=
  IdealRules.named_const.ideal_named_scalar _ _ _ _ rfl

theorem turned_apply (x : FVec Ideal S128x128 .f32) (cs sn : Vec Ideal S128x128 .f32) (r d : Fin 128) :
    turned x cs sn (ix2 r d)
      = turn (fun e => x (ix2 r e)) (fun e => cs (ix2 r e)) (fun e => sn (ix2 r e)) d * ((scale * (Real.log 2)⁻¹ : ℝ) : EReal) := by
  have ha := above 128 x rotates_S128x128_d1 r d
  have hb := below 128 x rotates_S128x128_d1 r d
  rw [← cscale_val]
  unfold turn
  rw [← partner]
  unfold turned
  generalize dynamicRotate 1 96#32 none x rotates_S128x128_d1 = xa at ha ⊢
  generalize dynamicRotate 1 32#32 none x rotates_S128x128_d1 = xb at hb ⊢
  generalize (k0_pay5 : IVec S1x128 1) = mk
  pointwise []
  rw [ha, hb]

theorem scores_apply (x : FVec Ideal S128x128 .f32) (cs sn : Vec Ideal S128x128 .f32) (kn : Vec Ideal S2048x128 .bf16)
    (r : Fin 128) (j : Fin 2048) :
    k0_pay9 k0_pay5 x cs sn kn (ix2 r j) = ∑ d : Fin 128, turned x cs sn (ix2 r d) * kn (ix2 j d) := by
  have h : k0_pay9 k0_pay5 x cs sn kn
      = matmul dot_S128x128_S2048x128_S128x2048_1_1_0_0_n_n none (turned x cs sn) (kn : FVec Ideal S2048x128 .bf16) (constant S128x2048 .f32 0x00000000#32) := rfl
  rw [h]
  generalize turned x cs sn = y
  pointwise []

theorem weights_apply (s : FVec Ideal S128x2048 .f32) (r : Fin 128) (j : Fin 2048) :
    k0_pay13 s (ix2 r j) = Ideal.exp2 (s (ix2 r j) - Finset.univ.fold max (Ideal.ofBits .f32 0xFF800000#32) (fun i : Fin 2048 => s (ix2 r i))) := by
  pointwise [k0_pay13]
  rfl

theorem late_apply (w : FVec Ideal S128x2048 .bf16) (vb : FVec Ideal S2048x256 .bf16) (r d : Fin 128) :
    k0_pay18 w vb (ix3 0 r d)
      = (∑ j : Fin 2048, w (ix2 r j) * vb (ix2 j ⟨d.val, by omega⟩))
        * Ideal.div (Ideal.ofBits .f32 0x3F800000#32) (∑ j : Fin 2048, w (ix2 r j) * vb (ix2 j (128 : Fin 256))) := by
  pointwise [k0_pay18]

/-! ## Keys and values -/

/-- The keys normalised, before they are turned. -/
def kgained (k : Vec Ideal S1x2048x128 .f32) (g : Vec Ideal S1x128 .f32) : FVec Ideal S2048x128 .f32 :=
  have x : FVec Ideal S2048x128 .f32 := shapeCast S2048x128 k shapeCasts_S1x2048x128_S2048x128
  mulf (mulf x (broadcastTo S2048x128 (rsqrt (addf (divf (shapeCast S2048x1 (multiReduction .add [1] S2048 (mulf x x) 0x00000000#32 reduces_S2048x128_S2048 (.inl rfl) rfl) shapeCasts_S2048_S2048x1) (broadcast S2048x1 (Scalar.ofBits (F := Ideal) .f32 0x43000000#32))) (broadcast S2048x1 (Scalar.ofBits (F := Ideal) .f32 0x358637BD#32)))) broadcasts_S2048x1_S2048x128)) (broadcastTo S2048x128 (shapeCast S1x128 g shapeCasts_S1x128_S1x128) broadcasts_S1x128_S2048x128)

theorem kgained_apply (k : Vec Ideal S1x2048x128 .f32) (g : Vec Ideal S1x128 .f32) (j : Fin 2048) (d : Fin 128) :
    kgained k g (ix2 j d) = rms (fun e => k (ix3 0 j e)) (fun e => g (ix2 0 e)) d := by
  pointwise [kgained]
  rfl

/-- Keys turned. -/
def kturned (x : FVec Ideal S2048x128 .f32) (cs sn : Vec Ideal S2048x128 .f32) : FVec Ideal S2048x128 .bf16 :=
  shapeCast S2048x128 (truncf .bf16 (addf (mulf x (shapeCast S2048x128 cs shapeCasts_S2048x128_S2048x128)) (mulf (select (broadcastTo S2048x128 (shapeCast S1x128 k0_pay5 shapeCasts_S1x128_S1x128) broadcasts_S1x128_S2048x128) (subf (broadcast S2048x128 (Scalar.ofBits (F := Ideal) .f32 0x00000000#32)) (dynamicRotate 1 96#32 none x rotates_S2048x128_d1)) (dynamicRotate 1 32#32 none x rotates_S2048x128_d1)) (shapeCast S2048x128 sn shapeCasts_S2048x128_S2048x128))) bitsLt_bf16_f32) shapeCasts_S2048x128_S2048x128

theorem kturned_apply (x : FVec Ideal S2048x128 .f32) (cs sn : Vec Ideal S2048x128 .f32) (j : Fin 2048) (d : Fin 128) :
    kturned x cs sn (ix2 j d) = turn (fun e => x (ix2 j e)) (fun e => cs (ix2 j e)) (fun e => sn (ix2 j e)) d := by
  have ha := above 2048 x rotates_S2048x128_d1 j d
  have hb := below 2048 x rotates_S2048x128_d1 j d
  unfold turn
  rw [← partner]
  unfold kturned
  generalize dynamicRotate 1 96#32 none x rotates_S2048x128_d1 = xa at ha ⊢
  generalize dynamicRotate 1 32#32 none x rotates_S2048x128_d1 = xb at hb ⊢
  generalize (k0_pay5 : IVec S1x128 1) = mk
  pointwise []
  rw [ha, hb]

theorem keys_apply (k : Vec Ideal S1x2048x128 .f32) (g : Vec Ideal S1x128 .f32) (cs sn : Vec Ideal S2048x128 .f32) (j : Fin 2048) (d : Fin 128) :
    k0_pay3 k0_pay5 k g cs sn (ix2 j d)
      = turn (rms (fun e => k (ix3 0 j e)) (fun e => g (ix2 0 e))) (fun e => cs (ix2 j e)) (fun e => sn (ix2 j e)) d := by
  have h : k0_pay3 k0_pay5 k g cs sn = kturned (kgained k g) cs sn := rfl
  rw [h, kturned_apply]
  exact congrArg (fun f => turn f (fun e => cs (ix2 j e)) (fun e => sn (ix2 j e)) d) (funext fun e => kgained_apply k g j e)

theorem ofBits_one_bf16 : Ideal.ofBits .bf16 0x3F80#16 = 1 := by
  simp [Ideal.ofBits, Ideal.ieee, -EReal.coe_mul]; norm_num

theorem ones_apply (j : Fin 2048) (d : Fin 128) : k0_pay7 (F := Ideal) (ix2 j d) = 1 := by
  refine Eq.trans ?_ ofBits_one_bf16
  pointwise [k0_pay7]

theorem vals_apply (v : Vec Ideal S1x2048x128 .f32) (j : Fin 2048) (d : Fin 128) :
    k0_pay6 (k0_pay4 v) (ix2 j d) = v (ix3 0 j d) := by
  pointwise [k0_pay6, k0_pay4]

/-- The values with the ones beside them. -/
def vOnes (x : Vec Ideal S1x2048x128 .f32) : Vec Ideal S2048x256 .bf16 := fun y =>
  if h : (y 1).val < 128 then x (ix3 (0 : Fin 1) (y 0) ⟨(y 1).val, h⟩) else (1 : EReal)

/-! ## A strip -/

theorem ofBits_one : Ideal.ofBits .f32 0x3F800000#32 = 1 := by
  simp [Ideal.ofBits, Ideal.ieee, -EReal.coe_mul]; norm_num

/-- Row `r`, lane `d` of a strip is the attention of its query over the keys. -/
theorem strip_apply (q : Vec Ideal S1x128x128 .f32) (g : Vec Ideal S1x128 .f32) (cs sn : Vec Ideal S128x128 .f32)
    (kn : Vec Ideal S2048x128 .bf16) (vb : Vec Ideal S2048x256 .bf16) (K : Fin 2048 → Fin 128 → EReal) (V : Fin 2048 → Fin 128 → EReal)
    (hk : ∀ j d, kn (ix2 j d) = K j d) (hK : ∀ j d, ∃ r : ℝ, K j d = (r : EReal))
    (hv : ∀ j (d : Fin 128), vb (ix2 j ⟨d.val, by omega⟩) = V j d) (h1 : ∀ j, vb (ix2 j (128 : Fin 256)) = 1)
    (hg : ∀ d, ∃ r : ℝ, g (ix2 0 d) = (r : EReal)) (r d : Fin 128)
    (hc : ∀ d, ∃ x : ℝ, cs (ix2 r d) = (x : EReal)) (hs : ∀ d, ∃ x : ℝ, sn (ix2 r d) = (x : EReal)) :
    strip q g cs sn kn vb (ix3 0 r d)
      = att (turn (rms (fun e => q (ix3 0 r e)) (fun e => g (ix2 0 e))) (fun e => cs (ix2 r e)) (fun e => sn (ix2 r e))) K
          (fun j => V j d) := by
  have hQ : ∀ d, ∃ x : ℝ, turn (rms (fun e => q (ix3 0 r e)) (fun e => g (ix2 0 e))) (fun e => cs (ix2 r e)) (fun e => sn (ix2 r e)) d = (x : EReal) :=
    turn_real _ _ _ (fun d => rms_real _ _ hg d) hc hs
  have hS : ∀ j, k0_pay9 k0_pay5 (k0_pay8 q g) cs sn kn (ix2 r j)
      = ((score (turn (rms (fun e => q (ix3 0 r e)) (fun e => g (ix2 0 e))) (fun e => cs (ix2 r e)) (fun e => sn (ix2 r e))) (K j) * (Real.log 2)⁻¹ : ℝ) : EReal) := by
    intro j
    refine (scores_apply _ _ _ _ r j).trans ?_
    refine Eq.trans (Finset.sum_congr rfl fun d _ => ?_) (score_ker _ _ _ rfl hQ (hK j))
    rw [hk, turned_apply]
    exact congrArg (fun f => turn f (fun e => cs (ix2 r e)) (fun e => sn (ix2 r e)) d * _ * K j d) (funext fun e => gained_apply q g r e)
  unfold strip
  generalize k0_pay9 k0_pay5 (k0_pay8 q g) cs sn kn = s at hS ⊢
  obtain ⟨M, hM⟩ := weights_ker (n := 2047) _ (fun j => s (ix2 r j)) hS
  have hW := fun j => (weights_apply s r j).trans (hM j)
  generalize k0_pay13 s = w at hW ⊢
  refine (late_apply w vb r d).trans ?_
  simp only [hv, h1, mul_one, ofBits_one]
  exact att_ker (n := 2047) _ K (fun j => V j d) (fun j => w (ix2 r j)) M hW

end Cert.Grouped

end
-- ==== Proof.Gqa.StripA.lean ====
/-
  What the first point of a group stores: its strips, over the scratch that it has just written.
-/
module

public import proofs.«01_k».proof.Proof.Gqa.Strip

@[expose] public section

set_option maxRecDepth 16384

noncomputable section

namespace Cert.Grouped

open Cert.GqaIdeal Cert.GqaIdeal.Gen Idealize.ShloMosaic Idealize.ShloMosaic.TcCoe

variable {F : FTy → Type} [FloatOps F] [Named F]

/-- The keys in scratch, as the body reads them back. -/
def keysA (c : Dev nD) (arg4 : Memref sig .tc .vmem S1x2048x128 .f32) (harg4 : arg4.IsWhole) (arg8 : Memref sig .tc .vmem S2048x128 .f32) (harg8 : arg8.IsWhole) (arg9 : Memref sig .tc .vmem S2048x128 .f32) (harg9 : arg9.IsWhole) (arg11 : Memref sig .tc .vmem S1x128 .f32) (harg11 : arg11.IsWhole) (arg13 : Memref sig .tc .vmem S2048x128 .bf16) (x1 : Vec F S1x2048x128 .f32) (x5 x6 : Vec F S2048x128 .f32) (x8 : Vec F S1x128 .f32) : Vec F S2048x128 .bf16 :=
  arg13.view.readCov (kernelRun0_A.sl.HS0_1 c arg4 harg4 arg8 harg8 arg9 harg9 arg11 harg11 x1 x5 x6 x8)
    (Rect.unit (s := S2048x128) ![0, 0] S2048x128.size inb_S2048x128_S2048x128_0_0).toLoadRect

/-- The values in scratch, as the body reads them back. -/
def valsA (c : Dev nD) (arg5 : Memref sig .tc .vmem S1x2048x128 .f32) (harg5 : arg5.IsWhole) (arg14 : Memref sig .tc .vmem S2048x256 .bf16) (x2 : Vec F S1x2048x128 .f32) : Vec F S2048x256 .bf16 :=
  arg14.view.readCov (kernelRun0_A.sl.HS1_2 c arg5 harg5 x2)
    (Rect.unit (s := S2048x256) ![0, 0] S2048x256.size inb_S2048x256_S2048x256_0_0).toLoadRect

/-- The first point of a group stores thirty-two strips. -/
theorem pieces_A (c : Dev nD) (i : grid0.Coords) (arg3 : Memref sig .tc .vmem S1x1024x512 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x1024x512 .bf16) (harg12 : arg12.IsWhole) (arg13 : Memref sig .tc .vmem S2048x128 .bf16) (harg13 : arg13.IsWhole) (arg14 : Memref sig .tc .vmem S2048x256 .bf16) (harg14 : arg14.IsWhole) (hc0 : cond0_0 i)
    (x0 : Vec F S1x1024x512 .f32) (x1 : Vec F S1x2048x128 .f32) (x2 : Vec F S1x2048x128 .f32) (x3 : Vec F S1024x128 .f32) (x4 : Vec F S1024x128 .f32) (x5 : Vec F S2048x128 .f32) (x6 : Vec F S2048x128 .f32) (x7 : Vec F S1x128 .f32) (x8 : Vec F S1x128 .f32) :
    (kernelRun0_A c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).1 = [
      piece arg3 harg3 arg6 harg6 arg7 harg7 x0 x3 x4 896 384 inb_S1x1024x512_S1x128x128_0_896_384 inb_S1024x128_S128x128_896_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 768 384 inb_S1x1024x512_S1x128x128_0_768_384 inb_S1024x128_S128x128_768_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 640 384 inb_S1x1024x512_S1x128x128_0_640_384 inb_S1024x128_S128x128_640_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 512 384 inb_S1x1024x512_S1x128x128_0_512_384 inb_S1024x128_S128x128_512_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 384 384 inb_S1x1024x512_S1x128x128_0_384_384 inb_S1024x128_S128x128_384_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 256 384 inb_S1x1024x512_S1x128x128_0_256_384 inb_S1024x128_S128x128_256_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 128 384 inb_S1x1024x512_S1x128x128_0_128_384 inb_S1024x128_S128x128_128_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 0 384 inb_S1x1024x512_S1x128x128_0_0_384 inb_S1024x128_S128x128_0_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 896 256 inb_S1x1024x512_S1x128x128_0_896_256 inb_S1024x128_S128x128_896_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 768 256 inb_S1x1024x512_S1x128x128_0_768_256 inb_S1024x128_S128x128_768_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 640 256 inb_S1x1024x512_S1x128x128_0_640_256 inb_S1024x128_S128x128_640_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 512 256 inb_S1x1024x512_S1x128x128_0_512_256 inb_S1024x128_S128x128_512_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 384 256 inb_S1x1024x512_S1x128x128_0_384_256 inb_S1024x128_S128x128_384_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 256 256 inb_S1x1024x512_S1x128x128_0_256_256 inb_S1024x128_S128x128_256_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 128 256 inb_S1x1024x512_S1x128x128_0_128_256 inb_S1024x128_S128x128_128_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 0 256 inb_S1x1024x512_S1x128x128_0_0_256 inb_S1024x128_S128x128_0_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 896 128 inb_S1x1024x512_S1x128x128_0_896_128 inb_S1024x128_S128x128_896_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 768 128 inb_S1x1024x512_S1x128x128_0_768_128 inb_S1024x128_S128x128_768_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 640 128 inb_S1x1024x512_S1x128x128_0_640_128 inb_S1024x128_S128x128_640_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 512 128 inb_S1x1024x512_S1x128x128_0_512_128 inb_S1024x128_S128x128_512_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 384 128 inb_S1x1024x512_S1x128x128_0_384_128 inb_S1024x128_S128x128_384_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 256 128 inb_S1x1024x512_S1x128x128_0_256_128 inb_S1024x128_S128x128_256_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 128 128 inb_S1x1024x512_S1x128x128_0_128_128 inb_S1024x128_S128x128_128_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 0 128 inb_S1x1024x512_S1x128x128_0_0_128 inb_S1024x128_S128x128_0_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 896 0 inb_S1x1024x512_S1x128x128_0_896_0 inb_S1024x128_S128x128_896_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 768 0 inb_S1x1024x512_S1x128x128_0_768_0 inb_S1024x128_S128x128_768_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 640 0 inb_S1x1024x512_S1x128x128_0_640_0 inb_S1024x128_S128x128_640_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 512 0 inb_S1x1024x512_S1x128x128_0_512_0 inb_S1024x128_S128x128_512_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 384 0 inb_S1x1024x512_S1x128x128_0_384_0 inb_S1024x128_S128x128_384_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 256 0 inb_S1x1024x512_S1x128x128_0_256_0 inb_S1024x128_S128x128_256_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 128 0 inb_S1x1024x512_S1x128x128_0_128_0 inb_S1024x128_S128x128_128_0
        (gain arg10 harg10 x7) (keysA c arg4 harg4 arg8 harg8 arg9 harg9 arg11 harg11 arg13 x1 x5 x6 x8) (valsA c arg5 harg5 arg14 x2),
      piece arg3 harg3 arg6 harg6 arg7 harg7 x0 x3 x4 0 0 inb_S1x1024x512_S1x128x128_0_0_0 inb_S1024x128_S128x128_0_0
        (gain arg10 harg10 x7) (keysA c arg4 harg4 arg8 harg8 arg9 harg9 arg11 harg11 arg13 x1 x5 x6 x8) (valsA c arg5 harg5 arg14 x2)] := by
  rfl

end Cert.Grouped

end
-- ==== Proof.Gqa.StripB.lean ====
/-
  What a later point of a group stores: its strips, over the scratch that the first point left.
-/
module

public import proofs.«01_k».proof.Proof.Gqa.Strip

@[expose] public section

set_option maxRecDepth 16384

noncomputable section

namespace Cert.Grouped

open Cert.GqaIdeal Cert.GqaIdeal.Gen Idealize.ShloMosaic Idealize.ShloMosaic.TcCoe

variable {F : FTy → Type} [FloatOps F] [Named F]

/-- The keys in scratch, as the body loads them. -/
def keysB (arg13 : Memref sig .tc .vmem S2048x128 .bf16) (harg13 : arg13.IsWhole) (xs0 : Vec F S2048x128 .bf16) : Vec F S2048x128 .bf16 :=
  View.readAt (Elt F) arg13.view (Rect.unit (s := S2048x128) ![0, 0] S2048x128.size inb_S2048x128_S2048x128_0_0).toLoadRect (harg13.unread xs0)

/-- The values in scratch, as the body loads them. -/
def valsB (arg14 : Memref sig .tc .vmem S2048x256 .bf16) (harg14 : arg14.IsWhole) (xs1 : Vec F S2048x256 .bf16) : Vec F S2048x256 .bf16 :=
  View.readAt (Elt F) arg14.view (Rect.unit (s := S2048x256) ![0, 0] S2048x256.size inb_S2048x256_S2048x256_0_0).toLoadRect (harg14.unread xs1)

/-- A later point of a group stores thirty-two strips. -/
theorem pieces_B (c : Dev nD) (i : grid0.Coords) (arg3 : Memref sig .tc .vmem S1x1024x512 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x1024x512 .bf16) (harg12 : arg12.IsWhole) (arg13 : Memref sig .tc .vmem S2048x128 .bf16) (harg13 : arg13.IsWhole) (arg14 : Memref sig .tc .vmem S2048x256 .bf16) (harg14 : arg14.IsWhole) (hc0 : ¬cond0_0 i)
    (x0 : Vec F S1x1024x512 .f32) (x1 : Vec F S1x2048x128 .f32) (x2 : Vec F S1x2048x128 .f32) (x3 : Vec F S1024x128 .f32) (x4 : Vec F S1024x128 .f32) (x5 : Vec F S2048x128 .f32) (x6 : Vec F S2048x128 .f32) (x7 : Vec F S1x128 .f32) (x8 : Vec F S1x128 .f32) (xs0 : Vec F S2048x128 .bf16) (xs1 : Vec F S2048x256 .bf16) :
    (kernelRun0_B c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1).1 = [
      piece arg3 harg3 arg6 harg6 arg7 harg7 x0 x3 x4 896 384 inb_S1x1024x512_S1x128x128_0_896_384 inb_S1024x128_S128x128_896_0
        (gain arg10 harg10 x7) (keysB arg13 harg13 xs0) (valsB arg14 harg14 xs1),
      piece arg3 harg3 arg6 harg6 arg7 harg7 x0 x3 x4 768 384 inb_S1x1024x512_S1x128x128_0_768_384 inb_S1024x128_S128x128_768_0
        (gain arg10 harg10 x7) (keysB arg13 harg13 xs0) (valsB arg14 harg14 xs1),
      piece arg3 harg3 arg6 harg6 arg7 harg7 x0 x3 x4 640 384 inb_S1x1024x512_S1x128x128_0_640_384 inb_S1024x128_S128x128_640_0
        (gain arg10 harg10 x7) (keysB arg13 harg13 xs0) (valsB arg14 harg14 xs1),
      piece arg3 harg3 arg6 harg6 arg7 harg7 x0 x3 x4 512 384 inb_S1x1024x512_S1x128x128_0_512_384 inb_S1024x128_S128x128_512_0
        (gain arg10 harg10 x7) (keysB arg13 harg13 xs0) (valsB arg14 harg14 xs1),
      piece arg3 harg3 arg6 harg6 arg7 harg7 x0 x3 x4 384 384 inb_S1x1024x512_S1x128x128_0_384_384 inb_S1024x128_S128x128_384_0
        (gain arg10 harg10 x7) (keysB arg13 harg13 xs0) (valsB arg14 harg14 xs1),
      piece arg3 harg3 arg6 harg6 arg7 harg7 x0 x3 x4 256 384 inb_S1x1024x512_S1x128x128_0_256_384 inb_S1024x128_S128x128_256_0
        (gain arg10 harg10 x7) (keysB arg13 harg13 xs0) (valsB arg14 harg14 xs1),
      piece arg3 harg3 arg6 harg6 arg7 harg7 x0 x3 x4 128 384 inb_S1x1024x512_S1x128x128_0_128_384 inb_S1024x128_S128x128_128_0
        (gain arg10 harg10 x7) (keysB arg13 harg13 xs0) (valsB arg14 harg14 xs1),
      piece arg3 harg3 arg6 harg6 arg7 harg7 x0 x3 x4 0 384 inb_S1x1024x512_S1x128x128_0_0_384 inb_S1024x128_S128x128_0_0
        (gain arg10 harg10 x7) (keysB arg13 harg13 xs0) (valsB arg14 harg14 xs1),
      piece arg3 harg3 arg6 harg6 arg7 harg7 x0 x3 x4 896 256 inb_S1x1024x512_S1x128x128_0_896_256 inb_S1024x128_S128x128_896_0
        (gain arg10 harg10 x7) (keysB arg13 harg13 xs0) (valsB arg14 harg14 xs1),
      piece arg3 harg3 arg6 harg6 arg7 harg7 x0 x3 x4 768 256 inb_S1x1024x512_S1x128x128_0_768_256 inb_S1024x128_S128x128_768_0
        (gain arg10 harg10 x7) (keysB arg13 harg13 xs0) (valsB arg14 harg14 xs1),
      piece arg3 harg3 arg6 harg6 arg7 harg7 x0 x3 x4 640 256 inb_S1x1024x512_S1x128x128_0_640_256 inb_S1024x128_S128x128_640_0
        (gain arg10 harg10 x7) (keysB arg13 harg13 xs0) (valsB arg14 harg14 xs1),
      piece arg3 harg3 arg6 harg6 arg7 harg7 x0 x3 x4 512 256 inb_S1x1024x512_S1x128x128_0_512_256 inb_S1024x128_S128x128_512_0
        (gain arg10 harg10 x7) (keysB arg13 harg13 xs0) (valsB arg14 harg14 xs1),
      piece arg3 harg3 arg6 harg6 arg7 harg7 x0 x3 x4 384 256 inb_S1x1024x512_S1x128x128_0_384_256 inb_S1024x128_S128x128_384_0
        (gain arg10 harg10 x7) (keysB arg13 harg13 xs0) (valsB arg14 harg14 xs1),
      piece arg3 harg3 arg6 harg6 arg7 harg7 x0 x3 x4 256 256 inb_S1x1024x512_S1x128x128_0_256_256 inb_S1024x128_S128x128_256_0
        (gain arg10 harg10 x7) (keysB arg13 harg13 xs0) (valsB arg14 harg14 xs1),
      piece arg3 harg3 arg6 harg6 arg7 harg7 x0 x3 x4 128 256 inb_S1x1024x512_S1x128x128_0_128_256 inb_S1024x128_S128x128_128_0
        (gain arg10 harg10 x7) (keysB arg13 harg13 xs0) (valsB arg14 harg14 xs1),
      piece arg3 harg3 arg6 harg6 arg7 harg7 x0 x3 x4 0 256 inb_S1x1024x512_S1x128x128_0_0_256 inb_S1024x128_S128x128_0_0
        (gain arg10 harg10 x7) (keysB arg13 harg13 xs0) (valsB arg14 harg14 xs1),
      piece arg3 harg3 arg6 harg6 arg7 harg7 x0 x3 x4 896 128 inb_S1x1024x512_S1x128x128_0_896_128 inb_S1024x128_S128x128_896_0
        (gain arg10 harg10 x7) (keysB arg13 harg13 xs0) (valsB arg14 harg14 xs1),
      piece arg3 harg3 arg6 harg6 arg7 harg7 x0 x3 x4 768 128 inb_S1x1024x512_S1x128x128_0_768_128 inb_S1024x128_S128x128_768_0
        (gain arg10 harg10 x7) (keysB arg13 harg13 xs0) (valsB arg14 harg14 xs1),
      piece arg3 harg3 arg6 harg6 arg7 harg7 x0 x3 x4 640 128 inb_S1x1024x512_S1x128x128_0_640_128 inb_S1024x128_S128x128_640_0
        (gain arg10 harg10 x7) (keysB arg13 harg13 xs0) (valsB arg14 harg14 xs1),
      piece arg3 harg3 arg6 harg6 arg7 harg7 x0 x3 x4 512 128 inb_S1x1024x512_S1x128x128_0_512_128 inb_S1024x128_S128x128_512_0
        (gain arg10 harg10 x7) (keysB arg13 harg13 xs0) (valsB arg14 harg14 xs1),
      piece arg3 harg3 arg6 harg6 arg7 harg7 x0 x3 x4 384 128 inb_S1x1024x512_S1x128x128_0_384_128 inb_S1024x128_S128x128_384_0
        (gain arg10 harg10 x7) (keysB arg13 harg13 xs0) (valsB arg14 harg14 xs1),
      piece arg3 harg3 arg6 harg6 arg7 harg7 x0 x3 x4 256 128 inb_S1x1024x512_S1x128x128_0_256_128 inb_S1024x128_S128x128_256_0
        (gain arg10 harg10 x7) (keysB arg13 harg13 xs0) (valsB arg14 harg14 xs1),
      piece arg3 harg3 arg6 harg6 arg7 harg7 x0 x3 x4 128 128 inb_S1x1024x512_S1x128x128_0_128_128 inb_S1024x128_S128x128_128_0
        (gain arg10 harg10 x7) (keysB arg13 harg13 xs0) (valsB arg14 harg14 xs1),
      piece arg3 harg3 arg6 harg6 arg7 harg7 x0 x3 x4 0 128 inb_S1x1024x512_S1x128x128_0_0_128 inb_S1024x128_S128x128_0_0
        (gain arg10 harg10 x7) (keysB arg13 harg13 xs0) (valsB arg14 harg14 xs1),
      piece arg3 harg3 arg6 harg6 arg7 harg7 x0 x3 x4 896 0 inb_S1x1024x512_S1x128x128_0_896_0 inb_S1024x128_S128x128_896_0
        (gain arg10 harg10 x7) (keysB arg13 harg13 xs0) (valsB arg14 harg14 xs1),
      piece arg3 harg3 arg6 harg6 arg7 harg7 x0 x3 x4 768 0 inb_S1x1024x512_S1x128x128_0_768_0 inb_S1024x128_S128x128_768_0
        (gain arg10 harg10 x7) (keysB arg13 harg13 xs0) (valsB arg14 harg14 xs1),
      piece arg3 harg3 arg6 harg6 arg7 harg7 x0 x3 x4 640 0 inb_S1x1024x512_S1x128x128_0_640_0 inb_S1024x128_S128x128_640_0
        (gain arg10 harg10 x7) (keysB arg13 harg13 xs0) (valsB arg14 harg14 xs1),
      piece arg3 harg3 arg6 harg6 arg7 harg7 x0 x3 x4 512 0 inb_S1x1024x512_S1x128x128_0_512_0 inb_S1024x128_S128x128_512_0
        (gain arg10 harg10 x7) (keysB arg13 harg13 xs0) (valsB arg14 harg14 xs1),
      piece arg3 harg3 arg6 harg6 arg7 harg7 x0 x3 x4 384 0 inb_S1x1024x512_S1x128x128_0_384_0 inb_S1024x128_S128x128_384_0
        (gain arg10 harg10 x7) (keysB arg13 harg13 xs0) (valsB arg14 harg14 xs1),
      piece arg3 harg3 arg6 harg6 arg7 harg7 x0 x3 x4 256 0 inb_S1x1024x512_S1x128x128_0_256_0 inb_S1024x128_S128x128_256_0
        (gain arg10 harg10 x7) (keysB arg13 harg13 xs0) (valsB arg14 harg14 xs1),
      piece arg3 harg3 arg6 harg6 arg7 harg7 x0 x3 x4 128 0 inb_S1x1024x512_S1x128x128_0_128_0 inb_S1024x128_S128x128_128_0
        (gain arg10 harg10 x7) (keysB arg13 harg13 xs0) (valsB arg14 harg14 xs1),
      piece arg3 harg3 arg6 harg6 arg7 harg7 x0 x3 x4 0 0 inb_S1x1024x512_S1x128x128_0_0_0 inb_S1024x128_S128x128_0_0
        (gain arg10 harg10 x7) (keysB arg13 harg13 xs0) (valsB arg14 harg14 xs1)] := by
  rfl

end Cert.Grouped

end
-- ==== Proof.Gqa.Block.lean ====
/-
  What one grid point of the grouped-query attention leaves: in scratch the keys and the values of its group, and in its
  output block the attention of each of its queries.
-/
module

public import proofs.«01_k».proof.Proof.Gqa.Read
public import proofs.«01_k».proof.Proof.Gqa.StripA
public import proofs.«01_k».proof.Proof.Gqa.StripB
public import Idealize.ShloMosaic.Lib.WholeRead
public import Idealize.ShloMosaic.Lib.Pipeline.ReadBack
public import Idealize.ShloMosaic.Lib.Pipeline.ValueKit.Basic

@[expose] public section

set_option maxRecDepth 16384

noncomputable section

namespace Cert.Grouped

open Cert.GqaIdeal Cert.GqaIdeal.Gen Idealize.ShloMosaic Idealize.ShloMosaic.TcCoe
open Idealize.ShloMosaic.Pointwise Cert.Soft

/-! ## Loads -/

/-- Row `r`, lane `e` of a strip at row `o`, lane `l` of the block. -/
theorem strip_idx {o l : ℕ} (inb : ∀ a, (![0, o, l] : Fin 3 → ℕ) a + S1x128x128.size a ≤ S1x1024x512.size a)
    (u : Fin 1) (r e : Fin 128) (h : o + r.val < 1024) (h' : l + e.val < 512) :
    (Rect.unit (s := S1x1024x512) ![0, o, l] S1x128x128.size inb).idx (ix3 u r e) = ix3 (0 : Fin 1) ⟨o + r.val, h⟩ ⟨l + e.val, h'⟩ := by
  funext a
  refine Fin.ext ?_
  rw [LoadRect.idx_apply]
  match a with
  | ⟨0, _⟩ => simp [ix3]
  | ⟨1, _⟩ => simp [ix3]
  | ⟨2, _⟩ => simp [ix3]

/-- Row `r` of the rows at `o` of a table. -/
theorem table_idx {o : ℕ} (inb : ∀ a, (![o, 0] : Fin 2 → ℕ) a + S128x128.size a ≤ S1024x128.size a)
    (r e : Fin 128) (h : o + r.val < 1024) :
    (Rect.unit (s := S1024x128) ![o, 0] S128x128.size inb).idx (ix2 r e) = ix2 (⟨o + r.val, h⟩ : Fin 1024) e := by
  funext a
  refine Fin.ext ?_
  rw [LoadRect.idx_apply]
  match a with
  | ⟨0, _⟩ => simp [ix2]
  | ⟨1, _⟩ => simp [ix2]

theorem row_idx (x : S1x128.Idx) :
    (Rect.unit (s := S1x128) ![0, 0] S1x128.size inb_S1x128_S1x128_0_0).idx x = x := by
  funext a
  refine Fin.ext ?_
  rw [LoadRect.idx_apply]
  match a with
  | ⟨0, _⟩ => simp
  | ⟨1, _⟩ => simp

/-- A row loaded whole. -/
theorem row_read (m : Memref sig .tc .vmem S1x128 .f32) (h : m.IsWhole) (x : Vec Ideal S1x128 .f32) :
    View.readAt (Elt Ideal) m.view (Rect.unit (s := S1x128) ![0, 0] S1x128.size inb_S1x128_S1x128_0_0).toLoadRect (h.unread x)
      = x :=
  funext fun y => (h.readAt_unread x _ y).trans (congrArg x (row_idx y))

theorem block_idx (x : S1x2048x128.Idx) :
    (Rect.unit (s := S1x2048x128) ![0, 0, 0] S1x2048x128.size inb_S1x2048x128_S1x2048x128_0_0_0).idx x = x := by
  funext a
  refine Fin.ext ?_
  rw [LoadRect.idx_apply]
  match a with
  | ⟨0, _⟩ => simp
  | ⟨1, _⟩ => simp
  | ⟨2, _⟩ => simp

/-- A block loaded whole. -/
theorem block_read (m : Memref sig .tc .vmem S1x2048x128 .f32) (h : m.IsWhole) (x : Vec Ideal S1x2048x128 .f32) :
    View.readAt (Elt Ideal) m.view (Rect.unit (s := S1x2048x128) ![0, 0, 0] S1x2048x128.size inb_S1x2048x128_S1x2048x128_0_0_0).toLoadRect (h.unread x)
      = x :=
  funext fun y => (h.readAt_unread x _ y).trans (congrArg x (block_idx y))

theorem tab_idx (x : S2048x128.Idx) :
    (Rect.unit (s := S2048x128) ![0, 0] S2048x128.size inb_S2048x128_S2048x128_0_0).idx x = x := by
  funext a
  refine Fin.ext ?_
  rw [LoadRect.idx_apply]
  match a with
  | ⟨0, _⟩ => simp
  | ⟨1, _⟩ => simp

/-- A table loaded whole. -/
theorem tab_read (m : Memref sig .tc .vmem S2048x128 .f32) (h : m.IsWhole) (x : Vec Ideal S2048x128 .f32) :
    View.readAt (Elt Ideal) m.view (Rect.unit (s := S2048x128) ![0, 0] S2048x128.size inb_S2048x128_S2048x128_0_0).toLoadRect (h.unread x)
      = x :=
  funext fun y => (h.readAt_unread x _ y).trans (congrArg x (tab_idx y))

/-- The keys in scratch, loaded whole. -/
theorem keysB_eq (m : Memref sig .tc .vmem S2048x128 .bf16) (h : m.IsWhole) (x : Vec Ideal S2048x128 .bf16) : keysB m h x = x := by
  unfold keysB
  exact funext fun y => (h.readAt_unread x _ y).trans (congrArg x (tab_idx y))

theorem wide_idx (x : S2048x256.Idx) :
    (Rect.unit (s := S2048x256) ![0, 0] S2048x256.size inb_S2048x256_S2048x256_0_0).idx x = x := by
  funext a
  refine Fin.ext ?_
  rw [LoadRect.idx_apply]
  match a with
  | ⟨0, _⟩ => simp
  | ⟨1, _⟩ => simp

/-- The values in scratch, loaded whole. -/
theorem valsB_eq (m : Memref sig .tc .vmem S2048x256 .bf16) (h : m.IsWhole) (x : Vec Ideal S2048x256 .bf16) : valsB m h x = x := by
  unfold valsB
  exact funext fun y => (h.readAt_unread x _ y).trans (congrArg x (wide_idx y))

theorem gain_eq (m : Memref sig .tc .vmem S1x128 .f32) (h : m.IsWhole) (x : Vec Ideal S1x128 .f32) : gain m h x = x :=
  row_read m h x

/-! ## The scratch -/

/-- What the first point of a group stores as its keys. -/
theorem keys_pieces (c : Dev nD) (arg4 : Memref sig .tc .vmem S1x2048x128 .f32) (harg4 : arg4.IsWhole)
    (arg8 : Memref sig .tc .vmem S2048x128 .f32) (harg8 : arg8.IsWhole) (arg9 : Memref sig .tc .vmem S2048x128 .f32)
    (harg9 : arg9.IsWhole) (arg11 : Memref sig .tc .vmem S1x128 .f32) (harg11 : arg11.IsWhole)
    (x1 : Vec Ideal S1x2048x128 .f32) (x5 x6 : Vec Ideal S2048x128 .f32) (x8 : Vec Ideal S1x128 .f32) :
    kernelRun0_A.sl.HS0_1 c arg4 harg4 arg8 harg8 arg9 harg9 arg11 harg11 x1 x5 x6 x8
      = [⟨Rect.unit (s := S2048x128) ![0, 0] S2048x128.size inb_S2048x128_S2048x128_0_0, k0_pay3 k0_pay5 x1 x8 x5 x6⟩] := by
  have e : k0_pay3 k0_pay5
      (View.readAt (Elt Ideal) arg4.view (Rect.unit (s := S1x2048x128) ![0, 0, 0] S1x2048x128.size inb_S1x2048x128_S1x2048x128_0_0_0).toLoadRect (harg4.unread x1))
      (View.readAt (Elt Ideal) arg11.view (Rect.unit (s := S1x128) ![0, 0] S1x128.size inb_S1x128_S1x128_0_0).toLoadRect (harg11.unread x8))
      (View.readAt (Elt Ideal) arg8.view (Rect.unit (s := S2048x128) ![0, 0] S2048x128.size inb_S2048x128_S2048x128_0_0).toLoadRect (harg8.unread x5))
      (View.readAt (Elt Ideal) arg9.view (Rect.unit (s := S2048x128) ![0, 0] S2048x128.size inb_S2048x128_S2048x128_0_0).toLoadRect (harg9.unread x6))
      = k0_pay3 k0_pay5 x1 x8 x5 x6 := by
    rw [block_read, row_read, tab_read, tab_read]
  rw [← e]
  rfl

/-- What the first point of a group stores as its values. -/
theorem vals_pieces (c : Dev nD) (arg5 : Memref sig .tc .vmem S1x2048x128 .f32) (harg5 : arg5.IsWhole) (x2 : Vec Ideal S1x2048x128 .f32) :
    kernelRun0_A.sl.HS1_2 c arg5 harg5 x2
      = [⟨Rect.unit (s := S2048x256) ![0, 128] S2048x128.size inb_S2048x256_S2048x128_0_128, k0_pay7 (F := Ideal)⟩,
        ⟨Rect.unit (s := S2048x256) ![0, 0] S2048x128.size inb_S2048x256_S2048x128_0_0, k0_pay6 (k0_pay4 x2)⟩] := by
  have e : k0_pay6 (k0_pay4
      (View.readAt (Elt Ideal) arg5.view (Rect.unit (s := S1x2048x128) ![0, 0, 0] S1x2048x128.size inb_S1x2048x128_S1x2048x128_0_0_0).toLoadRect (harg5.unread x2)))
      = k0_pay6 (k0_pay4 x2) := by
    rw [block_read]
  rw [← e]
  rfl

theorem keysA_eq (c : Dev nD) (arg4 : Memref sig .tc .vmem S1x2048x128 .f32) (harg4 : arg4.IsWhole)
    (arg8 : Memref sig .tc .vmem S2048x128 .f32) (harg8 : arg8.IsWhole) (arg9 : Memref sig .tc .vmem S2048x128 .f32)
    (harg9 : arg9.IsWhole) (arg11 : Memref sig .tc .vmem S1x128 .f32) (harg11 : arg11.IsWhole)
    (arg13 : Memref sig .tc .vmem S2048x128 .bf16)
    (x1 : Vec Ideal S1x2048x128 .f32) (x5 x6 : Vec Ideal S2048x128 .f32) (x8 : Vec Ideal S1x128 .f32) :
    keysA c arg4 harg4 arg8 harg8 arg9 harg9 arg11 harg11 arg13 x1 x5 x6 x8 = k0_pay3 k0_pay5 x1 x8 x5 x6 := by
  unfold keysA
  rw [keys_pieces]
  exact View.readCov_unit_lit _ inb_S2048x128_S2048x128_0_0 _ (by decide)

/-- The stored values, laid out: the values in the low lanes, ones in the high lanes. -/
theorem vals_canon (x2 : Vec Ideal S1x2048x128 .f32) (j : Fin 2048) (d : Fin 256) :
    View.canon (Val := Elt Ideal)
      [(⟨Rect.unit (s := S2048x256) ![0, 128] S2048x128.size inb_S2048x256_S2048x128_0_128, k0_pay7 (F := Ideal)⟩ : View.Piece (Elt Ideal) S2048x256 .bf16),
        ⟨Rect.unit (s := S2048x256) ![0, 0] S2048x128.size inb_S2048x256_S2048x128_0_0, k0_pay6 (k0_pay4 x2)⟩] (ix2 j d)
      = vOnes x2 (ix2 j d) := by
  refine View.canon_apply_of_pieces (Val := Elt Ideal) (vOnes x2) _ ?_ _ ?_
  · refine View.PiecesOf.mem ⟨fun x => ?_, fun x => ?_, trivial⟩
    · obtain ⟨a, b, rfl⟩ : ∃ (a : Fin 2048) (b : Fin 128), x = ix2 a b := ⟨x 0, x 1, eq_ix2 x⟩
      have : vOnes x2 ((Rect.unit (s := S2048x256) ![0, 128] S2048x128.size inb_S2048x256_S2048x128_0_128).emb (ix2 a b)) = 1 :=
        dif_neg (by rw [Rect.emb_apply]; simp)
      rw [this]
      exact ones_apply a b
    · obtain ⟨a, b, rfl⟩ : ∃ (a : Fin 2048) (b : Fin 128), x = ix2 a b := ⟨x 0, x 1, eq_ix2 x⟩
      refine (vals_apply x2 a b).trans ?_
      have h : ((Rect.unit (s := S2048x256) ![0, 0] S2048x128.size inb_S2048x256_S2048x128_0_0).emb (ix2 a b) 1).val < 128 := by
        rw [Rect.emb_apply]; simp [ix2]
      refine Eq.trans ?_ (dif_pos h).symm
      refine congrArg x2 (congrArg₂ (ix3 (0 : Fin 1)) (Fin.ext ?_) (Fin.ext ?_))
      · rw [Rect.emb_apply]; simp [ix2]
      · show b.val = ((Rect.unit (s := S2048x256) ![0, 0] S2048x128.size inb_S2048x256_S2048x128_0_0).emb (ix2 a b) 1).val
        rw [Rect.emb_apply]; simp [ix2]
  · by_cases h : d.val < 128
    · refine ⟨_, List.mem_cons_of_mem _ List.mem_cons_self,
        (Rect.mem_set_unit (inb := inb_S2048x256_S2048x128_0_0)).mpr fun a => ?_⟩
      match a with
      | ⟨0, _⟩ => simp [ix2]
      | ⟨1, _⟩ => simpa [ix2] using h
    · refine ⟨_, List.mem_cons_self, (Rect.mem_set_unit (inb := inb_S2048x256_S2048x128_0_128)).mpr fun a => ?_⟩
      match a with
      | ⟨0, _⟩ => simp [ix2]
      | ⟨1, _⟩ => simp [ix2]; omega

theorem valsA_eq (c : Dev nD) (arg5 : Memref sig .tc .vmem S1x2048x128 .f32) (harg5 : arg5.IsWhole)
    (arg14 : Memref sig .tc .vmem S2048x256 .bf16) (x2 : Vec Ideal S1x2048x128 .f32) : valsA c arg5 harg5 arg14 x2 = vOnes x2 := by
  funext y
  obtain ⟨j, d, rfl⟩ : ∃ (j : Fin 2048) (d : Fin 256), y = ix2 j d := ⟨y 0, y 1, eq_ix2 y⟩
  unfold valsA
  rw [vals_pieces, View.readCov_eq_canon']
  exact (congrArg _ (wide_idx (ix2 j d))).trans (vals_canon x2 j d)

/-- The first point of a group leaves its keys. -/
theorem left_keys (c : Dev nD) (i : grid0.Coords)
    (arg3 : Memref sig .tc .vmem S1x1024x512 .f32) (harg3 : arg3.IsWhole)
    (arg4 : Memref sig .tc .vmem S1x2048x128 .f32) (harg4 : arg4.IsWhole)
    (arg5 : Memref sig .tc .vmem S1x2048x128 .f32) (harg5 : arg5.IsWhole)
    (arg6 : Memref sig .tc .vmem S1024x128 .f32) (harg6 : arg6.IsWhole)
    (arg7 : Memref sig .tc .vmem S1024x128 .f32) (harg7 : arg7.IsWhole)
    (arg8 : Memref sig .tc .vmem S2048x128 .f32) (harg8 : arg8.IsWhole)
    (arg9 : Memref sig .tc .vmem S2048x128 .f32) (harg9 : arg9.IsWhole)
    (arg10 : Memref sig .tc .vmem S1x128 .f32) (harg10 : arg10.IsWhole)
    (arg11 : Memref sig .tc .vmem S1x128 .f32) (harg11 : arg11.IsWhole)
    (arg12 : Memref sig .tc .vmem S1x1024x512 .bf16) (harg12 : arg12.IsWhole)
    (arg13 : Memref sig .tc .vmem S2048x128 .bf16) (harg13 : arg13.IsWhole)
    (arg14 : Memref sig .tc .vmem S2048x256 .bf16) (harg14 : arg14.IsWhole)
    (hc0 : cond0_0 i) (x0 : Vec Ideal S1x1024x512 .f32) (x1 : Vec Ideal S1x2048x128 .f32) (x2 : Vec Ideal S1x2048x128 .f32) (x3 : Vec Ideal S1024x128 .f32) (x4 : Vec Ideal S1024x128 .f32) (x5 : Vec Ideal S2048x128 .f32) (x6 : Vec Ideal S2048x128 .f32) (x7 : Vec Ideal S1x128 .f32) (x8 : Vec Ideal S1x128 .f32) :
    sout0_A_0 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay3 k0_pay5 x1 x8 x5 x6 := by
  unfold sout0_A_0
  rw [View.read_writes_junk_eq_canon]
  have e : (kernelRun0_A c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.1 = kernelRun0_A.sl.HS0_1 c arg4 harg4 arg8 harg8 arg9 harg9 arg11 harg11 x1 x5 x6 x8 := rfl
  rw [e, keys_pieces]
  have hz : (![0, 0] : Fin 2 → Nat) = fun _ => 0 := funext fun a => by fin_cases a <;> rfl
  rw [View.canon_unit_zero hz]

/-- The first point of a group leaves its values. -/
theorem left_vals (c : Dev nD) (i : grid0.Coords)
    (arg3 : Memref sig .tc .vmem S1x1024x512 .f32) (harg3 : arg3.IsWhole)
    (arg4 : Memref sig .tc .vmem S1x2048x128 .f32) (harg4 : arg4.IsWhole)
    (arg5 : Memref sig .tc .vmem S1x2048x128 .f32) (harg5 : arg5.IsWhole)
    (arg6 : Memref sig .tc .vmem S1024x128 .f32) (harg6 : arg6.IsWhole)
    (arg7 : Memref sig .tc .vmem S1024x128 .f32) (harg7 : arg7.IsWhole)
    (arg8 : Memref sig .tc .vmem S2048x128 .f32) (harg8 : arg8.IsWhole)
    (arg9 : Memref sig .tc .vmem S2048x128 .f32) (harg9 : arg9.IsWhole)
    (arg10 : Memref sig .tc .vmem S1x128 .f32) (harg10 : arg10.IsWhole)
    (arg11 : Memref sig .tc .vmem S1x128 .f32) (harg11 : arg11.IsWhole)
    (arg12 : Memref sig .tc .vmem S1x1024x512 .bf16) (harg12 : arg12.IsWhole)
    (arg13 : Memref sig .tc .vmem S2048x128 .bf16) (harg13 : arg13.IsWhole)
    (arg14 : Memref sig .tc .vmem S2048x256 .bf16) (harg14 : arg14.IsWhole)
    (hc0 : cond0_0 i) (x0 : Vec Ideal S1x1024x512 .f32) (x1 : Vec Ideal S1x2048x128 .f32) (x2 : Vec Ideal S1x2048x128 .f32) (x3 : Vec Ideal S1024x128 .f32) (x4 : Vec Ideal S1024x128 .f32) (x5 : Vec Ideal S2048x128 .f32) (x6 : Vec Ideal S2048x128 .f32) (x7 : Vec Ideal S1x128 .f32) (x8 : Vec Ideal S1x128 .f32) :
    sout0_A_1 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = vOnes x2 := by
  funext y
  obtain ⟨j, d, rfl⟩ : ∃ (j : Fin 2048) (d : Fin 256), y = ix2 j d := ⟨y 0, y 1, eq_ix2 y⟩
  unfold sout0_A_1
  rw [View.read_writes_junk_eq_canon]
  have e : (kernelRun0_A c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.2.1 = kernelRun0_A.sl.HS1_2 c arg5 harg5 x2 := rfl
  rw [e, vals_pieces]
  exact vals_canon x2 j d

/-! ## The block -/

/-- What a point's block holds: entry `(p, z)` is lane `z % 128` of the attention of head `z / 128` at its row `p`. -/
def blockVal (x0 : Vec Ideal S1x1024x512 .f32) (x3 x4 : Vec Ideal S1024x128 .f32) (x7 : Vec Ideal S1x128 .f32)
    (K V : Fin 2048 → Fin 128 → EReal) : Vec Ideal S1x1024x512 .bf16 := fun y =>
  att (turn (rms (fun e => x0 (ix3 (0 : Fin 1) (y 1) (⟨(y 2).val / 128 * 128 + e.val, by have h : (y 2).val < 512 := (y 2).isLt; omega⟩ : Fin 512)))
      (fun e => x7 (ix2 0 e))) (fun e => x3 (ix2 (y 1) e)) (fun e => x4 (ix2 (y 1) e))) K
    (fun j => V j ⟨(y 2).val % 128, Nat.mod_lt _ (by omega)⟩)

/-- One stored strip is the block's value at the strip's rows and lanes. -/
theorem piece_apply (arg3 : Memref sig .tc .vmem S1x1024x512 .f32) (harg3 : arg3.IsWhole) (arg6 : Memref sig .tc .vmem S1024x128 .f32)
    (harg6 : arg6.IsWhole) (arg7 : Memref sig .tc .vmem S1024x128 .f32) (harg7 : arg7.IsWhole)
    (x0 : Vec Ideal S1x1024x512 .f32) (x3 x4 : Vec Ideal S1024x128 .f32) (x7 : Vec Ideal S1x128 .f32)
    (kn : Vec Ideal S2048x128 .bf16) (vb : Vec Ideal S2048x256 .bf16)
    (K V : Fin 2048 → Fin 128 → EReal)
    (hK : ∀ j d, ∃ r : ℝ, K j d = (r : EReal)) (hg : ∀ d, ∃ r : ℝ, x7 (ix2 (n0 := 1) (n1 := 128) 0 d) = (r : EReal))
    (hc : ∀ p d, ∃ r : ℝ, x3 (ix2 (n0 := 1024) (n1 := 128) p d) = (r : EReal))
    (hs : ∀ p d, ∃ r : ℝ, x4 (ix2 (n0 := 1024) (n1 := 128) p d) = (r : EReal))
    (hk : ∀ j d, kn (ix2 j d) = K j d)
    (hv : ∀ j (d : Fin 128), vb (ix2 j ⟨d.val, by omega⟩) = V j d) (h1 : ∀ j, vb (ix2 j (128 : Fin 256)) = 1)
    (o l : ℕ) (inb : ∀ a, (![0, o, l] : Fin 3 → ℕ) a + S1x128x128.size a ≤ S1x1024x512.size a)
    (inb' : ∀ a, (![o, 0] : Fin 2 → ℕ) a + S128x128.size a ≤ S1024x128.size a) (hl : l % 128 = 0) (x : S1x128x128.Idx) :
    (piece arg3 harg3 arg6 harg6 arg7 harg7 x0 x3 x4 o l inb inb' x7 kn vb).2 x
      = blockVal x0 x3 x4 x7 K V ((Rect.unit (s := S1x1024x512) ![0, o, l] S1x128x128.size inb).emb x) := by
  obtain ⟨u, r, d, rfl⟩ : ∃ (u : Fin 1) (r d : Fin 128), x = ix3 u r d := ⟨x 0, x 1, x 2, eq_ix3 x⟩
  obtain rfl : u = 0 := Subsingleton.elim _ _
  have ho : o + 128 ≤ 1024 := inb 1
  have hl' : l + 128 ≤ 512 := inb 2
  have hr : o + r.val < 1024 := by omega
  have hi : (Rect.unit (s := S1x1024x512) ![0, o, l] S1x128x128.size inb).emb (ix3 (0 : Fin 1) r d)
      = ix3 (0 : Fin 1) (⟨o + r.val, hr⟩ : Fin 1024) (⟨l + d.val, by omega⟩ : Fin 512) := strip_idx inb 0 r d hr (by omega)
  have h3 : ∀ e : Fin 128, View.readAt (Elt Ideal) arg6.view (Rect.unit (s := S1024x128) ![o, 0] S128x128.size inb').toLoadRect (harg6.unread x3) (ix2 r e)
      = x3 (ix2 (⟨o + r.val, hr⟩ : Fin 1024) e) := fun e => (harg6.readAt_unread x3 _ _).trans (congrArg x3 (table_idx inb' r e hr))
  have h4 : ∀ e : Fin 128, View.readAt (Elt Ideal) arg7.view (Rect.unit (s := S1024x128) ![o, 0] S128x128.size inb').toLoadRect (harg7.unread x4) (ix2 r e)
      = x4 (ix2 (⟨o + r.val, hr⟩ : Fin 1024) e) := fun e => (harg7.readAt_unread x4 _ _).trans (congrArg x4 (table_idx inb' r e hr))
  have h0 : ∀ e : Fin 128, View.readAt (Elt Ideal) arg3.view (Rect.unit (s := S1x1024x512) ![0, o, l] S1x128x128.size inb).toLoadRect (harg3.unread x0) (ix3 (0 : Fin 1) r e)
      = x0 (ix3 (0 : Fin 1) (⟨o + r.val, hr⟩ : Fin 1024) (⟨(l + d.val) / 128 * 128 + e.val, by omega⟩ : Fin 512)) := fun e => by
    refine (harg3.readAt_unread x0 _ _).trans (congrArg x0 ((strip_idx inb 0 r e hr (by omega)).trans ?_))
    refine congrArg (ix3 (0 : Fin 1) (⟨o + r.val, hr⟩ : Fin 1024)) (Fin.ext ?_)
    show l + e.val = (l + d.val) / 128 * 128 + e.val
    omega
  have hd : (⟨(l + d.val) % 128, Nat.mod_lt _ (by omega)⟩ : Fin 128) = d := Fin.ext (by show (l + d.val) % 128 = d.val; omega)
  rw [hi]
  refine (strip_apply _ x7 _ _ kn vb K V hk hK hv h1 hg r d (fun e => ?_) (fun e => ?_)).trans ?_
  · rw [h3]; exact hc _ e
  · rw [h4]; exact hs _ e
  · show _ = att _ K (fun j => V j ⟨(l + d.val) % 128, _⟩)
    rw [hd]
    exact congrArg (fun f => att f K (fun j => V j d)) (by
      rw [funext h0, funext h3, funext h4]
      rfl)

/-- What the first point of a group writes. -/
theorem block_A (c : Dev nD) (i : grid0.Coords)
    (arg3 : Memref sig .tc .vmem S1x1024x512 .f32) (harg3 : arg3.IsWhole)
    (arg4 : Memref sig .tc .vmem S1x2048x128 .f32) (harg4 : arg4.IsWhole)
    (arg5 : Memref sig .tc .vmem S1x2048x128 .f32) (harg5 : arg5.IsWhole)
    (arg6 : Memref sig .tc .vmem S1024x128 .f32) (harg6 : arg6.IsWhole)
    (arg7 : Memref sig .tc .vmem S1024x128 .f32) (harg7 : arg7.IsWhole)
    (arg8 : Memref sig .tc .vmem S2048x128 .f32) (harg8 : arg8.IsWhole)
    (arg9 : Memref sig .tc .vmem S2048x128 .f32) (harg9 : arg9.IsWhole)
    (arg10 : Memref sig .tc .vmem S1x128 .f32) (harg10 : arg10.IsWhole)
    (arg11 : Memref sig .tc .vmem S1x128 .f32) (harg11 : arg11.IsWhole)
    (arg12 : Memref sig .tc .vmem S1x1024x512 .bf16) (harg12 : arg12.IsWhole)
    (arg13 : Memref sig .tc .vmem S2048x128 .bf16) (harg13 : arg13.IsWhole)
    (arg14 : Memref sig .tc .vmem S2048x256 .bf16) (harg14 : arg14.IsWhole)
    (hc0 : cond0_0 i) (x0 : Vec Ideal S1x1024x512 .f32) (x1 : Vec Ideal S1x2048x128 .f32) (x2 : Vec Ideal S1x2048x128 .f32) (x3 : Vec Ideal S1024x128 .f32) (x4 : Vec Ideal S1024x128 .f32) (x5 : Vec Ideal S2048x128 .f32) (x6 : Vec Ideal S2048x128 .f32) (x7 : Vec Ideal S1x128 .f32) (x8 : Vec Ideal S1x128 .f32)
    (K V : Fin 2048 → Fin 128 → EReal)
    (hK : ∀ j d, ∃ r : ℝ, K j d = (r : EReal)) (hg : ∀ d, ∃ r : ℝ, x7 (ix2 (n0 := 1) (n1 := 128) 0 d) = (r : EReal))
    (hc : ∀ p d, ∃ r : ℝ, x3 (ix2 (n0 := 1024) (n1 := 128) p d) = (r : EReal))
    (hs : ∀ p d, ∃ r : ℝ, x4 (ix2 (n0 := 1024) (n1 := 128) p d) = (r : EReal))
    (hk : ∀ j d, k0_pay3 k0_pay5 x1 x8 x5 x6 (ix2 j d) = K j d)
    (hv : ∀ j (d : Fin 128), x2 (ix3 (n0 := 1) (n1 := 2048) (n2 := 128) 0 j d) = V j d) (y : S1x1024x512.Idx) :
    out0_A_9 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 y = blockVal x0 x3 x4 x7 K V y := by
  refine View.read_writes_apply_of_pieces _ _ _ _ ?_ y (cover0_A_9 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 y)
  rw [pieces_A, gain_eq, keysA_eq, valsA_eq]
  refine View.PiecesOf.mem ?_
  have key := piece_apply arg3 harg3 arg6 harg6 arg7 harg7 x0 x3 x4 x7 (k0_pay3 k0_pay5 x1 x8 x5 x6) (vOnes x2) K V hK hg hc hs hk
    (fun j d => (dif_pos d.isLt).trans (hv j d)) (fun j => dif_neg (by simp [ix2]))
  refine ⟨key 896 384 inb_S1x1024x512_S1x128x128_0_896_384 inb_S1024x128_S128x128_896_0 (by decide), ?_⟩
  refine ⟨key 768 384 inb_S1x1024x512_S1x128x128_0_768_384 inb_S1024x128_S128x128_768_0 (by decide), ?_⟩
  refine ⟨key 640 384 inb_S1x1024x512_S1x128x128_0_640_384 inb_S1024x128_S128x128_640_0 (by decide), ?_⟩
  refine ⟨key 512 384 inb_S1x1024x512_S1x128x128_0_512_384 inb_S1024x128_S128x128_512_0 (by decide), ?_⟩
  refine ⟨key 384 384 inb_S1x1024x512_S1x128x128_0_384_384 inb_S1024x128_S128x128_384_0 (by decide), ?_⟩
  refine ⟨key 256 384 inb_S1x1024x512_S1x128x128_0_256_384 inb_S1024x128_S128x128_256_0 (by decide), ?_⟩
  refine ⟨key 128 384 inb_S1x1024x512_S1x128x128_0_128_384 inb_S1024x128_S128x128_128_0 (by decide), ?_⟩
  refine ⟨key 0 384 inb_S1x1024x512_S1x128x128_0_0_384 inb_S1024x128_S128x128_0_0 (by decide), ?_⟩
  refine ⟨key 896 256 inb_S1x1024x512_S1x128x128_0_896_256 inb_S1024x128_S128x128_896_0 (by decide), ?_⟩
  refine ⟨key 768 256 inb_S1x1024x512_S1x128x128_0_768_256 inb_S1024x128_S128x128_768_0 (by decide), ?_⟩
  refine ⟨key 640 256 inb_S1x1024x512_S1x128x128_0_640_256 inb_S1024x128_S128x128_640_0 (by decide), ?_⟩
  refine ⟨key 512 256 inb_S1x1024x512_S1x128x128_0_512_256 inb_S1024x128_S128x128_512_0 (by decide), ?_⟩
  refine ⟨key 384 256 inb_S1x1024x512_S1x128x128_0_384_256 inb_S1024x128_S128x128_384_0 (by decide), ?_⟩
  refine ⟨key 256 256 inb_S1x1024x512_S1x128x128_0_256_256 inb_S1024x128_S128x128_256_0 (by decide), ?_⟩
  refine ⟨key 128 256 inb_S1x1024x512_S1x128x128_0_128_256 inb_S1024x128_S128x128_128_0 (by decide), ?_⟩
  refine ⟨key 0 256 inb_S1x1024x512_S1x128x128_0_0_256 inb_S1024x128_S128x128_0_0 (by decide), ?_⟩
  refine ⟨key 896 128 inb_S1x1024x512_S1x128x128_0_896_128 inb_S1024x128_S128x128_896_0 (by decide), ?_⟩
  refine ⟨key 768 128 inb_S1x1024x512_S1x128x128_0_768_128 inb_S1024x128_S128x128_768_0 (by decide), ?_⟩
  refine ⟨key 640 128 inb_S1x1024x512_S1x128x128_0_640_128 inb_S1024x128_S128x128_640_0 (by decide), ?_⟩
  refine ⟨key 512 128 inb_S1x1024x512_S1x128x128_0_512_128 inb_S1024x128_S128x128_512_0 (by decide), ?_⟩
  refine ⟨key 384 128 inb_S1x1024x512_S1x128x128_0_384_128 inb_S1024x128_S128x128_384_0 (by decide), ?_⟩
  refine ⟨key 256 128 inb_S1x1024x512_S1x128x128_0_256_128 inb_S1024x128_S128x128_256_0 (by decide), ?_⟩
  refine ⟨key 128 128 inb_S1x1024x512_S1x128x128_0_128_128 inb_S1024x128_S128x128_128_0 (by decide), ?_⟩
  refine ⟨key 0 128 inb_S1x1024x512_S1x128x128_0_0_128 inb_S1024x128_S128x128_0_0 (by decide), ?_⟩
  refine ⟨key 896 0 inb_S1x1024x512_S1x128x128_0_896_0 inb_S1024x128_S128x128_896_0 (by decide), ?_⟩
  refine ⟨key 768 0 inb_S1x1024x512_S1x128x128_0_768_0 inb_S1024x128_S128x128_768_0 (by decide), ?_⟩
  refine ⟨key 640 0 inb_S1x1024x512_S1x128x128_0_640_0 inb_S1024x128_S128x128_640_0 (by decide), ?_⟩
  refine ⟨key 512 0 inb_S1x1024x512_S1x128x128_0_512_0 inb_S1024x128_S128x128_512_0 (by decide), ?_⟩
  refine ⟨key 384 0 inb_S1x1024x512_S1x128x128_0_384_0 inb_S1024x128_S128x128_384_0 (by decide), ?_⟩
  refine ⟨key 256 0 inb_S1x1024x512_S1x128x128_0_256_0 inb_S1024x128_S128x128_256_0 (by decide), ?_⟩
  refine ⟨key 128 0 inb_S1x1024x512_S1x128x128_0_128_0 inb_S1024x128_S128x128_128_0 (by decide), ?_⟩
  refine ⟨key 0 0 inb_S1x1024x512_S1x128x128_0_0_0 inb_S1024x128_S128x128_0_0 (by decide), ?_⟩
  trivial

/-- What a later point of a group writes. -/
theorem block_B (c : Dev nD) (i : grid0.Coords)
    (arg3 : Memref sig .tc .vmem S1x1024x512 .f32) (harg3 : arg3.IsWhole)
    (arg4 : Memref sig .tc .vmem S1x2048x128 .f32) (harg4 : arg4.IsWhole)
    (arg5 : Memref sig .tc .vmem S1x2048x128 .f32) (harg5 : arg5.IsWhole)
    (arg6 : Memref sig .tc .vmem S1024x128 .f32) (harg6 : arg6.IsWhole)
    (arg7 : Memref sig .tc .vmem S1024x128 .f32) (harg7 : arg7.IsWhole)
    (arg8 : Memref sig .tc .vmem S2048x128 .f32) (harg8 : arg8.IsWhole)
    (arg9 : Memref sig .tc .vmem S2048x128 .f32) (harg9 : arg9.IsWhole)
    (arg10 : Memref sig .tc .vmem S1x128 .f32) (harg10 : arg10.IsWhole)
    (arg11 : Memref sig .tc .vmem S1x128 .f32) (harg11 : arg11.IsWhole)
    (arg12 : Memref sig .tc .vmem S1x1024x512 .bf16) (harg12 : arg12.IsWhole)
    (arg13 : Memref sig .tc .vmem S2048x128 .bf16) (harg13 : arg13.IsWhole)
    (arg14 : Memref sig .tc .vmem S2048x256 .bf16) (harg14 : arg14.IsWhole)
    (hc0 : ¬cond0_0 i) (x0 : Vec Ideal S1x1024x512 .f32) (x1 : Vec Ideal S1x2048x128 .f32) (x2 : Vec Ideal S1x2048x128 .f32) (x3 : Vec Ideal S1024x128 .f32) (x4 : Vec Ideal S1024x128 .f32) (x5 : Vec Ideal S2048x128 .f32) (x6 : Vec Ideal S2048x128 .f32) (x7 : Vec Ideal S1x128 .f32) (x8 : Vec Ideal S1x128 .f32)
    (xs0 : Vec Ideal S2048x128 .bf16) (xs1 : Vec Ideal S2048x256 .bf16)
    (K V : Fin 2048 → Fin 128 → EReal)
    (hK : ∀ j d, ∃ r : ℝ, K j d = (r : EReal)) (hg : ∀ d, ∃ r : ℝ, x7 (ix2 (n0 := 1) (n1 := 128) 0 d) = (r : EReal))
    (hc : ∀ p d, ∃ r : ℝ, x3 (ix2 (n0 := 1024) (n1 := 128) p d) = (r : EReal))
    (hs : ∀ p d, ∃ r : ℝ, x4 (ix2 (n0 := 1024) (n1 := 128) p d) = (r : EReal))
    (hk : ∀ j d, xs0 (ix2 (n0 := 2048) (n1 := 128) j d) = K j d)
    (hv : ∀ j (d : Fin 128), xs1 (ix2 (n0 := 2048) (n1 := 256) j ⟨d.val, by omega⟩) = V j d)
    (h1 : ∀ j, xs1 (ix2 (n0 := 2048) (n1 := 256) j 128) = 1) (y : S1x1024x512.Idx) :
    out0_B_9 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 y = blockVal x0 x3 x4 x7 K V y := by
  refine View.read_writes_apply_of_pieces _ _ _ _ ?_ y (cover0_B_9 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 y)
  rw [pieces_B, gain_eq, keysB_eq, valsB_eq]
  refine View.PiecesOf.mem ?_
  have key := piece_apply arg3 harg3 arg6 harg6 arg7 harg7 x0 x3 x4 x7 xs0 xs1 K V hK hg hc hs hk hv h1
  refine ⟨key 896 384 inb_S1x1024x512_S1x128x128_0_896_384 inb_S1024x128_S128x128_896_0 (by decide), ?_⟩
  refine ⟨key 768 384 inb_S1x1024x512_S1x128x128_0_768_384 inb_S1024x128_S128x128_768_0 (by decide), ?_⟩
  refine ⟨key 640 384 inb_S1x1024x512_S1x128x128_0_640_384 inb_S1024x128_S128x128_640_0 (by decide), ?_⟩
  refine ⟨key 512 384 inb_S1x1024x512_S1x128x128_0_512_384 inb_S1024x128_S128x128_512_0 (by decide), ?_⟩
  refine ⟨key 384 384 inb_S1x1024x512_S1x128x128_0_384_384 inb_S1024x128_S128x128_384_0 (by decide), ?_⟩
  refine ⟨key 256 384 inb_S1x1024x512_S1x128x128_0_256_384 inb_S1024x128_S128x128_256_0 (by decide), ?_⟩
  refine ⟨key 128 384 inb_S1x1024x512_S1x128x128_0_128_384 inb_S1024x128_S128x128_128_0 (by decide), ?_⟩
  refine ⟨key 0 384 inb_S1x1024x512_S1x128x128_0_0_384 inb_S1024x128_S128x128_0_0 (by decide), ?_⟩
  refine ⟨key 896 256 inb_S1x1024x512_S1x128x128_0_896_256 inb_S1024x128_S128x128_896_0 (by decide), ?_⟩
  refine ⟨key 768 256 inb_S1x1024x512_S1x128x128_0_768_256 inb_S1024x128_S128x128_768_0 (by decide), ?_⟩
  refine ⟨key 640 256 inb_S1x1024x512_S1x128x128_0_640_256 inb_S1024x128_S128x128_640_0 (by decide), ?_⟩
  refine ⟨key 512 256 inb_S1x1024x512_S1x128x128_0_512_256 inb_S1024x128_S128x128_512_0 (by decide), ?_⟩
  refine ⟨key 384 256 inb_S1x1024x512_S1x128x128_0_384_256 inb_S1024x128_S128x128_384_0 (by decide), ?_⟩
  refine ⟨key 256 256 inb_S1x1024x512_S1x128x128_0_256_256 inb_S1024x128_S128x128_256_0 (by decide), ?_⟩
  refine ⟨key 128 256 inb_S1x1024x512_S1x128x128_0_128_256 inb_S1024x128_S128x128_128_0 (by decide), ?_⟩
  refine ⟨key 0 256 inb_S1x1024x512_S1x128x128_0_0_256 inb_S1024x128_S128x128_0_0 (by decide), ?_⟩
  refine ⟨key 896 128 inb_S1x1024x512_S1x128x128_0_896_128 inb_S1024x128_S128x128_896_0 (by decide), ?_⟩
  refine ⟨key 768 128 inb_S1x1024x512_S1x128x128_0_768_128 inb_S1024x128_S128x128_768_0 (by decide), ?_⟩
  refine ⟨key 640 128 inb_S1x1024x512_S1x128x128_0_640_128 inb_S1024x128_S128x128_640_0 (by decide), ?_⟩
  refine ⟨key 512 128 inb_S1x1024x512_S1x128x128_0_512_128 inb_S1024x128_S128x128_512_0 (by decide), ?_⟩
  refine ⟨key 384 128 inb_S1x1024x512_S1x128x128_0_384_128 inb_S1024x128_S128x128_384_0 (by decide), ?_⟩
  refine ⟨key 256 128 inb_S1x1024x512_S1x128x128_0_256_128 inb_S1024x128_S128x128_256_0 (by decide), ?_⟩
  refine ⟨key 128 128 inb_S1x1024x512_S1x128x128_0_128_128 inb_S1024x128_S128x128_128_0 (by decide), ?_⟩
  refine ⟨key 0 128 inb_S1x1024x512_S1x128x128_0_0_128 inb_S1024x128_S128x128_0_0 (by decide), ?_⟩
  refine ⟨key 896 0 inb_S1x1024x512_S1x128x128_0_896_0 inb_S1024x128_S128x128_896_0 (by decide), ?_⟩
  refine ⟨key 768 0 inb_S1x1024x512_S1x128x128_0_768_0 inb_S1024x128_S128x128_768_0 (by decide), ?_⟩
  refine ⟨key 640 0 inb_S1x1024x512_S1x128x128_0_640_0 inb_S1024x128_S128x128_640_0 (by decide), ?_⟩
  refine ⟨key 512 0 inb_S1x1024x512_S1x128x128_0_512_0 inb_S1024x128_S128x128_512_0 (by decide), ?_⟩
  refine ⟨key 384 0 inb_S1x1024x512_S1x128x128_0_384_0 inb_S1024x128_S128x128_384_0 (by decide), ?_⟩
  refine ⟨key 256 0 inb_S1x1024x512_S1x128x128_0_256_0 inb_S1024x128_S128x128_256_0 (by decide), ?_⟩
  refine ⟨key 128 0 inb_S1x1024x512_S1x128x128_0_128_0 inb_S1024x128_S128x128_128_0 (by decide), ?_⟩
  refine ⟨key 0 0 inb_S1x1024x512_S1x128x128_0_0_0 inb_S1024x128_S128x128_0_0 (by decide), ?_⟩
  trivial

end Cert.Grouped

end
-- ==== Proof.Gqa.Ref.lean ====
/-
  The reference's grouped-query attention in named steps, read entry by entry.
-/
module

public import proofs.«01_k».proof.Proof.Gen.GqaRefIdeal.Run
public import proofs.«01_k».proof.Proof.Gqa.Data
public import Idealize.ShloMosaic.Lib.Pointwise

@[expose] public section

set_option maxRecDepth 16384

noncomputable section

namespace Cert.Grouped.Ref

open Cert.GqaRefIdeal Cert.GqaRefIdeal.Gen Idealize.ShloMosaic Idealize.ShloMosaic.TcCoe Idealize.SL.Sem Idealize.ShloMosaic.StableHlo
open Idealize.ShloMosaic.Pointwise Cert.Soft Cert.Grouped

/-! ## The steps -/

/-- The frequencies. -/
def freq : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))

/-- The angles of the rows of positions. -/
def rowAng : FVec Ideal S2048x32 .f32 :=
  mulf (broadcastInDim S2048x32 ![0, 1] bcast_S2048x1_S2048x32_0_1 (broadcastInDim S2048x1 ![0] bcast_S2048_S2048x1_0 (shapeCast _ (broadcastInDim S32x64 ![0] bcast_S32_S32x64_0 (sitofp .f32 (iotaInDim S32 32 0))) shapeCasts_S32x64_S2048))) (broadcastInDim S2048x32 ![0, 1] bcast_S1x32_S2048x32_0_1 (broadcastInDim S1x32 ![1] bcast_S32_S1x32_1 freq))

/-- The angles of the columns of positions. -/
def colAng : FVec Ideal S2048x32 .f32 :=
  mulf (broadcastInDim S2048x32 ![0, 1] bcast_S2048x1_S2048x32_0_1 (broadcastInDim S2048x1 ![0] bcast_S2048_S2048x1_0 (shapeCast _ (broadcastInDim S32x64 ![1] bcast_S64_S32x64_1 (sitofp .f32 (iotaInDim S64 32 0))) shapeCasts_S32x64_S2048))) (broadcastInDim S2048x32 ![0, 1] bcast_S1x32_S2048x32_0_1 (broadcastInDim S1x32 ![1] bcast_S32_S1x32_1 freq))

/-- The angles by position and lane. -/
def ang : FVec Ideal S2048x128 .f32 :=
  concatenate S2048x128 1 [⟨S2048x32, rowAng⟩, ⟨S2048x32, rowAng⟩, ⟨S2048x32, colAng⟩, ⟨S2048x32, colAng⟩] concatenates_S2048x32_S2048x32_S2048x32_S2048x32_S2048x128_d1

/-- The cosines. -/
def cosT : FVec Ideal S2048x128 .f32 := Host.cos ang

/-- The sines. -/
def sinT : FVec Ideal S2048x128 .f32 := Host.sin ang

/-- The queries by heads. -/
def queries (A0 : FVec Ideal S16x2048x6656 .f32) : FVec Ideal S16x2048x8x128 .f32 :=
  shapeCast _ (extractStridedSlice S16x2048x1024 ![0, 0, 5120] A0 slices_S16x2048x6656_S16x2048x1024_0_0_5120) shapeCasts_S16x2048x1024_S16x2048x8x128

/-- The keys by groups. -/
def keys (A0 : FVec Ideal S16x2048x6656 .f32) : FVec Ideal S16x2048x2x128 .f32 :=
  shapeCast _ (extractStridedSlice S16x2048x256 ![0, 0, 6144] A0 slices_S16x2048x6656_S16x2048x256_0_0_6144) shapeCasts_S16x2048x256_S16x2048x2x128

/-- The values by groups. -/
def values (A0 : FVec Ideal S16x2048x6656 .f32) : FVec Ideal S16x2048x2x128 .f32 :=
  shapeCast _ (extractStridedSlice S16x2048x256 ![0, 0, 6400] A0 slices_S16x2048x6656_S16x2048x256_0_0_6400) shapeCasts_S16x2048x256_S16x2048x2x128

/-- The normalised queries. -/
def qnorm (X : FVec Ideal S16x2048x8x128 .f32) (G : Vec Ideal S128 .f32) : FVec Ideal S16x2048x8x128 .f32 :=
  mulf (mulf X (broadcastInDim S16x2048x8x128 ![0, 1, 2, 3] bcast_S16x2048x8x1_S16x2048x8x128_0_1_2_3 (Host.rsqrt (addf (Host.divf (broadcastInDim S16x2048x8x1 ![0, 1, 2] bcast_S16x2048x8_S16x2048x8x1_0_1_2 (Host.reduceAdd (mulf X X) (constant S_ .f32 0x00000000#32) reducesTo_S16x2048x8x128_S16x2048x8_d3 h_S_)) (broadcastInDim S16x2048x8x1 ![] bcast_S_S16x2048x8x1 (constant S_ .f32 0x43000000#32))) (broadcastInDim S16x2048x8x1 ![] bcast_S_S16x2048x8x1 (constant S_ .f32 0x358637BD#32)))))) (broadcastInDim S16x2048x8x128 ![0, 1, 2, 3] bcast_S1x1x1x128_S16x2048x8x128_0_1_2_3 (broadcastInDim S1x1x1x128 ![3] bcast_S128_S1x1x1x128_3 G))

/-- The normalised keys. -/
def knorm (X : FVec Ideal S16x2048x2x128 .f32) (G : Vec Ideal S128 .f32) : FVec Ideal S16x2048x2x128 .f32 :=
  mulf (mulf X (broadcastInDim S16x2048x2x128 ![0, 1, 2, 3] bcast_S16x2048x2x1_S16x2048x2x128_0_1_2_3 (Host.rsqrt (addf (Host.divf (broadcastInDim S16x2048x2x1 ![0, 1, 2] bcast_S16x2048x2_S16x2048x2x1_0_1_2 (Host.reduceAdd (mulf X X) (constant S_ .f32 0x00000000#32) reducesTo_S16x2048x2x128_S16x2048x2_d3 h_S_)) (broadcastInDim S16x2048x2x1 ![] bcast_S_S16x2048x2x1 (constant S_ .f32 0x43000000#32))) (broadcastInDim S16x2048x2x1 ![] bcast_S_S16x2048x2x1 (constant S_ .f32 0x358637BD#32)))))) (broadcastInDim S16x2048x2x128 ![0, 1, 2, 3] bcast_S1x1x1x128_S16x2048x2x128_0_1_2_3 (broadcastInDim S1x1x1x128 ![3] bcast_S128_S1x1x1x128_3 G))

/-- The queries turned. -/
def qturn (X : FVec Ideal S16x2048x8x128 .f32) (C S : FVec Ideal S2048x128 .f32) : FVec Ideal S16x2048x8x128 .f32 :=
  addf (mulf X (broadcastInDim S16x2048x8x128 ![0, 1, 2, 3] bcast_S1x2048x1x128_S16x2048x8x128_0_1_2_3 (broadcastInDim S1x2048x1x128 ![1, 2, 3] bcast_S2048x1x128_S1x2048x1x128_1_2_3 (broadcastInDim S2048x1x128 ![0, 2] bcast_S2048x128_S2048x1x128_0_2 C)))) (mulf (concatenate S16x2048x8x128 3 [⟨S16x2048x8x32, (Host.negf (extractStridedSlice S16x2048x8x32 ![0, 0, 0, 32] X slices_S16x2048x8x128_S16x2048x8x32_0_0_0_32))⟩, ⟨S16x2048x8x32, (extractStridedSlice S16x2048x8x32 ![0, 0, 0, 0] X slices_S16x2048x8x128_S16x2048x8x32_0_0_0_0)⟩, ⟨S16x2048x8x32, (Host.negf (extractStridedSlice S16x2048x8x32 ![0, 0, 0, 96] X slices_S16x2048x8x128_S16x2048x8x32_0_0_0_96))⟩, ⟨S16x2048x8x32, (extractStridedSlice S16x2048x8x32 ![0, 0, 0, 64] X slices_S16x2048x8x128_S16x2048x8x32_0_0_0_64)⟩] concatenates_S16x2048x8x32_S16x2048x8x32_S16x2048x8x32_S16x2048x8x32_S16x2048x8x128_d3) (broadcastInDim S16x2048x8x128 ![0, 1, 2, 3] bcast_S1x2048x1x128_S16x2048x8x128_0_1_2_3 (broadcastInDim S1x2048x1x128 ![1, 2, 3] bcast_S2048x1x128_S1x2048x1x128_1_2_3 (broadcastInDim S2048x1x128 ![0, 2] bcast_S2048x128_S2048x1x128_0_2 S))))

/-- The keys turned. -/
def kturn (X : FVec Ideal S16x2048x2x128 .f32) (C S : FVec Ideal S2048x128 .f32) : FVec Ideal S16x2048x2x128 .f32 :=
  addf (mulf X (broadcastInDim S16x2048x2x128 ![0, 1, 2, 3] bcast_S1x2048x1x128_S16x2048x2x128_0_1_2_3 (broadcastInDim S1x2048x1x128 ![1, 2, 3] bcast_S2048x1x128_S1x2048x1x128_1_2_3 (broadcastInDim S2048x1x128 ![0, 2] bcast_S2048x128_S2048x1x128_0_2 C)))) (mulf (concatenate S16x2048x2x128 3 [⟨S16x2048x2x32, (Host.negf (extractStridedSlice S16x2048x2x32 ![0, 0, 0, 32] X slices_S16x2048x2x128_S16x2048x2x32_0_0_0_32))⟩, ⟨S16x2048x2x32, (extractStridedSlice S16x2048x2x32 ![0, 0, 0, 0] X slices_S16x2048x2x128_S16x2048x2x32_0_0_0_0)⟩, ⟨S16x2048x2x32, (Host.negf (extractStridedSlice S16x2048x2x32 ![0, 0, 0, 96] X slices_S16x2048x2x128_S16x2048x2x32_0_0_0_96))⟩, ⟨S16x2048x2x32, (extractStridedSlice S16x2048x2x32 ![0, 0, 0, 64] X slices_S16x2048x2x128_S16x2048x2x32_0_0_0_64)⟩] concatenates_S16x2048x2x32_S16x2048x2x32_S16x2048x2x32_S16x2048x2x32_S16x2048x2x128_d3) (broadcastInDim S16x2048x2x128 ![0, 1, 2, 3] bcast_S1x2048x1x128_S16x2048x2x128_0_1_2_3 (broadcastInDim S1x2048x1x128 ![1, 2, 3] bcast_S2048x1x128_S1x2048x1x128_1_2_3 (broadcastInDim S2048x1x128 ![0, 2] bcast_S2048x128_S2048x1x128_0_2 S))))

/-- The scaled scores. -/
def scores (Q : FVec Ideal S16x2048x8x128 .f32) (K : FVec Ideal S16x2048x2x128 .f32) : FVec Ideal S16x2x4x2048x2048 .f32 :=
  mulf (Host.dotGeneral dot_S16x2x4x2048x128_S16x2x2048x128_S16x2x4x2048x2048_4_3_23_2_01_01 none (transpose S16x2x4x2048x128 [0, 2, 3, 1, 4] (shapeCast S16x2048x2x4x128 Q shapeCasts_S16x2048x8x128_S16x2048x2x4x128) transposes_S16x2048x2x4x128_S16x2x4x2048x128_0_2_3_1_4) (transpose S16x2x2048x128 [0, 2, 1, 3] K transposes_S16x2048x2x128_S16x2x2048x128_0_2_1_3)) (broadcastInDim S16x2x4x2048x2048 ![] bcast_S_S16x2x4x2048x2048 (constant S_ .f32 0x3DB504F3#32))

/-- The exponentials of the scores less their greatest. -/
def exps (S : FVec Ideal S16x2x4x2048x2048 .f32) : FVec Ideal S16x2x4x2048x2048 .f32 :=
  Host.exp (subf S (broadcastInDim S16x2x4x2048x2048 ![0, 1, 2, 3, 4] bcast_S16x2x4x2048x1_S16x2x4x2048x2048_0_1_2_3_4 (broadcastInDim S16x2x4x2048x1 ![0, 1, 2, 3] bcast_S16x2x4x2048_S16x2x4x2048x1_0_1_2_3 (maximumf (broadcastInDim S16x2x4x2048 ![] bcast_S_S16x2x4x2048 (constant S_ .f32 0xFF800000#32)) (Host.reduce FloatOps.maximumf S (constant S_ .f32 0xFF800000#32) reducesTo_S16x2x4x2048x2048_S16x2x4x2048_d4 h_S_)))))

/-- The weights. -/
def probs (E : FVec Ideal S16x2x4x2048x2048 .f32) : FVec Ideal S16x2x4x2048x2048 .f32 :=
  Host.divf E (broadcastInDim S16x2x4x2048x2048 ![0, 1, 2, 3, 4] bcast_S16x2x4x2048x1_S16x2x4x2048x2048_0_1_2_3_4 (broadcastInDim S16x2x4x2048x1 ![0, 1, 2, 3] bcast_S16x2x4x2048_S16x2x4x2048x1_0_1_2_3 (Host.reduceAdd E (constant S_ .f32 0x00000000#32) reducesTo_S16x2x4x2048x2048_S16x2x4x2048_d4 h_S_)))

/-- The heads' results. -/
def mixed (P : FVec Ideal S16x2x4x2048x2048 .f32) (V : FVec Ideal S16x2048x2x128 .f32) : FVec Ideal S16x2x4x2048x128 .f32 :=
  Host.dotGeneral dot_S16x2x4x2048x2048_S16x2x2048x128_S16x2x4x2048x128_4_2_23_3_01_01 none P (transpose S16x2x2048x128 [0, 2, 1, 3] V transposes_S16x2048x2x128_S16x2x2048x128_0_2_1_3)

/-- The heads side by side. -/
def heads (O : FVec Ideal S16x2x4x2048x128 .f32) : FVec Ideal S16x2048x1024 .bf16 :=
  truncf .bf16 (shapeCast S16x2048x1024 (transpose S16x2048x2x4x128 [0, 3, 1, 2, 4] O transposes_S16x2x4x2048x128_S16x2048x2x4x128_0_3_1_2_4) shapeCasts_S16x2048x2x4x128_S16x2048x1024) bitsLt_bf16_f32

/-- The whole. -/
def whole (A0 : FVec Ideal S16x2048x6656 .f32) (A1 A2 : Vec Ideal S128 .f32) : FVec Ideal S16x2048x1024 .bf16 :=
  heads (mixed (probs (exps (scores (qturn (qnorm (queries A0) A1) cosT sinT) (kturn (knorm (keys A0) A2) cosT sinT)))) (values A0))

/-- The reference leaves the whole computation of its arguments, and keeps them. -/
theorem run_whole (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v113)
        = whole (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2⟩) (Value.run (F := Ideal) m ρ)

/-! ## Entries -/

theorem queries_apply (A0 : FVec Ideal S16x2048x6656 .f32) (b : Fin 16) (p : Fin 2048) (h : Fin 8) (d : Fin 128) :
    queries A0 (ix4 b p h d) = A0 (ix3 b p (qcol h d)) := by
  pointwise [queries]
  rfl

theorem keys_apply (A0 : FVec Ideal S16x2048x6656 .f32) (b : Fin 16) (p : Fin 2048) (h : Fin 2) (d : Fin 128) :
    keys A0 (ix4 b p h d) = A0 (ix3 b p (kcol h d)) := by
  pointwise [keys]
  rfl

theorem values_apply (A0 : FVec Ideal S16x2048x6656 .f32) (b : Fin 16) (p : Fin 2048) (h : Fin 2) (d : Fin 128) :
    values A0 (ix4 b p h d) = A0 (ix3 b p (vcol h d)) := by
  pointwise [values]
  rfl

theorem qnorm_apply (X : FVec Ideal S16x2048x8x128 .f32) (G : Vec Ideal S128 .f32) (b : Fin 16) (p : Fin 2048) (h : Fin 8) (d : Fin 128) :
    qnorm X G (ix4 b p h d) = rms (fun e => X (ix4 b p h e)) (fun e => G (ix1 e)) d := by
  pointwise [qnorm]
  rfl

theorem knorm_apply (X : FVec Ideal S16x2048x2x128 .f32) (G : Vec Ideal S128 .f32) (b : Fin 16) (p : Fin 2048) (h : Fin 2) (d : Fin 128) :
    knorm X G (ix4 b p h d) = rms (fun e => X (ix4 b p h e)) (fun e => G (ix1 e)) d := by
  pointwise [knorm]
  rfl

/-- The four quarters of a row, put together, are the partners of its lanes. -/
theorem rot_eq (x : Fin 128 → EReal) (d : Fin 128) :
    (if h0 : d.val < 32 then -x ⟨32 + d.val, by omega⟩ else if h1 : d.val - 32 < 32 then x ⟨d.val - 32, by omega⟩ else
      if h2 : d.val - 32 - 32 < 32 then -x ⟨96 + (d.val - 32 - 32), by omega⟩ else x ⟨64 + (d.val - 32 - 32 - 32), by omega⟩) = rot x d := by
  unfold rot
  split
  · rw [if_pos (by omega)]; exact congrArg (fun e => -x e) (Fin.ext (by show 32 + d.val = (d.val + 32) % 128; omega))
  split
  · rw [if_neg (by omega)]; exact congrArg x (Fin.ext (by show d.val - 32 = (d.val + 96) % 128; omega))
  split
  · rw [if_pos (by omega)]; exact congrArg (fun e => -x e) (Fin.ext (by show 96 + (d.val - 32 - 32) = (d.val + 32) % 128; omega))
  · rw [if_neg (by omega)]; exact congrArg x (Fin.ext (by show 64 + (d.val - 32 - 32 - 32) = (d.val + 96) % 128; omega))

theorem qturn_apply (X : FVec Ideal S16x2048x8x128 .f32) (C S : FVec Ideal S2048x128 .f32) (b : Fin 16) (p : Fin 2048) (h : Fin 8) (d : Fin 128) :
    qturn X C S (ix4 b p h d) = turn (fun e => X (ix4 b p h e)) (fun e => C (ix2 p e)) (fun e => S (ix2 p e)) d := by
  unfold turn
  rw [← rot_eq]
  pointwise [qturn]

theorem kturn_apply (X : FVec Ideal S16x2048x2x128 .f32) (C S : FVec Ideal S2048x128 .f32) (b : Fin 16) (p : Fin 2048) (h : Fin 2) (d : Fin 128) :
    kturn X C S (ix4 b p h d) = turn (fun e => X (ix4 b p h e)) (fun e => C (ix2 p e)) (fun e => S (ix2 p e)) d := by
  unfold turn
  rw [← rot_eq]
  pointwise [kturn]

/-- Head `r` of group `g`. -/
def head (g : Fin 2) (r : Fin 4) : Fin 8 := ⟨g.val * 4 + r.val, by omega⟩

theorem scores_apply (Q : FVec Ideal S16x2048x8x128 .f32) (K : FVec Ideal S16x2048x2x128 .f32) (b : Fin 16) (g : Fin 2) (r : Fin 4) (p j : Fin 2048) :
    scores Q K (ix5 b g r p j) = (∑ d, Q (ix4 b p (head g r) d) * K (ix4 b j g d)) * Ideal.ofBits .f32 0x3DB504F3#32 := by
  pointwise [scores]
  rfl

/-- A row's maximum. -/
theorem max_apply {n0 n1 n2 n3 n4 : ℕ} (s : FVec Ideal ⟨5, ![n0, n1, n2, n3, n4]⟩ .f32) (init : FVec Ideal S_ .f32)
    (h : (⟨5, ![n0, n1, n2, n3, n4]⟩ : Shape).ReducesTo [4] ⟨4, ![n0, n1, n2, n3]⟩) (hu : 0 < S_.numel)
    (a : Fin n0) (b : Fin n1) (c : Fin n2) (d : Fin n3) :
    (Host.reduce FloatOps.maximumf s init h hu : FVec Ideal ⟨4, ![n0, n1, n2, n3]⟩ .f32) (ix4 a b c d)
      = Finset.univ.fold max (init (Shape.Idx.first hu)) (fun k => s (ix5 a b c d k)) := by
  pointwise []

/-- An array of the rows' numbers, spread along the rows, with a lower bound. -/
theorem spread_apply (f : FVec Ideal S16x2x4x2048 .f32) (b : Fin 16) (g : Fin 2) (r : Fin 4) (p j : Fin 2048) :
    (broadcastInDim S16x2x4x2048x2048 ![0, 1, 2, 3, 4] bcast_S16x2x4x2048x1_S16x2x4x2048x2048_0_1_2_3_4 (broadcastInDim S16x2x4x2048x1 ![0, 1, 2, 3] bcast_S16x2x4x2048_S16x2x4x2048x1_0_1_2_3 (maximumf (broadcastInDim S16x2x4x2048 ![] bcast_S_S16x2x4x2048 (constant S_ .f32 0xFF800000#32)) f)) : FVec Ideal S16x2x4x2048x2048 .f32) (ix5 b g r p j)
      = max (Ideal.ofBits .f32 0xFF800000#32) (f (ix4 b g r p)) := by
  pointwise []

theorem exps_apply (S : FVec Ideal S16x2x4x2048x2048 .f32) (b : Fin 16) (g : Fin 2) (r : Fin 4) (p j : Fin 2048) :
    exps S (ix5 b g r p j) = Ideal.exp (S (ix5 b g r p j) - max (Ideal.ofBits .f32 0xFF800000#32)
      (Finset.univ.fold max (Ideal.ofBits .f32 0xFF800000#32) (fun i : Fin 2048 => S (ix5 b g r p i)))) := by
  have hm := max_apply S (constant S_ .f32 0xFF800000#32) reducesTo_S16x2x4x2048x2048_S16x2x4x2048_d4 h_S_ b g r p
  unfold exps
  generalize Host.reduce FloatOps.maximumf S (constant S_ .f32 0xFF800000#32) reducesTo_S16x2x4x2048x2048_S16x2x4x2048_d4 h_S_ = f at hm ⊢
  show Ideal.exp (S (ix5 b g r p j) - _) = _
  rw [spread_apply, hm]
  rfl

theorem probs_apply (E : FVec Ideal S16x2x4x2048x2048 .f32) (b : Fin 16) (g : Fin 2) (r : Fin 4) (p j : Fin 2048) :
    probs E (ix5 b g r p j) = Ideal.div (E (ix5 b g r p j)) (∑ i, E (ix5 b g r p i)) := by
  pointwise [probs]

theorem mixed_apply (P : FVec Ideal S16x2x4x2048x2048 .f32) (V : FVec Ideal S16x2048x2x128 .f32) (b : Fin 16) (g : Fin 2) (r : Fin 4) (p : Fin 2048) (d : Fin 128) :
    mixed P V (ix5 b g r p d) = ∑ j, P (ix5 b g r p j) * V (ix4 b j g d) := by
  pointwise [mixed]

theorem heads_apply (O : FVec Ideal S16x2x4x2048x128 .f32) (b : Fin 16) (p : Fin 2048) (g : Fin 2) (r : Fin 4) (d : Fin 128) :
    heads O (ix3 b p (⟨(g.val * 4 + r.val) * 128 + d.val, by omega⟩ : Fin 1024)) = O (ix5 b g r p d) := by
  pointwise [heads]

end Cert.Grouped.Ref

end
-- ==== Proof.Gqa.Whole.lean ====
/-
  The reference's result is the attention over its arguments, and the tables of the rotation are real.
-/
module

public import proofs.«01_k».proof.Proof.Gqa.Ref

@[expose] public section

set_option maxRecDepth 16384

noncomputable section

namespace Cert.Grouped.Ref

open Cert.GqaRefIdeal Cert.GqaRefIdeal.Gen Idealize.ShloMosaic Idealize.ShloMosaic.TcCoe Idealize.SL.Sem
open Idealize.ShloMosaic.Pointwise Cert.Soft Cert.Grouped

/-- The data of the reference's arguments. -/
def data (A0 : FVec Ideal S16x2048x6656 .f32) (A1 A2 : Vec Ideal S128 .f32) : Data where
  x b p e := A0 (ix3 b p e)
  gq e := A1 (ix1 e)
  gk e := A2 (ix1 e)
  cs p e := cosT (ix2 p e)
  sn p e := sinT (ix2 p e)

/-! ## The tables -/

theorem ofBits_10000 : Ideal.ofBits .f32 0x461C4000#32 = ((10000 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem ofBits_0 : Ideal.ofBits .f32 0x00000000#32 = ((0 : ℝ) : EReal) := by
  simp [Ideal.ofBits, Ideal.ieee]

theorem freq_real (e : Fin 32) : ∃ r : ℝ, freq (ix1 e) = (r : EReal) := by
  have h : freq (ix1 e) = Ideal.pow (Ideal.ofBits .f32 0x461C4000#32)
      (Ideal.div (-(Ideal.ofBits .f32 0x00000000#32 + Ideal.ofBits .f32 0x40000000#32 * (((BitVec.ofNat 32 e.val).toInt : ℝ) : EReal)))
        (Ideal.ofBits .f32 0x42800000#32)) := rfl
  rw [h, ofBits_10000, ofBits_64, ofBits_2, ofBits_0, ← EReal.coe_mul, ← EReal.coe_add, ← EReal.coe_neg, Cert.Diff.div_real (by norm_num)]
  exact ⟨_, rfl⟩

theorem rowAng_real (p : Fin 2048) (e : Fin 32) : ∃ r : ℝ, rowAng (ix2 p e) = (r : EReal) := by
  obtain ⟨f, hf⟩ := freq_real e
  have h : ∃ n : ℤ, rowAng (ix2 p e) = ((n : ℝ) : EReal) * freq (ix1 e) := by
    generalize hF : freq = F
    unfold rowAng
    rw [hF]
    refine ⟨(BitVec.ofNat 32 (p.val / 64)).toInt, ?_⟩
    pointwise []
    rfl
  obtain ⟨n, h⟩ := h
  rw [h, hf, ← EReal.coe_mul]
  exact ⟨_, rfl⟩

theorem colAng_real (p : Fin 2048) (e : Fin 32) : ∃ r : ℝ, colAng (ix2 p e) = (r : EReal) := by
  obtain ⟨f, hf⟩ := freq_real e
  have h : ∃ n : ℤ, colAng (ix2 p e) = ((n : ℝ) : EReal) * freq (ix1 e) := by
    generalize hF : freq = F
    unfold colAng
    rw [hF]
    refine ⟨(BitVec.ofNat 32 (p.val % 64)).toInt, ?_⟩
    pointwise []
    rfl
  obtain ⟨n, h⟩ := h
  rw [h, hf, ← EReal.coe_mul]
  exact ⟨_, rfl⟩

theorem ang_real (p : Fin 2048) (d : Fin 128) : ∃ r : ℝ, ang (ix2 p d) = (r : EReal) := by
  unfold ang
  generalize hR : rowAng = A
  generalize hC : colAng = B
  have hA : ∀ e : Fin 32, ∃ r : ℝ, A (ix2 p e) = (r : EReal) := fun e => hR ▸ rowAng_real p e
  have hB : ∀ e : Fin 32, ∃ r : ℝ, B (ix2 p e) = (r : EReal) := fun e => hC ▸ colAng_real p e
  have h : (concatenate S2048x128 1 [⟨S2048x32, A⟩, ⟨S2048x32, A⟩, ⟨S2048x32, B⟩, ⟨S2048x32, B⟩] concatenates_S2048x32_S2048x32_S2048x32_S2048x32_S2048x128_d1 : FVec Ideal S2048x128 .f32) (ix2 p d)
      = (if h0 : d.val < 32 then A (ix2 p ⟨d.val, h0⟩) else if h1 : d.val - 32 < 32 then A (ix2 p ⟨d.val - 32, h1⟩) else
        if h2 : d.val - 32 - 32 < 32 then B (ix2 p ⟨d.val - 32 - 32, h2⟩) else B (ix2 p ⟨d.val - 32 - 32 - 32, by omega⟩)) := by
    pointwise []
  rw [h]
  split
  · exact hA _
  split
  · exact hA _
  split
  · exact hB _
  · exact hB _

theorem cos_real (p : Fin 2048) (d : Fin 128) : ∃ r : ℝ, cosT (ix2 p d) = (r : EReal) := by
  obtain ⟨a, ha⟩ := ang_real p d
  exact ⟨Real.cos a, congrArg Ideal.cos ha⟩

theorem sin_real (p : Fin 2048) (d : Fin 128) : ∃ r : ℝ, sinT (ix2 p d) = (r : EReal) := by
  obtain ⟨a, ha⟩ := ang_real p d
  exact ⟨Real.sin a, congrArg Ideal.sin ha⟩

/-! ## The result -/

variable {A0 : FVec Ideal S16x2048x6656 .f32} {A1 A2 : Vec Ideal S128 .f32}

theorem qs_apply (b : Fin 16) (p : Fin 2048) (h : Fin 8) (d : Fin 128) :
    qturn (qnorm (queries A0) A1) cosT sinT (ix4 b p h d) = (data A0 A1 A2).q b p h d := by
  refine (qturn_apply _ _ _ b p h d).trans ?_
  refine congrArg (fun f => turn f (fun e => cosT (ix2 p e)) (fun e => sinT (ix2 p e)) d) (funext fun e => ?_)
  refine (qnorm_apply _ _ b p h e).trans ?_
  exact congrArg (fun f => rms f (fun e => A1 (ix1 e)) e) (funext fun e => queries_apply A0 b p h e)

theorem ks_apply (b : Fin 16) (p : Fin 2048) (g : Fin 2) (d : Fin 128) :
    kturn (knorm (keys A0) A2) cosT sinT (ix4 b p g d) = (data A0 A1 A2).k b p g d := by
  refine (kturn_apply _ _ _ b p g d).trans ?_
  refine congrArg (fun f => turn f (fun e => cosT (ix2 p e)) (fun e => sinT (ix2 p e)) d) (funext fun e => ?_)
  refine (knorm_apply _ _ b p g e).trans ?_
  exact congrArg (fun f => rms f (fun e => A2 (ix1 e)) e) (funext fun e => keys_apply A0 b p g e)

theorem grp_head (g : Fin 2) (r : Fin 4) : grp (head g r) = g := Fin.ext (by show (g.val * 4 + r.val) / 4 = g.val; omega)

theorem score_apply (R : (data A0 A1 A2).Real) (b : Fin 16) (g : Fin 2) (r : Fin 4) (p j : Fin 2048) :
    scores (qturn (qnorm (queries A0) A1) cosT sinT) (kturn (knorm (keys A0) A2) cosT sinT) (ix5 b g r p j)
      = ((score ((data A0 A1 A2).q b p (head g r)) ((data A0 A1 A2).k b j g) : ℝ) : EReal) := by
  refine (scores_apply _ _ b g r p j).trans ?_
  refine (congrArg (fun s => s * Ideal.ofBits .f32 0x3DB504F3#32) (Finset.sum_congr rfl fun d _ =>
    congrArg₂ (· * ·) (qs_apply (A1 := A1) (A2 := A2) b p (head g r) d) (ks_apply (A1 := A1) b j g d))).trans ?_
  exact score_ref _ _ (Data.q_real R b p (head g r)) (Data.k_real R b j g)

theorem whole_apply (R : (data A0 A1 A2).Real) (b : Fin 16) (p : Fin 2048) (e : Fin 1024) :
    whole A0 A1 A2 (ix3 b p e) = (data A0 A1 A2).out b p e := by
  obtain ⟨g, r, d, rfl⟩ : ∃ (g : Fin 2) (r : Fin 4) (d : Fin 128), e = ⟨(g.val * 4 + r.val) * 128 + d.val, by omega⟩ :=
    ⟨⟨e.val / 512, by omega⟩, ⟨e.val / 128 % 4, by omega⟩, ⟨e.val % 128, by omega⟩, Fin.ext (by simp only [Fin.val_mk]; omega)⟩
  have hh : (⟨((g.val * 4 + r.val) * 128 + d.val) / 128, by omega⟩ : Fin 8) = head g r := Fin.ext (by show _ = g.val * 4 + r.val; simp only [Fin.val_mk]; omega)
  have hd : (⟨((g.val * 4 + r.val) * 128 + d.val) % 128, Nat.mod_lt _ (by omega)⟩ : Fin 128) = d := Fin.ext (by simp only [Fin.val_mk]; omega)
  show _ = (data A0 A1 A2).o b p ⟨((g.val * 4 + r.val) * 128 + d.val) / 128, _⟩ ⟨((g.val * 4 + r.val) * 128 + d.val) % 128, _⟩
  rw [hh, hd]
  unfold whole
  refine (heads_apply _ b p g r d).trans ?_
  refine (mixed_apply _ _ b g r p d).trans ?_
  obtain ⟨M, hM⟩ := weights_ref (n := 2047) (fun j => score ((data A0 A1 A2).q b p (head g r)) ((data A0 A1 A2).k b j g))
    (fun j => scores (qturn (qnorm (queries A0) A1) cosT sinT) (kturn (knorm (keys A0) A2) cosT sinT) (ix5 b g r p j))
    (fun j => score_apply R b g r p j)
  generalize scores (qturn (qnorm (queries A0) A1) cosT sinT) (kturn (knorm (keys A0) A2) cosT sinT) = S at hM ⊢
  have hE : ∀ j, exps S (ix5 b g r p j) = ((Real.exp (score ((data A0 A1 A2).q b p (head g r)) ((data A0 A1 A2).k b j g) - M) : ℝ) : EReal) :=
    fun j => (exps_apply S b g r p j).trans (hM j)
  generalize exps S = E at hE ⊢
  have ha := att_ref (n := 2047) ((data A0 A1 A2).q b p (head g r)) (fun j => (data A0 A1 A2).k b j g)
    (fun j => A0 (ix3 b j (vcol g d))) (fun j => E (ix5 b g r p j)) M hE
  refine (Finset.sum_congr rfl fun j _ => ?_).trans (ha.trans ?_)
  · rw [probs_apply, values_apply, mul_comm]
  · show _ = att _ (fun j => (data A0 A1 A2).k b j (grp (head g r))) (fun j => A0 (ix3 b j (vcol (grp (head g r)) d)))
    rw [grp_head]

end Cert.Grouped.Ref

end
-- ==== Proof.Gqa.Array.lean ====
/-
  The grouped-query attention's blocks in its arrays, what each point leaves, and the array after the run.
-/
module

public import proofs.«01_k».proof.Proof.Gqa.Block
public import proofs.«01_k».proof.Proof.Gqa.Whole
public import Idealize.ShloMosaic.Lib.Pipeline.Value

@[expose] public section

set_option maxRecDepth 16384

noncomputable section

namespace Cert.Grouped

open Cert.GqaIdeal Cert.GqaIdeal.Gen Cert.GqaIdeal.Value Idealize.ShloMosaic Idealize.ShloMosaic.TcCoe Idealize.SL.Sem
open Idealize.ShloMosaic.Pointwise Cert.Soft

/-! ## The blocks of each window -/

theorem index0 : ∀ t : Fin grid0.N, win0_0.index t (0 : Fin 3) = t.val / 4 ∧ win0_0.index t (1 : Fin 3) = t.val % 2 ∧ win0_0.index t (2 : Fin 3) = 10 + t.val / 2 % 2 := by decide +kernel
theorem index1 : ∀ t : Fin grid0.N, win0_1.index t (0 : Fin 3) = t.val / 4 ∧ win0_1.index t (1 : Fin 3) = 0 ∧ win0_1.index t (2 : Fin 3) = 48 + t.val / 2 % 2 := by decide +kernel
theorem index2 : ∀ t : Fin grid0.N, win0_2.index t (0 : Fin 3) = t.val / 4 ∧ win0_2.index t (1 : Fin 3) = 0 ∧ win0_2.index t (2 : Fin 3) = 50 + t.val / 2 % 2 := by decide +kernel
theorem index3 : ∀ t : Fin grid0.N, win0_3.index t (0 : Fin 2) = t.val % 2 ∧ win0_3.index t (1 : Fin 2) = 0 := by decide +kernel
theorem index4 : ∀ t : Fin grid0.N, win0_4.index t (0 : Fin 2) = t.val % 2 ∧ win0_4.index t (1 : Fin 2) = 0 := by decide +kernel
theorem index5 : ∀ t : Fin grid0.N, win0_5.index t (0 : Fin 2) = 0 ∧ win0_5.index t (1 : Fin 2) = 0 := by decide +kernel
theorem index6 : ∀ t : Fin grid0.N, win0_6.index t (0 : Fin 2) = 0 ∧ win0_6.index t (1 : Fin 2) = 0 := by decide +kernel
theorem index7 : ∀ t : Fin grid0.N, win0_7.index t (0 : Fin 2) = 0 ∧ win0_7.index t (1 : Fin 2) = 0 := by decide +kernel
theorem index8 : ∀ t : Fin grid0.N, win0_8.index t (0 : Fin 2) = 0 ∧ win0_8.index t (1 : Fin 2) = 0 := by decide +kernel
theorem index9 : ∀ t : Fin grid0.N, win0_9.index t (0 : Fin 3) = t.val / 4 ∧ win0_9.index t (1 : Fin 3) = t.val % 2 ∧ win0_9.index t (2 : Fin 3) = t.val / 2 % 2 := by decide +kernel

/-- The batch of point `n`. -/
def bat (n : ℕ) (h : n < 64) : Fin 16 := ⟨n / 4, by omega⟩

/-- The group of point `n`. -/
def gr (n : ℕ) : Fin 2 := ⟨n / 2 % 2, Nat.mod_lt _ (by omega)⟩

/-- Row `p` of the rows of point `n`. -/
def pos (n : ℕ) (p : Fin 1024) : Fin 2048 := ⟨1024 * (n % 2) + p.val, by omega⟩

/-- Lane `z` of the query columns of point `n`. -/
def qc (n : ℕ) (z : Fin 512) : Fin 6656 := ⟨5120 + (512 * (n / 2 % 2) + z.val), by omega⟩

/-- Lane `z` of the result columns of point `n`. -/
def oc (n : ℕ) (z : Fin 512) : Fin 1024 := ⟨512 * (n / 2 % 2) + z.val, by omega⟩

theorem emb0 (t : Fin cfg0.N) (u : Fin 1) (p : Fin 1024) (z : Fin 512) :
    ((cfg0.win 0).blk t).view.emb (ix3 u p z) = ix3 (bat t.val t.isLt) (pos t.val p) (qc t.val z) := by
  obtain ⟨e0, e1, e2⟩ := index0 t
  funext x
  refine Fin.ext ?_
  match x with
  | ⟨0, _⟩ => show win0_0.index t (0 : Fin 3) * 1 + 1 * u.val = t.val / 4; omega
  | ⟨1, _⟩ => show win0_0.index t (1 : Fin 3) * 1024 + 1 * p.val = 1024 * (t.val % 2) + p.val; omega
  | ⟨2, _⟩ => show win0_0.index t (2 : Fin 3) * 512 + 1 * z.val = 5120 + (512 * (t.val / 2 % 2) + z.val); omega

theorem emb1 (t : Fin cfg0.N) (u : Fin 1) (j : Fin 2048) (d : Fin 128) :
    ((cfg0.win 1).blk t).view.emb (ix3 u j d) = ix3 (bat t.val t.isLt) j (kcol (gr t.val) d) := by
  obtain ⟨e0, e1, e2⟩ := index1 t
  funext x
  refine Fin.ext ?_
  match x with
  | ⟨0, _⟩ => show win0_1.index t (0 : Fin 3) * 1 + 1 * u.val = t.val / 4; omega
  | ⟨1, _⟩ => show win0_1.index t (1 : Fin 3) * 2048 + 1 * j.val = j.val; omega
  | ⟨2, _⟩ => show win0_1.index t (2 : Fin 3) * 128 + 1 * d.val = 6144 + (t.val / 2 % 2 * 128 + d.val); omega

theorem emb2 (t : Fin cfg0.N) (u : Fin 1) (j : Fin 2048) (d : Fin 128) :
    ((cfg0.win 2).blk t).view.emb (ix3 u j d) = ix3 (bat t.val t.isLt) j (vcol (gr t.val) d) := by
  obtain ⟨e0, e1, e2⟩ := index2 t
  funext x
  refine Fin.ext ?_
  match x with
  | ⟨0, _⟩ => show win0_2.index t (0 : Fin 3) * 1 + 1 * u.val = t.val / 4; omega
  | ⟨1, _⟩ => show win0_2.index t (1 : Fin 3) * 2048 + 1 * j.val = j.val; omega
  | ⟨2, _⟩ => show win0_2.index t (2 : Fin 3) * 128 + 1 * d.val = 6400 + (t.val / 2 % 2 * 128 + d.val); omega

theorem emb3 (t : Fin cfg0.N) (p : Fin 1024) (d : Fin 128) :
    ((cfg0.win 3).blk t).view.emb (ix2 p d) = ix2 (pos t.val p) d := by
  obtain ⟨e0, e1⟩ := index3 t
  funext x
  refine Fin.ext ?_
  match x with
  | ⟨0, _⟩ => show win0_3.index t (0 : Fin 2) * 1024 + 1 * p.val = 1024 * (t.val % 2) + p.val; omega
  | ⟨1, _⟩ => show win0_3.index t (1 : Fin 2) * 128 + 1 * d.val = d.val; omega

theorem emb4 (t : Fin cfg0.N) (p : Fin 1024) (d : Fin 128) :
    ((cfg0.win 4).blk t).view.emb (ix2 p d) = ix2 (pos t.val p) d := by
  obtain ⟨e0, e1⟩ := index4 t
  funext x
  refine Fin.ext ?_
  match x with
  | ⟨0, _⟩ => show win0_4.index t (0 : Fin 2) * 1024 + 1 * p.val = 1024 * (t.val % 2) + p.val; omega
  | ⟨1, _⟩ => show win0_4.index t (1 : Fin 2) * 128 + 1 * d.val = d.val; omega

theorem emb5 (t : Fin cfg0.N) (j : Fin 2048) (d : Fin 128) :
    ((cfg0.win 5).blk t).view.emb (ix2 j d) = ix2 j d := by
  obtain ⟨e0, e1⟩ := index5 t
  funext x
  refine Fin.ext ?_
  match x with
  | ⟨0, _⟩ => show win0_5.index t (0 : Fin 2) * 2048 + 1 * j.val = j.val; omega
  | ⟨1, _⟩ => show win0_5.index t (1 : Fin 2) * 128 + 1 * d.val = d.val; omega

theorem emb6 (t : Fin cfg0.N) (j : Fin 2048) (d : Fin 128) :
    ((cfg0.win 6).blk t).view.emb (ix2 j d) = ix2 j d := by
  obtain ⟨e0, e1⟩ := index6 t
  funext x
  refine Fin.ext ?_
  match x with
  | ⟨0, _⟩ => show win0_6.index t (0 : Fin 2) * 2048 + 1 * j.val = j.val; omega
  | ⟨1, _⟩ => show win0_6.index t (1 : Fin 2) * 128 + 1 * d.val = d.val; omega

theorem emb7 (t : Fin cfg0.N) (u : Fin 1) (d : Fin 128) :
    ((cfg0.win 7).blk t).view.emb (ix2 u d) = ix2 (n0 := 1) (n1 := 128) 0 d := by
  obtain ⟨e0, e1⟩ := index7 t
  funext x
  refine Fin.ext ?_
  match x with
  | ⟨0, _⟩ => show win0_7.index t (0 : Fin 2) * 1 + 1 * u.val = 0; omega
  | ⟨1, _⟩ => show win0_7.index t (1 : Fin 2) * 128 + 1 * d.val = d.val; omega

theorem emb8 (t : Fin cfg0.N) (u : Fin 1) (d : Fin 128) :
    ((cfg0.win 8).blk t).view.emb (ix2 u d) = ix2 (n0 := 1) (n1 := 128) 0 d := by
  obtain ⟨e0, e1⟩ := index8 t
  funext x
  refine Fin.ext ?_
  match x with
  | ⟨0, _⟩ => show win0_8.index t (0 : Fin 2) * 1 + 1 * u.val = 0; omega
  | ⟨1, _⟩ => show win0_8.index t (1 : Fin 2) * 128 + 1 * d.val = d.val; omega

theorem emb9 (t : Fin cfg0.N) (u : Fin 1) (p : Fin 1024) (z : Fin 512) :
    ((cfg0.win 9).blk t).view.emb (ix3 u p z) = ix3 (bat t.val t.isLt) (pos t.val p) (oc t.val z) := by
  obtain ⟨e0, e1, e2⟩ := index9 t
  funext x
  refine Fin.ext ?_
  match x with
  | ⟨0, _⟩ => show win0_9.index t (0 : Fin 3) * 1 + 1 * u.val = t.val / 4; omega
  | ⟨1, _⟩ => show win0_9.index t (1 : Fin 3) * 1024 + 1 * p.val = 1024 * (t.val % 2) + p.val; omega
  | ⟨2, _⟩ => show win0_9.index t (2 : Fin 3) * 512 + 1 * z.val = 512 * (t.val / 2 % 2) + z.val; omega

/-! ## The arguments as the region finds them -/

variable (m : (ℓ : Loc nD τ sig) → Buf (Elt Ideal) ℓ)

/-- The data of a core's arguments. -/
def data (c : Dev nD) : Data :=
  Ref.data (m (c, Proc.devRef .tc main_arg0)) (m (c, Proc.devRef .tc main_arg1)) (m (c, Proc.devRef .tc main_arg2))

theorem host_cs (c : Dev nD) : V m c main_v27 = Ref.cosT := by
  unfold V hostOps0
  after_results_simp
  rfl

theorem host_sn (c : Dev nD) : V m c main_v28 = Ref.sinT := by
  unfold V hostOps0
  after_results_simp
  rfl

theorem host_gq (c : Dev nD) (d : Fin 128) : V m c main_v29 (ix2 (n0 := 1) (n1 := 128) 0 d) = (data m c).gq d := by
  unfold V hostOps0
  after_results_simp
  pointwise []
  rfl

theorem host_gk (c : Dev nD) (d : Fin 128) : V m c main_v30 (ix2 (n0 := 1) (n1 := 128) 0 d) = (data m c).gk d := by
  unfold V hostOps0
  after_results_simp
  pointwise []
  rfl

theorem blk_q (c : Dev nD) (t : Fin cfg0.N) (p : Fin 1024) (z : Fin 512) :
    iblk m c 0 t (ix3 (n0 := 1) (n1 := 1024) (n2 := 512) 0 p z) = (data m c).x (bat t.val t.isLt) (pos t.val p) (qc t.val z) := by
  show V m c main_arg0 (((cfg0.win 0).blk t).view.emb (ix3 0 p z)) = _
  rw [emb0, V_main_arg0]; rfl

theorem blk_k (c : Dev nD) (t : Fin cfg0.N) (j : Fin 2048) (d : Fin 128) :
    iblk m c 1 t (ix3 (n0 := 1) (n1 := 2048) (n2 := 128) 0 j d) = (data m c).x (bat t.val t.isLt) j (kcol (gr t.val) d) := by
  show V m c main_arg0 (((cfg0.win 1).blk t).view.emb (ix3 0 j d)) = _
  rw [emb1, V_main_arg0]; rfl

theorem blk_v (c : Dev nD) (t : Fin cfg0.N) (j : Fin 2048) (d : Fin 128) :
    iblk m c 2 t (ix3 (n0 := 1) (n1 := 2048) (n2 := 128) 0 j d) = (data m c).x (bat t.val t.isLt) j (vcol (gr t.val) d) := by
  show V m c main_arg0 (((cfg0.win 2).blk t).view.emb (ix3 0 j d)) = _
  rw [emb2, V_main_arg0]; rfl

theorem blk_qcs (c : Dev nD) (t : Fin cfg0.N) (p : Fin 1024) (d : Fin 128) :
    iblk m c 3 t (ix2 (n0 := 1024) (n1 := 128) p d) = (data m c).cs (pos t.val p) d := by
  show V m c main_v27 (((cfg0.win 3).blk t).view.emb (ix2 p d)) = _
  rw [emb3, host_cs]; rfl

theorem blk_qsn (c : Dev nD) (t : Fin cfg0.N) (p : Fin 1024) (d : Fin 128) :
    iblk m c 4 t (ix2 (n0 := 1024) (n1 := 128) p d) = (data m c).sn (pos t.val p) d := by
  show V m c main_v28 (((cfg0.win 4).blk t).view.emb (ix2 p d)) = _
  rw [emb4, host_sn]; rfl

theorem blk_kcs (c : Dev nD) (t : Fin cfg0.N) (p : Fin 2048) (d : Fin 128) :
    iblk m c 5 t (ix2 (n0 := 2048) (n1 := 128) p d) = (data m c).cs (p) d := by
  show V m c main_v27 (((cfg0.win 5).blk t).view.emb (ix2 p d)) = _
  rw [emb5, host_cs]; rfl

theorem blk_ksn (c : Dev nD) (t : Fin cfg0.N) (p : Fin 2048) (d : Fin 128) :
    iblk m c 6 t (ix2 (n0 := 2048) (n1 := 128) p d) = (data m c).sn (p) d := by
  show V m c main_v28 (((cfg0.win 6).blk t).view.emb (ix2 p d)) = _
  rw [emb6, host_sn]; rfl

theorem blk_gq (c : Dev nD) (t : Fin cfg0.N) (d : Fin 128) : iblk m c 7 t (ix2 (n0 := 1) (n1 := 128) 0 d) = (data m c).gq d := by
  show V m c main_v29 (((cfg0.win 7).blk t).view.emb (ix2 0 d)) = _
  rw [emb7, host_gq]

theorem blk_gk (c : Dev nD) (t : Fin cfg0.N) (d : Fin 128) : iblk m c 8 t (ix2 (n0 := 1) (n1 := 128) 0 d) = (data m c).gk d := by
  show V m c main_v30 (((cfg0.win 8).blk t).view.emb (ix2 0 d)) = _
  rw [emb8, host_gk]

/-! ## What each point leaves -/

variable {m}

/-- The keys of a point's group. -/
theorem keys_eq (c : Dev nD) (t : Fin cfg0.N) (j : Fin 2048) (d : Fin 128) :
    k0_pay3 (F := Ideal) k0_pay5 (iblk m c 1 t) (iblk m c 8 t) (iblk m c 5 t) (iblk m c 6 t) (ix2 j d)
      = (data m c).k (bat t.val t.isLt) j (gr t.val) d := by
  refine (keys_apply (iblk m c 1 t) (iblk m c 8 t) (iblk m c 5 t) (iblk m c 6 t) j d).trans ?_
  unfold Data.k
  refine congrArg (fun f => f d) (congr (congr (congrArg turn (congrArg₂ rms (funext fun e => ?_) (funext fun e => ?_))) (funext fun e => ?_)) (funext fun e => ?_))
  · exact blk_k m c t j e
  · exact blk_gk m c t e
  · exact blk_kcs m c t j e
  · exact blk_ksn m c t j e

/-- A point's block over right keys and values is the result at its rows and columns. -/
theorem val_eq (c : Dev nD) (t : Fin cfg0.N) (p : Fin 1024) (z : Fin 512) :
    blockVal (iblk m c 0 t) (iblk m c 3 t) (iblk m c 4 t) (iblk m c 7 t) (fun j => (data m c).k (bat t.val t.isLt) j (gr t.val))
        (fun j d => (data m c).x (bat t.val t.isLt) j (vcol (gr t.val) d)) (ix3 0 p z)
      = (data m c).out (bat t.val t.isLt) (pos t.val p) (oc t.val z) := by
  have hg : grp ⟨(oc t.val z).val / 128, by omega⟩ = gr t.val := by
    refine Fin.ext ?_
    show (512 * (t.val / 2 % 2) + z.val) / 128 / 4 = t.val / 2 % 2
    omega
  have hz : (⟨z.val % 128, Nat.mod_lt _ (by omega)⟩ : Fin 128) = ⟨(oc t.val z).val % 128, Nat.mod_lt _ (by omega)⟩ := by
    refine Fin.ext ?_
    show z.val % 128 = (512 * (t.val / 2 % 2) + z.val) % 128
    omega
  have hq : ∀ e : Fin 128, qc t.val (⟨z.val / 128 * 128 + e.val, by omega⟩ : Fin 512) = qcol ⟨(oc t.val z).val / 128, by omega⟩ e := by
    intro e
    refine Fin.ext ?_
    show 5120 + (512 * (t.val / 2 % 2) + (z.val / 128 * 128 + e.val)) = 5120 + ((512 * (t.val / 2 % 2) + z.val) / 128 * 128 + e.val)
    omega
  unfold Data.out Data.o
  rw [hg, ← hz]
  unfold Data.q
  refine congrArg (fun f => att f _ _) (congr (congr (congrArg turn (congrArg₂ rms (funext fun e => ?_) (funext fun e => ?_))) (funext fun e => ?_)) (funext fun e => ?_))
  · exact (blk_q m c t p _).trans (congrArg _ (hq e))
  · exact blk_gq m c t e
  · exact blk_qcs m c t p e
  · exact blk_qsn m c t p e

/-- A group's batch does not change from one of its points to the next. -/
theorem bat_pred (n : ℕ) (h : n + 1 < 64) (h0 : ¬(n + 1) % 2 = 0) : bat n (by omega) = bat (n + 1) h := by
  refine Fin.ext ?_
  show n / 4 = (n + 1) / 4
  omega

/-- A group does not change from one of its points to the next. -/
theorem gr_pred (n : ℕ) (h0 : ¬(n + 1) % 2 = 0) : gr n = gr (n + 1) := by
  refine Fin.ext ?_
  show n / 2 % 2 = (n + 1) / 2 % 2
  omega

/-- After the first point of a group the scratch holds its keys and its values. -/
theorem state (c : Dev nD) (t : Fin cfg0.N) (h0 : t.val % 2 = 0) :
    (∀ j d, (outsAt0 (F := Ideal) m c t.val t.isLt).2.1 (ix2 (n0 := 2048) (n1 := 128) j d) = (data m c).k (bat t.val t.isLt) j (gr t.val) d)
    ∧ (∀ j (d : Fin 128), (outsAt0 (F := Ideal) m c t.val t.isLt).2.2 (ix2 (n0 := 2048) (n1 := 256) j ⟨d.val, by omega⟩)
        = (data m c).x (bat t.val t.isLt) j (vcol (gr t.val) d))
    ∧ (∀ j, (outsAt0 (F := Ideal) m c t.val t.isLt).2.2 (ix2 (n0 := 2048) (n1 := 256) j 128) = 1) := by
  rw [outsAt0_A m c t h0]
  dsimp only
  rw [left_keys, left_vals]
  refine ⟨fun j d => keys_eq c t j d, fun j d => (dif_pos d.isLt).trans (blk_v m c t j d), fun j => dif_neg (by simp [ix2])⟩

/-- A point writes its queries' results. -/
theorem point_apply (c : Dev nD) (R : (data m c).Real) (t : Fin cfg0.N) (p : Fin 1024) (z : Fin 512) :
    (dats m 0 c).flushed 9 t (ix3 0 p z) = (data m c).out (bat t.val t.isLt) (pos t.val p) (oc t.val z) := by
  have hg : ∀ d, ∃ r : ℝ, iblk m c 7 t (ix2 (n0 := 1) (n1 := 128) 0 d) = (r : EReal) := fun d => by
    rw [blk_gq]; exact R.q d
  have hc : ∀ p d, ∃ r : ℝ, iblk m c 3 t (ix2 (n0 := 1024) (n1 := 128) p d) = (r : EReal) := fun p d => by
    rw [blk_qcs]; exact R.c _ d
  have hs : ∀ p d, ∃ r : ℝ, iblk m c 4 t (ix2 (n0 := 1024) (n1 := 128) p d) = (r : EReal) := fun p d => by
    rw [blk_qsn]; exact R.s _ d
  refine Eq.trans ?_ (val_eq c t p z)
  by_cases h0 : t.val % 2 = 0
  · rw [flushed9_A m c t h0]
    exact block_A c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) scM0_0 (Memref.isWhole_whole _)
      scM0_1 (Memref.isWhole_whole _) ((hcond0_0 t).mpr h0) (iblk m c 0 t) (iblk m c 1 t) (iblk m c 2 t) (iblk m c 3 t) (iblk m c 4 t)
      (iblk m c 5 t) (iblk m c 6 t) (iblk m c 7 t) (iblk m c 8 t) _ _ (fun j d => Data.k_real R _ j _ d) hg hc hs (keys_eq c t) (blk_v m c t)
      (ix3 0 p z)
  · rw [flushed9_B m c t h0]
    obtain ⟨n, h⟩ := t
    obtain ⟨n, rfl⟩ : ∃ k, n = k + 1 := ⟨n - 1, by dsimp only at h0; omega⟩
    have h1 : n % 2 = 0 := by dsimp only at h0; omega
    obtain ⟨sk, sv, so⟩ := state (m := m) c ⟨n, by omega⟩ h1
    dsimp only at sk sv so
    rw [bat_pred n h h0, gr_pred n h0] at sk sv
    exact block_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
      (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩)
      (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) scM0_0 (Memref.isWhole_whole _)
      scM0_1 (Memref.isWhole_whole _) (fun e => h0 ((hcond0_0 ⟨n + 1, h⟩).mp e)) (iblk m c 0 ⟨n + 1, h⟩) (iblk m c 1 ⟨n + 1, h⟩) (iblk m c 2 ⟨n + 1, h⟩)
      (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩)
      (outsAt0 (F := Ideal) m c n (by omega)).2.1 (outsAt0 (F := Ideal) m c n (by omega)).2.2 _ _
      (fun j d => Data.k_real R _ j _ d) hg hc hs sk sv so (ix3 0 p z)

/-- The array after the run. -/
theorem array_eq (c : Dev nD) (R : (data m c).Real) : (dats m 0 c).arrAt 9 cfg0.N = (data m c).arr := by
  refine (dats m 0 c).arrAt_eq_of_cover 9 (data m c).arr (fun t _ => ?_) (fun y => ?_)
  · funext y
    obtain ⟨u, p, z, rfl⟩ : ∃ (u : Fin 1) (p : Fin 1024) (z : Fin 512), y = ix3 u p z := ⟨y 0, y 1, y 2, eq_ix3 y⟩
    obtain rfl : u = 0 := Subsingleton.elim _ _
    refine (point_apply c R t p z).trans ?_
    show _ = (data m c).arr (((cfg0.win 9).blk t).view.emb (ix3 0 p z))
    rw [emb9]
    rfl
  · obtain ⟨b, p, z, rfl⟩ : ∃ (b : Fin 16) (p : Fin 2048) (z : Fin 1024), y = ix3 b p z := ⟨y 0, y 1, y 2, eq_ix3 y⟩
    have hN : 4 * b.val + 2 * (z.val / 512) + p.val / 1024 < cfg0.N := by
      show _ < 64
      omega
    refine ⟨⟨4 * b.val + 2 * (z.val / 512) + p.val / 1024, hN⟩, flush0_9 _, ?_⟩
    have h := ((cfg0.win 9).blk ⟨4 * b.val + 2 * (z.val / 512) + p.val / 1024, hN⟩).view.emb_mem_set
      (ix3 (0 : Fin 1) (⟨p.val % 1024, Nat.mod_lt _ (by omega)⟩ : Fin 1024) (⟨z.val % 512, Nat.mod_lt _ (by omega)⟩ : Fin 512))
    rw [emb9] at h
    have e : bat (4 * b.val + 2 * (z.val / 512) + p.val / 1024) hN = b := by
      refine Fin.ext ?_
      show (4 * b.val + 2 * (z.val / 512) + p.val / 1024) / 4 = b.val
      omega
    have e' : pos (4 * b.val + 2 * (z.val / 512) + p.val / 1024) ⟨p.val % 1024, Nat.mod_lt _ (by omega)⟩ = p := by
      refine Fin.ext ?_
      show 1024 * ((4 * b.val + 2 * (z.val / 512) + p.val / 1024) % 2) + p.val % 1024 = p.val
      omega
    have e'' : oc (4 * b.val + 2 * (z.val / 512) + p.val / 1024) ⟨z.val % 512, Nat.mod_lt _ (by omega)⟩ = z := by
      refine Fin.ext ?_
      show 512 * ((4 * b.val + 2 * (z.val / 512) + p.val / 1024) / 2 % 2) + z.val % 512 = z.val
      omega
    dsimp only at h
    rwa [e, e', e''] at h

end Cert.Grouped

end
-- ==== Proof.Gqa.Claims.lean ====
/-
  The claims about the grouped-query attention.
-/
module

public import proofs.«01_k».proof.Proof.Gqa.Array
public import proofs.«01_k».proof.Proof.Gqa.Whole
public import proofs.«01_k».proof.Proof.Diff.Pre
public import proofs.«01_k».proof.Proof.Gen.Pre_finite_gqa
public import proofs.«01_k».proof.Proof.Gen.Gqa
public import Idealize.ShloMosaic.Lib.Claim
public import Idealize.ShloMosaic.Lib.Quiescent

@[expose] public section

set_option maxRecDepth 16384

noncomputable section

namespace Cert.Grouped

open Idealize.ShloMosaic Idealize.ShloMosaic.TcCoe Idealize.SL.Sem
open Idealize.ShloMosaic.Pointwise

attribute [local instance] Cert.Gqa.Gen.facts Cert.GqaIdeal.Gen.facts Cert.GqaRefIdeal.Gen.facts Cert.Pre_finite_gqa.Gen.facts

/-- The reference runs, keeps its arguments, and leaves every semaphore at zero. -/
theorem ref_frame : Cert.quiescent_GqaRefIdeal := fun m ρ _ =>
  (θ_run Cert.GqaRefIdeal.defs _ _).mono
    (fun r h => ⟨fun c => (h c).2, Idealize.ShloMosaic.sem_eq_zero_of_no_sems (by decide) r.2⟩)
    (Cert.GqaRefIdeal.Value.run (F := Ideal) m ρ)

/-- The named constant is the one that the rewrite names. -/
theorem preserves : Cert.preserves_Gqa_GqaIdeal :=
  IdealRules.named_const.statement Cert.GqaIdeal.κ "cscale" .f32 0x3E0293EE#32 _ rfl

instance : Subsingleton Cert.Pre_finite_gqa.S_.Idx := ⟨fun a b => funext fun i => absurd i.isLt (Nat.not_lt_zero _)⟩

/-- The precondition says that the gains of queries and keys are real. -/
theorem real_of_pre (m : (ℓ : Loc Cert.GqaIdeal.nD Cert.GqaIdeal.τ Cert.GqaIdeal.sig) → Buf (Elt Ideal) ℓ)
    (hpre : Cert.Pre_GqaIdeal_finite_gqa m) (c : Dev Cert.GqaIdeal.nD) : (data m c).Real := by
  have h0 := congrFun (hpre c) (fun a => absurd a.isLt (Nat.not_lt_zero _))
  unfold Cert.Pre_finite_gqa.fn at h0
  dsimp only at h0
  obtain ⟨e7, e8⟩ := IntOp.andi_eq_one.1 h0
  obtain ⟨Q, hQ⟩ := Diff.real_of_all _ _ (fun _ => Diff.ofBits_top) _ _ _ _ e7
  obtain ⟨K, hK⟩ := Diff.real_of_all _ _ (fun _ => Diff.ofBits_top) _ _ _ _ e8
  exact ⟨fun d => ⟨_, hQ _⟩, fun d => ⟨_, hK _⟩, Ref.cos_real, Ref.sin_real⟩

/-- The reference's result on arguments that agree with the kernel's. -/
theorem result_eq (m : (ℓ : Loc Cert.GqaIdeal.nD Cert.GqaIdeal.τ Cert.GqaIdeal.sig) → Buf (Elt Ideal) ℓ) (c : Dev Cert.GqaIdeal.nD)
    (R : (data m c).Real) :
    Ref.whole (m (c, Proc.devRef .tc Cert.GqaIdeal.main_arg0)) (m (c, Proc.devRef .tc Cert.GqaIdeal.main_arg1))
      (m (c, Proc.devRef .tc Cert.GqaIdeal.main_arg2)) = (data m c).arr := by
  funext y
  obtain ⟨b, p, e, rfl⟩ : ∃ (b : Fin 16) (p : Fin 2048) (e : Fin 1024), y = ix3 b p e := ⟨y 0, y 1, y 2, eq_ix3 y⟩
  exact Ref.whole_apply R b p e

/-- Over the extended reals the kernel's result is the reference's, entry by entry. -/
theorem algebraic : Cert.algebraic_GqaIdeal_GqaRefIdeal_pre_finite_gqa := by
  intro m ρ m' ρ' hpre hagree
  refine ⟨fun c => (data m c).arr, ?_, ?_⟩
  · exact (θ_run Cert.GqaIdeal.defs _ _).mono (fun _ h c => ⟨(h c).1.trans (array_eq c (real_of_pre m hpre c)), (h c).2⟩)
      (Cert.GqaIdeal.Value.run_blocks m ρ)
  · refine (θ_run Cert.GqaRefIdeal.defs _ _).mono (fun _ h c => ⟨(h c).1.trans ?_, (h c).2⟩) (Ref.run_whole m' ρ')
    obtain ⟨h0, h1, h2⟩ := hagree c
    rw [h0, h1, h2]
    exact result_eq m c (real_of_pre m hpre c)

end Cert.Grouped

end
-- ==== Proof.lean ====
module

public import proofs.«01_k».proof.Defs
public import proofs.«01_k».proof.Proof.Diff.Claims
public import proofs.«01_k».proof.Proof.Mlp.Claims
public import proofs.«01_k».proof.Proof.InEven.Claims
public import proofs.«01_k».proof.Proof.InOdd.Claims
public import proofs.«01_k».proof.Proof.MemKv.Claims
public import proofs.«01_k».proof.Proof.Cross.Claims
public import proofs.«01_k».proof.Proof.Gqa.Claims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Pre_finite_gains
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpRefIdeal
public import proofs.«01_k».proof.Proof.Gen.MlpRefIdeal.Run
public import proofs.«01_k».proof.Proof.Gen.InEven
public import proofs.«01_k».proof.Proof.Gen.InEven.Skeleton
public import proofs.«01_k».proof.Proof.Gen.InEven.Launch
public import proofs.«01_k».proof.Proof.Gen.InEven.Points
public import proofs.«01_k».proof.Proof.Gen.InEven.Frame
public import proofs.«01_k».proof.Proof.Gen.InEvenIdeal
public import proofs.«01_k».proof.Proof.Gen.InEvenIdeal.Skeleton
public import proofs.«01_k».proof.Proof.Gen.InEvenIdeal.Launch
public import proofs.«01_k».proof.Proof.Gen.InEvenIdeal.Points
public import proofs.«01_k».proof.Proof.Gen.InEvenIdeal.Frame
public import proofs.«01_k».proof.Proof.Gen.InEvenIdeal.Value
public import proofs.«01_k».proof.Proof.Gen.InEvenRefIdeal
public import proofs.«01_k».proof.Proof.Gen.InEvenRefIdeal.Run
public import proofs.«01_k».proof.Proof.Gen.InOdd
public import proofs.«01_k».proof.Proof.Gen.InOdd.Skeleton
public import proofs.«01_k».proof.Proof.Gen.InOdd.Launch
public import proofs.«01_k».proof.Proof.Gen.InOdd.Points
public import proofs.«01_k».proof.Proof.Gen.InOdd.Frame
public import proofs.«01_k».proof.Proof.Gen.InOddIdeal
public import proofs.«01_k».proof.Proof.Gen.InOddIdeal.Skeleton
public import proofs.«01_k».proof.Proof.Gen.InOddIdeal.Launch
public import proofs.«01_k».proof.Proof.Gen.InOddIdeal.Points
public import proofs.«01_k».proof.Proof.Gen.InOddIdeal.Frame
public import proofs.«01_k».proof.Proof.Gen.InOddIdeal.Value
public import proofs.«01_k».proof.Proof.Gen.InOddRefIdeal
public import proofs.«01_k».proof.Proof.Gen.InOddRefIdeal.Run
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.Cross
public import proofs.«01_k».proof.Proof.Gen.Cross.Skeleton
public import proofs.«01_k».proof.Proof.Gen.Cross.Launch
public import proofs.«01_k».proof.Proof.Gen.Cross.Points
public import proofs.«01_k».proof.Proof.Gen.Cross.Frame
public import proofs.«01_k».proof.Proof.Gen.CrossIdeal
public import proofs.«01_k».proof.Proof.Gen.CrossIdeal.Skeleton
public import proofs.«01_k».proof.Proof.Gen.CrossIdeal.Launch
public import proofs.«01_k».proof.Proof.Gen.CrossIdeal.Points
public import proofs.«01_k».proof.Proof.Gen.CrossIdeal.Frame
public import proofs.«01_k».proof.Proof.Gen.CrossIdeal.Value
public import proofs.«01_k».proof.Proof.Gen.CrossRefIdeal
public import proofs.«01_k».proof.Proof.Gen.CrossRefIdeal.Run
public import proofs.«01_k».proof.Proof.Gen.Pre_finite_gqa
public import proofs.«01_k».proof.Proof.Gen.Gqa
public import proofs.«01_k».proof.Proof.Gen.Gqa.Skeleton
public import proofs.«01_k».proof.Proof.Gen.Gqa.Launch
public import proofs.«01_k».proof.Proof.Gen.Gqa.Points
public import proofs.«01_k».proof.Proof.Gen.Gqa.Frame
public import proofs.«01_k».proof.Proof.Gen.GqaIdeal
public import proofs.«01_k».proof.Proof.Gen.GqaIdeal.Skeleton
public import proofs.«01_k».proof.Proof.Gen.GqaIdeal.Launch
public import proofs.«01_k».proof.Proof.Gen.GqaIdeal.Points
public import proofs.«01_k».proof.Proof.Gen.GqaIdeal.Frame
public import proofs.«01_k».proof.Proof.Gen.GqaIdeal.Value
public import proofs.«01_k».proof.Proof.Gen.GqaRefIdeal
public import proofs.«01_k».proof.Proof.Gen.GqaRefIdeal.Run
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Mlp.Gen.facts,
  Cert.MlpIdeal.Gen.facts, Cert.MlpRefIdeal.Gen.facts, Cert.InEven.Gen.facts, Cert.InEvenIdeal.Gen.facts,
  Cert.InEvenRefIdeal.Gen.facts, Cert.InOdd.Gen.facts, Cert.InOddIdeal.Gen.facts, Cert.InOddRefIdeal.Gen.facts,
  Cert.MemKv.Gen.facts, Cert.MemKvIdeal.Gen.facts, Cert.MemKvRefIdeal.Gen.facts, Cert.Cross.Gen.facts,
  Cert.CrossIdeal.Gen.facts, Cert.CrossRefIdeal.Gen.facts, Cert.Gqa.Gen.facts, Cert.GqaIdeal.Gen.facts,
  Cert.GqaRefIdeal.Gen.facts, Cert.Pre_finite.Gen.facts, Cert.Pre_finite_gains.Gen.facts, Cert.Pre_finite_gqa.Gen.facts,
  fun m ρ _ => Cert.Kernel.Gen.frame m ρ,
  fun m ρ _ => Cert.KernelIdeal.Gen.frame m ρ,
  fun m ρ _ => Cert.KernelIdeal.Gen.frame m ρ,
  Cert.Diff.ref_frame,
  fun m ρ _ => Cert.Diff.ref_frame m ρ trivial,
  fun m ρ _ => Cert.Mlp.Gen.frame m ρ,
  fun m ρ _ => Cert.MlpIdeal.Gen.frame m ρ,
  Cert.Ffn.ref_frame,
  fun m ρ _ => Cert.InEven.Gen.frame m ρ,
  fun m ρ _ => Cert.InEvenIdeal.Gen.frame m ρ,
  Cert.ProjEven.ref_frame,
  fun m ρ _ => Cert.InOdd.Gen.frame m ρ,
  fun m ρ _ => Cert.InOddIdeal.Gen.frame m ρ,
  Cert.ProjOdd.ref_frame,
  fun m ρ _ => Cert.MemKv.Gen.frame m ρ,
  fun m ρ _ => Cert.MemKvIdeal.Gen.frame m ρ,
  Cert.ProjKv.ref_frame,
  fun m ρ _ => Cert.Cross.Gen.frame m ρ,
  fun m ρ _ => Cert.CrossIdeal.Gen.frame m ρ,
  fun m ρ _ => Cert.CrossIdeal.Gen.frame m ρ,
  Cert.CrossAttn.ref_frame,
  fun m ρ _ => Cert.CrossAttn.ref_frame m ρ trivial,
  fun m ρ _ => Cert.Gqa.Gen.frame m ρ,
  fun m ρ _ => Cert.GqaIdeal.Gen.frame m ρ,
  fun m ρ _ => Cert.GqaIdeal.Gen.frame m ρ,
  Cert.Grouped.ref_frame,
  fun m ρ _ => Cert.Grouped.ref_frame m ρ trivial,
  Cert.Diff.preserves,
  Cert.Diff.algebraic,
  Cert.Ffn.preserves,
  Cert.Ffn.algebraic,
  Cert.ProjEven.preserves,
  Cert.ProjEven.algebraic,
  Cert.ProjOdd.preserves,
  Cert.ProjOdd.algebraic,
  Cert.ProjKv.preserves,
  Cert.ProjKv.algebraic,
  Cert.CrossAttn.preserves,
  Cert.CrossAttn.algebraic,
  Cert.Grouped.preserves,
  Cert.Grouped.algebraic⟩

end Cert.Proof

end
